-- ==== Defs.lean ====
def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Attn [hPre_causal_tables : Cert.Pre_causal_tables.Facts] (m : (ℓ : Loc Cert.Attn.nD Cert.Attn.τ Cert.Attn.sig) → Buf (Elt Bits) ℓ) : Prop :=
  ∀ c : Dev Cert.Attn.nD,
    (Cert.Pre_causal_tables.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5)) (m ((c.tc : Thread Cert.Attn.nD Cert.Attn.τ).loc Cert.Attn.main_arg6)) (m ((c.tc : Thread Cert.Attn.nD Cert.Attn.τ).loc Cert.Attn.main_arg7)) (m ((c.tc : Thread Cert.Attn.nD Cert.Attn.τ).loc Cert.Attn.main_arg8)) (m ((c.tc : Thread Cert.Attn.nD Cert.Attn.τ).loc Cert.Attn.main_arg9))) = (fun _ => 1#1)

def Pre_AttnIdeal [hPre_causal_tables : Cert.Pre_causal_tables.Facts] (m : (ℓ : Loc Cert.AttnIdeal.nD Cert.AttnIdeal.τ Cert.AttnIdeal.sig) → Buf (Elt Ideal) ℓ) : Prop :=
  ∀ c : Dev Cert.AttnIdeal.nD,
    (Cert.Pre_causal_tables.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))) = (fun _ => 1#1)

def Pre_AttnIdeal_finite_heads [hPre_finite_heads : Cert.Pre_finite_heads.Facts] (m : (ℓ : Loc Cert.AttnIdeal.nD Cert.AttnIdeal.τ Cert.AttnIdeal.sig) → Buf (Elt Ideal) ℓ) : Prop :=
  ∀ c : Dev Cert.AttnIdeal.nD,
    (Cert.Pre_finite_heads.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).1 = (fun _ => 1#1)
    ∧ (Cert.Pre_finite_heads.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.1 = (fun _ => 1#1)
    ∧ (Cert.Pre_finite_heads.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.1 = (fun _ => 1#1)
    ∧ (Cert.Pre_finite_heads.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.1 = (fun _ => 1#1)
    ∧ (Cert.Pre_finite_heads.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.1 = (fun _ => 1#1)
    ∧ (Cert.Pre_finite_heads.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.1 = (fun _ => 1#1)
    ∧ (Cert.Pre_finite_heads.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.2.1 = (fun _ => 1#1)
    ∧ (Cert.Pre_finite_heads.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9))).2.2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_heads [hPre_finite_heads : Cert.Pre_finite_heads.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_heads.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).1 = (fun _ => 1#1)
    ∧ (Cert.Pre_finite_heads.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.1 = (fun _ => 1#1)
    ∧ (Cert.Pre_finite_heads.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.1 = (fun _ => 1#1)
    ∧ (Cert.Pre_finite_heads.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.1 = (fun _ => 1#1)
    ∧ (Cert.Pre_finite_heads.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.1 = (fun _ => 1#1)
    ∧ (Cert.Pre_finite_heads.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.1 = (fun _ => 1#1)
    ∧ (Cert.Pre_finite_heads.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.2.1 = (fun _ => 1#1)
    ∧ (Cert.Pre_finite_heads.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8)) (m ((c.tc : Thread Cert.AttnRefIdeal.nD Cert.AttnRefIdeal.τ).loc Cert.AttnRefIdeal.main_arg9))).2.2.2.2.2.2.2 = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6))
      ∧ r.2.sem = fun _ => 0)

def quiescent_Attn [hAttn : Cert.Attn.Facts] [hPre_causal_tables : Cert.Pre_causal_tables.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9))
      ∧ r.2.sem = fun _ => 0)

def quiescent_AttnIdeal [hAttnIdeal : Cert.AttnIdeal.Facts] [hPre_causal_tables : Cert.Pre_causal_tables.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnIdeal_pre_finite_heads [hAttnIdeal : Cert.AttnIdeal.Facts] [hPre_finite_heads : Cert.Pre_finite_heads.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_heads m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_AttnRefIdeal_pre_finite_heads [hAttnRefIdeal : Cert.AttnRefIdeal.Facts] [hPre_finite_heads : Cert.Pre_finite_heads.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_heads m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8)
      ∧ r.2.mem ((c.tc : Thread Cert.AttnRefIdeal.nD Cert.AttnRefIdeal.τ).loc Cert.AttnRefIdeal.main_arg9) = m ((c.tc : Thread Cert.AttnRefIdeal.nD Cert.AttnRefIdeal.τ).loc Cert.AttnRefIdeal.main_arg9))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def preserves_Xattn_XattnIdeal : Prop :=
  True

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)) →
    ∃ (v0 : (c : Dev Cert.XattnIdeal.nD) → Buf (Elt Ideal) ((c.tc : Thread Cert.XattnIdeal.nD Cert.XattnIdeal.τ).loc Cert.XattnIdeal.main_v2)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v2) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v41) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v26) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v5)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v5) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v39) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6))

def preserves_Attn_AttnIdeal : Prop :=
  True

def algebraic_AttnIdeal_AttnRefIdeal_pre_finite_heads [hAttnIdeal : Cert.AttnIdeal.Facts] [hAttnRefIdeal : Cert.AttnRefIdeal.Facts] [hPre_finite_heads : Cert.Pre_finite_heads.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_heads m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)
      ∧ m' ((c.tc : Thread Cert.AttnRefIdeal.nD Cert.AttnRefIdeal.τ).loc Cert.AttnRefIdeal.main_arg9) = m ((c.tc : Thread Cert.AttnIdeal.nD Cert.AttnIdeal.τ).loc Cert.AttnIdeal.main_arg9)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v68) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8)
          ∧ r.2.mem ((c.tc : Thread Cert.AttnRefIdeal.nD Cert.AttnRefIdeal.τ).loc Cert.AttnRefIdeal.main_arg9) = m' ((c.tc : Thread Cert.AttnRefIdeal.nD Cert.AttnRefIdeal.τ).loc Cert.AttnRefIdeal.main_arg9))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v2)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v2) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v18) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)) →
    ∃ (v0 : (c : Dev Cert.EvenOutIdeal.nD) → Buf (Elt Ideal) ((c.tc : Thread Cert.EvenOutIdeal.nD Cert.EvenOutIdeal.τ).loc Cert.EvenOutIdeal.main_v1)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v1) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v6) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v1)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v1) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v4) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v15) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def Claim : Prop :=
  ∃ (hXattn : Cert.Xattn.Facts) (hXattnIdeal : Cert.XattnIdeal.Facts) (hXattnRefIdeal : Cert.XattnRefIdeal.Facts) (hMlp : Cert.Mlp.Facts) (hMlpIdeal : Cert.MlpIdeal.Facts) (hMlpRefIdeal : Cert.MlpRefIdeal.Facts) (hLast : Cert.Last.Facts) (hLastIdeal : Cert.LastIdeal.Facts) (hLastRefIdeal : Cert.LastRefIdeal.Facts) (hAttn : Cert.Attn.Facts) (hAttnIdeal : Cert.AttnIdeal.Facts) (hAttnRefIdeal : Cert.AttnRefIdeal.Facts) (hEvenIn : Cert.EvenIn.Facts) (hEvenInIdeal : Cert.EvenInIdeal.Facts) (hEvenInRefIdeal : Cert.EvenInRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hMemKv : Cert.MemKv.Facts) (hMemKvIdeal : Cert.MemKvIdeal.Facts) (hMemKvRefIdeal : Cert.MemKvRefIdeal.Facts) (hPre_causal_tables : Cert.Pre_causal_tables.Facts) (hPre_finite_heads : Cert.Pre_finite_heads.Facts),
    quiescent_Xattn (hXattn := hXattn)
    ∧ quiescent_XattnIdeal (hXattnIdeal := hXattnIdeal)
    ∧ quiescent_XattnRefIdeal (hXattnRefIdeal := hXattnRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Last (hLast := hLast)
    ∧ quiescent_LastIdeal (hLastIdeal := hLastIdeal)
    ∧ quiescent_LastRefIdeal (hLastRefIdeal := hLastRefIdeal)
    ∧ quiescent_Attn (hAttn := hAttn) (hPre_causal_tables := hPre_causal_tables)
    ∧ quiescent_AttnIdeal (hAttnIdeal := hAttnIdeal) (hPre_causal_tables := hPre_causal_tables)
    ∧ quiescent_AttnIdeal_pre_finite_heads (hAttnIdeal := hAttnIdeal) (hPre_finite_heads := hPre_finite_heads)
    ∧ quiescent_AttnRefIdeal (hAttnRefIdeal := hAttnRefIdeal)
    ∧ quiescent_AttnRefIdeal_pre_finite_heads (hAttnRefIdeal := hAttnRefIdeal) (hPre_finite_heads := hPre_finite_heads)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ preserves_Xattn_XattnIdeal
    ∧ algebraic_XattnIdeal_XattnRefIdeal (hXattnIdeal := hXattnIdeal) (hXattnRefIdeal := hXattnRefIdeal)
    ∧ preserves_Mlp_MlpIdeal
    ∧ algebraic_MlpIdeal_MlpRefIdeal (hMlpIdeal := hMlpIdeal) (hMlpRefIdeal := hMlpRefIdeal)
    ∧ preserves_Last_LastIdeal
    ∧ algebraic_LastIdeal_LastRefIdeal (hLastIdeal := hLastIdeal) (hLastRefIdeal := hLastRefIdeal)
    ∧ preserves_Attn_AttnIdeal
    ∧ algebraic_AttnIdeal_AttnRefIdeal_pre_finite_heads (hAttnIdeal := hAttnIdeal) (hAttnRefIdeal := hAttnRefIdeal) (hPre_finite_heads := hPre_finite_heads)
    ∧ preserves_EvenIn_EvenInIdeal
    ∧ algebraic_EvenInIdeal_EvenInRefIdeal (hEvenInIdeal := hEvenInIdeal) (hEvenInRefIdeal := hEvenInRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_MemKv_MemKvIdeal
    ∧ algebraic_MemKvIdeal_MemKvRefIdeal (hMemKvIdeal := hMemKvIdeal) (hMemKvRefIdeal := hMemKvRefIdeal)
-- ==== Pre_causal_tables.lean ====
abbrev S72 : Shape := ⟨1, ![72]⟩
abbrev S40x16384x128 : Shape := ⟨3, ![40, 16384, 128]⟩
abbrev S1x64 : Shape := ⟨2, ![1, 64]⟩
abbrev S1x128 : Shape := ⟨2, ![1, 128]⟩

class Facts : Prop where

variable [Facts]

noncomputable abbrev lit0 : Fin 72 → BitVec 32 := fun
  | 0 => 0#32 | 1 => 1#32 | 2 => 2#32 | 3 => 2#32 | 4 => 3#32 | 5 => 3#32 | 6 => 4#32 | 7 => 4#32
  | 8 => 4#32 | 9 => 5#32 | 10 => 5#32 | 11 => 5#32 | 12 => 6#32 | 13 => 6#32 | 14 => 6#32 | 15 => 6#32
  | 16 => 7#32 | 17 => 7#32 | 18 => 7#32 | 19 => 7#32 | 20 => 8#32 | 21 => 8#32 | 22 => 8#32 | 23 => 8#32
  | 24 => 8#32 | 25 => 9#32 | 26 => 9#32 | 27 => 9#32 | 28 => 9#32 | 29 => 9#32 | 30 => 10#32 | 31 => 10#32
  | 32 => 10#32 | 33 => 10#32 | 34 => 10#32 | 35 => 10#32 | 36 => 11#32 | 37 => 11#32 | 38 => 11#32 | 39 => 11#32
  | 40 => 11#32 | 41 => 11#32 | 42 => 12#32 | 43 => 12#32 | 44 => 12#32 | 45 => 12#32 | 46 => 12#32 | 47 => 12#32
  | 48 => 12#32 | 49 => 13#32 | 50 => 13#32 | 51 => 13#32 | 52 => 13#32 | 53 => 13#32 | 54 => 13#32 | 55 => 13#32
  | 56 => 14#32 | 57 => 14#32 | 58 => 14#32 | 59 => 14#32 | 60 => 14#32 | 61 => 14#32 | 62 => 14#32 | 63 => 14#32
  | 64 => 15#32 | 65 => 15#32 | 66 => 15#32 | 67 => 15#32 | 68 => 15#32 | 69 => 15#32 | 70 => 15#32 | 71 => 15#32
  | _ => 0#32

noncomputable abbrev lit1 : Fin 72 → BitVec 32 := fun
  | 0 => 0#32 | 1 => 0#32 | 2 => 0#32 | 3 => 1#32 | 4 => 0#32 | 5 => 1#32 | 6 => 0#32 | 7 => 1#32
  | 8 => 2#32 | 9 => 0#32 | 10 => 1#32 | 11 => 2#32 | 12 => 0#32 | 13 => 1#32 | 14 => 2#32 | 15 => 3#32
  | 16 => 0#32 | 17 => 1#32 | 18 => 2#32 | 19 => 3#32 | 20 => 0#32 | 21 => 1#32 | 22 => 2#32 | 23 => 3#32
  | 24 => 4#32 | 25 => 0#32 | 26 => 1#32 | 27 => 2#32 | 28 => 3#32 | 29 => 4#32 | 30 => 0#32 | 31 => 1#32
  | 32 => 2#32 | 33 => 3#32 | 34 => 4#32 | 35 => 5#32 | 36 => 0#32 | 37 => 1#32 | 38 => 2#32 | 39 => 3#32
  | 40 => 4#32 | 41 => 5#32 | 42 => 0#32 | 43 => 1#32 | 44 => 2#32 | 45 => 3#32 | 46 => 4#32 | 47 => 5#32
  | 48 => 6#32 | 49 => 0#32 | 50 => 1#32 | 51 => 2#32 | 52 => 3#32 | 53 => 4#32 | 54 => 5#32 | 55 => 6#32
  | 56 => 0#32 | 57 => 1#32 | 58 => 2#32 | 59 => 3#32 | 60 => 4#32 | 61 => 5#32 | 62 => 6#32 | 63 => 7#32
  | 64 => 0#32 | 65 => 1#32 | 66 => 2#32 | 67 => 3#32 | 68 => 4#32 | 69 => 5#32 | 70 => 6#32 | 71 => 7#32
  | _ => 0#32

def fn {F : FTy → Type} [FloatOps F] (main_arg0 : IVec S72 32) (main_arg1 : IVec S72 32) (main_arg2 : FVec F S40x16384x128 .bf16) (main_arg3 : FVec F S40x16384x128 .bf16) (main_arg4 : FVec F S40x16384x128 .bf16) (main_arg5 : FVec F S1x64 .f32) (main_arg6 : FVec F S1x64 .f32) (main_arg7 : FVec F S1x64 .f32) (main_arg8 : FVec F S1x64 .f32) (main_arg9 : FVec F S1x128 .f32) : IVec S72 1 :=
  let main_c : IVec S72 32 := fun i => lit0 (S72.rowMajor i)
  let main_c_0 : IVec S72 32 := fun i => lit1 (S72.rowMajor i)
  let main_v0 : IVec S72 1 := cmpi .eq main_arg0 main_c
  let main_v1 : IVec S72 1 := cmpi .eq main_arg1 main_c_0
  let main_v2 : IVec S72 1 := andi main_v0 main_v1
  main_v2
-- ==== Pre_finite_heads.lean ====
abbrev S72 : Shape := ⟨1, ![72]⟩
abbrev S40x16384x128 : Shape := ⟨3, ![40, 16384, 128]⟩
abbrev S1x64 : Shape := ⟨2, ![1, 64]⟩
abbrev S1x128 : Shape := ⟨2, ![1, 128]⟩
abbrev S8x16384x128 : Shape := ⟨3, ![8, 16384, 128]⟩
abbrev S_ : Shape := ⟨0, ![]⟩

class Facts : Prop where
  slices_S40x16384x128_S8x16384x128_16_0_0 : S40x16384x128.Slices ![16, 0, 0] S8x16384x128
  bcast_S_S8x16384x128 : S_.BroadcastsInDim S8x16384x128 (![] : Fin 0 → Fin S8x16384x128.rank)
  slices_S40x16384x128_S8x16384x128_24_0_0 : S40x16384x128.Slices ![24, 0, 0] S8x16384x128
  slices_S40x16384x128_S8x16384x128_32_0_0 : S40x16384x128.Slices ![32, 0, 0] S8x16384x128
  bcast_S_S1x64 : S_.BroadcastsInDim S1x64 (![] : Fin 0 → Fin S1x64.rank)

variable [Facts]

noncomputable abbrev lit0 : Fin 72 → BitVec 32 := fun
  | 0 => 0#32 | 1 => 1#32 | 2 => 2#32 | 3 => 2#32 | 4 => 3#32 | 5 => 3#32 | 6 => 4#32 | 7 => 4#32
  | 8 => 4#32 | 9 => 5#32 | 10 => 5#32 | 11 => 5#32 | 12 => 6#32 | 13 => 6#32 | 14 => 6#32 | 15 => 6#32
  | 16 => 7#32 | 17 => 7#32 | 18 => 7#32 | 19 => 7#32 | 20 => 8#32 | 21 => 8#32 | 22 => 8#32 | 23 => 8#32
  | 24 => 8#32 | 25 => 9#32 | 26 => 9#32 | 27 => 9#32 | 28 => 9#32 | 29 => 9#32 | 30 => 10#32 | 31 => 10#32
  | 32 => 10#32 | 33 => 10#32 | 34 => 10#32 | 35 => 10#32 | 36 => 11#32 | 37 => 11#32 | 38 => 11#32 | 39 => 11#32
  | 40 => 11#32 | 41 => 11#32 | 42 => 12#32 | 43 => 12#32 | 44 => 12#32 | 45 => 12#32 | 46 => 12#32 | 47 => 12#32
  | 48 => 12#32 | 49 => 13#32 | 50 => 13#32 | 51 => 13#32 | 52 => 13#32 | 53 => 13#32 | 54 => 13#32 | 55 => 13#32
  | 56 => 14#32 | 57 => 14#32 | 58 => 14#32 | 59 => 14#32 | 60 => 14#32 | 61 => 14#32 | 62 => 14#32 | 63 => 14#32
  | 64 => 15#32 | 65 => 15#32 | 66 => 15#32 | 67 => 15#32 | 68 => 15#32 | 69 => 15#32 | 70 => 15#32 | 71 => 15#32
  | _ => 0#32

noncomputable abbrev lit1 : Fin 72 → BitVec 32 := fun
  | 0 => 0#32 | 1 => 0#32 | 2 => 0#32 | 3 => 1#32 | 4 => 0#32 | 5 => 1#32 | 6 => 0#32 | 7 => 1#32
  | 8 => 2#32 | 9 => 0#32 | 10 => 1#32 | 11 => 2#32 | 12 => 0#32 | 13 => 1#32 | 14 => 2#32 | 15 => 3#32
  | 16 => 0#32 | 17 => 1#32 | 18 => 2#32 | 19 => 3#32 | 20 => 0#32 | 21 => 1#32 | 22 => 2#32 | 23 => 3#32
  | 24 => 4#32 | 25 => 0#32 | 26 => 1#32 | 27 => 2#32 | 28 => 3#32 | 29 => 4#32 | 30 => 0#32 | 31 => 1#32
  | 32 => 2#32 | 33 => 3#32 | 34 => 4#32 | 35 => 5#32 | 36 => 0#32 | 37 => 1#32 | 38 => 2#32 | 39 => 3#32
  | 40 => 4#32 | 41 => 5#32 | 42 => 0#32 | 43 => 1#32 | 44 => 2#32 | 45 => 3#32 | 46 => 4#32 | 47 => 5#32
  | 48 => 6#32 | 49 => 0#32 | 50 => 1#32 | 51 => 2#32 | 52 => 3#32 | 53 => 4#32 | 54 => 5#32 | 55 => 6#32
  | 56 => 0#32 | 57 => 1#32 | 58 => 2#32 | 59 => 3#32 | 60 => 4#32 | 61 => 5#32 | 62 => 6#32 | 63 => 7#32
  | 64 => 0#32 | 65 => 1#32 | 66 => 2#32 | 67 => 3#32 | 68 => 4#32 | 69 => 5#32 | 70 => 6#32 | 71 => 7#32
  | _ => 0#32

def fn_part2 {F : FTy → Type} [FloatOps F] (main_arg7 : FVec F S1x64 .f32) (main_arg8 : FVec F S1x64 .f32) (main_v2 : IVec S72 1) (main_v8 : IVec S8x16384x128 1) (main_v14 : IVec S8x16384x128 1) (main_v20 : IVec S8x16384x128 1) (main_v25 : IVec S1x64 1) (main_v30 : IVec S1x64 1) (main_v32 : IVec S1x64 1) (main_v33 : FVec F S1x64 .f32) : IVec S72 1 × IVec S8x16384x128 1 × IVec S8x16384x128 1 × IVec S8x16384x128 1 × IVec S1x64 1 × IVec S1x64 1 × IVec S1x64 1 × IVec S1x64 1 :=
  let main_v34 : IVec S1x64 1 := cmpf .olt main_arg7 main_v33
  let main_v35 : IVec S1x64 1 := andi main_v32 main_v34
  let main_cst_12 : FVec F S_ .f32 := constant S_ .f32 0xFF800000#32
  let main_v36 : FVec F S1x64 .f32 := broadcastInDim S1x64 ![] bcast_S_S1x64 main_cst_12
  let main_v37 : IVec S1x64 1 := cmpf .ogt main_arg8 main_v36
  let main_cst_13 : FVec F S_ .f32 := constant S_ .f32 0x7F800000#32
  let main_v38 : FVec F S1x64 .f32 := broadcastInDim S1x64 ![] bcast_S_S1x64 main_cst_13
  let main_v39 : IVec S1x64 1 := cmpf .olt main_arg8 main_v38
  let main_v40 : IVec S1x64 1 := andi main_v37 main_v39
  (main_v2, main_v8, main_v14, main_v20, main_v25, main_v30, main_v35, main_v40)

def fn_part1 {F : FTy → Type} [FloatOps F] (main_arg5 : FVec F S1x64 .f32) (main_arg6 : FVec F S1x64 .f32) (main_arg7 : FVec F S1x64 .f32) (main_arg8 : FVec F S1x64 .f32) (main_v2 : IVec S72 1) (main_v8 : IVec S8x16384x128 1) (main_v14 : IVec S8x16384x128 1) (main_v15 : FVec F S8x16384x128 .bf16) (main_v16 : FVec F S8x16384x128 .bf16) : IVec S72 1 × IVec S8x16384x128 1 × IVec S8x16384x128 1 × IVec S8x16384x128 1 × IVec S1x64 1 × IVec S1x64 1 × IVec S1x64 1 × IVec S1x64 1 :=
  let main_v17 : IVec S8x16384x128 1 := cmpf .ogt main_v15 main_v16
  let main_cst_5 : FVec F S_ .bf16 := constant S_ .bf16 0x7F80#16
  let main_v18 : FVec F S8x16384x128 .bf16 := broadcastInDim S8x16384x128 ![] bcast_S_S8x16384x128 main_cst_5
  let main_v19 : IVec S8x16384x128 1 := cmpf .olt main_v15 main_v18
  let main_v20 : IVec S8x16384x128 1 := andi main_v17 main_v19
  let main_cst_6 : FVec F S_ .f32 := constant S_ .f32 0xFF800000#32
  let main_v21 : FVec F S1x64 .f32 := broadcastInDim S1x64 ![] bcast_S_S1x64 main_cst_6
  let main_v22 : IVec S1x64 1 := cmpf .ogt main_arg5 main_v21
  let main_cst_7 : FVec F S_ .f32 := constant S_ .f32 0x7F800000#32
  let main_v23 : FVec F S1x64 .f32 := broadcastInDim S1x64 ![] bcast_S_S1x64 main_cst_7
  let main_v24 : IVec S1x64 1 := cmpf .olt main_arg5 main_v23
  let main_v25 : IVec S1x64 1 := andi main_v22 main_v24
  let main_cst_8 : FVec F S_ .f32 := constant S_ .f32 0xFF800000#32
  let main_v26 : FVec F S1x64 .f32 := broadcastInDim S1x64 ![] bcast_S_S1x64 main_cst_8
  let main_v27 : IVec S1x64 1 := cmpf .ogt main_arg6 main_v26
  let main_cst_9 : FVec F S_ .f32 := constant S_ .f32 0x7F800000#32
  let main_v28 : FVec F S1x64 .f32 := broadcastInDim S1x64 ![] bcast_S_S1x64 main_cst_9
  let main_v29 : IVec S1x64 1 := cmpf .olt main_arg6 main_v28
  let main_v30 : IVec S1x64 1 := andi main_v27 main_v29
  let main_cst_10 : FVec F S_ .f32 := constant S_ .f32 0xFF800000#32
  let main_v31 : FVec F S1x64 .f32 := broadcastInDim S1x64 ![] bcast_S_S1x64 main_cst_10
  let main_v32 : IVec S1x64 1 := cmpf .ogt main_arg7 main_v31
  let main_cst_11 : FVec F S_ .f32 := constant S_ .f32 0x7F800000#32
  let main_v33 : FVec F S1x64 .f32 := broadcastInDim S1x64 ![] bcast_S_S1x64 main_cst_11
  fn_part2 (F := F) main_arg7 main_arg8 main_v2 main_v8 main_v14 main_v20 main_v25 main_v30 main_v32 main_v33

def fn {F : FTy → Type} [FloatOps F] (main_arg0 : IVec S72 32) (main_arg1 : IVec S72 32) (main_arg2 : FVec F S40x16384x128 .bf16) (main_arg3 : FVec F S40x16384x128 .bf16) (main_arg4 : FVec F S40x16384x128 .bf16) (main_arg5 : FVec F S1x64 .f32) (main_arg6 : FVec F S1x64 .f32) (main_arg7 : FVec F S1x64 .f32) (main_arg8 : FVec F S1x64 .f32) (main_arg9 : FVec F S1x128 .f32) : IVec S72 1 × IVec S8x16384x128 1 × IVec S8x16384x128 1 × IVec S8x16384x128 1 × IVec S1x64 1 × IVec S1x64 1 × IVec S1x64 1 × IVec S1x64 1 :=
  let main_c : IVec S72 32 := fun i => lit0 (S72.rowMajor i)
  let main_c_0 : IVec S72 32 := fun i => lit1 (S72.rowMajor i)
  let main_v0 : IVec S72 1 := cmpi .eq main_arg0 main_c
  let main_v1 : IVec S72 1 := cmpi .eq main_arg1 main_c_0
  let main_v2 : IVec S72 1 := andi main_v0 main_v1
  let main_v3 : FVec F S8x16384x128 .bf16 := (extractStridedSlice S8x16384x128 ![16, 0, 0] · slices_S40x16384x128_S8x16384x128_16_0_0) main_arg2
  let main_cst : FVec F S_ .bf16 := constant S_ .bf16 0xFF80#16
  let main_v4 : FVec F S8x16384x128 .bf16 := broadcastInDim S8x16384x128 ![] bcast_S_S8x16384x128 main_cst
  let main_v5 : IVec S8x16384x128 1 := cmpf .ogt main_v3 main_v4
  let main_cst_1 : FVec F S_ .bf16 := constant S_ .bf16 0x7F80#16
  let main_v6 : FVec F S8x16384x128 .bf16 := broadcastInDim S8x16384x128 ![] bcast_S_S8x16384x128 main_cst_1
  let main_v7 : IVec S8x16384x128 1 := cmpf .olt main_v3 main_v6
  let main_v8 : IVec S8x16384x128 1 := andi main_v5 main_v7
  let main_v9 : FVec F S8x16384x128 .bf16 := (extractStridedSlice S8x16384x128 ![24, 0, 0] · slices_S40x16384x128_S8x16384x128_24_0_0) main_arg3
  let main_cst_2 : FVec F S_ .bf16 := constant S_ .bf16 0xFF80#16
  let main_v10 : FVec F S8x16384x128 .bf16 := broadcastInDim S8x16384x128 ![] bcast_S_S8x16384x128 main_cst_2
  let main_v11 : IVec S8x16384x128 1 := cmpf .ogt main_v9 main_v10
  let main_cst_3 : FVec F S_ .bf16 := constant S_ .bf16 0x7F80#16
  let main_v12 : FVec F S8x16384x128 .bf16 := broadcastInDim S8x16384x128 ![] bcast_S_S8x16384x128 main_cst_3
  let main_v13 : IVec S8x16384x128 1 := cmpf .olt main_v9 main_v12
  let main_v14 : IVec S8x16384x128 1 := andi main_v11 main_v13
  let main_v15 : FVec F S8x16384x128 .bf16 := (extractStridedSlice S8x16384x128 ![32, 0, 0] · slices_S40x16384x128_S8x16384x128_32_0_0) main_arg4
  let main_cst_4 : FVec F S_ .bf16 := constant S_ .bf16 0xFF80#16
  let main_v16 : FVec F S8x16384x128 .bf16 := broadcastInDim S8x16384x128 ![] bcast_S_S8x16384x128 main_cst_4
  fn_part1 (F := F) main_arg5 main_arg6 main_arg7 main_arg8 main_v2 main_v8 main_v14 main_v15 main_v16
-- ==== Xattn.lean ====
abbrev S16384x2048 : Shape := ⟨2, ![16384, 2048]⟩
abbrev S2048 : Shape := ⟨1, ![2048]⟩
abbrev S4x2048x2048 : Shape := ⟨3, ![4, 2048, 2048]⟩
abbrev S512x8192 : Shape := ⟨2, ![512, 8192]⟩
abbrev S1x2048 : Shape := ⟨2, ![1, 2048]⟩
abbrev S1024x2048 : Shape := ⟨2, ![1024, 2048]⟩
abbrev S1x2048x2048 : Shape := ⟨3, ![1, 2048, 2048]⟩
abbrev S256x2048 : Shape := ⟨2, ![256, 2048]⟩
abbrev S256 : Shape := ⟨1, ![256]⟩
abbrev S256x1 : Shape := ⟨2, ![256, 1]⟩
abbrev S1x2048x512 : Shape := ⟨3, ![1, 2048, 512]⟩
abbrev S2048x512 : Shape := ⟨2, ![2048, 512]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048x2048, .f32⟩
  | .hbm, ⟨3, _⟩ => ⟨S512x8192, .bf16⟩
  | .hbm, ⟨4, _⟩ => ⟨S512x8192, .bf16⟩
  | .hbm, ⟨5, _⟩ => ⟨S1x2048, .f32⟩
  | .hbm, ⟨6, _⟩ => ⟨S4x2048x2048, .bf16⟩
  | .hbm, ⟨7, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_66 : BitVec 32 := 0#32
  let c4_i32 : BitVec 32 := 4#32
  let v97 : BitVec 32 := Scalar.addi c0_i32_66 c4_i32
  let c1_i32 : BitVec 32 := 1#32
  ⟨c0_i32_66, v97, c1_i32⟩
def k0_mult1 (k0_t1 : Fin k0_t1_loop.trips) : BitVec 32 :=
  let c0_i32_66 : BitVec 32 := 0#32
  let c1_i32 : BitVec 32 := 1#32
  let arg9 : BitVec 32 := Scf.iv c0_i32_66 c1_i32 k0_t1
  let c256_i32 : BitVec 32 := 256#32
  let v98 : BitVec 32 := Scalar.muli arg9 c256_i32
  v98
def k0_off1 (k0_t1 : Fin k0_t1_loop.trips) : Fin 2 → Nat :=
  let c0_i32_66 : BitVec 32 := 0#32
  let c1_i32 : BitVec 32 := 1#32
  let arg9 : BitVec 32 := Scf.iv c0_i32_66 c1_i32 k0_t1
  let c256_i32 : BitVec 32 := 256#32
  let v98 : BitVec 32 := Scalar.muli arg9 c256_i32
  let v99 : BitVec 32 := v98
  let v100 : Index := Scalar.indexCast v99
  let c0_68 : Index := 0#32
  ![v100.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg1
  let c0_i32_5 : BitVec 32 := 0#32
  ![v16.toNat, v17.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 arg1
  let c0_i32_5 : BitVec 32 := 0#32
  ![v16.toNat, v17.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== XattnRefIdeal.lean ====
abbrev S16384x2048 : Shape := ⟨2, ![16384, 2048]⟩
abbrev S2048 : Shape := ⟨1, ![2048]⟩
abbrev S4x2048x2048 : Shape := ⟨3, ![4, 2048, 2048]⟩
abbrev S512x8192 : Shape := ⟨2, ![512, 8192]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S1x2048x2048 : Shape := ⟨3, ![1, 2048, 2048]⟩
abbrev S2048x2048 : Shape := ⟨2, ![2048, 2048]⟩
abbrev S2x8192x4x512 : Shape := ⟨4, ![2, 8192, 4, 512]⟩
abbrev S512x2048 : Shape := ⟨2, ![512, 2048]⟩
abbrev S2x256x4x512 : Shape := ⟨4, ![2, 256, 4, 512]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x512x8192 : Shape := ⟨4, ![2, 4, 512, 8192]⟩

abbrev nBuf : Space → Nat
  | .hbm => 54
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048x2048, .f32⟩
  | .hbm, ⟨3, _⟩ => ⟨S512x8192, .bf16⟩
  | .hbm, ⟨4, _⟩ => ⟨S512x8192, .bf16⟩
  | .hbm, ⟨5, _⟩ => ⟨S2x8192x2048, .f32⟩
  | .hbm, ⟨6, _⟩ => ⟨S2x8192x2048, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S1x1x2048, .f32⟩
  | .hbm, ⟨20, _⟩ => ⟨S2x8192x2048, .f32⟩
  | .hbm, ⟨21, _⟩ => ⟨S2x8192x2048, .f32⟩
  | .hbm, ⟨22, _⟩ => ⟨S1x2048x2048, .f32⟩
  | .hbm, ⟨23, _⟩ => ⟨S2048x2048, .f32⟩
  | .hbm, ⟨24, _⟩ => ⟨S2x8192x2048, .f32⟩
  | .hbm, ⟨25, _⟩ => ⟨S2x8192x4x512, .f32⟩
  | .hbm, ⟨26, _⟩ => ⟨S512x8192, .f32⟩
  | .hbm, ⟨27, _⟩ => ⟨S512x2048, .f32⟩
  | .hbm, ⟨28, _⟩ => ⟨S2x256x4x512, .f32⟩
  | .hbm, ⟨29, _⟩ => ⟨S512x8192, .f32⟩
  | .hbm, ⟨30, _⟩ => ⟨S512x2048, .f32⟩
  | .hbm, ⟨31, _⟩ => ⟨S2x256x4x512, .f32⟩
  | .hbm, ⟨32, _⟩ => ⟨S2x4x8192x256, .f32⟩
  | .hbm, ⟨33, _⟩ => ⟨S_, .f32⟩
  | .hbm, ⟨34, _⟩ => ⟨S2x4x8192x256, .f32⟩
  | .hbm, ⟨35, _⟩ => ⟨S2x4x8192x256, .f32⟩
  | .hbm, ⟨36, _⟩ => ⟨S_, .f32⟩
  | .hbm, ⟨37, _⟩ => ⟨S2x4x8192, .f32⟩
  | .hbm, ⟨38, _⟩ => ⟨S_, .f32⟩
  | .hbm, ⟨39, _⟩ => ⟨S2x4x8192, .f32⟩
  | .hbm, ⟨40, _⟩ => ⟨S2x4x8192, .f32⟩
  | .hbm, ⟨41, _⟩ => ⟨S2x4x8192x1, .f32⟩
  | .hbm, ⟨42, _⟩ => ⟨S2x4x8192x256, .f32⟩
  | .hbm, ⟨43, _⟩ => ⟨S2x4x8192x256, .f32⟩
  | .hbm, ⟨44, _⟩ => ⟨S2x4x8192x256, .f32⟩
  | .hbm, ⟨45, _⟩ => ⟨S_, .f32⟩
  | .hbm, ⟨46, _⟩ => ⟨S2x4x8192, .f32⟩
  | .hbm, ⟨47, _⟩ => ⟨S2x4x8192x1, .f32⟩
  | .hbm, ⟨48, _⟩ => ⟨S2x4x8192x256, .f32⟩
  | .hbm, ⟨49, _⟩ => ⟨S2x4x8192x256, .f32⟩
  | .hbm, ⟨50, _⟩ => ⟨S2x4x512x8192, .f32⟩
  | .hbm, ⟨51, _⟩ => ⟨S2x8192x4x512, .f32⟩
  | .hbm, ⟨52, _⟩ => ⟨S16384x2048, .f32⟩
  | .hbm, ⟨53, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Mlp.lean ====
abbrev S16384x2048 : Shape := ⟨2, ![16384, 2048]⟩
abbrev S4x2048x2048 : Shape := ⟨3, ![4, 2048, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S512x2048 : Shape := ⟨2, ![512, 2048]⟩
abbrev S1x2048x2048 : Shape := ⟨3, ![1, 2048, 2048]⟩
abbrev S1x2048x1024 : Shape := ⟨3, ![1, 2048, 1024]⟩
abbrev S1x1024x2048 : Shape := ⟨3, ![1, 1024, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 13
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S4x2048x2048, .f32⟩
  | .hbm, ⟨3, _⟩ => ⟨S2048, .f32⟩
  | .hbm, ⟨4, _⟩ => ⟨S4x2048x8192, .f32⟩
  | .hbm, ⟨5, _⟩ => ⟨S4x8192x2048, .f32⟩
  | .hbm, ⟨6, _⟩ => ⟨S2048, .f32⟩
  | .hbm, ⟨7, _⟩ => ⟨S4x2048x2048, .bf16⟩
  | .hbm, ⟨8, _⟩ => ⟨S1x2048, .f32⟩
  | .hbm, ⟨9, _⟩ => ⟨S4x2048x8192, .bf16⟩
  | .hbm, ⟨10, _⟩ => ⟨S4x8192x2048, .bf16⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S1x2048, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_26 : BitVec 32 := 0#32
  let c2_i32 : BitVec 32 := 2#32
  let v27 : BitVec 32 := Scalar.addi c0_i32_26 c2_i32
  let c1_i32 : BitVec 32 := 1#32
  ⟨c0_i32_26, v27, c1_i32⟩
def k0_mult1 (k0_t1 : Fin k0_t1_loop.trips) : BitVec 32 :=
  let c0_i32_26 : BitVec 32 := 0#32
  let c1_i32 : BitVec 32 := 1#32
  let arg11 : BitVec 32 := Scf.iv c0_i32_26 c1_i32 k0_t1
  let c256_i32 : BitVec 32 := 256#32
  let v28 : BitVec 32 := Scalar.muli arg11 c256_i32
  v28
def k0_off1 (k0_t1 : Fin k0_t1_loop.trips) : Fin 2 → Nat :=
  let c0_i32_26 : BitVec 32 := 0#32
  let c1_i32 : BitVec 32 := 1#32
  let arg11 : BitVec 32 := Scf.iv c0_i32_26 c1_i32 k0_t1
  let c256_i32 : BitVec 32 := 256#32
  let v28 : BitVec 32 := Scalar.muli arg11 c256_i32
  let v29 : BitVec 32 := v28
  let v30 : Index := Scalar.indexCast v29
  let c0_28 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MlpRefIdeal.lean ====
abbrev S16384x2048 : Shape := ⟨2, ![16384, 2048]⟩
abbrev S4x2048x2048 : Shape := ⟨3, ![4, 2048, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x8192 : Shape := ⟨3, ![1, 2048, 8192]⟩
abbrev S2048x8192 : Shape := ⟨2, ![2048, 8192]⟩
abbrev S16384x8192 : Shape := ⟨2, ![16384, 8192]⟩
abbrev S1x8192x2048 : Shape := ⟨3, ![1, 8192, 2048]⟩
abbrev S8192x2048 : Shape := ⟨2, ![8192, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S4x2048x2048, .f32⟩
  | .hbm, ⟨3, _⟩ => ⟨S2048, .f32⟩
  | .hbm, ⟨4, _⟩ => ⟨S4x2048x8192, .f32⟩
  | .hbm, ⟨5, _⟩ => ⟨S4x8192x2048, .f32⟩
  | .hbm, ⟨6, _⟩ => ⟨S2048, .f32⟩
  | .hbm, ⟨7, _⟩ => ⟨S16384x2048, .f32⟩
  | .hbm, ⟨8, _⟩ => ⟨S1x2048x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S1x2048x8192, .f32⟩
  | .hbm, ⟨29, _⟩ => ⟨S2048x8192, .f32⟩
  | .hbm, ⟨30, _⟩ => ⟨S16384x8192, .f32⟩
  | .hbm, ⟨31, _⟩ => ⟨S_, .f32⟩
  | .hbm, ⟨32, _⟩ => ⟨S16384x8192, .f32⟩
  | .hbm, ⟨33, _⟩ => ⟨S16384x8192, .f32⟩
  | .hbm, ⟨34, _⟩ => ⟨S16384x8192, .f32⟩
  | .hbm, ⟨35, _⟩ => ⟨S1x8192x2048, .f32⟩
  | .hbm, ⟨36, _⟩ => ⟨S8192x2048, .f32⟩
  | .hbm, ⟨37, _⟩ => ⟨S16384x2048, .f32⟩
  | .hbm, ⟨38, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Last.lean ====
abbrev S16384x2048 : Shape := ⟨2, ![16384, 2048]⟩
abbrev S4x2048x2048 : Shape := ⟨3, ![4, 2048, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S512x2048 : Shape := ⟨2, ![512, 2048]⟩
abbrev S1x2048x2048 : Shape := ⟨3, ![1, 2048, 2048]⟩
abbrev S1x2048x1024 : Shape := ⟨3, ![1, 2048, 1024]⟩
abbrev S1x1024x2048 : Shape := ⟨3, ![1, 1024, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 13
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S4x2048x2048, .f32⟩
  | .hbm, ⟨3, _⟩ => ⟨S2048, .f32⟩
  | .hbm, ⟨4, _⟩ => ⟨S4x2048x8192, .f32⟩
  | .hbm, ⟨5, _⟩ => ⟨S4x8192x2048, .f32⟩
  | .hbm, ⟨6, _⟩ => ⟨S2048, .f32⟩
  | .hbm, ⟨7, _⟩ => ⟨S4x2048x2048, .bf16⟩
  | .hbm, ⟨8, _⟩ => ⟨S1x2048, .f32⟩
  | .hbm, ⟨9, _⟩ => ⟨S4x2048x8192, .bf16⟩
  | .hbm, ⟨10, _⟩ => ⟨S4x8192x2048, .bf16⟩
  | .hbm, ⟨11, _⟩ => ⟨S1x2048, .f32⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048x2048, .bf16⟩
  | .local _ .vmem, ⟨5, _⟩ => ⟨S1x2048, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_27 : BitVec 32 := 0#32
  let c2_i32 : BitVec 32 := 2#32
  let v30 : BitVec 32 := Scalar.addi c0_i32_27 c2_i32
  let c1_i32 : BitVec 32 := 1#32
  ⟨c0_i32_27, v30, c1_i32⟩
def k0_mult1 (k0_t1 : Fin k0_t1_loop.trips) : BitVec 32 :=
  let c0_i32_27 : BitVec 32 := 0#32
  let c1_i32 : BitVec 32 := 1#32
  let arg11 : BitVec 32 := Scf.iv c0_i32_27 c1_i32 k0_t1
  let c256_i32 : BitVec 32 := 256#32
  let v31 : BitVec 32 := Scalar.muli arg11 c256_i32
  v31
def k0_off1 (k0_t1 : Fin k0_t1_loop.trips) : Fin 2 → Nat :=
  let c0_i32_27 : BitVec 32 := 0#32
  let c1_i32 : BitVec 32 := 1#32
  let arg11 : BitVec 32 := Scf.iv c0_i32_27 c1_i32 k0_t1
  let c256_i32 : BitVec 32 := 256#32
  let v31 : BitVec 32 := Scalar.muli arg11 c256_i32
  let v32 : BitVec 32 := v31
  let v33 : Index := Scalar.indexCast v32
  let c0_29 : Index := 0#32
  ![v33.toNat, 0]
def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_14 : BitVec 32 := 0#32
  let v20 : BitVec 1 := Scalar.cmpi .ne v19 c0_i32_14
  v20

@[reducible] def k0_t2_loop : Scf.Loop 32 :=
  let c0_i32_17 : BitVec 32 := 0#32
  let c2_i32 : BitVec 32 := 2#32
  let v23 : BitVec 32 := Scalar.addi c0_i32_17 c2_i32
  let c1_i32 : BitVec 32 := 1#32
  ⟨c0_i32_17, v23, c1_i32⟩
def k0_mult2 (k0_t2 : Fin k0_t2_loop.trips) : BitVec 32 :=
  let c0_i32_17 : BitVec 32 := 0#32
  let c1_i32 : BitVec 32 := 1#32
  let arg11 : BitVec 32 := Scf.iv c0_i32_17 c1_i32 k0_t2
  let c256_i32 : BitVec 32 := 256#32
  let v24 : BitVec 32 := Scalar.muli arg11 c256_i32
  v24
def k0_off2 (k0_t2 : Fin k0_t2_loop.trips) : Fin 2 → Nat :=
  let c0_i32_17 : BitVec 32 := 0#32
  let c1_i32 : BitVec 32 := 1#32
  let arg11 : BitVec 32 := Scf.iv c0_i32_17 c1_i32 k0_t2
  let c256_i32 : BitVec 32 := 256#32
  let v24 : BitVec 32 := Scalar.muli arg11 c256_i32
  let v25 : BitVec 32 := v24
  let v26 : Index := Scalar.indexCast v25
  let c0_19 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== LastRefIdeal.lean ====
abbrev S16384x2048 : Shape := ⟨2, ![16384, 2048]⟩
abbrev S4x2048x2048 : Shape := ⟨3, ![4, 2048, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x8192 : Shape := ⟨3, ![1, 2048, 8192]⟩
abbrev S2048x8192 : Shape := ⟨2, ![2048, 8192]⟩
abbrev S16384x8192 : Shape := ⟨2, ![16384, 8192]⟩
abbrev S1x8192x2048 : Shape := ⟨3, ![1, 8192, 2048]⟩
abbrev S8192x2048 : Shape := ⟨2, ![8192, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S4x2048x2048, .f32⟩
  | .hbm, ⟨3, _⟩ => ⟨S2048, .f32⟩
  | .hbm, ⟨4, _⟩ => ⟨S4x2048x8192, .f32⟩
  | .hbm, ⟨5, _⟩ => ⟨S4x8192x2048, .f32⟩
  | .hbm, ⟨6, _⟩ => ⟨S2048, .f32⟩
  | .hbm, ⟨7, _⟩ => ⟨S16384x2048, .f32⟩
  | .hbm, ⟨8, _⟩ => ⟨S1x2048x2048, .f32⟩
  | .hbm, ⟨9, _⟩ => ⟨S2048x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S1x2048x8192, .f32⟩
  | .hbm, ⟨29, _⟩ => ⟨S2048x8192, .f32⟩
  | .hbm, ⟨30, _⟩ => ⟨S16384x8192, .f32⟩
  | .hbm, ⟨31, _⟩ => ⟨S_, .f32⟩
  | .hbm, ⟨32, _⟩ => ⟨S16384x8192, .f32⟩
  | .hbm, ⟨33, _⟩ => ⟨S16384x8192, .f32⟩
  | .hbm, ⟨34, _⟩ => ⟨S16384x8192, .f32⟩
  | .hbm, ⟨35, _⟩ => ⟨S1x8192x2048, .f32⟩
  | .hbm, ⟨36, _⟩ => ⟨S8192x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Attn.lean ====
abbrev S72 : Shape := ⟨1, ![72]⟩
abbrev S40x16384x128 : Shape := ⟨3, ![40, 16384, 128]⟩
abbrev S1x64 : Shape := ⟨2, ![1, 64]⟩
abbrev S1x128 : Shape := ⟨2, ![1, 128]⟩
abbrev S16384x1024 : Shape := ⟨2, ![16384, 1024]⟩
abbrev S8x512x128 : Shape := ⟨3, ![8, 512, 128]⟩
abbrev S1 : Shape := ⟨1, ![1]⟩
abbrev S8x1024x128 : Shape := ⟨3, ![8, 1024, 128]⟩
abbrev S512x1024 : Shape := ⟨2, ![512, 1024]⟩
abbrev S8x1024x256 : Shape := ⟨3, ![8, 1024, 256]⟩
abbrev S512x128 : Shape := ⟨2, ![512, 128]⟩
abbrev S1024x128 : Shape := ⟨2, ![1024, 128]⟩
abbrev S1x512x128 : Shape := ⟨3, ![1, 512, 128]⟩
abbrev S1x1024x128 : Shape := ⟨3, ![1, 1024, 128]⟩
abbrev S1x256x128 : Shape := ⟨3, ![1, 256, 128]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S1x512x256 : Shape := ⟨3, ![1, 512, 256]⟩
abbrev S512x256 : Shape := ⟨2, ![512, 256]⟩
abbrev S256x256 : Shape := ⟨2, ![256, 256]⟩
abbrev S1x256x256 : Shape := ⟨3, ![1, 256, 256]⟩
abbrev S1x1 : Shape := ⟨2, ![1, 1]⟩
abbrev S512 : Shape := ⟨1, ![512]⟩
abbrev S512x1 : Shape := ⟨2, ![512, 1]⟩

abbrev nBuf : Space → Nat
  | .hbm => 9
  | .vmem => 17
  | .smem => 2
  | _ => 0

abbrev bufTy : (tb : Table) → Fin (tcTables nBuf tb) → BufTy
  | .hbm, ⟨0, _⟩ => ⟨S40x16384x128, .bf16⟩
  | .hbm, ⟨1, _⟩ => ⟨S40x16384x128, .bf16⟩
  | .hbm, ⟨2, _⟩ => ⟨S40x16384x128, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S16384x1024, .bf16⟩
  | .local _ .vmem, ⟨0, _⟩ => ⟨S8x512x128, .bf16⟩
  | .local _ .vmem, ⟨1, _⟩ => ⟨S8x512x128, .bf16⟩
  | .local _ .vmem, ⟨2, _⟩ => ⟨S8x1024x128, .bf16⟩
  | .local _ .vmem, ⟨3, _⟩ => ⟨S8x1024x128, .bf16⟩
  | .local _ .vmem, ⟨4, _⟩ => ⟨S8x1024x128, .bf16⟩
  | .local _ .vmem, ⟨5, _⟩ => ⟨S8x1024x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S512x1024, .bf16⟩
  | .local _ .vmem, ⟨12, _⟩ => ⟨S512x1024, .bf16⟩
  | .local _ .vmem, ⟨13, _⟩ => ⟨S8x1024x128, .bf16⟩
  | .local _ .vmem, ⟨14, _⟩ => ⟨S8x1024x256, .bf16⟩
  | .local _ .vmem, ⟨15, _⟩ => ⟨S8x1024x128, .f32⟩
  | .local _ .vmem, ⟨16, _⟩ => ⟨S8x1024x256, .f32⟩
  | .local _ .smem, ⟨0, _⟩ => ⟨S72, .i32⟩
  | .local _ .smem, ⟨1, _⟩ => ⟨S72, .i32⟩
  | _, _ => ⟨S40x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_v0 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 72], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
@[reducible] def k0_t1_loop : Scf.Loop 32 :=
  let c0_i32_18 : BitVec 32 := 0#32
  let c8_i32 : BitVec 32 := 8#32
  let v52 : BitVec 32 := Scalar.addi c0_i32_18 c8_i32
  let c1_i32_19 : BitVec 32 := 1#32
  ⟨c0_i32_18, v52, c1_i32_19⟩
def k0_off2 (k0_t1 : Fin k0_t1_loop.trips) : Fin 3 → Nat :=
  let c0_i32_18 : BitVec 32 := 0#32
  let c1_i32_19 : BitVec 32 := 1#32
  let arg17 : BitVec 32 := Scf.iv c0_i32_18 c1_i32_19 k0_t1
  let v61 : Index := Scalar.indexCast arg17
  let c0_28 : Index := 0#32
  let c0_29 : Index := 0#32
  ![v61.toNat, 0, 0]
def k0_off3 (k0_t1 : Fin k0_t1_loop.trips) : Fin 3 → Nat :=
  let c0_i32_18 : BitVec 32 := 0#32
  let c1_i32_19 : BitVec 32 := 1#32
  let arg17 : BitVec 32 := Scf.iv c0_i32_18 c1_i32_19 k0_t1
  let v72 : Index := Scalar.indexCast arg17
  let c0_32 : Index := 0#32
  let c0_33 : Index := 0#32
  ![v72.toNat, 0, 0]
def k0_off4 (k0_t1 : Fin k0_t1_loop.trips) : Fin 3 → Nat :=
  let c0_i32_18 : BitVec 32 := 0#32
  let c1_i32_19 : BitVec 32 := 1#32
  let arg17 : BitVec 32 := Scf.iv c0_i32_18 c1_i32_19 k0_t1
  let v79 : Index := Scalar.indexCast arg17
  let c512 : Index := 512#32
  let c0_35 : Index := 0#32
  ![v79.toNat, 512, 0]
def k0_off5 (k0_t1 : Fin k0_t1_loop.trips) : Fin 3 → Nat :=
  let c0_i32_18 : BitVec 32 := 0#32
  let c1_i32_19 : BitVec 32 := 1#32
  let arg17 : BitVec 32 := Scf.iv c0_i32_18 c1_i32_19 k0_t1
  let v83 : Index := Scalar.indexCast arg17
  let c0_36 : Index := 0#32
  let c128 : Index := 128#32
  ![v83.toNat, 0, 128]
def k0_cond5 (v1 : BitVec 32) (v3 : BitVec 32) : BitVec 1 :=
  let c0_i32_1 : BitVec 32 := 0#32
  let v8 : BitVec 1 := Scalar.cmpi .sgt v1 c0_i32_1
  let v9 : BitVec 32 := Scalar.extui v8
  let c0_i32_2 : BitVec 32 := 0#32
  let v10 : BitVec 1 := Scalar.cmpi .slt v1 c0_i32_2
  let v11 : BitVec 32 := Scalar.extui v10
  let v12 : BitVec 32 := Scalar.subi v9 v11
  let c2_i32 : BitVec 32 := 2#32
  let c0_i32_3 : BitVec 32 := 0#32
  let v13 : BitVec 1 := Scalar.cmpi .sgt c2_i32 c0_i32_3
  let v14 : BitVec 32 := Scalar.extui v13
  let c0_i32_4 : BitVec 32 := 0#32
  let v15 : BitVec 1 := Scalar.cmpi .slt c2_i32 c0_i32_4
  let v16 : BitVec 32 := Scalar.extui v15
  let v17 : BitVec 32 := Scalar.subi v14 v16
  let v18 : BitVec 1 := Scalar.cmpi .ne v12 v17
  let v19 : BitVec 32 := Scalar.remsi v1 c2_i32
  let c0_i32_5 : BitVec 32 := 0#32
  let v20 : BitVec 1 := Scalar.cmpi .ne v19 c0_i32_5
  let v21 : BitVec 1 := Scalar.andi v18 v20
  let v7 : BitVec 32 := Scalar.divsi v1 c2_i32
  let c1_i32 : BitVec 32 := 1#32
  let v22 : BitVec 32 := Scalar.subi v7 c1_i32
  let v23 : BitVec 32 := Scalar.select v21 v22 v7
  let v47 : BitVec 1 := Scalar.cmpi .eq v3 v23
  let v48 : BitVec 32 := Scalar.extui v47
  let c0_i32_17 : BitVec 32 := 0#32
  let v49 : BitVec 1 := Scalar.cmpi .ne v48 c0_i32_17
  v49

def cc0_transform_0 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S72) ![v1.toNat] S1.size (k0_off1_inb i)) numel1_S1
  let v3 : BitVec 32 := Scalar.addi v0 v2
  let c2_i32 : BitVec 32 := 2#32
  let c0_i32 : BitVec 32 := 0#32
  let c0_i32_0 : BitVec 32 := 0#32
  ![c2_i32.toNat, v3.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S72) ![v1.toNat] S1.size (k0_off1_inb i)) numel1_S1
  let v3 : BitVec 32 := Scalar.addi v0 v2
  let c3_i32 : BitVec 32 := 3#32
  let c0_i32 : BitVec 32 := 0#32
  let c0_i32_0 : BitVec 32 := 0#32
  ![c3_i32.toNat, v3.toNat, c0_i32.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S72) ![v1.toNat] S1.size (k0_off1_inb i)) numel1_S1
  let v3 : BitVec 32 := Scalar.addi v0 v2
  let c4_i32 : BitVec 32 := 4#32
  let c0_i32 : BitVec 32 := 0#32
  let c0_i32_0 : BitVec 32 := 0#32
  ![c4_i32.toNat, v3.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S72) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnRefIdeal.lean ====
abbrev S72 : Shape := ⟨1, ![72]⟩
abbrev S40x16384x128 : Shape := ⟨3, ![40, 16384, 128]⟩
abbrev S1x64 : Shape := ⟨2, ![1, 64]⟩
abbrev S1x128 : Shape := ⟨2, ![1, 128]⟩
abbrev S8x16384x128 : Shape := ⟨3, ![8, 16384, 128]⟩
abbrev S16384x8x128 : Shape := ⟨3, ![16384, 8, 128]⟩
abbrev S2x8192x8x2x64 : Shape := ⟨5, ![2, 8192, 8, 2, 64]⟩
abbrev S2x8192x8x128 : Shape := ⟨4, ![2, 8192, 8, 128]⟩
abbrev S_ : Shape := ⟨0, ![]⟩
abbrev S2x8x2x8192x8192 : Shape := ⟨5, ![2, 8, 2, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S128 : Shape := ⟨1, ![128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S16384x1024 : Shape := ⟨2, ![16384, 1024]⟩

abbrev nBuf : Space → Nat
  | .hbm => 94
  | .vmem => 0
  | .smem => 0
  | _ => 0

abbrev bufTy : (tb : Table) → Fin (tcTables nBuf tb) → BufTy
  | .hbm, ⟨0, _⟩ => ⟨S72, .i32⟩
  | .hbm, ⟨1, _⟩ => ⟨S72, .i32⟩
  | .hbm, ⟨2, _⟩ => ⟨S40x16384x128, .bf16⟩
  | .hbm, ⟨3, _⟩ => ⟨S40x16384x128, .bf16⟩
  | .hbm, ⟨4, _⟩ => ⟨S40x16384x128, .bf16⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S8x16384x128, .bf16⟩
  | .hbm, ⟨11, _⟩ => ⟨S8x16384x128, .f32⟩
  | .hbm, ⟨12, _⟩ => ⟨S16384x8x128, .f32⟩
  | .hbm, ⟨13, _⟩ => ⟨S2x8192x8x2x64, .f32⟩
  | .hbm, ⟨14, _⟩ => ⟨S8x16384x128, .bf16⟩
  | .hbm, ⟨15, _⟩ => ⟨S8x16384x128, .f32⟩
  | .hbm, ⟨16, _⟩ => ⟨S16384x8x128, .f32⟩
  | .hbm, ⟨17, _⟩ => ⟨S2x8192x8x2x64, .f32⟩
  | .hbm, ⟨18, _⟩ => ⟨S8x16384x128, .bf16⟩
  | .hbm, ⟨19, _⟩ => ⟨S8x16384x128, .f32⟩
  | .hbm, ⟨20, _⟩ => ⟨S16384x8x128, .f32⟩
  | .hbm, ⟨21, _⟩ => ⟨S2x8192x8x128, .f32⟩
  | .hbm, ⟨22, _⟩ => ⟨S1x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S2x8x2x8192x8192, .f32⟩
  | .hbm, ⟨34, _⟩ => ⟨S_, .f32⟩
  | .hbm, ⟨35, _⟩ => ⟨S2x8x2x8192x8192, .f32⟩
  | .hbm, ⟨36, _⟩ => ⟨S2x8x2x8192x8192, .f32⟩
  | .hbm, ⟨37, _⟩ => ⟨S8192, .i32⟩
  | .hbm, ⟨38, _⟩ => ⟨S1x8192, .i32⟩
  | .hbm, ⟨39, _⟩ => ⟨S8192, .i32⟩
  | .hbm, ⟨40, _⟩ => ⟨S8192x1, .i32⟩
  | .hbm, ⟨41, _⟩ => ⟨S8192x8192, .i32⟩
  | .hbm, ⟨42, _⟩ => ⟨S8192x8192, .i32⟩
  | .hbm, ⟨43, _⟩ => ⟨S8192x8192, .i1⟩
  | .hbm, ⟨44, _⟩ => ⟨S_, .f32⟩
  | .hbm, ⟨45, _⟩ => ⟨S_, .f32⟩
  | .hbm, ⟨46, _⟩ => ⟨S2x8x2x8192x8192, .i1⟩
  | .hbm, ⟨47, _⟩ => ⟨S2x8x2x8192x8192, .f32⟩
  | .hbm, ⟨48, _⟩ => ⟨S2x8x2x8192x8192, .f32⟩
  | .hbm, ⟨49, _⟩ => ⟨S_, .f32⟩
  | .hbm, ⟨50, _⟩ => ⟨S2x8x2x8192, .f32⟩
  | .hbm, ⟨51, _⟩ => ⟨S_, .f32⟩
  | .hbm, ⟨52, _⟩ => ⟨S2x8x2x8192, .f32⟩
  | .hbm, ⟨53, _⟩ => ⟨S2x8x2x8192, .f32⟩
  | .hbm, ⟨54, _⟩ => ⟨S2x8x2x8192x1, .f32⟩
  | .hbm, ⟨55, _⟩ => ⟨S2x8x2x8192x8192, .f32⟩
  | .hbm, ⟨56, _⟩ => ⟨S2x8x2x8192x8192, .f32⟩
  | .hbm, ⟨57, _⟩ => ⟨S2x8x2x8192x8192, .f32⟩
  | .hbm, ⟨58, _⟩ => ⟨S_, .f32⟩
  | .hbm, ⟨59, _⟩ => ⟨S2x8x2x8192, .f32⟩
  | .hbm, ⟨60, _⟩ => ⟨S2x8x2x8192x1, .f32⟩
  | .hbm, ⟨61, _⟩ => ⟨S2x8x2x8192x8192, .f32⟩
  | .hbm, ⟨62, _⟩ => ⟨S2x8x2x8192x8192, .f32⟩
  | .hbm, ⟨63, _⟩ => ⟨S2x8x1x8192x8192, .f32⟩
  | .hbm, ⟨64, _⟩ => ⟨S2x8x8192x8192, .f32⟩
  | .hbm, ⟨65, _⟩ => ⟨S2x8x1x8192x8192, .f32⟩
  | .hbm, ⟨66, _⟩ => ⟨S2x8x8192x8192, .f32⟩
  | .hbm, ⟨67, _⟩ => ⟨S2x8x8192x8192, .f32⟩
  | .hbm, ⟨68, _⟩ => ⟨S2x8x8192x8192, .f32⟩
  | .hbm, ⟨69, _⟩ => ⟨S2x8x8192x8192, .f32⟩
  | .hbm, ⟨70, _⟩ => ⟨S2x8x128x8192, .f32⟩
  | .hbm, ⟨71, _⟩ => ⟨S2x8192x8x128, .f32⟩
  | .hbm, ⟨72, _⟩ => ⟨S128, .f32⟩
  | .hbm, ⟨73, _⟩ => ⟨S2x8192x8x128, .f32⟩
  | .hbm, ⟨74, _⟩ => ⟨S_, .f32⟩
  | .hbm, ⟨75, _⟩ => ⟨S2x8192x8, .f32⟩
  | .hbm, ⟨76, _⟩ => ⟨S2x8192x8x1, .f32⟩
  | .hbm, ⟨77, _⟩ => ⟨S_, .f32⟩
  | .hbm, ⟨78, _⟩ => ⟨S2x8192x8x1, .f32⟩
  | .hbm, ⟨79, _⟩ => ⟨S2x8192x8x1, .f32⟩
  | .hbm, ⟨80, _⟩ => ⟨S_, .f32⟩
  | .hbm, ⟨81, _⟩ => ⟨S2x8192x8x1, .f32⟩
  | .hbm, ⟨82, _⟩ => ⟨S2x8192x8x1, .f32⟩
  | .hbm, ⟨83, _⟩ => ⟨S2x8192x8x1, .f32⟩
  | .hbm, ⟨84, _⟩ => ⟨S2x8192x8x128, .f32⟩
  | .hbm, ⟨85, _⟩ => ⟨S2x8192x8x128, .f32⟩
  | .hbm, ⟨86, _⟩ => ⟨S1x1x1x128, .f32⟩
  | .hbm, ⟨87, _⟩ => ⟨S2x8192x8x128, .f32⟩
  | .hbm, ⟨88, _⟩ => ⟨S2x8192x8x128, .f32⟩
  | .hbm, ⟨89, _⟩ => ⟨S_, .f32⟩
  | .hbm, ⟨90, _⟩ => ⟨S2x8192x8x128, .f32⟩
  | .hbm, ⟨91, _⟩ => ⟨S2x8192x8x128, .f32⟩
  | .hbm, ⟨92, _⟩ => ⟨S16384x1024, .f32⟩
  | .hbm, ⟨93, _⟩ => ⟨S16384x1024, .bf16⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_7 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== EvenIn.lean ====
abbrev S16384x2048 : Shape := ⟨2, ![16384, 2048]⟩
abbrev S2048 : Shape := ⟨1, ![2048]⟩
abbrev S2x2048x5120 : Shape := ⟨3, ![2, 2048, 5120]⟩
abbrev S1x2048 : Shape := ⟨2, ![1, 2048]⟩
abbrev S40x16384x128 : Shape := ⟨3, ![40, 16384, 128]⟩
abbrev S1024x2048 : Shape := ⟨2, ![1024, 2048]⟩
abbrev S1x2048x1280 : Shape := ⟨3, ![1, 2048, 1280]⟩
abbrev S10x1024x128 : Shape := ⟨3, ![10, 1024, 128]⟩
abbrev S256x2048 : Shape := ⟨2, ![256, 2048]⟩
abbrev S256 : Shape := ⟨1, ![256]⟩
abbrev S256x1 : Shape := ⟨2, ![256, 1]⟩
abbrev S2048x1280 : Shape := ⟨2, ![2048, 1280]⟩
abbrev S1024x1280 : Shape := ⟨2, ![1024, 1280]⟩
abbrev S1024x128 : Shape := ⟨2, ![1024, 128]⟩
abbrev S1x1024x128 : Shape := ⟨3, ![1, 1024, 128]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x5120, .f32⟩
  | .hbm, ⟨3, _⟩ => ⟨S1x2048, .f32⟩
  | .hbm, ⟨4, _⟩ => ⟨S2x2048x5120, .bf16⟩
  | .hbm, ⟨5, _⟩ => ⟨S40x16384x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1280, .bf16⟩
  | .local _ .vmem, ⟨4, _⟩ => ⟨S1x2048x1280, .bf16⟩
  | .local _ .vmem, ⟨5, _⟩ => ⟨S10x1024x128, .bf16⟩
  | .local _ .vmem, ⟨6, _⟩ => ⟨S10x1024x128, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_28 : BitVec 32 := 0#32
  let c4_i32 : BitVec 32 := 4#32
  let v59 : BitVec 32 := Scalar.addi c0_i32_28 c4_i32
  let c1_i32 : BitVec 32 := 1#32
  ⟨c0_i32_28, v59, c1_i32⟩
def k0_mult1 (k0_t1 : Fin k0_t1_loop.trips) : BitVec 32 :=
  let c0_i32_28 : BitVec 32 := 0#32
  let c1_i32 : BitVec 32 := 1#32
  let arg7 : BitVec 32 := Scf.iv c0_i32_28 c1_i32 k0_t1
  let c256_i32 : BitVec 32 := 256#32
  let v60 : BitVec 32 := Scalar.muli arg7 c256_i32
  v60
def k0_off1 (k0_t1 : Fin k0_t1_loop.trips) : Fin 2 → Nat :=
  let c0_i32_28 : BitVec 32 := 0#32
  let c1_i32 : BitVec 32 := 1#32
  let arg7 : BitVec 32 := Scf.iv c0_i32_28 c1_i32 k0_t1
  let c256_i32 : BitVec 32 := 256#32
  let v60 : BitVec 32 := Scalar.muli arg7 c256_i32
  let v61 : BitVec 32 := v60
  let v62 : Index := Scalar.indexCast v61
  let c0_30 : Index := 0#32
  ![v62.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S10x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenInRefIdeal.lean ====
abbrev S16384x2048 : Shape := ⟨2, ![16384, 2048]⟩
abbrev S2048 : Shape := ⟨1, ![2048]⟩
abbrev S2x2048x5120 : Shape := ⟨3, ![2, 2048, 5120]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x5120 : Shape := ⟨3, ![1, 2048, 5120]⟩
abbrev S2048x5120 : Shape := ⟨2, ![2048, 5120]⟩
abbrev S16384x5120 : Shape := ⟨2, ![16384, 5120]⟩
abbrev S16384x40x128 : Shape := ⟨3, ![16384, 40, 128]⟩
abbrev S40x16384x128 : Shape := ⟨3, ![40, 16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2x2048x5120, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S1x2048x5120, .f32⟩
  | .hbm, ⟨20, _⟩ => ⟨S2048x5120, .f32⟩
  | .hbm, ⟨21, _⟩ => ⟨S16384x5120, .f32⟩
  | .hbm, ⟨22, _⟩ => ⟨S16384x40x128, .f32⟩
  | .hbm, ⟨23, _⟩ => ⟨S40x16384x128, .f32⟩
  | .hbm, ⟨24, _⟩ => ⟨S40x16384x128, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== EvenOut.lean ====
abbrev S16384x1024 : Shape := ⟨2, ![16384, 1024]⟩
abbrev S2x2048x2048 : Shape := ⟨3, ![2, 2048, 2048]⟩
abbrev S16384x2048 : Shape := ⟨2, ![16384, 2048]⟩
abbrev S512x1024 : Shape := ⟨2, ![512, 1024]⟩
abbrev S1x2048x2048 : Shape := ⟨3, ![1, 2048, 2048]⟩
abbrev S512x2048 : Shape := ⟨2, ![512, 2048]⟩
abbrev S1x1024x2048 : Shape := ⟨3, ![1, 1024, 2048]⟩
abbrev S1024x2048 : Shape := ⟨2, ![1024, 2048]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S2x2048x2048, .bf16⟩
  | .hbm, ⟨5, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== EvenOutRefIdeal.lean ====
abbrev S16384x1024 : Shape := ⟨2, ![16384, 1024]⟩
abbrev S2x2048x2048 : Shape := ⟨3, ![2, 2048, 2048]⟩
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x2048x2048, .f32⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S1x2048x2048, .f32⟩
  | .hbm, ⟨8, _⟩ => ⟨S2048x2048, .f32⟩
  | .hbm, ⟨9, _⟩ => ⟨S16384x2048, .f32⟩
  | .hbm, ⟨10, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OddOut.lean ====
abbrev S16384x2048 : Shape := ⟨2, ![16384, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S2x2048x2048, .bf16⟩
  | .hbm, ⟨4, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddOutRefIdeal.lean ====
abbrev S16384x2048 : Shape := ⟨2, ![16384, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S16384x2048, .f32⟩
  | .hbm, ⟨3, _⟩ => ⟨S16384x2048, .f32⟩
  | .hbm, ⟨4, _⟩ => ⟨S1x2048x2048, .f32⟩
  | .hbm, ⟨5, _⟩ => ⟨S2048x2048, .f32⟩
  | .hbm, ⟨6, _⟩ => ⟨S16384x2048, .f32⟩
  | .hbm, ⟨7, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemKv.lean ====
abbrev S2x256x2048 : Shape := ⟨3, ![2, 256, 2048]⟩
abbrev S2048 : Shape := ⟨1, ![2048]⟩
abbrev S4x2048x2048 : Shape := ⟨3, ![4, 2048, 2048]⟩
abbrev S512x2048 : Shape := ⟨2, ![512, 2048]⟩
abbrev S1x2048 : Shape := ⟨2, ![1, 2048]⟩
abbrev S512x8192 : Shape := ⟨2, ![512, 8192]⟩
abbrev S1x2048x1024 : Shape := ⟨3, ![1, 2048, 1024]⟩
abbrev S512x1024 : Shape := ⟨2, ![512, 1024]⟩
abbrev S256x2048 : Shape := ⟨2, ![256, 2048]⟩
abbrev S256 : Shape := ⟨1, ![256]⟩
abbrev S256x1 : Shape := ⟨2, ![256, 1]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S4x2048x2048, .f32⟩
  | .hbm, ⟨3, _⟩ => ⟨S512x2048, .f32⟩
  | .hbm, ⟨4, _⟩ => ⟨S1x2048, .f32⟩
  | .hbm, ⟨5, _⟩ => ⟨S4x2048x2048, .bf16⟩
  | .hbm, ⟨6, _⟩ => ⟨S512x8192, .bf16⟩
  | .local _ .vmem, ⟨0, _⟩ => ⟨S512x2048, .f32⟩
  | .local _ .vmem, ⟨1, _⟩ => ⟨S1x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c2_i32 : BitVec 32 := 2#32
  let v11 : BitVec 32 := Scalar.addi c0_i32_9 c2_i32
  let c1_i32 : BitVec 32 := 1#32
  ⟨c0_i32_9, v11, c1_i32⟩
def k0_mult1 (k0_t1 : Fin k0_t1_loop.trips) : BitVec 32 :=
  let c0_i32_9 : BitVec 32 := 0#32
  let c1_i32 : BitVec 32 := 1#32
  let arg7 : BitVec 32 := Scf.iv c0_i32_9 c1_i32 k0_t1
  let c256_i32 : BitVec 32 := 256#32
  let v12 : BitVec 32 := Scalar.muli arg7 c256_i32
  v12
def k0_off1 (k0_t1 : Fin k0_t1_loop.trips) : Fin 2 → Nat :=
  let c0_i32_9 : BitVec 32 := 0#32
  let c1_i32 : BitVec 32 := 1#32
  let arg7 : BitVec 32 := Scf.iv c0_i32_9 c1_i32 k0_t1
  let c256_i32 : BitVec 32 := 256#32
  let v12 : BitVec 32 := Scalar.muli arg7 c256_i32
  let v13 : BitVec 32 := v12
  let v14 : Index := Scalar.indexCast v13
  let c0_11 : Index := 0#32
  ![v14.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvRefIdeal.lean ====
abbrev S2x256x2048 : Shape := ⟨3, ![2, 256, 2048]⟩
abbrev S2048 : Shape := ⟨1, ![2048]⟩
abbrev S4x2048x2048 : Shape := ⟨3, ![4, 2048, 2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x4x2048 : Shape := ⟨4, ![2, 256, 4, 2048]⟩
abbrev S512x8192 : Shape := ⟨2, ![512, 8192]⟩

abbrev nBuf : Space → Nat
  | .hbm => 22
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S4x2048x2048, .f32⟩
  | .hbm, ⟨3, _⟩ => ⟨S2x256x2048, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x2048, .f32⟩
  | .hbm, ⟨15, _⟩ => ⟨S2x256x2048, .f32⟩
  | .hbm, ⟨16, _⟩ => ⟨S1x1x2048, .f32⟩
  | .hbm, ⟨17, _⟩ => ⟨S2x256x2048, .f32⟩
  | .hbm, ⟨18, _⟩ => ⟨S2x256x2048, .f32⟩
  | .hbm, ⟨19, _⟩ => ⟨S2x256x4x2048, .f32⟩
  | .hbm, ⟨20, _⟩ => ⟨S512x8192, .f32⟩
  | .hbm, ⟨21, _⟩ => ⟨S512x8192, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Rows.lean ====
module
public import Idealize.ShloMosaic.Lib.Pointwise
@[expose] public section
noncomputable section

/-! # Rows of a transformer layer on the extended reals

The row functions that both programs of each pair compute, written over plain functions of `Fin`: the root mean
square normalisation of a row, the product of a row with a matrix added to another row, the squared rectifier, and a
sum over 8192 terms cut into eight tiles of 1024. -/

namespace Cert.Rows
open Idealize.ShloMosaic

/-- A row divided by its root mean square (over 2048 entries, `1e-6` added to the mean square), times a gain. -/
def nrm (x g : Fin 2048 → EReal) (n : Fin 2048) : EReal :=
  x n * Ideal.rsqrt (Ideal.div (∑ k, x k * x k) (Ideal.ofBits FTy.f32 1157627904#32) + Ideal.ofBits FTy.f32 897988541#32) * g n

/-- A row plus the product of another row with a matrix. -/
def resid {K N : ℕ} (x : Fin N → EReal) (a : Fin K → EReal) (w : Fin K → Fin N → EReal) (n : Fin N) : EReal :=
  x n + ∑ k, a k * w k n

/-- The square of the rectified product of a row with a matrix. -/
def act {K N : ℕ} (x : Fin K → EReal) (w : Fin K → Fin N → EReal) (f : Fin N) : EReal :=
  max (∑ k, x k * w k f) 0 * max (∑ k, x k * w k f) 0

/-- The feed-forward block on a row: normalise, multiply, square the rectified hidden row, multiply back, add. -/
def ffn (x g : Fin 2048 → EReal) (w1 : Fin 2048 → Fin 8192 → EReal) (w2 : Fin 8192 → Fin 2048 → EReal) : Fin 2048 → EReal :=
  resid x (act (nrm x g) w1) w2

/-- Tile `s` of a sum over 8192 terms: the 1024 terms from `1024 s`. -/
def part (f : Fin 8192 → EReal) (s : ℕ) : EReal :=
  if h : s < 8 then ∑ q : Fin 1024, f ⟨s * 1024 + q.val, by have := q.isLt; omega⟩ else 0

/-- The eight tiles make the whole sum. -/
theorem sum_part (f : Fin 8192 → EReal) : ∑ s ∈ Finset.range 8, part f s = ∑ k, f k := by
  rw [Fin.sum_univ_tiles 8 1024 (by decide) f, Finset.sum_range]
  refine Finset.sum_congr rfl fun s _ => ?_
  unfold part
  rw [dif_pos s.isLt]

/-- A tile of the second product of the feed-forward block, over the blocks of the two matrices it reads. -/
theorem part_eq {s : ℕ} (hs : s < 8) (xn : Fin 2048 → EReal) (w1 : Fin 2048 → Fin 8192 → EReal) (w2 : Fin 8192 → Fin 2048 → EReal)
    (n : Fin 2048) (b1 : Fin 2048 → Fin 1024 → EReal) (b2 : Fin 1024 → Fin 2048 → EReal)
    (h1 : ∀ k q, b1 k q = w1 k ⟨s * 1024 + q.val, by have := q.isLt; omega⟩)
    (h2 : ∀ q n, b2 q n = w2 ⟨s * 1024 + q.val, by have := q.isLt; omega⟩ n) :
    part (fun f => act xn w1 f * w2 f n) s = ∑ q, act xn b1 q * b2 q n := by
  unfold part
  rw [dif_pos hs]
  refine Finset.sum_congr rfl fun q _ => ?_
  rw [h2]
  unfold act
  simp only [h1]

/-- The scaled products of a query row of one head with the 256 keys of that head (the scale is `512^(-1/2)`). -/
def score (q : Fin 512 → EReal) (K : Fin 256 → Fin 512 → EReal) (s : Fin 256) : EReal :=
  (∑ d, q d * K s d) * Ideal.ofBits FTy.f32 1026884851#32

/-- The largest of a row of scores. -/
def top (f : Fin 256 → EReal) : EReal := Finset.fold max (Ideal.ofBits FTy.f32 4286578688#32) f Finset.univ

/-- The softmax of a row of scores. -/
def soft (f : Fin 256 → EReal) (s : Fin 256) : EReal :=
  Ideal.div (Ideal.exp (f s - top f)) (∑ s, Ideal.exp (f s - top f))

/-- The largest score is at least the value the fold starts from. -/
theorem top_max (f : Fin 256 → EReal) : max (Ideal.ofBits FTy.f32 4286578688#32) (top f) = top f :=
  max_eq_right ((Finset.le_fold_max _).2 (Or.inl le_rfl))

/-- The column of an array of four heads that column `d` of the head of column `n` is. -/
def hcol (n : Fin 2048) (d : Fin 512) : Fin 2048 := ⟨n.val / 512 * 512 + d.val, by have := n.isLt; have := d.isLt; omega⟩

/-- Attention of a normalised row to the memory: per head, the softmax of its scores times the values. -/
def xmix (x : Fin 2048 → EReal) (w : Fin 2048 → Fin 2048 → EReal) (K V : Fin 256 → Fin 2048 → EReal) (n : Fin 2048) : EReal :=
  ∑ s, soft (score (fun d => ∑ k, x k * w k (hcol n d)) (fun s d => K s (hcol n d))) s * V s n

end Cert.Rows

end
end
-- ==== Proof.XattnValue.lean ====
module
public import proofs.«01_k».proof.Proof.Gen.XattnIdeal.Value
public import proofs.«01_k».proof.Proof.Gen.XattnRefIdeal.Run
public import proofs.«01_k».proof.Proof.Gen.XattnRefIdeal.Read
public import proofs.«01_k».proof.Proof.Rows
@[expose] public section
set_option maxRecDepth 16384
noncomputable section

/-! # The cross-attention call computes the attention to the memory of its reference -/

namespace Cert.XattnIdeal.Hand
open Cert.XattnIdeal Cert.XattnIdeal.Gen Cert.Rows Idealize.ShloMosaic Idealize.ShloMosaic.TcCoe Idealize.SL.Sem
open Idealize.ShloMosaic.Pipeline (Dat)

/-! ## The payloads, by rows -/

theorem pay4_apply (x : Vec Ideal S1024x2048 .bf16) (w : Vec Ideal S1x2048x512 .bf16) (k v : Vec Ideal S256x512 .bf16)
    (r : Fin 1024) (n : Fin 512) :
    k0_pay4 x w k v (ix2 r n) = ∑ s, soft (score (fun d => ∑ k, x (ix2 r k) * w (ix3 0 k d)) (fun s d => k (ix2 s d))) s * v (ix2 s n) := by
  pointwise [k0_pay4]
  rfl
theorem pay3_apply (g : Vec Ideal S1x2048 .f32) (x : Vec Ideal S256x2048 .f32) (r : Fin 256) (n : Fin 2048) :
    k0_pay3 g x (ix2 r n) = nrm (fun k => x (ix2 r k)) (fun k => g (ix2 0 k)) n := by
  pointwise [k0_pay3]
  rfl

/-! ## What the loop over the four quarters of a block leaves in the scratch -/

/-- The rows of a block, each normalised. -/
def xn (P : Vec Ideal S1024x2048 .f32) (g : Vec Ideal S1x2048 .f32) : Vec Ideal S1024x2048 .bf16 :=
  fun y => nrm (fun k => P (ix2 (y 0) k)) (fun k => g (ix2 0 k)) (y 1)

theorem hz2 : (![0, 0] : Fin 2 → ℕ) = fun _ => 0 := funext fun a => by fin_cases a <;> rfl
theorem hz3 : (![0, 0, 0] : Fin 3 → ℕ) = fun _ => 0 := funext fun a => by fin_cases a <;> rfl

/-- Normalising some whole rows of a block gives those rows of the normalised block. -/
theorem pay3_rows (g : Vec Ideal S1x2048 .f32) (P : Vec Ideal S1024x2048 .f32) (off : Fin 2 → ℕ) (h1 : off 1 = 0)
    (inb : ∀ a, off a + ![256, 2048] a ≤ S1024x2048.size a) (x : S256x2048.Idx) :
    k0_pay3 g (fun j => P ((Rect.unit (s := S1024x2048) off ![256, 2048] inb).toLoadRect.idx j)) x
      = xn P g ((Rect.unit (s := S1024x2048) off ![256, 2048] inb).emb x) := by
  obtain ⟨r, n, rfl⟩ : ∃ (r : Fin 256) (n : Fin 2048), x = ix2 r n := ⟨x 0, x 1, eq_ix2 x⟩
  rw [pay3_apply]
  have e1 : ∀ n : Fin 2048, (((Rect.unit (s := S1024x2048) off ![256, 2048] inb).emb (ix2 r n)) 1 : Fin 2048) = n := fun n =>
    Fin.ext (by show off (1 : Fin 2) + 1 * n.val = n.val; omega)
  unfold xn
  rw [e1]
  congr 1
  funext q
  congr 1
  funext a
  match a with
  | ⟨0, _⟩ => rfl
  | ⟨1, _⟩ => exact e1 q

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x2048 .bf16) (harg4 : arg4.IsWhole) (arg5 : Memref sig .tc .vmem S256x2048 .bf16) (harg5 : arg5.IsWhole) (arg6 : Memref sig .tc .vmem S256x2048 .bf16) (harg6 : arg6.IsWhole) (arg7 : Memref sig .tc .vmem S1024x2048 .bf16) (harg7 : arg7.IsWhole) (arg8 : Memref sig .tc .vmem S1024x2048 .bf16) (harg8 : arg8.IsWhole)

theorem trip_pieces (k0_h1 : k0_cond1 i = 1#1) (g : Vec Ideal S1x2048 .f32) (X : BufTy.Contents (Elt Ideal) arg2.view.ty)
    (P : Vec Ideal S1024x2048 .f32)
    (hX : ∀ B : LoadRect S1024x2048, arg2.view.readAt (Elt Ideal) B X = fun j => P (B.idx j))
    (k : Fin k0_t1_loop.trips) :
    ∀ p ∈ tripL_k0_t1 (F := Ideal) Variants.none c none i arg2 harg2 arg3 harg3 arg4 harg4 arg5 harg5 arg6 harg6 arg7 harg7 arg8 harg8 k0_h1 g X k,
      ∀ x : p.1.shape.Idx, p.2 x = xn P g (p.1.emb x) := by
  unfold tripL_k0_t1 trip_k0_t1
  dsimp only
  intro p hp
  rw [List.mem_singleton] at hp
  subst hp
  intro x
  rw [hX]
  exact pay3_rows g P (k0_off1 k) (congrFun (k0_off1_eq k) 1) _ x

theorem pb_pieces (k0_h1 : k0_cond1 i = 1#1) (g : Vec Ideal S1x2048 .f32) (X : BufTy.Contents (Elt Ideal) arg2.view.ty)
    (P : Vec Ideal S1024x2048 .f32)
    (hX : ∀ B : LoadRect S1024x2048, arg2.view.readAt (Elt Ideal) B X = fun j => P (B.idx j)) :
    ∀ n, n ≤ k0_t1_loop.trips →
    ∀ p ∈ pb_k0_t1 (F := Ideal) Variants.none c none i arg2 harg2 arg3 harg3 arg4 harg4 arg5 harg5 arg6 harg6 arg7 harg7 arg8 harg8 k0_h1 g X n,
      ∀ x : p.1.shape.Idx, p.2 x = xn P g (p.1.emb x)
  | 0, _ => fun p hp => absurd hp (by rw [pb_k0_t1]; exact List.not_mem_nil)
  | n + 1, hn => fun p hp => by
    have e := pb_k0_t1_succ (F := Ideal) Variants.none c none i arg2 harg2 arg3 harg3 arg4 harg4 arg5 harg5 arg6 harg6 arg7 harg7 arg8 harg8 k0_h1 g X ⟨n, hn⟩
    dsimp only at e
    rw [e] at hp
    rcases List.mem_append.mp hp with h | h
    · exact trip_pieces c i arg2 harg2 arg3 harg3 arg4 harg4 arg5 harg5 arg6 harg6 arg7 harg7 arg8 harg8 k0_h1 g X P hX _ p h
    · exact pb_pieces k0_h1 g X P hX n (Nat.le_of_succ_le hn) p h

/-- The heads of a block, from the normalised rows and the windows' blocks. -/
def heads (X : Vec Ideal S1024x2048 .bf16) (W : Vec Ideal S1x2048x2048 .bf16) (K V : Vec Ideal S256x2048 .bf16) : Vec Ideal S1024x2048 .bf16 :=
  fun y => xmix (fun k => X (ix2 (y 0) k)) (fun k n => W (ix3 0 k n)) (fun s n => K (ix2 s n)) (fun s n => V (ix2 s n)) (y 1)

/-- Head `h` of a block is written from the columns of the windows that belong to it. -/
theorem pay4_head (X : Vec Ideal S1024x2048 .bf16) (W : Vec Ideal S1x2048x2048 .bf16) (K V : Vec Ideal S256x2048 .bf16) (h o : ℕ) (hh : h < 4) (ho : o = h * 512)
    (inb3 : ∀ a, (![0, 0, o] : Fin 3 → ℕ) a + ![1, 2048, 512] a ≤ S1x2048x2048.size a)
    (inb2 : ∀ a, (![0, o] : Fin 2 → ℕ) a + ![256, 512] a ≤ S256x2048.size a)
    (inb : ∀ a, (![0, o] : Fin 2 → ℕ) a + ![1024, 512] a ≤ S1024x2048.size a) (x : S1024x512.Idx) :
    k0_pay4 X (View.ld W (Rect.unit (s := S1x2048x2048) ![0, 0, o] ![1, 2048, 512] inb3))
        (View.ld K (Rect.unit (s := S256x2048) ![0, o] ![256, 512] inb2))
        (View.ld V (Rect.unit (s := S256x2048) ![0, o] ![256, 512] inb2)) x
      = heads X W K V ((Rect.unit (s := S1024x2048) ![0, o] ![1024, 512] inb).emb x) := by
  obtain ⟨r, n, rfl⟩ : ∃ (r : Fin 1024) (n : Fin 512), x = ix2 r n := ⟨x 0, x 1, eq_ix2 x⟩
  have hn := n.isLt
  have hb : o + n.val < 2048 := by omega
  have e0 : (((Rect.unit (s := S1024x2048) ![0, o] ![1024, 512] inb).emb (ix2 r n)) 0 : Fin 1024) = r :=
    Fin.ext (by show 0 + 1 * r.val = r.val; omega)
  have e1 : (((Rect.unit (s := S1024x2048) ![0, o] ![1024, 512] inb).emb (ix2 r n)) 1 : Fin 2048) = ⟨o + n.val, hb⟩ :=
    Fin.ext (by show o + 1 * n.val = o + n.val; omega)
  have hc : ∀ d : Fin 512, hcol ⟨o + n.val, hb⟩ d = ⟨o + d.val, by have := d.isLt; omega⟩ := fun d =>
    Fin.ext (by show (o + n.val) / 512 * 512 + d.val = o + d.val; omega)
  rw [pay4_apply]
  unfold heads
  rw [e0, e1]
  unfold xmix
  simp only [hc]
  have hW : ∀ (k : Fin 2048) (d : Fin 512), View.ld W (Rect.unit (s := S1x2048x2048) ![0, 0, o] ![1, 2048, 512] inb3) (ix3 (n0 := 1) (n1 := 2048) (n2 := 512) 0 k d)
      = W (ix3 0 k ⟨o + d.val, by have := d.isLt; omega⟩) := fun k d => by
    show W _ = W _
    congr 1
    funext a
    apply Fin.ext
    match a with
    | ⟨0, _⟩ => rfl
    | ⟨1, _⟩ => show 0 + 1 * k.val = k.val; omega
    | ⟨2, _⟩ => show o + 1 * d.val = o + d.val; omega
  have hK : ∀ (K : Vec Ideal S256x2048 .bf16) (k : Fin 256) (d : Fin 512), View.ld K (Rect.unit (s := S256x2048) ![0, o] ![256, 512] inb2) (ix2 (n0 := 256) (n1 := 512) k d)
      = K (ix2 k ⟨o + d.val, by have := d.isLt; omega⟩) := fun K k d => by
    show K _ = K _
    congr 1
    funext a
    apply Fin.ext
    match a with
    | ⟨0, _⟩ => show 0 + 1 * k.val = k.val; omega
    | ⟨1, _⟩ => show o + 1 * d.val = o + d.val; omega
  refine Finset.sum_congr rfl fun s _ => ?_
  refine congrArg₂ (· * ·) (congrArg (soft · s) (congrArg₂ score (funext fun d => Finset.sum_congr rfl fun k _ => congrArg (_ * ·) ((hW k d).trans (congrArg (fun n => W (ix3 0 k n)) (hc d).symm))) (funext fun s => funext fun d => (hK K s d).trans (congrArg (fun n => K (ix2 s n)) (hc d).symm)))) (hK V s n)

/-! ## What a point leaves in the block of the result -/

theorem scratch (hc0 : k0_cond1 i = 1#1) (x0 : Vec Ideal S1024x2048 .f32) (x1 : Vec Ideal S1x2048 .f32) :
    arg8.view.readCov (pb_k0_t1 (F := Ideal) Variants.none c none i arg2 harg2 arg3 harg3 arg4 harg4 arg5 harg5 arg6 harg6 arg7 harg7 arg8 harg8 hc0 (View.readAt (Elt Ideal) arg3.view
      (Rect.unit ![0, 0] S1x2048.size inb_S1x2048_S1x2048_0_0).toLoadRect (harg3.unread x1)) (harg2.unread x0) k0_t1_loop.trips)
      (Rect.unit ![0, 0] S1024x2048.size inb_S1024x2048_S1024x2048_0_0).toLoadRect = xn x0 x1 := by
  have hc := View.cover_of_tiledL (pb_k0_t1 (F := Ideal) Variants.none c none i arg2 harg2 arg3 harg3 arg4 harg4 arg5 harg5 arg6 harg6 arg7 harg7 arg8 harg8 hc0 (View.readAt (Elt Ideal) arg3.view
      (Rect.unit ![0, 0] S1x2048.size inb_S1x2048_S1x2048_0_0).toLoadRect (harg3.unread x1)) (harg2.unread x0) k0_t1_loop.trips) S256x2048.size (by sl_kernel_rfl)
  have key : View.canon (pb_k0_t1 (F := Ideal) Variants.none c none i arg2 harg2 arg3 harg3 arg4 harg4 arg5 harg5 arg6 harg6 arg7 harg7 arg8 harg8 hc0 (View.readAt (Elt Ideal) arg3.view
      (Rect.unit ![0, 0] S1x2048.size inb_S1x2048_S1x2048_0_0).toLoadRect (harg3.unread x1)) (harg2.unread x0) k0_t1_loop.trips) = xn x0 x1 := by
    funext y
    refine View.canon_apply_of_pieces _ _ ?_ y (hc y)
    simp only [View.readAt_eq_ld, harg3.read_unread, View.ld_unit_zero (S := S1x2048) hz2]
    refine pb_pieces c i arg2 harg2 arg3 harg3 arg4 harg4 arg5 harg5 arg6 harg6 arg7 harg7 arg8 harg8 hc0 x1 _ x0 ?_ _ (le_refl _)
    intro B
    funext j
    rw [View.readAt_apply, harg2.read_unread]
  rw [View.readCov_eq_canon', key]
  exact View.ld_unit_zero (S := S1024x2048) hz2 _ (xn x0 x1)

theorem out_A (hc0 : cond0_0 i)  (x0 : Vec Ideal S1024x2048 .f32) (x1 : Vec Ideal S1x2048 .f32) (x2 : Vec Ideal S1x2048x2048 .bf16) (x3 : Vec Ideal S256x2048 .bf16) (x4 : Vec Ideal S256x2048 .bf16) :
    out0_A_5 (F := Ideal) c i arg2 harg2 arg3 harg3 arg4 harg4 arg5 harg5 arg6 harg6 arg7 harg7 arg8 harg8 hc0 x0 x1 x2 x3 x4 = heads (xn x0 x1) x2 x3 x4 := by
  have hc := cover0_A_5 (F := Ideal) c i arg2 harg2 arg3 harg3 arg4 harg4 arg5 harg5 arg6 harg6 arg7 harg7 arg8 harg8 hc0 x0 x1 x2 x3 x4
  have hs := scratch c i arg2 harg2 arg3 harg3 arg4 harg4 arg5 harg5 arg6 harg6 arg7 harg7 arg8 harg8 hc0 x0 x1
  unfold out0_A_5
  rw [View.read_writes_eq_canon _ _ _ hc]
  revert hc
  unfold kernelRun0_A
  dsimp only
  sl_unfold_words
  intro hc
  funext y
  refine View.canon_apply_of_pieces _ _ ?_ y (hc y)
  clear hc
  intro p hp
  simp only [View.readAt_eq_ld, harg4.read_unread, harg5.read_unread, harg6.read_unread] at hp
  simp only [List.mem_cons, List.not_mem_nil, or_false] at hp
  rcases hp with rfl | rfl | rfl | rfl <;> intro x <;> dsimp only
  · exact (congrFun (congrArg (fun X => k0_pay4 X _ _ _) hs) x).trans (pay4_head _ _ _ _ 3 1536 (by decide) rfl _ _ _ x)
  · exact (congrFun (congrArg (fun X => k0_pay4 X _ _ _) hs) x).trans (pay4_head _ _ _ _ 2 1024 (by decide) rfl _ _ _ x)
  · exact (congrFun (congrArg (fun X => k0_pay4 X _ _ _) hs) x).trans (pay4_head _ _ _ _ 1 512 (by decide) rfl _ _ _ x)
  · exact (congrFun (congrArg (fun X => k0_pay4 X _ _ _) hs) x).trans (pay4_head _ _ _ _ 0 0 (by decide) rfl _ _ _ x)

/-! ## The blocks the windows read -/

variable (m : (ℓ : Loc nD τ sig) → Buf (Elt Ideal) ℓ)

theorem V_v0 : (V m c main_v0 : S1x2048.Idx → EReal) = broadcastInDim S1x2048 ![1] bcast_S2048_S1x2048_1 (m ((c : Thread nD τ).loc main_arg1)) := by
  unfold V hostOps0
  after_results_simp
theorem V_v1 : (V m c main_v1 : S4x2048x2048.Idx → EReal) = m ((c : Thread nD τ).loc main_arg2) := by
  unfold V hostOps0
  after_results_simp
  rfl

/-- The row of the whole array that row `r` of point `t`'s block is. -/
def row (t : Fin cfg0.N) (r : Fin 1024) : Fin 16384 :=
  ⟨t.val * 1024 + r.val, by have := lt_of_lt_of_eq t.isLt N_0; have := r.isLt; omega⟩
/-- The row of the memory's keys and values that row `s` of the block for row `i` is. -/
def mrow (i : Fin 16384) (s : Fin 256) : Fin 512 :=
  ⟨i.val / 8192 * 256 + s.val, by have := i.isLt; have := s.isLt; omega⟩
/-- A column of layer 0's keys and values among those of all layers. -/
def mcol (n : Fin 2048) : Fin 8192 := ⟨n.val, by have := n.isLt; omega⟩

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 3) = 0 ∧ win0_2.index t (1 : Fin 3) = 0 ∧ win0_2.index t (2 : Fin 3) = 0 := by decide +kernel
theorem idx3 : ∀ t : Fin grid0.N, win0_3.index t (0 : Fin 2) = t.val / 8 ∧ win0_3.index t (1 : Fin 2) = 0 := by decide +kernel
theorem idx4 : ∀ t : Fin grid0.N, win0_4.index t (0 : Fin 2) = t.val / 8 ∧ win0_4.index t (1 : Fin 2) = 0 := by decide +kernel
theorem idx5 : ∀ t : Fin grid0.N, win0_5.index t (0 : Fin 2) = t.val ∧ win0_5.index t (1 : Fin 2) = 0 := by decide +kernel

theorem blk0 (t : Fin cfg0.N) (r : Fin 1024) (n : Fin 2048) :
    iblk m c 0 t (ix2 r n) = m ((c : Thread nD τ).loc main_arg0) (ix2 (row t r) n) := by
  unfold iblk
  rw [View.read_apply]
  show V m c main_arg0 _ = _
  rw [V_main_arg0]
  congr 1
  funext a
  apply Fin.ext
  have hi := idx0 t
  match a with
  | ⟨0, _⟩ => show win0_0.index t (0 : Fin 2) * 1024 + 1 * r.val = t.val * 1024 + r.val; rw [hi.1]; omega
  | ⟨1, _⟩ => show win0_0.index t (1 : Fin 2) * 2048 + 1 * n.val = n.val; rw [hi.2]; omega

theorem blk1 (t : Fin cfg0.N) (k : Fin 2048) :
    iblk m c 1 t (ix2 0 k) = m ((c : Thread nD τ).loc main_arg1) (ix1 k) := by
  unfold iblk
  rw [View.read_apply]
  trans (V m c main_v0 : S1x2048.Idx → EReal) (ix2 0 k)
  · show V m c main_v0 _ = _
    congr 1
    funext a
    apply Fin.ext
    have hi := idx1 t
    match a with
    | ⟨0, _⟩ => show win0_1.index t (0 : Fin 2) * 1 + 1 * 0 = 0; rw [hi.1]
    | ⟨1, _⟩ => show win0_1.index t (1 : Fin 2) * 2048 + 1 * k.val = k.val; rw [hi.2]; omega
  · rw [V_v0]
    pointwise []

theorem blk2 (t : Fin cfg0.N) (k n : Fin 2048) :
    iblk m c 2 t (ix3 0 k n) = m ((c : Thread nD τ).loc main_arg2) (ix3 (n0 := 4) (n1 := 2048) (n2 := 2048) 0 k n) := by
  unfold iblk
  rw [View.read_apply]
  refine Eq.trans ?_ (congrFun (V_v1 c m) (ix3 (n0 := 4) (n1 := 2048) (n2 := 2048) 0 k n))
  show V m c main_v1 _ = _
  congr 1
  funext a
  apply Fin.ext
  have hi := idx2 t
  match a with
  | ⟨0, _⟩ => show win0_2.index t (0 : Fin 3) * 1 + 1 * 0 = 0; rw [hi.1]
  | ⟨1, _⟩ => show win0_2.index t (1 : Fin 3) * 2048 + 1 * k.val = k.val; rw [hi.2.1]; omega
  | ⟨2, _⟩ => show win0_2.index t (2 : Fin 3) * 2048 + 1 * n.val = n.val; rw [hi.2.2]; omega

theorem blk3 (t : Fin cfg0.N) (r : Fin 1024) (s : Fin 256) (n : Fin 2048) :
    iblk m c 3 t (ix2 s n) = m ((c : Thread nD τ).loc main_arg3) (ix2 (n0 := 512) (n1 := 8192) (mrow (row t r) s) (mcol n)) := by
  unfold iblk
  rw [View.read_apply]
  show V m c main_arg3 _ = _
  rw [V_main_arg3]
  congr 1
  funext a
  apply Fin.ext
  have hi := idx3 t
  have hr := r.isLt
  match a with
  | ⟨0, _⟩ => show win0_3.index t (0 : Fin 2) * 256 + 1 * s.val = (t.val * 1024 + r.val) / 8192 * 256 + s.val; rw [hi.1]; omega
  | ⟨1, _⟩ => show win0_3.index t (1 : Fin 2) * 2048 + 1 * n.val = n.val; rw [hi.2]; omega

theorem blk4 (t : Fin cfg0.N) (r : Fin 1024) (s : Fin 256) (n : Fin 2048) :
    iblk m c 4 t (ix2 s n) = m ((c : Thread nD τ).loc main_arg4) (ix2 (n0 := 512) (n1 := 8192) (mrow (row t r) s) (mcol n)) := by
  unfold iblk
  rw [View.read_apply]
  show V m c main_arg4 _ = _
  rw [V_main_arg4]
  congr 1
  funext a
  apply Fin.ext
  have hi := idx4 t
  have hr := r.isLt
  match a with
  | ⟨0, _⟩ => show win0_4.index t (0 : Fin 2) * 256 + 1 * s.val = (t.val * 1024 + r.val) / 8192 * 256 + s.val; rw [hi.1]; omega
  | ⟨1, _⟩ => show win0_4.index t (1 : Fin 2) * 2048 + 1 * n.val = n.val; rw [hi.2]; omega

/-! ## The array after the run -/

/-- The result, row by row, from the arguments. -/
def G : S16384x2048.Idx → EReal := fun j =>
  xmix (nrm (fun k => m ((c : Thread nD τ).loc main_arg0) (ix2 (j 0) k)) (fun k => m ((c : Thread nD τ).loc main_arg1) (ix1 k)))
    (fun k n => m ((c : Thread nD τ).loc main_arg2) (ix3 (n0 := 4) (n1 := 2048) (n2 := 2048) 0 k n))
    (fun s n => m ((c : Thread nD τ).loc main_arg3) (ix2 (n0 := 512) (n1 := 8192) (mrow (j 0) s) (mcol n)))
    (fun s n => m ((c : Thread nD τ).loc main_arg4) (ix2 (n0 := 512) (n1 := 8192) (mrow (j 0) s) (mcol n))) (j 1)

theorem heads_blk (t : Fin cfg0.N) (r : Fin 1024) (n : Fin 2048) :
    heads (xn (iblk m c 0 t) (iblk m c 1 t)) (iblk m c 2 t) (iblk m c 3 t) (iblk m c 4 t) (ix2 r n) = G c m (ix2 (row t r) n) := by
  show xmix (fun k => nrm (fun k => iblk m c 0 t (ix2 r k)) (fun k => iblk m c 1 t (ix2 0 k)) k) (fun k n => iblk m c 2 t (ix3 0 k n))
    (fun s n => iblk m c 3 t (ix2 s n)) (fun s n => iblk m c 4 t (ix2 s n)) n = _
  simp only [blk0, blk1, blk2, blk3 c m t r, blk4 c m t r]
  rfl

theorem flushed_eq (t : Fin cfg0.N) : (dats m 0 c).flushed 5 t = ((cfg0.win 5).blk t).view.read (Elt Ideal) (G c m) := by
  rw [Value.flushed5_A, out_A]
  funext y
  obtain ⟨r, n, rfl⟩ : ∃ (r : Fin 1024) (n : Fin 2048), y = ix2 r n := ⟨y 0, y 1, eq_ix2 y⟩
  refine Eq.trans (b := heads (xn (iblk m c 0 t) (iblk m c 1 t)) (iblk m c 2 t) (iblk m c 3 t) (iblk m c 4 t) (ix2 r n)) ?_ ?_
  · show heads _ _ _ _ _ = _
    congr 1
  · rw [heads_blk]
    show _ = G c m (((cfg0.win 5).blk t).view.emb (ix2 r n))
    congr 1
    funext a
    apply Fin.ext
    have hi := idx5 t
    match a with
    | ⟨0, _⟩ => show t.val * 1024 + r.val = win0_5.index t (0 : Fin 2) * 1024 + 1 * r.val; rw [hi.1]; omega
    | ⟨1, _⟩ => show n.val = win0_5.index t (1 : Fin 2) * 2048 + 1 * n.val; rw [hi.2]; omega

theorem mem_blk (t : Fin cfg0.N) (i : S16384x2048.Idx) :
    i ∈ ((cfg0.win 5).blk t).view.set ↔ ∀ a : Fin 2, win0_5.index t a * S1024x2048.size a ≤ (i a).val ∧ (i a).val < win0_5.index t a * S1024x2048.size a + S1024x2048.size a := by
  show i ∈ ((View.whole main_v2).slice (win0_5.rect t)).set ↔ _
  rw [View.set_slice_whole, Rect.mem_set_unit]
  exact Iff.rfl

/-- The blocks written back tile the result, so the array holds the rows. -/
theorem final : (dats m 0 c).arrAt 5 cfg0.N = G c m :=
  (dats m 0 c).arrAt_eq_of_cover 5 _ (fun t _ => flushed_eq c m t) fun i => by
    have h0 : (i 0).val < 16384 := (i 0).isLt
    have h1 : (i 1).val < 2048 := (i 1).isLt
    obtain ⟨t, ht⟩ : ∃ t : Fin cfg0.N, t.val = (i 0).val / 1024 := ⟨⟨(i 0).val / 1024, lt_of_lt_of_eq (by omega) N_0.symm⟩, rfl⟩
    refine ⟨t, flush0_5 _, ?_⟩
    rw [mem_blk]
    have hi := idx5 t
    intro a
    match a with
    | ⟨0, _⟩ => show win0_5.index t (0 : Fin 2) * 1024 ≤ (i 0).val ∧ (i 0).val < win0_5.index t (0 : Fin 2) * 1024 + 1024; rw [hi.1]; omega
    | ⟨1, _⟩ => show win0_5.index t (1 : Fin 2) * 2048 ≤ (i 1).val ∧ (i 1).val < win0_5.index t (1 : Fin 2) * 2048 + 2048; rw [hi.2]; omega

end Cert.XattnIdeal.Hand

/-! ## The reference -/

namespace Cert.XattnRefIdeal.Hand
open Cert.XattnRefIdeal Cert.XattnRefIdeal.Gen Cert.XattnRefIdeal.Read Cert.Rows Idealize.ShloMosaic Idealize.ShloMosaic.TcCoe Idealize.SL.Sem

/-- Row `i` of sequence `b`. -/
def srow (b : Fin 2) (i : Fin 8192) : Fin 16384 := ⟨b.val * 8192 + i.val, by have := b.isLt; have := i.isLt; omega⟩
/-- Row `s` of the memory of sequence `b`. -/
def krow (b : Fin 2) (s : Fin 256) : Fin 512 := ⟨b.val * 256 + s.val, by have := b.isLt; have := s.isLt; omega⟩
/-- Column `d` of head `h`. -/
def col (h : Fin 4) (d : Fin 512) : Fin 2048 := ⟨h.val * 512 + d.val, by have := h.isLt; have := d.isLt; omega⟩
/-- Column `d` of head `h` of layer 0 among those of all layers. -/
def kcol (h : Fin 4) (d : Fin 512) : Fin 8192 := ⟨h.val * 512 + d.val, by have := h.isLt; have := d.isLt; omega⟩

theorem ref0 (a0 : Vec Ideal S16384x2048 .f32) (b : Fin 2) (i : Fin 8192) (k : Fin 2048) :
    val_main_v0 (F := Ideal) a0 (ix3 b i k) = a0 (ix2 (srow b i) k) := by
  rw [val_main_v0_apply]
  refine congrArg a0 (funext fun a => Fin.ext ?_)
  have hb := b.isLt; have hi := i.isLt; have hk := k.isLt
  match a with
  | ⟨0, _⟩ => show ((b.val * 8192 + i.val) * 2048 + k.val) / 2048 = b.val * 8192 + i.val; omega
  | ⟨1, _⟩ => show ((b.val * 8192 + i.val) * 2048 + k.val) % 2048 = k.val; omega

theorem ref13 (a0 : Vec Ideal S16384x2048 .f32) (a1 : Vec Ideal S2048 .f32) (b : Fin 2) (i : Fin 8192) (k : Fin 2048) :
    val_main_v13 (F := Ideal) a0 a1 (ix3 b i k) = nrm (fun k => a0 (ix2 (srow b i) k)) (fun k => a1 (ix1 k)) k := by
  pointwise [val_main_v13, val_main_v12, val_main_v11, val_main_v10, val_main_v9, val_main_v8, val_main_v7, val_main_v6, val_main_v5, val_main_v4,
    val_main_v3, val_main_v2, val_main_v1, val_main_cst, val_main_cst_0, val_main_cst_1]
  simp only [ref0]
  rfl

theorem ref15 (a2 : Vec Ideal S4x2048x2048 .f32) (k n : Fin 2048) : val_main_v15 (F := Ideal) a2 (ix2 k n) = a2 (ix3 0 k n) := by
  rw [val_main_v15_apply, val_main_v14_apply]
  refine congrArg a2 (funext fun a => Fin.ext ?_)
  have hk := k.isLt; have hn := n.isLt
  match a with
  | ⟨0, _⟩ => rfl
  | ⟨1, _⟩ => show (k.val * 2048 + n.val) / 2048 % 2048 = k.val; omega
  | ⟨2, _⟩ => show (k.val * 2048 + n.val) % 2048 = n.val; omega

theorem ref17 (a0 : Vec Ideal S16384x2048 .f32) (a1 : Vec Ideal S2048 .f32) (a2 : Vec Ideal S4x2048x2048 .f32) (b : Fin 2) (i : Fin 8192) (h : Fin 4) (d : Fin 512) :
    val_main_v17 (F := Ideal) a0 a1 a2 (ix4 b i h d)
      = ∑ k, nrm (fun k => a0 (ix2 (srow b i) k)) (fun k => a1 (ix1 k)) k * a2 (ix3 0 k (col h d)) := by
  have e : val_main_v17 (F := Ideal) a0 a1 a2 (ix4 b i h d) = val_main_v16 (F := Ideal) a0 a1 a2 (ix3 b i (col h d)) := by
    rw [val_main_v17_apply]
    refine congrArg (val_main_v16 (F := Ideal) a0 a1 a2) (funext fun a => Fin.ext ?_)
    have hb := b.isLt; have hi := i.isLt; have hh := h.isLt; have hd := d.isLt
    match a with
    | ⟨0, _⟩ => show (((b.val * 8192 + i.val) * 4 + h.val) * 512 + d.val) / 16777216 = b.val; omega
    | ⟨1, _⟩ => show (((b.val * 8192 + i.val) * 4 + h.val) * 512 + d.val) / 2048 % 8192 = i.val; omega
    | ⟨2, _⟩ => show (((b.val * 8192 + i.val) * 4 + h.val) * 512 + d.val) % 2048 = h.val * 512 + d.val; omega
  rw [e, val_main_v16_apply]
  refine Finset.sum_congr rfl fun k _ => congrArg₂ (· * ·) ?_ ?_
  · refine (congrArg (val_main_v13 (F := Ideal) a0 a1) (funext fun a => Fin.ext ?_)).trans (ref13 a0 a1 b i k)
    match a with
    | ⟨0, _⟩ => rfl
    | ⟨1, _⟩ => rfl
    | ⟨2, _⟩ => rfl
  · refine (congrArg (val_main_v15 (F := Ideal) a2) (funext fun a => Fin.ext ?_)).trans (ref15 a2 k (col h d))
    match a with
    | ⟨0, _⟩ => rfl
    | ⟨1, _⟩ => rfl

theorem ref20 (a3 : Vec Ideal S512x8192 .bf16) (b : Fin 2) (s : Fin 256) (h : Fin 4) (d : Fin 512) :
    val_main_v20 (F := Ideal) a3 (ix4 b s h d) = a3 (ix2 (krow b s) (kcol h d)) := by
  rw [val_main_v20_apply, val_main_v19_apply, val_main_v18_apply]
  refine congrArg a3 (funext fun a => Fin.ext ?_)
  have hb := b.isLt; have hs := s.isLt; have hh := h.isLt; have hd := d.isLt
  match a with
  | ⟨0, _⟩ => show (((b.val * 256 + s.val) * 4 + h.val) * 512 + d.val) / 2048 = b.val * 256 + s.val; omega
  | ⟨1, _⟩ => show (((b.val * 256 + s.val) * 4 + h.val) * 512 + d.val) % 2048 = h.val * 512 + d.val; omega

theorem ref23 (a4 : Vec Ideal S512x8192 .bf16) (b : Fin 2) (s : Fin 256) (h : Fin 4) (d : Fin 512) :
    val_main_v23 (F := Ideal) a4 (ix4 b s h d) = a4 (ix2 (krow b s) (kcol h d)) := by
  rw [val_main_v23_apply, val_main_v22_apply, val_main_v21_apply]
  refine congrArg a4 (funext fun a => Fin.ext ?_)
  have hb := b.isLt; have hs := s.isLt; have hh := h.isLt; have hd := d.isLt
  match a with
  | ⟨0, _⟩ => show (((b.val * 256 + s.val) * 4 + h.val) * 512 + d.val) / 2048 = b.val * 256 + s.val; omega
  | ⟨1, _⟩ => show (((b.val * 256 + s.val) * 4 + h.val) * 512 + d.val) % 2048 = h.val * 512 + d.val; omega

theorem ref24 (a0 : Vec Ideal S16384x2048 .f32) (a1 : Vec Ideal S2048 .f32) (a2 : Vec Ideal S4x2048x2048 .f32) (a3 : Vec Ideal S512x8192 .bf16) (b : Fin 2) (h : Fin 4) (i : Fin 8192) (s : Fin 256) :
    val_main_v24 (F := Ideal) a0 a1 a2 a3 (ix4 b h i s)
      = ∑ d, val_main_v17 (F := Ideal) a0 a1 a2 (ix4 b i h d) * val_main_v20 (F := Ideal) a3 (ix4 b s h d) := by
  rw [val_main_v24_apply]
  refine Finset.sum_congr rfl fun d _ => congrArg₂ (· * ·) (congrArg (val_main_v17 (F := Ideal) a0 a1 a2) (funext fun a => Fin.ext ?_))
    (congrArg (val_main_v20 (F := Ideal) a3) (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem ref26 (a0 : Vec Ideal S16384x2048 .f32) (a1 : Vec Ideal S2048 .f32) (a2 : Vec Ideal S4x2048x2048 .f32) (a3 : Vec Ideal S512x8192 .bf16) (b : Fin 2) (h : Fin 4) (i : Fin 8192) (n : Fin 256) :
  val_main_v26 (F := Ideal) a0 a1 a2 a3 (ix4 b h i n) = val_main_v24 (F := Ideal) a0 a1 a2 a3 (ix4 b h i n) * Ideal.ofBits FTy.f32 1026884851#32 := by
  pointwise [val_main_v26, val_main_v25, val_main_cst_2]

theorem ref29 (a0 : Vec Ideal S16384x2048 .f32) (a1 : Vec Ideal S2048 .f32) (a2 : Vec Ideal S4x2048x2048 .f32) (a3 : Vec Ideal S512x8192 .bf16) (b : Fin 2) (h0 : Fin 4) (i : Fin 8192) :
  val_main_v29 (F := Ideal) a0 a1 a2 a3 (ix3 b h0 i) = top (fun n => val_main_v26 (F := Ideal) a0 a1 a2 a3 (ix4 b h0 i n)) := by
  refine Eq.trans ?_ (top_max _)
  have h : S2x4x8192x256.Reduces [3] S2x4x8192 := by decide
  have e : val_main_v27 (F := Ideal) a0 a1 a2 a3 (ix3 b h0 i) = top (fun n => val_main_v26 (F := Ideal) a0 a1 a2 a3 (ix4 b h0 i n)) := by
    unfold val_main_v27
    generalize val_main_v26 (F := Ideal) a0 a1 a2 a3 = y
    refine (Host.reduce_eq_fold_single (FloatOps.maximumf (F := Ideal) (φ := .f32)) y _ reducesTo_S2x4x8192x256_S2x4x8192_d3 h h_S_ (ix3 b h0 i)).trans ?_
    refine congrArg (fun f => Finset.fold max _ f Finset.univ) (funext fun k => congrArg y (funext fun a => Fin.ext ?_))
    match a with
    | ⟨0, _⟩ => rfl
    | ⟨1, _⟩ => rfl
    | ⟨2, _⟩ => rfl
    | ⟨3, _⟩ => rfl
  rw [val_main_v29_apply, e]
  rfl

theorem ref33 (a0 : Vec Ideal S16384x2048 .f32) (a1 : Vec Ideal S2048 .f32) (a2 : Vec Ideal S4x2048x2048 .f32) (a3 : Vec Ideal S512x8192 .bf16) (b : Fin 2) (h : Fin 4) (i : Fin 8192) (n : Fin 256) :
  val_main_v33 (F := Ideal) a0 a1 a2 a3 (ix4 b h i n) = Ideal.exp (val_main_v26 (F := Ideal) a0 a1 a2 a3 (ix4 b h i n) - val_main_v29 (F := Ideal) a0 a1 a2 a3 (ix3 b h i)) := by
  unfold val_main_v33 val_main_v32 val_main_v31 val_main_v30
  generalize val_main_v26 (F := Ideal) a0 a1 a2 a3 = y
  generalize val_main_v29 (F := Ideal) a0 a1 a2 a3 = z
  pointwise []

theorem ref37 (a0 : Vec Ideal S16384x2048 .f32) (a1 : Vec Ideal S2048 .f32) (a2 : Vec Ideal S4x2048x2048 .f32) (a3 : Vec Ideal S512x8192 .bf16) (b : Fin 2) (h : Fin 4) (i : Fin 8192) (n : Fin 256) :
  val_main_v37 (F := Ideal) a0 a1 a2 a3 (ix4 b h i n) = soft (fun n => val_main_v26 (F := Ideal) a0 a1 a2 a3 (ix4 b h i n)) n := by
  have h1 : val_main_v37 (F := Ideal) a0 a1 a2 a3 (ix4 b h i n) = Ideal.div (val_main_v33 (F := Ideal) a0 a1 a2 a3 (ix4 b h i n)) (∑ n, val_main_v33 (F := Ideal) a0 a1 a2 a3 (ix4 b h i n)) := by
    unfold val_main_v37 val_main_v36 val_main_v35 val_main_v34
    generalize val_main_v33 (F := Ideal) a0 a1 a2 a3 = y
    pointwise [val_main_cst_5]
  rw [h1]
  simp only [ref33, ref29]
  rfl

theorem ref38 (a0 : Vec Ideal S16384x2048 .f32) (a1 : Vec Ideal S2048 .f32) (a2 : Vec Ideal S4x2048x2048 .f32) (a3 : Vec Ideal S512x8192 .bf16) (a4 : Vec Ideal S512x8192 .bf16) (b : Fin 2) (h : Fin 4) (d : Fin 512) (i : Fin 8192) :
    val_main_v38 (F := Ideal) a0 a1 a2 a3 a4 (ix4 b h d i)
      = ∑ s, val_main_v23 (F := Ideal) a4 (ix4 b s h d) * val_main_v37 (F := Ideal) a0 a1 a2 a3 (ix4 b h i s) := by
  rw [val_main_v38_apply]
  refine Finset.sum_congr rfl fun s _ => congrArg₂ (· * ·) (congrArg (val_main_v23 (F := Ideal) a4) (funext fun a => Fin.ext ?_))
    (congrArg (val_main_v37 (F := Ideal) a0 a1 a2 a3) (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

theorem ref41 (a0 : Vec Ideal S16384x2048 .f32) (a1 : Vec Ideal S2048 .f32) (a2 : Vec Ideal S4x2048x2048 .f32) (a3 : Vec Ideal S512x8192 .bf16) (a4 : Vec Ideal S512x8192 .bf16) (b : Fin 2) (i : Fin 8192) (h : Fin 4) (d : Fin 512) :
    val_main_v41 (F := Ideal) a0 a1 a2 a3 a4 (ix2 (srow b i) (col h d)) = val_main_v38 (F := Ideal) a0 a1 a2 a3 a4 (ix4 b h d i) := by
  rw [val_main_v41_apply]
  show val_main_v40 (F := Ideal) a0 a1 a2 a3 a4 _ = _
  rw [val_main_v40_apply, val_main_v39_apply]
  refine congrArg (val_main_v38 (F := Ideal) a0 a1 a2 a3 a4) (funext fun a => Fin.ext ?_)
  have hb := b.isLt; have hi := i.isLt; have hh := h.isLt; have hd := d.isLt
  match a with
  | ⟨0, _⟩ => show ((b.val * 8192 + i.val) * 2048 + (h.val * 512 + d.val)) / 16777216 = b.val; omega
  | ⟨1, _⟩ => show ((b.val * 8192 + i.val) * 2048 + (h.val * 512 + d.val)) / 512 % 4 = h.val; omega
  | ⟨2, _⟩ => show ((b.val * 8192 + i.val) * 2048 + (h.val * 512 + d.val)) % 512 = d.val; omega
  | ⟨3, _⟩ => show ((b.val * 8192 + i.val) * 2048 + (h.val * 512 + d.val)) / 2048 % 8192 = i.val; omega

/-- The reference's result, row by row. -/
theorem ref_out (a0 : Vec Ideal S16384x2048 .f32) (a1 : Vec Ideal S2048 .f32) (a2 : Vec Ideal S4x2048x2048 .f32) (a3 : Vec Ideal S512x8192 .bf16) (a4 : Vec Ideal S512x8192 .bf16) (b : Fin 2) (i : Fin 8192) (h : Fin 4) (d : Fin 512) :
    val_main_v41 (F := Ideal) a0 a1 a2 a3 a4 (ix2 (srow b i) (col h d))
      = ∑ s, soft (score (fun d => ∑ k, nrm (fun k => a0 (ix2 (srow b i) k)) (fun k => a1 (ix1 k)) k * a2 (ix3 0 k (col h d)))
          (fun s d => a3 (ix2 (krow b s) (kcol h d)))) s * a4 (ix2 (krow b s) (kcol h d)) := by
  rw [ref41, ref38]
  refine Finset.sum_congr rfl fun s _ => ?_
  rw [mul_comm, ref37, ref23]
  simp only [ref26, ref24, ref17, ref20]
  rfl

end Cert.XattnRefIdeal.Hand

namespace Cert.XattnIdeal.Hand
open Cert.XattnIdeal Cert.XattnIdeal.Gen Cert.XattnRefIdeal.Hand Cert.Rows Idealize.ShloMosaic Idealize.ShloMosaic.TcCoe Idealize.SL.Sem

variable (c : Dev nD) (m : (ℓ : Loc nD τ sig) → Buf (Elt Ideal) ℓ)

/-- The two programs' results agree, at any memories that agree on the arguments. -/
theorem G_eq_ref (m' : (ℓ : Loc Cert.XattnRefIdeal.nD Cert.XattnRefIdeal.τ Cert.XattnRefIdeal.sig) → Buf (Elt Ideal) ℓ)
    (h0 : m' ((c : Thread nD τ).loc Cert.XattnRefIdeal.main_arg0) = m ((c : Thread nD τ).loc main_arg0))
    (h1 : m' ((c : Thread nD τ).loc Cert.XattnRefIdeal.main_arg1) = m ((c : Thread nD τ).loc main_arg1))
    (h2 : m' ((c : Thread nD τ).loc Cert.XattnRefIdeal.main_arg2) = m ((c : Thread nD τ).loc main_arg2))
    (h3 : m' ((c : Thread nD τ).loc Cert.XattnRefIdeal.main_arg3) = m ((c : Thread nD τ).loc main_arg3))
    (h4 : m' ((c : Thread nD τ).loc Cert.XattnRefIdeal.main_arg4) = m ((c : Thread nD τ).loc main_arg4)) :
    (Cert.XattnRefIdeal.Value.res_main_v41 m' c : S16384x2048.Idx → EReal) = G c m := by
  rw [Cert.XattnRefIdeal.Read.val_main_v41_eq]
  funext j
  obtain ⟨b, i, h, d, rfl⟩ : ∃ (b : Fin 2) (i : Fin 8192) (h : Fin 4) (d : Fin 512), j = ix2 (srow b i) (col h d) := by
    have h0 : (j 0).val < 16384 := (j 0).isLt
    have h1 : (j 1).val < 2048 := (j 1).isLt
    refine ⟨⟨(j 0).val / 8192, by omega⟩, ⟨(j 0).val % 8192, by omega⟩, ⟨(j 1).val / 512, by omega⟩, ⟨(j 1).val % 512, by omega⟩, ?_⟩
    funext a
    apply Fin.ext
    match a with
    | ⟨0, _⟩ => show (j 0).val = (j 0).val / 8192 * 8192 + (j 0).val % 8192; omega
    | ⟨1, _⟩ => show (j 1).val = (j 1).val / 512 * 512 + (j 1).val % 512; omega
  rw [ref_out]
  erw [h0, h1, h2, h3, h4]
  have hi := i.isLt; have hd := d.isLt
  have em : ∀ s, mrow (srow b i) s = krow b s := fun s => Fin.ext (by
    show (b.val * 8192 + i.val) / 8192 * 256 + s.val = b.val * 256 + s.val; omega)
  have eh : ∀ e, hcol (col h d) e = col h e := fun e => Fin.ext (by
    show (h.val * 512 + d.val) / 512 * 512 + e.val = h.val * 512 + e.val; omega)
  show _ = xmix _ _ (fun s n => m ((c : Thread nD τ).loc main_arg3) (ix2 (n0 := 512) (n1 := 8192) (mrow (srow b i) s) (mcol n)))
    (fun s n => m ((c : Thread nD τ).loc main_arg4) (ix2 (n0 := 512) (n1 := 8192) (mrow (srow b i) s) (mcol n))) (col h d)
  unfold xmix
  simp only [eh, em]
  rfl

end Cert.XattnIdeal.Hand

end
end
-- ==== Proof.MlpValue.lean ====
module
public import proofs.«01_k».proof.Proof.Gen.MlpIdeal.Value
public import proofs.«01_k».proof.Proof.Gen.MlpRefIdeal.Run
public import proofs.«01_k».proof.Proof.Gen.MlpRefIdeal.Read
public import proofs.«01_k».proof.Proof.Rows
@[expose] public section
set_option maxRecDepth 16384
noncomputable section

/-! # The feed-forward call computes the feed-forward block of its reference -/

namespace Cert.MlpIdeal.Hand
open Cert.MlpIdeal Cert.MlpIdeal.Gen Cert.Rows Idealize.ShloMosaic Idealize.ShloMosaic.TcCoe Idealize.SL.Sem
open Idealize.ShloMosaic.Pipeline (Dat)

/-! ## The payloads, by rows -/

theorem pay1_apply (x : Vec Ideal S512x2048 .f32) (a : Vec Ideal S512x2048 .bf16) (w : Vec Ideal S1x2048x2048 .bf16)
    (r : Fin 512) (n : Fin 2048) :
    k0_pay1 x a w (ix2 r n) = resid (fun n => x (ix2 r n)) (fun k => a (ix2 r k)) (fun k n => w (ix3 0 k n)) n := by
  pointwise [k0_pay1]
  rfl

theorem pay2_apply (g : Vec Ideal S1x2048 .f32) (x : Vec Ideal S256x2048 .f32) (r : Fin 256) (n : Fin 2048) :
    k0_pay2 g x (ix2 r n) = nrm (fun k => x (ix2 r k)) (fun k => g (ix2 0 k)) n := by
  pointwise [k0_pay2]
  rfl

theorem pay3_apply (xn : Vec Ideal S512x2048 .bf16) (w1 : Vec Ideal S1x2048x1024 .bf16) (acc : Vec Ideal S512x2048 .f32)
    (w2 : Vec Ideal S1x1024x2048 .bf16) (r : Fin 512) (n : Fin 2048) :
    k0_pay3 xn w1 acc w2 (ix2 r n)
      = acc (ix2 r n) + ∑ q, act (fun k => xn (ix2 r k)) (fun k q => w1 (ix3 0 k q)) q * w2 (ix3 0 q n) := by
  pointwise [k0_pay3]
  rfl

/-! ## What the loop over the two halves of a block leaves in the scratch -/

/-- The rows of a block, each normalised. -/
def xn (P : Vec Ideal S512x2048 .f32) (g : Vec Ideal S1x2048 .f32) : Vec Ideal S512x2048 .bf16 :=
  fun y => nrm (fun k => P (ix2 (y 0) k)) (fun k => g (ix2 0 k)) (y 1)

theorem hz2 : (![0, 0] : Fin 2 → ℕ) = fun _ => 0 := funext fun a => by fin_cases a <;> rfl
theorem hz3 : (![0, 0, 0] : Fin 3 → ℕ) = fun _ => 0 := funext fun a => by fin_cases a <;> rfl

/-- Normalising some whole rows of a block gives those rows of the normalised block. -/
theorem pay2_rows (g : Vec Ideal S1x2048 .f32) (P : Vec Ideal S512x2048 .f32) (off : Fin 2 → ℕ) (h1 : off 1 = 0)
    (inb : ∀ a, off a + ![256, 2048] a ≤ S512x2048.size a) (x : S256x2048.Idx) :
    k0_pay2 g (fun j => P ((Rect.unit (s := S512x2048) off ![256, 2048] inb).toLoadRect.idx j)) x
      = xn P g ((Rect.unit (s := S512x2048) off ![256, 2048] inb).emb x) := by
  obtain ⟨r, n, rfl⟩ : ∃ (r : Fin 256) (n : Fin 2048), x = ix2 r n := ⟨x 0, x 1, eq_ix2 x⟩
  rw [pay2_apply]
  have e1 : ∀ n : Fin 2048, (((Rect.unit (s := S512x2048) off ![256, 2048] inb).emb (ix2 r n)) 1 : Fin 2048) = n := fun n =>
    Fin.ext (by show off (1 : Fin 2) + 1 * n.val = n.val; omega)
  unfold xn
  rw [e1]
  congr 1
  funext q
  congr 1
  funext a
  match a with
  | ⟨0, _⟩ => rfl
  | ⟨1, _⟩ => exact e1 q

variable (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x2048x2048 .bf16) (harg4 : arg4.IsWhole) (arg5 : Memref sig .tc .vmem S1x2048 .f32) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole)

theorem trip_pieces (k0_h1 : k0_cond1 i = 1#1) (g : Vec Ideal S1x2048 .f32) (X : BufTy.Contents (Elt Ideal) arg9.view.ty)
    (P : Vec Ideal S512x2048 .f32)
    (hX : ∀ B : LoadRect S512x2048, arg9.view.readAt (Elt Ideal) B X = fun j => P (B.idx j))
    (k : Fin k0_t1_loop.trips) :
    ∀ p ∈ tripL_k0_t1 (F := Ideal) Variants.none c none i arg2 harg2 arg3 harg3 arg4 harg4 arg5 harg5 arg6 harg6 arg7 harg7 arg8 harg8 arg9 harg9 arg10 harg10 k0_h1 g X k,
      ∀ x : p.1.shape.Idx, p.2 x = xn P g (p.1.emb x) := by
  unfold tripL_k0_t1 trip_k0_t1
  dsimp only
  intro p hp
  rw [List.mem_singleton] at hp
  subst hp
  intro x
  rw [hX]
  exact pay2_rows g P (k0_off1 k) (congrFun (k0_off1_eq k) 1) _ x

theorem pb_pieces (k0_h1 : k0_cond1 i = 1#1) (g : Vec Ideal S1x2048 .f32) (X : BufTy.Contents (Elt Ideal) arg9.view.ty)
    (P : Vec Ideal S512x2048 .f32)
    (hX : ∀ B : LoadRect S512x2048, arg9.view.readAt (Elt Ideal) B X = fun j => P (B.idx j)) :
    ∀ n, n ≤ k0_t1_loop.trips →
    ∀ p ∈ pb_k0_t1 (F := Ideal) Variants.none c none i arg2 harg2 arg3 harg3 arg4 harg4 arg5 harg5 arg6 harg6 arg7 harg7 arg8 harg8 arg9 harg9 arg10 harg10 k0_h1 g X n,
      ∀ x : p.1.shape.Idx, p.2 x = xn P g (p.1.emb x)
  | 0, _ => fun p hp => absurd hp (by rw [pb_k0_t1]; exact List.not_mem_nil)
  | n + 1, hn => fun p hp => by
    have e := pb_k0_t1_succ (F := Ideal) Variants.none c none i arg2 harg2 arg3 harg3 arg4 harg4 arg5 harg5 arg6 harg6 arg7 harg7 arg8 harg8 arg9 harg9 arg10 harg10 k0_h1 g X ⟨n, hn⟩
    dsimp only at e
    rw [e] at hp
    rcases List.mem_append.mp hp with h | h
    · exact trip_pieces c i arg2 harg2 arg3 harg3 arg4 harg4 arg5 harg5 arg6 harg6 arg7 harg7 arg8 harg8 arg9 harg9 arg10 harg10 k0_h1 g X P hX _ p h
    · exact pb_pieces k0_h1 g X P hX n (Nat.le_of_succ_le hn) p h

/-! ## What a point leaves in the block of the result and in the scratch -/

theorem sout_A (hc0 : k0_cond1 i = 1#1) (x0 : Vec Ideal S512x2048 .f32) (x1 : Vec Ideal S512x2048 .bf16) (x2 : Vec Ideal S1x2048x2048 .bf16)
    (x3 : Vec Ideal S1x2048 .f32) (x4 : Vec Ideal S1x2048x1024 .bf16) (x5 : Vec Ideal S1x1024x2048 .bf16) (x6 : Vec Ideal S1x2048 .f32) :
    sout0_A_0 (F := Ideal) c i arg2 harg2 arg3 harg3 arg4 harg4 arg5 harg5 arg6 harg6 arg7 harg7 arg8 harg8 arg9 harg9 arg10 harg10 hc0 x0 x1 x2 x3 x4 x5 x6
      = xn (k0_pay1 x0 x1 x2) x3 := by
  have hc := scover0_A_0 (F := Ideal) c i arg2 harg2 arg3 harg3 arg4 harg4 arg5 harg5 arg6 harg6 arg7 harg7 arg8 harg8 arg9 harg9 arg10 harg10 hc0 x0 x1 x2 x3 x4 x5 x6
  unfold sout0_A_0
  rw [View.read_writes_eq_canon _ _ _ hc]
  revert hc
  unfold kernelRun0_A
  dsimp only
  sl_unfold_words
  intro hc
  funext y
  refine View.canon_apply_of_pieces _ _ ?_ y (hc y)
  simp only [View.readAt_eq_ld, harg2.read_unread, harg3.read_unread, harg4.read_unread, harg5.read_unread, View.ld_unit_zero (S := S1x2048) hz2, View.ld_unit_zero (S := S512x2048) hz2, View.ld_unit_zero (S := S1x2048x2048) hz3]
  refine pb_pieces c i arg2 harg2 arg3 harg3 arg4 harg4 arg5 harg5 arg6 harg6 arg7 harg7 arg8 harg8 arg9 harg9 arg10 harg10 hc0 x3 _ _ ?_ _ (le_refl _)
  intro B
  rw [View.readAt_writes_junk_eq_canon]
  funext j
  rw [View.canon_unit_zero hz2]

theorem out_A (hc0 : k0_cond1 i = 1#1) (x0 : Vec Ideal S512x2048 .f32) (x1 : Vec Ideal S512x2048 .bf16) (x2 : Vec Ideal S1x2048x2048 .bf16)
    (x3 : Vec Ideal S1x2048 .f32) (x4 : Vec Ideal S1x2048x1024 .bf16) (x5 : Vec Ideal S1x1024x2048 .bf16) (x6 : Vec Ideal S1x2048 .f32) :
    out0_A_7 (F := Ideal) c i arg2 harg2 arg3 harg3 arg4 harg4 arg5 harg5 arg6 harg6 arg7 harg7 arg8 harg8 arg9 harg9 arg10 harg10 hc0 x0 x1 x2 x3 x4 x5 x6
      = k0_pay3 (xn (k0_pay1 x0 x1 x2) x3) x4 (k0_pay1 x0 x1 x2) x5 := by
  have key := sout_A c i arg2 harg2 arg3 harg3 arg4 harg4 arg5 harg5 arg6 harg6 arg7 harg7 arg8 harg8 arg9 harg9 arg10 harg10 hc0 x0 x1 x2 x3 x4 x5 x6
  unfold sout0_A_0 at key
  rw [View.read_writes_eq_canon _ _ _ (scover0_A_0 (F := Ideal) c i arg2 harg2 arg3 harg3 arg4 harg4 arg5 harg5 arg6 harg6 arg7 harg7 arg8 harg8 arg9 harg9 arg10 harg10 hc0 x0 x1 x2 x3 x4 x5 x6)] at key
  revert key
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  intro key
  rw [View.canon_cons_unit_zero hz2, View.readCov_unit_zero (S := S512x2048) _ hz2]
  set_option backward.isDefEq.respectTransparency false in
  rw [View.readCov_eq_canon', key]
  simp only [View.readAt_eq_ld, harg2.read_unread, harg3.read_unread, harg4.read_unread, harg5.read_unread, harg6.read_unread, harg7.read_unread, View.ld_unit_zero (S := S512x2048) hz2, View.ld_unit_zero (S := S1x2048x2048) hz3, View.ld_unit_zero (S := S1x2048x1024) hz3, View.ld_unit_zero (S := S1x1024x2048) hz3]
  congr 1
  exact View.ld_unit_zero (S := S512x2048) hz2 _ (xn (k0_pay1 x0 x1 x2) x3)

theorem out_B (hc0 : ¬k0_cond1 i = 1#1) (x0 : Vec Ideal S512x2048 .f32) (x1 : Vec Ideal S512x2048 .bf16) (x2 : Vec Ideal S1x2048x2048 .bf16)
    (x3 : Vec Ideal S1x2048 .f32) (x4 : Vec Ideal S1x2048x1024 .bf16) (x5 : Vec Ideal S1x1024x2048 .bf16) (x6 : Vec Ideal S1x2048 .f32)
    (xo : Vec Ideal S512x2048 .f32) (xs : Vec Ideal S512x2048 .bf16) :
    out0_B_7 (F := Ideal) c i arg2 harg2 arg3 harg3 arg4 harg4 arg5 harg5 arg6 harg6 arg7 harg7 arg8 harg8 arg9 harg9 arg10 harg10 hc0 x0 x1 x2 x3 x4 x5 x6 xo xs
      = k0_pay3 xs x4 xo x5 := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 hc0 x0 x1 x2 x3 x4 x5 x6 xo xs)]
  unfold kernelRun0_B
  dsimp only
  sl_unfold_words
  rw [View.canon_unit_zero hz2]
  simp only [View.readAt_eq_ld, harg6.read_unread, harg7.read_unread, harg9.read_unread, harg10.read_unread, View.ld_unit_zero (S := S512x2048) hz2, View.ld_unit_zero (S := S1x2048x1024) hz3, View.ld_unit_zero (S := S1x1024x2048) hz3]

/-! ## The blocks the windows read -/

variable (m : (ℓ : Loc nD τ sig) → Buf (Elt Ideal) ℓ)

theorem V_v0 : (V m c main_v0 : S4x2048x2048.Idx → EReal) = m ((c : Thread nD τ).loc main_arg2) := by
  unfold V hostOps0
  after_results_simp
  rfl
theorem V_v1 : (V m c main_v1 : S1x2048.Idx → EReal) = broadcastInDim S1x2048 ![1] bcast_S2048_S1x2048_1 (m ((c : Thread nD τ).loc main_arg3)) := by
  unfold V hostOps0
  after_results_simp
theorem V_v2 : (V m c main_v2 : S4x2048x8192.Idx → EReal) = m ((c : Thread nD τ).loc main_arg4) := by
  unfold V hostOps0
  after_results_simp
  rfl
theorem V_v3 : (V m c main_v3 : S4x8192x2048.Idx → EReal) = m ((c : Thread nD τ).loc main_arg5) := by
  unfold V hostOps0
  after_results_simp
  rfl

/-- The row of the whole array that row `r` of point `t`'s block is. -/
def row (t : Fin cfg0.N) (r : Fin 512) : Fin 16384 :=
  ⟨t.val / 8 * 512 + r.val, by have := lt_of_lt_of_eq t.isLt N_0; have := r.isLt; omega⟩

theorem idx0 : ∀ t : Fin grid0.N, win0_0.index t (0 : Fin 2) = t.val / 8 ∧ win0_0.index t (1 : Fin 2) = 0 := by decide +kernel
theorem idx1 : ∀ t : Fin grid0.N, win0_1.index t (0 : Fin 2) = t.val / 8 ∧ win0_1.index t (1 : Fin 2) = 0 := by decide +kernel
theorem idx2 : ∀ t : Fin grid0.N, win0_2.index t (0 : Fin 3) = 0 ∧ win0_2.index t (1 : Fin 3) = 0 ∧ win0_2.index t (2 : Fin 3) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 3) = 0 ∧ win0_4.index t (1 : Fin 3) = 0 ∧ win0_4.index t (2 : Fin 3) = t.val % 8 := by decide +kernel
theorem idx5 : ∀ t : Fin grid0.N, win0_5.index t (0 : Fin 3) = 0 ∧ win0_5.index t (1 : Fin 3) = t.val % 8 ∧ win0_5.index t (2 : Fin 3) = 0 := by decide +kernel

theorem blk0 (t : Fin cfg0.N) (r : Fin 512) (n : Fin 2048) :
    iblk m c 0 t (ix2 r n) = m ((c : Thread nD τ).loc main_arg0) (ix2 (row t r) n) := by
  unfold iblk
  rw [View.read_apply]
  show V m c main_arg0 _ = _
  rw [V_main_arg0]
  congr 1
  funext a
  apply Fin.ext
  have hi := idx0 t
  match a with
  | ⟨0, _⟩ => show win0_0.index t (0 : Fin 2) * 512 + 1 * r.val = t.val / 8 * 512 + r.val; rw [hi.1]; omega
  | ⟨1, _⟩ => show win0_0.index t (1 : Fin 2) * 2048 + 1 * n.val = n.val; rw [hi.2]; omega

theorem blk1 (t : Fin cfg0.N) (r : Fin 512) (n : Fin 2048) :
    iblk m c 1 t (ix2 r n) = m ((c : Thread nD τ).loc main_arg1) (ix2 (row t r) n) := by
  unfold iblk
  rw [View.read_apply]
  show V m c main_arg1 _ = _
  rw [V_main_arg1]
  congr 1
  funext a
  apply Fin.ext
  have hi := idx1 t
  match a with
  | ⟨0, _⟩ => show win0_1.index t (0 : Fin 2) * 512 + 1 * r.val = t.val / 8 * 512 + r.val; rw [hi.1]; omega
  | ⟨1, _⟩ => show win0_1.index t (1 : Fin 2) * 2048 + 1 * n.val = n.val; rw [hi.2]; omega

theorem blk2 (t : Fin cfg0.N) (k n : Fin 2048) :
    iblk m c 2 t (ix3 0 k n) = m ((c : Thread nD τ).loc main_arg2) (ix3 (n0 := 4) (n1 := 2048) (n2 := 2048) 0 k n) := by
  unfold iblk
  rw [View.read_apply]
  refine Eq.trans ?_ (congrFun (V_v0 c m) (ix3 (n0 := 4) (n1 := 2048) (n2 := 2048) 0 k n))
  show V m c main_v0 _ = _
  congr 1
  funext a
  apply Fin.ext
  have hi := idx2 t
  match a with
  | ⟨0, _⟩ => show win0_2.index t (0 : Fin 3) * 1 + 1 * 0 = 0; rw [hi.1]
  | ⟨1, _⟩ => show win0_2.index t (1 : Fin 3) * 2048 + 1 * k.val = k.val; rw [hi.2.1]; omega
  | ⟨2, _⟩ => show win0_2.index t (2 : Fin 3) * 2048 + 1 * n.val = n.val; rw [hi.2.2]; omega

theorem blk3 (t : Fin cfg0.N) (k : Fin 2048) :
    iblk m c 3 t (ix2 0 k) = m ((c : Thread nD τ).loc main_arg3) (ix1 k) := by
  unfold iblk
  rw [View.read_apply]
  trans (V m c main_v1 : S1x2048.Idx → EReal) (ix2 0 k)
  · show V m c main_v1 _ = _
    congr 1
    funext a
    apply Fin.ext
    have hi := idx3 t
    match a with
    | ⟨0, _⟩ => show win0_3.index t (0 : Fin 2) * 1 + 1 * 0 = 0; rw [hi.1]
    | ⟨1, _⟩ => show win0_3.index t (1 : Fin 2) * 2048 + 1 * k.val = k.val; rw [hi.2]; omega
  · rw [V_v1]
    pointwise []

theorem blk4 (t : Fin cfg0.N) (k : Fin 2048) (q : Fin 1024) :
    iblk m c 4 t (ix3 0 k q) = m ((c : Thread nD τ).loc main_arg4)
      (ix3 (n0 := 4) (n1 := 2048) (n2 := 8192) 0 k ⟨t.val % 8 * 1024 + q.val, by have := q.isLt; omega⟩) := by
  unfold iblk
  rw [View.read_apply]
  refine Eq.trans ?_ (congrFun (V_v2 c m) _)
  show V m c main_v2 _ = _
  congr 1
  funext a
  apply Fin.ext
  have hi := idx4 t
  match a with
  | ⟨0, _⟩ => show win0_4.index t (0 : Fin 3) * 1 + 1 * 0 = 0; rw [hi.1]
  | ⟨1, _⟩ => show win0_4.index t (1 : Fin 3) * 2048 + 1 * k.val = k.val; rw [hi.2.1]; omega
  | ⟨2, _⟩ => show win0_4.index t (2 : Fin 3) * 1024 + 1 * q.val = t.val % 8 * 1024 + q.val; rw [hi.2.2]; omega

theorem blk5 (t : Fin cfg0.N) (q : Fin 1024) (n : Fin 2048) :
    iblk m c 5 t (ix3 0 q n) = m ((c : Thread nD τ).loc main_arg5)
      (ix3 (n0 := 4) (n1 := 8192) (n2 := 2048) 0 ⟨t.val % 8 * 1024 + q.val, by have := q.isLt; omega⟩ n) := by
  unfold iblk
  rw [View.read_apply]
  refine Eq.trans ?_ (congrFun (V_v3 c m) _)
  show V m c main_v3 _ = _
  congr 1
  funext a
  apply Fin.ext
  have hi := idx5 t
  match a with
  | ⟨0, _⟩ => show win0_5.index t (0 : Fin 3) * 1 + 1 * 0 = 0; rw [hi.1]
  | ⟨1, _⟩ => show win0_5.index t (1 : Fin 3) * 1024 + 1 * q.val = t.val % 8 * 1024 + q.val; rw [hi.2.1]; omega
  | ⟨2, _⟩ => show win0_5.index t (2 : Fin 3) * 2048 + 1 * n.val = n.val; rw [hi.2.2]; omega

/-! ## The rows of the layer, from the arguments -/

/-- The residual row after the attention's output projection. -/
def x1 (i : Fin 16384) : Fin 2048 → EReal :=
  resid (fun n => m ((c : Thread nD τ).loc main_arg0) (ix2 i n)) (fun k => m ((c : Thread nD τ).loc main_arg1) (ix2 i k))
    (fun k n => m ((c : Thread nD τ).loc main_arg2) (ix3 (n0 := 4) (n1 := 2048) (n2 := 2048) 0 k n))
/-- That row normalised. -/
def xr (i : Fin 16384) : Fin 2048 → EReal :=
  nrm (x1 c m i) (fun k => m ((c : Thread nD τ).loc main_arg3) (ix1 k))
/-- The first matrix of the block. -/
def w1 (k : Fin 2048) (f : Fin 8192) : EReal := m ((c : Thread nD τ).loc main_arg4) (ix3 (n0 := 4) (n1 := 2048) (n2 := 8192) 0 k f)
/-- The second matrix of the block. -/
def w2 (f : Fin 8192) (n : Fin 2048) : EReal := m ((c : Thread nD τ).loc main_arg5) (ix3 (n0 := 4) (n1 := 8192) (n2 := 2048) 0 f n)

/-- The terms of the second product. -/
def term (i : Fin 16384) (n : Fin 2048) (f : Fin 8192) : EReal := act (xr c m i) (w1 c m) f * w2 c m f n

theorem pay1_blk (t : Fin cfg0.N) (r : Fin 512) (n : Fin 2048) :
    k0_pay1 (iblk m c 0 t) (iblk m c 1 t) (iblk m c 2 t) (ix2 r n) = x1 c m (row t r) n := by
  rw [pay1_apply]
  simp only [blk0, blk1, blk2]
  rfl

theorem xn_blk (t : Fin cfg0.N) (r : Fin 512) (n : Fin 2048) :
    xn (k0_pay1 (iblk m c 0 t) (iblk m c 1 t) (iblk m c 2 t)) (iblk m c 3 t) (ix2 r n) = xr c m (row t r) n := by
  show nrm (fun k => k0_pay1 (iblk m c 0 t) (iblk m c 1 t) (iblk m c 2 t) (ix2 r k)) (fun k => iblk m c 3 t (ix2 0 k)) n = _
  simp only [pay1_blk, blk3]
  rfl

theorem pay3_blk (t : Fin cfg0.N) (s : Vec Ideal S512x2048 .bf16) (acc : Vec Ideal S512x2048 .f32) (r : Fin 512) (n : Fin 2048)
    (hs : ∀ k, s (ix2 r k) = xr c m (row t r) k) :
    k0_pay3 s (iblk m c 4 t) acc (iblk m c 5 t) (ix2 r n) = acc (ix2 r n) + part (term c m (row t r) n) (t.val % 8) := by
  rw [pay3_apply]
  congr 1
  refine Eq.symm ((part_eq (Nat.mod_lt _ (by decide)) (xr c m (row t r)) (w1 c m) (w2 c m) n
    (fun k q => iblk m c 4 t (ix3 0 k q)) (fun q n => iblk m c 5 t (ix3 0 q n)) (fun k q => blk4 c m t k q) (fun q n => blk5 c m t q n)).trans ?_)
  simp only [hs]

/-- After point `t` the block of the result holds the residual rows plus the tiles of the product so far, and the
    scratch the normalised rows. -/
theorem inv (n : ℕ) : ∀ (hn : n < cfg0.N) (r : Fin 512),
    (∀ q, (outsAt0 m c n hn).1 (ix2 r q)
      = x1 c m (row ⟨n, hn⟩ r) q + ∑ s ∈ Finset.range (n % 8 + 1), part (term c m (row ⟨n, hn⟩ r) q) s)
    ∧ ∀ q, (outsAt0 m c n hn).2 (ix2 r q) = xr c m (row ⟨n, hn⟩ r) q := by
  induction n with
  | zero =>
    intro hn r
    rw [outsAt0_A m c ⟨0, hn⟩ rfl, out_A, sout_A]
    refine ⟨fun q => ?_, fun q => xn_blk c m ⟨0, hn⟩ r q⟩
    dsimp only
    rw [pay3_blk c m ⟨0, hn⟩ _ _ r q (fun k => xn_blk c m ⟨0, hn⟩ r k), pay1_blk]
    simp
  | succ n ih =>
    intro hn r
    by_cases h : (n + 1) % 8 = 0
    · rw [outsAt0_A m c ⟨n + 1, hn⟩ h, out_A, sout_A]
      refine ⟨fun q => ?_, fun q => xn_blk c m ⟨n + 1, hn⟩ r q⟩
      dsimp only
      rw [pay3_blk c m ⟨n + 1, hn⟩ _ _ r q (fun k => xn_blk c m ⟨n + 1, hn⟩ r k), pay1_blk]
      simp [h]
    · have hr : row ⟨n, Nat.lt_of_succ_lt hn⟩ r = row ⟨n + 1, hn⟩ r := Fin.ext (by
        show n / 8 * 512 + r.val = (n + 1) / 8 * 512 + r.val
        omega)
      have hm : (n + 1) % 8 = n % 8 + 1 := by omega
      obtain ⟨ih1, ih2⟩ := ih (Nat.lt_of_succ_lt hn) r
      rw [hr] at ih1 ih2
      rw [outsAt0_B m c ⟨n + 1, hn⟩ h, out_B]
      refine ⟨fun q => ?_, ih2⟩
      refine (pay3_blk c m ⟨n + 1, hn⟩ _ _ r q ih2).trans ?_
      refine (congrArg (· + _) (ih1 q)).trans ?_
      show _ + part _ ((n + 1) % 8) = _
      rw [hm, Finset.sum_range_succ _ (n % 8 + 1), add_assoc]

/-- The result, row by row. -/
theorem G_apply (i : Fin 16384) (n : Fin 2048) :
    Value.G7 m c (ix2 i n) = resid (x1 c m i) (act (xr c m i) (w1 c m)) (w2 c m) n := by
  have hp : Value.pt7Of (ix2 i n) < cfg0.N :=
    lt_of_lt_of_eq (by show 8 * (1 * (i.val / 512 - 0) + 1 * (n.val / 2048 - 0)) + 7 < 256; have := i.isLt; have := n.isLt; omega) N_0.symm
  unfold Value.G7
  rw [dif_pos hp, ← Value.outsAt0_sweep m c _ hp]
  have e := (inv c m _ hp ⟨i.val % 512, Nat.mod_lt _ (by decide)⟩).1 n
  have hl : Value.loc7Of (ix2 i n) = ix2 (n0 := 512) (n1 := 2048) ⟨i.val % 512, Nat.mod_lt _ (by decide)⟩ n := by
    funext a
    apply Fin.ext
    match a with
    | ⟨0, _⟩ => rfl
    | ⟨1, _⟩ => exact Nat.mod_eq_of_lt n.isLt
  rw [hl]
  refine e.trans ?_
  have hr : row ⟨_, hp⟩ ⟨i.val % 512, Nat.mod_lt _ (by decide)⟩ = i := Fin.ext (by
    show (8 * (1 * (i.val / 512 - 0) + 1 * (n.val / 2048 - 0)) + 7) / 8 * 512 + i.val % 512 = i.val
    have := n.isLt; omega)
  rw [hr, show Value.pt7Of (ix2 i n) % 8 + 1 = 8 from by
    show (8 * (1 * (i.val / 512 - 0) + 1 * (n.val / 2048 - 0)) + 7) % 8 + 1 = 8; omega, sum_part]
  rfl

/-! ## The reference -/

open Cert.MlpRefIdeal.Read in
theorem ref_x1 (a0 : Vec Ideal S16384x2048 .f32) (a1 : Vec Ideal S16384x2048 .bf16) (a2 : Vec Ideal S4x2048x2048 .f32) (i : Fin 16384) (n : Fin 2048) :
    val_main_v4 (F := Ideal) a0 a1 a2 (ix2 i n)
      = resid (fun n => a0 (ix2 i n)) (fun k => a1 (ix2 i k)) (fun k n => a2 (ix3 0 k n)) n := by
  pointwise [val_main_v4, val_main_v3, val_main_v0, val_main_v2, val_main_v1]
  rfl

open Cert.MlpRefIdeal.Read in
theorem ref_xr (a0 : Vec Ideal S16384x2048 .f32) (a1 : Vec Ideal S16384x2048 .bf16) (a2 : Vec Ideal S4x2048x2048 .f32) (a3 : Vec Ideal S2048 .f32)
    (i : Fin 16384) (n : Fin 2048) :
    val_main_v17 (F := Ideal) a0 a1 a2 a3 (ix2 i n)
      = nrm (fun k => val_main_v4 (F := Ideal) a0 a1 a2 (ix2 i k)) (fun k => a3 (ix1 k)) n := by
  pointwise [val_main_v17, val_main_v16, val_main_v15, val_main_v14, val_main_v13, val_main_v12, val_main_v11, val_main_v10, val_main_v9,
    val_main_v8, val_main_v7, val_main_v6, val_main_v5, val_main_cst, val_main_cst_0, val_main_cst_1]
  rfl

open Cert.MlpRefIdeal.Read in
theorem ref_out (a0 : Vec Ideal S16384x2048 .f32) (a1 : Vec Ideal S16384x2048 .bf16) (a2 : Vec Ideal S4x2048x2048 .f32) (a3 : Vec Ideal S2048 .f32)
    (a4 : Vec Ideal S4x2048x8192 .f32) (a5 : Vec Ideal S4x8192x2048 .f32) (i : Fin 16384) (n : Fin 2048) :
    val_main_v26 (F := Ideal) a0 a1 a2 a3 a4 a5 (ix2 i n)
      = resid (fun n => val_main_v4 (F := Ideal) a0 a1 a2 (ix2 i n))
          (act (fun k => val_main_v17 (F := Ideal) a0 a1 a2 a3 (ix2 i k)) (fun k f => a4 (ix3 0 k f))) (fun f n => a5 (ix3 0 f n)) n := by
  pointwise [val_main_v26, val_main_v25, val_main_v24, val_main_v23, val_main_v22, val_main_v21, val_main_call0_v0, val_main_call0_cst, val_main_v20,
    val_main_v19, val_main_v18]
  rfl

/-- The two programs' results agree, at any memories that agree on the arguments. -/
theorem G_eq_ref (m' : (ℓ : Loc Cert.MlpRefIdeal.nD Cert.MlpRefIdeal.τ Cert.MlpRefIdeal.sig) → Buf (Elt Ideal) ℓ)
    (h0 : m' ((c : Thread nD τ).loc Cert.MlpRefIdeal.main_arg0) = m ((c : Thread nD τ).loc main_arg0))
    (h1 : m' ((c : Thread nD τ).loc Cert.MlpRefIdeal.main_arg1) = m ((c : Thread nD τ).loc main_arg1))
    (h2 : m' ((c : Thread nD τ).loc Cert.MlpRefIdeal.main_arg2) = m ((c : Thread nD τ).loc main_arg2))
    (h3 : m' ((c : Thread nD τ).loc Cert.MlpRefIdeal.main_arg3) = m ((c : Thread nD τ).loc main_arg3))
    (h4 : m' ((c : Thread nD τ).loc Cert.MlpRefIdeal.main_arg4) = m ((c : Thread nD τ).loc main_arg4))
    (h5 : m' ((c : Thread nD τ).loc Cert.MlpRefIdeal.main_arg5) = m ((c : Thread nD τ).loc main_arg5)) :
    (Cert.MlpRefIdeal.Value.res_main_v26 m' c : S16384x2048.Idx → EReal) = Value.G7 m c := by
  rw [Cert.MlpRefIdeal.Read.val_main_v26_eq]
  funext j
  obtain ⟨i, n, rfl⟩ : ∃ (i : Fin 16384) (n : Fin 2048), j = ix2 i n := ⟨j 0, j 1, eq_ix2 j⟩
  rw [G_apply, ref_out]
  simp only [ref_xr, ref_x1]
  erw [h0, h1, h2, h3, h4, h5]
  rfl

end Cert.MlpIdeal.Hand

end
end
-- ==== Proof.LastValue.lean ====
module
public import proofs.«01_k».proof.Proof.Gen.LastIdeal.Value
public import proofs.«01_k».proof.Proof.Gen.LastRefIdeal.Run
public import proofs.«01_k».proof.Proof.Gen.LastRefIdeal.Read
public import proofs.«01_k».proof.Proof.Rows
public import Idealize.ShloMosaic.Lib.Pipeline.CanonAppend
@[expose] public section
set_option maxRecDepth 16384
noncomputable section

/-! # The last layer's feed-forward call computes the feed-forward block and the final norm of its reference -/

namespace Cert.LastIdeal.Hand
open Cert.LastIdeal Cert.LastIdeal.Gen Cert.Rows Idealize.ShloMosaic Idealize.ShloMosaic.TcCoe Idealize.SL.Sem
open Idealize.ShloMosaic.Pipeline (Dat)

/-! ## The payloads, by rows -/

theorem pay1_apply (x : Vec Ideal S512x2048 .f32) (a : Vec Ideal S512x2048 .bf16) (w : Vec Ideal S1x2048x2048 .bf16)
    (r : Fin 512) (n : Fin 2048) :
    k0_pay1 x a w (ix2 r n) = resid (fun n => x (ix2 r n)) (fun k => a (ix2 r k)) (fun k n => w (ix3 0 k n)) n := by
  pointwise [k0_pay1]
  rfl

theorem pay2_apply (g : Vec Ideal S1x2048 .f32) (x : Vec Ideal S256x2048 .f32) (r : Fin 256) (n : Fin 2048) :
    k0_pay2 g x (ix2 r n) = nrm (fun k => x (ix2 r k)) (fun k => g (ix2 0 k)) n := by
  pointwise [k0_pay2]
  rfl

theorem pay3_apply (xn : Vec Ideal S512x2048 .bf16) (w1 : Vec Ideal S1x2048x1024 .bf16) (acc : Vec Ideal S512x2048 .f32)
    (w2 : Vec Ideal S1x1024x2048 .bf16) (r : Fin 512) (n : Fin 2048) :
    k0_pay3 xn w1 acc w2 (ix2 r n)
      = acc (ix2 r n) + ∑ q, act (fun k => xn (ix2 r k)) (fun k q => w1 (ix3 0 k q)) q * w2 (ix3 0 q n) := by
  pointwise [k0_pay3]
  rfl

/-! ## What the loop over the two halves of a block leaves in the scratch -/

/-- The rows of a block, each normalised. -/
def xn (P : Vec Ideal S512x2048 .f32) (g : Vec Ideal S1x2048 .f32) : Vec Ideal S512x2048 .bf16 :=
  fun y => nrm (fun k => P (ix2 (y 0) k)) (fun k => g (ix2 0 k)) (y 1)

theorem hz2 : (![0, 0] : Fin 2 → ℕ) = fun _ => 0 := funext fun a => by fin_cases a <;> rfl
theorem hz3 : (![0, 0, 0] : Fin 3 → ℕ) = fun _ => 0 := funext fun a => by fin_cases a <;> rfl

/-- Normalising some whole rows of a block gives those rows of the normalised block. -/
theorem pay2_rows (g : Vec Ideal S1x2048 .f32) (P : Vec Ideal S512x2048 .f32) (off : Fin 2 → ℕ) (h1 : off 1 = 0)
    (inb : ∀ a, off a + ![256, 2048] a ≤ S512x2048.size a) (x : S256x2048.Idx) :
    k0_pay2 g (fun j => P ((Rect.unit (s := S512x2048) off ![256, 2048] inb).toLoadRect.idx j)) x
      = xn P g ((Rect.unit (s := S512x2048) off ![256, 2048] inb).emb x) := by
  obtain ⟨r, n, rfl⟩ : ∃ (r : Fin 256) (n : Fin 2048), x = ix2 r n := ⟨x 0, x 1, eq_ix2 x⟩
  rw [pay2_apply]
  have e1 : ∀ n : Fin 2048, (((Rect.unit (s := S512x2048) off ![256, 2048] inb).emb (ix2 r n)) 1 : Fin 2048) = n := fun n =>
    Fin.ext (by show off (1 : Fin 2) + 1 * n.val = n.val; omega)
  unfold xn
  rw [e1]
  congr 1
  funext q
  congr 1
  funext a
  match a with
  | ⟨0, _⟩ => rfl
  | ⟨1, _⟩ => exact e1 q

variable (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S1x2048x2048 .bf16) (harg4 : arg4.IsWhole) (arg5 : Memref sig .tc .vmem S1x2048 .f32) (harg5 : arg5.IsWhole) (arg6 : Memref sig .tc .vmem S1x2048x1024 .bf16) (harg6 : arg6.IsWhole) (arg7 : Memref sig .tc .vmem S1x1024x2048 .bf16) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .bf16) (harg10 : arg10.IsWhole)

theorem trip_pieces (k0_h1 : k0_cond1 i = 1#1) (g : Vec Ideal S1x2048 .f32) (X : BufTy.Contents (Elt Ideal) arg9.view.ty)
    (P : Vec Ideal S512x2048 .f32)
    (hX : ∀ B : LoadRect S512x2048, arg9.view.readAt (Elt Ideal) B X = fun j => P (B.idx j))
    (k : Fin k0_t1_loop.trips) :
    ∀ p ∈ tripL_k0_t1 (F := Ideal) Variants.none c none i arg2 harg2 arg3 harg3 arg4 harg4 arg5 harg5 arg6 harg6 arg7 harg7 arg8 harg8 arg9 harg9 arg10 harg10 k0_h1 g X k,
      ∀ x : p.1.shape.Idx, p.2 x = xn P g (p.1.emb x) := by
  unfold tripL_k0_t1 trip_k0_t1
  dsimp only
  intro p hp
  rw [List.mem_singleton] at hp
  subst hp
  intro x
  rw [hX]
  exact pay2_rows g P (k0_off1 k) (congrFun (k0_off1_eq k) 1) _ x

theorem pb_pieces (k0_h1 : k0_cond1 i = 1#1) (g : Vec Ideal S1x2048 .f32) (X : BufTy.Contents (Elt Ideal) arg9.view.ty)
    (P : Vec Ideal S512x2048 .f32)
    (hX : ∀ B : LoadRect S512x2048, arg9.view.readAt (Elt Ideal) B X = fun j => P (B.idx j)) :
    ∀ n, n ≤ k0_t1_loop.trips →
    ∀ p ∈ pb_k0_t1 (F := Ideal) Variants.none c none i arg2 harg2 arg3 harg3 arg4 harg4 arg5 harg5 arg6 harg6 arg7 harg7 arg8 harg8 arg9 harg9 arg10 harg10 k0_h1 g X n,
      ∀ x : p.1.shape.Idx, p.2 x = xn P g (p.1.emb x)
  | 0, _ => fun p hp => absurd hp (by rw [pb_k0_t1]; exact List.not_mem_nil)
  | n + 1, hn => fun p hp => by
    have e := pb_k0_t1_succ (F := Ideal) Variants.none c none i arg2 harg2 arg3 harg3 arg4 harg4 arg5 harg5 arg6 harg6 arg7 harg7 arg8 harg8 arg9 harg9 arg10 harg10 k0_h1 g X ⟨n, hn⟩
    dsimp only at e
    rw [e] at hp
    rcases List.mem_append.mp hp with h | h
    · exact trip_pieces c i arg2 harg2 arg3 harg3 arg4 harg4 arg5 harg5 arg6 harg6 arg7 harg7 arg8 harg8 arg9 harg9 arg10 harg10 k0_h1 g X P hX _ p h
    · exact pb_pieces k0_h1 g X P hX n (Nat.le_of_succ_le hn) p h

/-! ## The second loop, which normalises the finished block in place -/

theorem pay4_eq (g : Vec Ideal S1x2048 .f32) (x : Vec Ideal S256x2048 .f32) : k0_pay4 g x = k0_pay2 g x := by
  funext y
  obtain ⟨r, n, rfl⟩ : ∃ (r : Fin 256) (n : Fin 2048), y = ix2 r n := ⟨y 0, y 1, eq_ix2 y⟩
  rw [pay2_apply]
  pointwise [k0_pay4]
  rfl

/-- Off every piece of the front list, the pieces behind decide. -/
theorem canon_append_of_not_mem (L' : List (View.Piece (Elt Ideal) S512x2048 .f32)) (y : S512x2048.Idx) :
    ∀ (L : List (View.Piece (Elt Ideal) S512x2048 .f32)) (_ : ∀ p ∈ L, y ∉ p.1.set), View.canon (L ++ L') y = View.canon L' y
  | [], _ => rfl
  | p :: L, h => by
    rw [List.cons_append, View.canon_cons_of_not_mem _ _ (h p (by simp))]
    exact canon_append_of_not_mem L' y L fun q hq => h q (by simp [hq])

theorem mem_rows (off : Fin 2 → ℕ) (inb : ∀ a, off a + ![256, 2048] a ≤ S512x2048.size a) (y : S512x2048.Idx)
    (h : y ∈ (Rect.unit (s := S512x2048) off ![256, 2048] inb).set) : (y 0).val < off 0 + 256 := (Rect.mem_set_unit.mp h 0).2

theorem rows_mem (off : Fin 2 → ℕ) (inb : ∀ a, off a + ![256, 2048] a ≤ S512x2048.size a) (y : S512x2048.Idx) (h1 : off 1 = 0)
    (hl : off 0 ≤ (y 0).val) (hu : (y 0).val < off 0 + 256) : y ∈ (Rect.unit (s := S512x2048) off ![256, 2048] inb).set := by
  refine Rect.mem_set_unit.mpr fun a => ?_
  match a with
  | ⟨0, _⟩ => exact ⟨hl, hu⟩
  | ⟨1, _⟩ =>
    show off (1 : Fin 2) ≤ (y 1).val ∧ (y 1).val < off (1 : Fin 2) + 2048
    have : (y 1).val < 2048 := (y 1).isLt
    omega

theorem t2_trips : k0_t2_loop.trips = 2 := by decide +kernel

theorem pb2_pieces (k0_h2 : k0_cond2 i = 1#1) (g : Vec Ideal S1x2048 .f32) (P : Vec Ideal S512x2048 .f32)
    (L0 : List (View.Piece (Elt Ideal) S512x2048 .f32)) (h0 : ∀ y, View.canon L0 y = P y) :
    ∀ n, n ≤ k0_t2_loop.trips →
    (∀ p ∈ pb_k0_t2 (F := Ideal) Variants.none c none i arg2 harg2 arg3 harg3 arg4 harg4 arg5 harg5 arg6 harg6 arg7 harg7 arg8 harg8 arg9 harg9 arg10 harg10 k0_h2 g
        (arg9.view.writes (Elt Ideal) arg9.view.junk L0) n,
      (∀ x : p.1.shape.Idx, p.2 x = xn P g (p.1.emb x)) ∧ ∀ y ∈ p.1.set, (y 0).val < 256 * n)
    ∧ ∀ y : S512x2048.Idx, (y 0).val < 256 * n → ∃ p ∈ pb_k0_t2 (F := Ideal) Variants.none c none i arg2 harg2 arg3 harg3 arg4 harg4 arg5 harg5 arg6 harg6 arg7 harg7 arg8 harg8 arg9 harg9 arg10 harg10 k0_h2 g
        (arg9.view.writes (Elt Ideal) arg9.view.junk L0) n, y ∈ p.1.set
  | 0, _ => ⟨fun p hp => absurd hp (by rw [pb_k0_t2]; exact List.not_mem_nil), fun y hy => absurd hy (by omega)⟩
  | n + 1, hn => by
    obtain ⟨ih, ihc⟩ := pb2_pieces k0_h2 g P L0 h0 n (Nat.le_of_succ_le hn)
    have e := pb_k0_t2_succ (F := Ideal) Variants.none c none i arg2 harg2 arg3 harg3 arg4 harg4 arg5 harg5 arg6 harg6 arg7 harg7 arg8 harg8 arg9 harg9 arg10 harg10 k0_h2 g
      (arg9.view.writes (Elt Ideal) arg9.view.junk L0) ⟨n, hn⟩
    dsimp only at e
    rw [e]
    generalize pb_k0_t2 (F := Ideal) Variants.none c none i arg2 harg2 arg3 harg3 arg4 harg4 arg5 harg5 arg6 harg6 arg7 harg7 arg8 harg8 arg9 harg9 arg10 harg10 k0_h2 g
      (arg9.view.writes (Elt Ideal) arg9.view.junk L0) n = prev at ih ihc
    have ho : k0_off2 ⟨n, hn⟩ = ![256 * n, 0] := k0_off2_eq ⟨n, hn⟩
    have ho0 : k0_off2 ⟨n, hn⟩ (0 : Fin 2) = 256 * n := congrFun ho 0
    have ho1 : k0_off2 ⟨n, hn⟩ (1 : Fin 2) = 0 := congrFun ho 1
    unfold tripL_k0_t2 trip_k0_t2
    dsimp only
    constructor
    · intro p hp
      rcases List.mem_append.mp hp with h | h
      · rw [List.mem_singleton] at h
        subst h
        constructor
        · intro x
          rw [← View.writes_append, View.readAt_writes_junk_eq_canon, pay4_eq]
          rw [show (fun j => View.canon (prev ++ L0) ((Rect.unit (s := S512x2048) (k0_off2 ⟨n, hn⟩) ![256, 2048] _).toLoadRect.idx j))
              = fun j => P ((Rect.unit (s := S512x2048) (k0_off2 ⟨n, hn⟩) ![256, 2048] _).toLoadRect.idx j) from ?_]
          · exact pay2_rows g P (k0_off2 ⟨n, hn⟩) ho1 _ x
          · funext j
            rw [canon_append_of_not_mem, h0]
            intro q hq hy
            have := (ih q hq).2 _ hy
            change k0_off2 ⟨n, hn⟩ (0 : Fin 2) + 1 * (j (0 : Fin 2)).val < 256 * n at this
            omega
        · intro y hy
          have h2 := mem_rows (k0_off2 ⟨n, hn⟩) (k0_off2_inb i ⟨n, hn⟩ k0_h2) y hy
          omega
      · exact ⟨(ih p h).1, fun y hy => by have := (ih p h).2 y hy; omega⟩
    · intro y hy
      by_cases hl : (y 0).val < 256 * n
      · obtain ⟨p, hp, hy⟩ := ihc y hl
        exact ⟨p, List.mem_append.mpr (Or.inr hp), hy⟩
      · refine ⟨_, List.mem_append.mpr (Or.inl (List.mem_singleton.mpr rfl)), ?_⟩
        refine rows_mem (k0_off2 ⟨n, hn⟩) (k0_off2_inb i ⟨n, hn⟩ k0_h2) y ho1 ?_ ?_ <;> omega

/-! ## What a point leaves in the block of the result and in the scratch -/

theorem sout_A (hc0 : cond0_0 i) (hc1 : ¬cond0_1 i) (x0 : Vec Ideal S512x2048 .f32) (x1 : Vec Ideal S512x2048 .bf16) (x2 : Vec Ideal S1x2048x2048 .bf16)
    (x3 : Vec Ideal S1x2048 .f32) (x4 : Vec Ideal S1x2048x1024 .bf16) (x5 : Vec Ideal S1x1024x2048 .bf16) (x6 : Vec Ideal S1x2048 .f32) :
    sout0_A_0 (F := Ideal) c i arg2 harg2 arg3 harg3 arg4 harg4 arg5 harg5 arg6 harg6 arg7 harg7 arg8 harg8 arg9 harg9 arg10 harg10 hc0 hc1 x0 x1 x2 x3 x4 x5 x6
      = xn (k0_pay1 x0 x1 x2) x3 := by
  have hc := scover0_A_0 (F := Ideal) c i arg2 harg2 arg3 harg3 arg4 harg4 arg5 harg5 arg6 harg6 arg7 harg7 arg8 harg8 arg9 harg9 arg10 harg10 hc0 hc1 x0 x1 x2 x3 x4 x5 x6
  unfold sout0_A_0
  rw [View.read_writes_eq_canon _ _ _ hc]
  revert hc
  unfold kernelRun0_A
  dsimp only
  sl_unfold_words
  intro hc
  funext y
  refine View.canon_apply_of_pieces _ _ ?_ y (hc y)
  simp only [View.readAt_eq_ld, harg2.read_unread, harg3.read_unread, harg4.read_unread, harg5.read_unread, View.ld_unit_zero (S := S1x2048) hz2, View.ld_unit_zero (S := S512x2048) hz2, View.ld_unit_zero (S := S1x2048x2048) hz3]
  refine pb_pieces c i arg2 harg2 arg3 harg3 arg4 harg4 arg5 harg5 arg6 harg6 arg7 harg7 arg8 harg8 arg9 harg9 arg10 harg10 hc0 x3 _ _ ?_ _ (le_refl _)
  intro B
  rw [View.readAt_writes_junk_eq_canon]
  funext j
  rw [View.canon_unit_zero hz2]

theorem out_A (hc0 : cond0_0 i) (hc1 : ¬cond0_1 i) (x0 : Vec Ideal S512x2048 .f32) (x1 : Vec Ideal S512x2048 .bf16) (x2 : Vec Ideal S1x2048x2048 .bf16)
    (x3 : Vec Ideal S1x2048 .f32) (x4 : Vec Ideal S1x2048x1024 .bf16) (x5 : Vec Ideal S1x1024x2048 .bf16) (x6 : Vec Ideal S1x2048 .f32) :
    out0_A_7 (F := Ideal) c i arg2 harg2 arg3 harg3 arg4 harg4 arg5 harg5 arg6 harg6 arg7 harg7 arg8 harg8 arg9 harg9 arg10 harg10 hc0 hc1 x0 x1 x2 x3 x4 x5 x6
      = k0_pay3 (xn (k0_pay1 x0 x1 x2) x3) x4 (k0_pay1 x0 x1 x2) x5 := by
  have key := sout_A c i arg2 harg2 arg3 harg3 arg4 harg4 arg5 harg5 arg6 harg6 arg7 harg7 arg8 harg8 arg9 harg9 arg10 harg10 hc0 hc1 x0 x1 x2 x3 x4 x5 x6
  unfold sout0_A_0 at key
  rw [View.read_writes_eq_canon _ _ _ (scover0_A_0 (F := Ideal) c i arg2 harg2 arg3 harg3 arg4 harg4 arg5 harg5 arg6 harg6 arg7 harg7 arg8 harg8 arg9 harg9 arg10 harg10 hc0 hc1 x0 x1 x2 x3 x4 x5 x6)] at key
  revert key
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  intro key
  rw [View.canon_cons_unit_zero hz2, View.readCov_unit_zero (S := S512x2048) _ hz2]
  set_option backward.isDefEq.respectTransparency false in
  rw [View.readCov_eq_canon', key]
  simp only [View.readAt_eq_ld, harg2.read_unread, harg3.read_unread, harg4.read_unread, harg5.read_unread, harg6.read_unread, harg7.read_unread, View.ld_unit_zero (S := S512x2048) hz2, View.ld_unit_zero (S := S1x2048x2048) hz3, View.ld_unit_zero (S := S1x2048x1024) hz3, View.ld_unit_zero (S := S1x1024x2048) hz3]
  congr 1
  exact View.ld_unit_zero (S := S512x2048) hz2 _ (xn (k0_pay1 x0 x1 x2) x3)

theorem out_B (hc0 : ¬cond0_0 i) (hc1 : ¬cond0_1 i) (x0 : Vec Ideal S512x2048 .f32) (x1 : Vec Ideal S512x2048 .bf16) (x2 : Vec Ideal S1x2048x2048 .bf16)
    (x3 : Vec Ideal S1x2048 .f32) (x4 : Vec Ideal S1x2048x1024 .bf16) (x5 : Vec Ideal S1x1024x2048 .bf16) (x6 : Vec Ideal S1x2048 .f32)
    (xo : Vec Ideal S512x2048 .f32) (xs : Vec Ideal S512x2048 .bf16) :
    out0_B_7 (F := Ideal) c i arg2 harg2 arg3 harg3 arg4 harg4 arg5 harg5 arg6 harg6 arg7 harg7 arg8 harg8 arg9 harg9 arg10 harg10 hc0 hc1 x0 x1 x2 x3 x4 x5 x6 xo xs
      = k0_pay3 xs x4 xo x5 := by
  unfold out0_B_7
  rw [View.read_writes_eq_canon _ _ _ (cover0_B_7 (F := Ideal) c i arg2 harg2 arg3 harg3 arg4 harg4 arg5 harg5 arg6 harg6 arg7 harg7 arg8 harg8 arg9 harg9 arg10 harg10 hc0 hc1 x0 x1 x2 x3 x4 x5 x6 xo xs)]
  unfold kernelRun0_B
  dsimp only
  sl_unfold_words
  rw [View.canon_unit_zero hz2]
  simp only [View.readAt_eq_ld, harg6.read_unread, harg7.read_unread, harg9.read_unread, harg10.read_unread, View.ld_unit_zero (S := S512x2048) hz2, View.ld_unit_zero (S := S1x2048x1024) hz3, View.ld_unit_zero (S := S1x1024x2048) hz3]

theorem out_C (hc0 : ¬cond0_0 i) (hc1 : cond0_1 i) (x0 : Vec Ideal S512x2048 .f32) (x1 : Vec Ideal S512x2048 .bf16) (x2 : Vec Ideal S1x2048x2048 .bf16)
    (x3 : Vec Ideal S1x2048 .f32) (x4 : Vec Ideal S1x2048x1024 .bf16) (x5 : Vec Ideal S1x1024x2048 .bf16) (x6 : Vec Ideal S1x2048 .f32)
    (xo : Vec Ideal S512x2048 .f32) (xs : Vec Ideal S512x2048 .bf16) :
    out0_C_7 (F := Ideal) c i arg2 harg2 arg3 harg3 arg4 harg4 arg5 harg5 arg6 harg6 arg7 harg7 arg8 harg8 arg9 harg9 arg10 harg10 hc0 hc1 x0 x1 x2 x3 x4 x5 x6 xo xs
      = xn (k0_pay3 xs x4 xo x5) x6 := by
  unfold out0_C_7
  rw [View.read_writes_eq_canon _ _ _ (cover0_C_7 (F := Ideal) c i arg2 harg2 arg3 harg3 arg4 harg4 arg5 harg5 arg6 harg6 arg7 harg7 arg8 harg8 arg9 harg9 arg10 harg10 hc0 hc1 x0 x1 x2 x3 x4 x5 x6 xo xs)]
  unfold kernelRun0_C
  dsimp only
  sl_unfold_words
  simp only [View.readAt_eq_ld, harg6.read_unread, harg7.read_unread, harg8.read_unread, harg9.read_unread, harg10.read_unread, View.ld_unit_zero (S := S1x2048) hz2, View.ld_unit_zero (S := S512x2048) hz2, View.ld_unit_zero (S := S1x2048x1024) hz3, View.ld_unit_zero (S := S1x1024x2048) hz3]
  funext y
  obtain ⟨hp, hcov⟩ := pb2_pieces c i arg2 harg2 arg3 harg3 arg4 harg4 arg5 harg5 arg6 harg6 arg7 harg7 arg8 harg8 arg9 harg9 arg10 harg10 hc1 x6 (k0_pay3 xs x4 xo x5)
    [⟨Rect.unit ![0, 0] ![512, 2048] inb_S512x2048_S512x2048_0_0, k0_pay3 xs x4 xo x5⟩]
    (fun y => congrFun (View.canon_unit_zero (S := S512x2048) hz2 _ _) y) _ (le_refl _)
  refine View.canon_append_of_pieces _ _ _ (fun p h => (hp p h).1) y (hcov y ?_)
  have : (y 0).val < 512 := (y 0).isLt
  rw [t2_trips]
  omega

/-! ## The blocks the windows read -/

variable (m : (ℓ : Loc nD τ sig) → Buf (Elt Ideal) ℓ)

theorem V_v0 : (V m c main_v0 : S4x2048x2048.Idx → EReal) = m ((c : Thread nD τ).loc main_arg2) := by
  unfold V hostOps0
  after_results_simp
  rfl
theorem V_v1 : (V m c main_v1 : S1x2048.Idx → EReal) = broadcastInDim S1x2048 ![1] bcast_S2048_S1x2048_1 (m ((c : Thread nD τ).loc main_arg3)) := by
  unfold V hostOps0
  after_results_simp
theorem V_v2 : (V m c main_v2 : S4x2048x8192.Idx → EReal) = m ((c : Thread nD τ).loc main_arg4) := by
  unfold V hostOps0
  after_results_simp
  rfl
theorem V_v3 : (V m c main_v3 : S4x8192x2048.Idx → EReal) = m ((c : Thread nD τ).loc main_arg5) := by
  unfold V hostOps0
  after_results_simp
  rfl

/-- The row of the whole array that row `r` of point `t`'s block is. -/
def row (t : Fin cfg0.N) (r : Fin 512) : Fin 16384 :=
  ⟨t.val / 8 * 512 + r.val, by have := lt_of_lt_of_eq t.isLt N_0; have := r.isLt; omega⟩

theorem idx0 : ∀ t : Fin grid0.N, win0_0.index t (0 : Fin 2) = t.val / 8 ∧ win0_0.index t (1 : Fin 2) = 0 := by decide +kernel
theorem idx1 : ∀ t : Fin grid0.N, win0_1.index t (0 : Fin 2) = t.val / 8 ∧ win0_1.index t (1 : Fin 2) = 0 := by decide +kernel
theorem idx2 : ∀ t : Fin grid0.N, win0_2.index t (0 : Fin 3) = 3 ∧ win0_2.index t (1 : Fin 3) = 0 ∧ win0_2.index t (2 : Fin 3) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 3) = 3 ∧ win0_4.index t (1 : Fin 3) = 0 ∧ win0_4.index t (2 : Fin 3) = t.val % 8 := by decide +kernel
theorem idx5 : ∀ t : Fin grid0.N, win0_5.index t (0 : Fin 3) = 3 ∧ win0_5.index t (1 : Fin 3) = t.val % 8 ∧ win0_5.index t (2 : Fin 3) = 0 := by decide +kernel

theorem blk0 (t : Fin cfg0.N) (r : Fin 512) (n : Fin 2048) :
    iblk m c 0 t (ix2 r n) = m ((c : Thread nD τ).loc main_arg0) (ix2 (row t r) n) := by
  unfold iblk
  rw [View.read_apply]
  show V m c main_arg0 _ = _
  rw [V_main_arg0]
  congr 1
  funext a
  apply Fin.ext
  have hi := idx0 t
  match a with
  | ⟨0, _⟩ => show win0_0.index t (0 : Fin 2) * 512 + 1 * r.val = t.val / 8 * 512 + r.val; rw [hi.1]; omega
  | ⟨1, _⟩ => show win0_0.index t (1 : Fin 2) * 2048 + 1 * n.val = n.val; rw [hi.2]; omega

theorem blk1 (t : Fin cfg0.N) (r : Fin 512) (n : Fin 2048) :
    iblk m c 1 t (ix2 r n) = m ((c : Thread nD τ).loc main_arg1) (ix2 (row t r) n) := by
  unfold iblk
  rw [View.read_apply]
  show V m c main_arg1 _ = _
  rw [V_main_arg1]
  congr 1
  funext a
  apply Fin.ext
  have hi := idx1 t
  match a with
  | ⟨0, _⟩ => show win0_1.index t (0 : Fin 2) * 512 + 1 * r.val = t.val / 8 * 512 + r.val; rw [hi.1]; omega
  | ⟨1, _⟩ => show win0_1.index t (1 : Fin 2) * 2048 + 1 * n.val = n.val; rw [hi.2]; omega

theorem blk2 (t : Fin cfg0.N) (k n : Fin 2048) :
    iblk m c 2 t (ix3 0 k n) = m ((c : Thread nD τ).loc main_arg2) (ix3 (n0 := 4) (n1 := 2048) (n2 := 2048) 3 k n) := by
  unfold iblk
  rw [View.read_apply]
  refine Eq.trans ?_ (congrFun (V_v0 c m) (ix3 (n0 := 4) (n1 := 2048) (n2 := 2048) 3 k n))
  show V m c main_v0 _ = _
  congr 1
  funext a
  apply Fin.ext
  have hi := idx2 t
  match a with
  | ⟨0, _⟩ => show win0_2.index t (0 : Fin 3) * 1 + 1 * 0 = 3; rw [hi.1]
  | ⟨1, _⟩ => show win0_2.index t (1 : Fin 3) * 2048 + 1 * k.val = k.val; rw [hi.2.1]; omega
  | ⟨2, _⟩ => show win0_2.index t (2 : Fin 3) * 2048 + 1 * n.val = n.val; rw [hi.2.2]; omega

theorem blk3 (t : Fin cfg0.N) (k : Fin 2048) :
    iblk m c 3 t (ix2 0 k) = m ((c : Thread nD τ).loc main_arg3) (ix1 k) := by
  unfold iblk
  rw [View.read_apply]
  trans (V m c main_v1 : S1x2048.Idx → EReal) (ix2 0 k)
  · show V m c main_v1 _ = _
    congr 1
    funext a
    apply Fin.ext
    have hi := idx3 t
    match a with
    | ⟨0, _⟩ => show win0_3.index t (0 : Fin 2) * 1 + 1 * 0 = 0; rw [hi.1]
    | ⟨1, _⟩ => show win0_3.index t (1 : Fin 2) * 2048 + 1 * k.val = k.val; rw [hi.2]; omega
  · rw [V_v1]
    pointwise []

theorem blk4 (t : Fin cfg0.N) (k : Fin 2048) (q : Fin 1024) :
    iblk m c 4 t (ix3 0 k q) = m ((c : Thread nD τ).loc main_arg4)
      (ix3 (n0 := 4) (n1 := 2048) (n2 := 8192) 3 k ⟨t.val % 8 * 1024 + q.val, by have := q.isLt; omega⟩) := by
  unfold iblk
  rw [View.read_apply]
  refine Eq.trans ?_ (congrFun (V_v2 c m) _)
  show V m c main_v2 _ = _
  congr 1
  funext a
  apply Fin.ext
  have hi := idx4 t
  match a with
  | ⟨0, _⟩ => show win0_4.index t (0 : Fin 3) * 1 + 1 * 0 = 3; rw [hi.1]
  | ⟨1, _⟩ => show win0_4.index t (1 : Fin 3) * 2048 + 1 * k.val = k.val; rw [hi.2.1]; omega
  | ⟨2, _⟩ => show win0_4.index t (2 : Fin 3) * 1024 + 1 * q.val = t.val % 8 * 1024 + q.val; rw [hi.2.2]; omega

theorem blk5 (t : Fin cfg0.N) (q : Fin 1024) (n : Fin 2048) :
    iblk m c 5 t (ix3 0 q n) = m ((c : Thread nD τ).loc main_arg5)
      (ix3 (n0 := 4) (n1 := 8192) (n2 := 2048) 3 ⟨t.val % 8 * 1024 + q.val, by have := q.isLt; omega⟩ n) := by
  unfold iblk
  rw [View.read_apply]
  refine Eq.trans ?_ (congrFun (V_v3 c m) _)
  show V m c main_v3 _ = _
  congr 1
  funext a
  apply Fin.ext
  have hi := idx5 t
  match a with
  | ⟨0, _⟩ => show win0_5.index t (0 : Fin 3) * 1 + 1 * 0 = 3; rw [hi.1]
  | ⟨1, _⟩ => show win0_5.index t (1 : Fin 3) * 1024 + 1 * q.val = t.val % 8 * 1024 + q.val; rw [hi.2.1]; omega
  | ⟨2, _⟩ => show win0_5.index t (2 : Fin 3) * 2048 + 1 * n.val = n.val; rw [hi.2.2]; omega

theorem V_v4 : (V m c main_v4 : S1x2048.Idx → EReal) = broadcastInDim S1x2048 ![1] bcast_S2048_S1x2048_1 (m ((c : Thread nD τ).loc main_arg6)) := by
  unfold V hostOps0
  after_results_simp

theorem idx6 : ∀ t : Fin grid0.N, win0_6.index t (0 : Fin 2) = 0 ∧ win0_6.index t (1 : Fin 2) = 0 := by decide +kernel

theorem blk6 (t : Fin cfg0.N) (k : Fin 2048) :
    iblk m c 6 t (ix2 0 k) = m ((c : Thread nD τ).loc main_arg6) (ix1 k) := by
  unfold iblk
  rw [View.read_apply]
  trans (V m c main_v4 : S1x2048.Idx → EReal) (ix2 0 k)
  · show V m c main_v4 _ = _
    congr 1
    funext a
    apply Fin.ext
    have hi := idx6 t
    match a with
    | ⟨0, _⟩ => show win0_6.index t (0 : Fin 2) * 1 + 1 * 0 = 0; rw [hi.1]
    | ⟨1, _⟩ => show win0_6.index t (1 : Fin 2) * 2048 + 1 * k.val = k.val; rw [hi.2]; omega
  · rw [V_v4]
    pointwise []

/-! ## The rows of the layer, from the arguments -/

/-- The residual row after the attention's output projection. -/
def x1 (i : Fin 16384) : Fin 2048 → EReal :=
  resid (fun n => m ((c : Thread nD τ).loc main_arg0) (ix2 i n)) (fun k => m ((c : Thread nD τ).loc main_arg1) (ix2 i k))
    (fun k n => m ((c : Thread nD τ).loc main_arg2) (ix3 (n0 := 4) (n1 := 2048) (n2 := 2048) 3 k n))
/-- That row normalised. -/
def xr (i : Fin 16384) : Fin 2048 → EReal :=
  nrm (x1 c m i) (fun k => m ((c : Thread nD τ).loc main_arg3) (ix1 k))
/-- The first matrix of the block. -/
def w1 (k : Fin 2048) (f : Fin 8192) : EReal := m ((c : Thread nD τ).loc main_arg4) (ix3 (n0 := 4) (n1 := 2048) (n2 := 8192) 3 k f)
/-- The second matrix of the block. -/
def w2 (f : Fin 8192) (n : Fin 2048) : EReal := m ((c : Thread nD τ).loc main_arg5) (ix3 (n0 := 4) (n1 := 8192) (n2 := 2048) 3 f n)

/-- The terms of the second product. -/
def term (i : Fin 16384) (n : Fin 2048) (f : Fin 8192) : EReal := act (xr c m i) (w1 c m) f * w2 c m f n

theorem pay1_blk (t : Fin cfg0.N) (r : Fin 512) (n : Fin 2048) :
    k0_pay1 (iblk m c 0 t) (iblk m c 1 t) (iblk m c 2 t) (ix2 r n) = x1 c m (row t r) n := by
  rw [pay1_apply]
  simp only [blk0, blk1, blk2]
  rfl

theorem xn_blk (t : Fin cfg0.N) (r : Fin 512) (n : Fin 2048) :
    xn (k0_pay1 (iblk m c 0 t) (iblk m c 1 t) (iblk m c 2 t)) (iblk m c 3 t) (ix2 r n) = xr c m (row t r) n := by
  show nrm (fun k => k0_pay1 (iblk m c 0 t) (iblk m c 1 t) (iblk m c 2 t) (ix2 r k)) (fun k => iblk m c 3 t (ix2 0 k)) n = _
  simp only [pay1_blk, blk3]
  rfl

theorem pay3_blk (t : Fin cfg0.N) (s : Vec Ideal S512x2048 .bf16) (acc : Vec Ideal S512x2048 .f32) (r : Fin 512) (n : Fin 2048)
    (hs : ∀ k, s (ix2 r k) = xr c m (row t r) k) :
    k0_pay3 s (iblk m c 4 t) acc (iblk m c 5 t) (ix2 r n) = acc (ix2 r n) + part (term c m (row t r) n) (t.val % 8) := by
  rw [pay3_apply]
  congr 1
  refine Eq.symm ((part_eq (Nat.mod_lt _ (by decide)) (xr c m (row t r)) (w1 c m) (w2 c m) n
    (fun k q => iblk m c 4 t (ix3 0 k q)) (fun q n => iblk m c 5 t (ix3 0 q n)) (fun k q => blk4 c m t k q) (fun q n => blk5 c m t q n)).trans ?_)
  simp only [hs]

/-- After point `t`, unless it is the last of its eight, the block of the result holds the residual rows plus the tiles of the product so far, and the
    scratch the normalised rows. -/
theorem inv (n : ℕ) : ∀ (hn : n < cfg0.N) (_ : ¬n % 8 = 7) (r : Fin 512),
    (∀ q, (outsAt0 m c n hn).1 (ix2 r q)
      = x1 c m (row ⟨n, hn⟩ r) q + ∑ s ∈ Finset.range (n % 8 + 1), part (term c m (row ⟨n, hn⟩ r) q) s)
    ∧ ∀ q, (outsAt0 m c n hn).2 (ix2 r q) = xr c m (row ⟨n, hn⟩ r) q := by
  induction n with
  | zero =>
    intro hn h7 r
    rw [outsAt0_A m c ⟨0, hn⟩ rfl h7, out_A, sout_A]
    refine ⟨fun q => ?_, fun q => xn_blk c m ⟨0, hn⟩ r q⟩
    dsimp only
    rw [pay3_blk c m ⟨0, hn⟩ _ _ r q (fun k => xn_blk c m ⟨0, hn⟩ r k), pay1_blk]
    simp
  | succ n ih =>
    intro hn h7 r
    by_cases h : (n + 1) % 8 = 0
    · rw [outsAt0_A m c ⟨n + 1, hn⟩ h h7, out_A, sout_A]
      refine ⟨fun q => ?_, fun q => xn_blk c m ⟨n + 1, hn⟩ r q⟩
      dsimp only
      rw [pay3_blk c m ⟨n + 1, hn⟩ _ _ r q (fun k => xn_blk c m ⟨n + 1, hn⟩ r k), pay1_blk]
      simp [h]
    · have hr : row ⟨n, Nat.lt_of_succ_lt hn⟩ r = row ⟨n + 1, hn⟩ r := Fin.ext (by
        show n / 8 * 512 + r.val = (n + 1) / 8 * 512 + r.val
        omega)
      have hm : (n + 1) % 8 = n % 8 + 1 := by omega
      obtain ⟨ih1, ih2⟩ := ih (Nat.lt_of_succ_lt hn) (by omega) r
      rw [hr] at ih1 ih2
      rw [outsAt0_B m c ⟨n + 1, hn⟩ h h7, out_B]
      refine ⟨fun q => ?_, ih2⟩
      refine (pay3_blk c m ⟨n + 1, hn⟩ _ _ r q ih2).trans ?_
      refine (congrArg (· + _) (ih1 q)).trans ?_
      show _ + part _ ((n + 1) % 8) = _
      rw [hm, Finset.sum_range_succ _ (n % 8 + 1), add_assoc]

/-- After the last of the eight points the block of the result holds the finished rows, normalised. -/
theorem inv_last (n : ℕ) (hn : n + 1 < cfg0.N) (h7 : (n + 1) % 8 = 7) (r : Fin 512) (q : Fin 2048) :
    (outsAt0 m c (n + 1) hn).1 (ix2 r q)
      = nrm (fun q => x1 c m (row ⟨n + 1, hn⟩ r) q + ∑ s ∈ Finset.range 8, part (term c m (row ⟨n + 1, hn⟩ r) q) s)
          (fun k => m ((c : Thread nD τ).loc main_arg6) (ix1 k)) q := by
  have hr : row ⟨n, Nat.lt_of_succ_lt hn⟩ r = row ⟨n + 1, hn⟩ r := Fin.ext (by
    show n / 8 * 512 + r.val = (n + 1) / 8 * 512 + r.val
    omega)
  have hm : n % 8 = 6 := by omega
  obtain ⟨ih1, ih2⟩ := inv c m n (Nat.lt_of_succ_lt hn) (by omega) r
  rw [hr] at ih1 ih2
  rw [outsAt0_C m c ⟨n + 1, hn⟩ (by show ¬(n + 1) % 8 = 0; omega) h7, out_C]
  show nrm (fun k => k0_pay3 (outsAt0 m c n _).2 (iblk m c 4 ⟨n + 1, hn⟩) (outsAt0 m c n _).1 (iblk m c 5 ⟨n + 1, hn⟩) (ix2 r k))
    (fun k => iblk m c 6 ⟨n + 1, hn⟩ (ix2 0 k)) q = _
  congr 1
  · funext k
    refine (pay3_blk c m ⟨n + 1, hn⟩ _ _ r k ih2).trans ?_
    refine (congrArg (· + _) (ih1 k)).trans ?_
    show _ + part _ ((n + 1) % 8) = _
    rw [h7, hm, Finset.sum_range_succ _ 7, add_assoc]
  · funext k
    exact blk6 c m _ k

/-- The result, row by row. -/
theorem G_apply (i : Fin 16384) (n : Fin 2048) :
    Value.G7 m c (ix2 i n) = nrm (resid (x1 c m i) (act (xr c m i) (w1 c m)) (w2 c m)) (fun k => m ((c : Thread nD τ).loc main_arg6) (ix1 k)) n := by
  have hp : Value.pt7Of (ix2 i n) < cfg0.N :=
    lt_of_lt_of_eq (by show 8 * (1 * (i.val / 512 - 0) + 1 * (n.val / 2048 - 0)) + 7 < 256; have := i.isLt; have := n.isLt; omega) N_0.symm
  unfold Value.G7
  rw [dif_pos hp, ← Value.outsAt0_sweep m c _ hp]
  have e := inv_last c m (8 * (1 * (i.val / 512 - 0) + 1 * (n.val / 2048 - 0)) + 6) hp (by omega) ⟨i.val % 512, Nat.mod_lt _ (by decide)⟩ n
  have hl : Value.loc7Of (ix2 i n) = ix2 (n0 := 512) (n1 := 2048) ⟨i.val % 512, Nat.mod_lt _ (by decide)⟩ n := by
    funext a
    apply Fin.ext
    match a with
    | ⟨0, _⟩ => rfl
    | ⟨1, _⟩ => exact Nat.mod_eq_of_lt n.isLt
  rw [hl]
  refine e.trans ?_
  have hr : row ⟨8 * (1 * (i.val / 512 - 0) + 1 * (n.val / 2048 - 0)) + 6 + 1, hp⟩ ⟨i.val % 512, Nat.mod_lt _ (by decide)⟩ = i := Fin.ext (by
    show (8 * (1 * (i.val / 512 - 0) + 1 * (n.val / 2048 - 0)) + 6 + 1) / 8 * 512 + i.val % 512 = i.val
    have := n.isLt; omega)
  rw [hr]
  simp only [sum_part]
  rfl

/-! ## The reference -/

open Cert.LastRefIdeal.Read in
theorem ref_x1 (a0 : Vec Ideal S16384x2048 .f32) (a1 : Vec Ideal S16384x2048 .bf16) (a2 : Vec Ideal S4x2048x2048 .f32) (i : Fin 16384) (n : Fin 2048) :
    val_main_v4 (F := Ideal) a0 a1 a2 (ix2 i n)
      = resid (fun n => a0 (ix2 i n)) (fun k => a1 (ix2 i k)) (fun k n => a2 (ix3 3 k n)) n := by
  pointwise [val_main_v4, val_main_v3, val_main_v0, val_main_v2, val_main_v1]
  rfl

open Cert.LastRefIdeal.Read in
theorem ref_xr (a0 : Vec Ideal S16384x2048 .f32) (a1 : Vec Ideal S16384x2048 .bf16) (a2 : Vec Ideal S4x2048x2048 .f32) (a3 : Vec Ideal S2048 .f32)
    (i : Fin 16384) (n : Fin 2048) :
    val_main_v17 (F := Ideal) a0 a1 a2 a3 (ix2 i n)
      = nrm (fun k => val_main_v4 (F := Ideal) a0 a1 a2 (ix2 i k)) (fun k => a3 (ix1 k)) n := by
  pointwise [val_main_v17, val_main_v16, val_main_v15, val_main_v14, val_main_v13, val_main_v12, val_main_v11, val_main_v10, val_main_v9,
    val_main_v8, val_main_v7, val_main_v6, val_main_v5, val_main_cst, val_main_cst_0, val_main_cst_1]
  rfl

open Cert.LastRefIdeal.Read in
theorem ref_out (a0 : Vec Ideal S16384x2048 .f32) (a1 : Vec Ideal S16384x2048 .bf16) (a2 : Vec Ideal S4x2048x2048 .f32) (a3 : Vec Ideal S2048 .f32)
    (a4 : Vec Ideal S4x2048x8192 .f32) (a5 : Vec Ideal S4x8192x2048 .f32) (i : Fin 16384) (n : Fin 2048) :
    val_main_v26 (F := Ideal) a0 a1 a2 a3 a4 a5 (ix2 i n)
      = resid (fun n => val_main_v4 (F := Ideal) a0 a1 a2 (ix2 i n))
          (act (fun k => val_main_v17 (F := Ideal) a0 a1 a2 a3 (ix2 i k)) (fun k f => a4 (ix3 3 k f))) (fun f n => a5 (ix3 3 f n)) n := by
  pointwise [val_main_v26, val_main_v25, val_main_v24, val_main_v23, val_main_v22, val_main_v21, val_main_call0_v0, val_main_call0_cst, val_main_v20,
    val_main_v19, val_main_v18]
  rfl

open Cert.LastRefIdeal.Read in
theorem ref_last (a0 : Vec Ideal S16384x2048 .f32) (a1 : Vec Ideal S16384x2048 .bf16) (a2 : Vec Ideal S4x2048x2048 .f32) (a3 : Vec Ideal S2048 .f32)
    (a4 : Vec Ideal S4x2048x8192 .f32) (a5 : Vec Ideal S4x8192x2048 .f32) (a6 : Vec Ideal S2048 .f32) (i : Fin 16384) (n : Fin 2048) :
    val_main_v39 (F := Ideal) a0 a1 a2 a3 a4 a5 a6 (ix2 i n)
      = nrm (fun k => val_main_v26 (F := Ideal) a0 a1 a2 a3 a4 a5 (ix2 i k)) (fun k => a6 (ix1 k)) n := by
  pointwise [val_main_v39, val_main_v38, val_main_v37, val_main_v36, val_main_v35, val_main_v34, val_main_v33, val_main_v32, val_main_v31,
    val_main_v30, val_main_v29, val_main_v28, val_main_v27, val_main_cst_2, val_main_cst_3, val_main_cst_4]
  rfl

/-- The two programs' results agree, at any memories that agree on the arguments. -/
theorem G_eq_ref (m' : (ℓ : Loc Cert.LastRefIdeal.nD Cert.LastRefIdeal.τ Cert.LastRefIdeal.sig) → Buf (Elt Ideal) ℓ)
    (h0 : m' ((c : Thread nD τ).loc Cert.LastRefIdeal.main_arg0) = m ((c : Thread nD τ).loc main_arg0))
    (h1 : m' ((c : Thread nD τ).loc Cert.LastRefIdeal.main_arg1) = m ((c : Thread nD τ).loc main_arg1))
    (h2 : m' ((c : Thread nD τ).loc Cert.LastRefIdeal.main_arg2) = m ((c : Thread nD τ).loc main_arg2))
    (h3 : m' ((c : Thread nD τ).loc Cert.LastRefIdeal.main_arg3) = m ((c : Thread nD τ).loc main_arg3))
    (h4 : m' ((c : Thread nD τ).loc Cert.LastRefIdeal.main_arg4) = m ((c : Thread nD τ).loc main_arg4))
    (h5 : m' ((c : Thread nD τ).loc Cert.LastRefIdeal.main_arg5) = m ((c : Thread nD τ).loc main_arg5))
    (h6 : m' ((c : Thread nD τ).loc Cert.LastRefIdeal.main_arg6) = m ((c : Thread nD τ).loc main_arg6)) :
    (Cert.LastRefIdeal.Value.res_main_v39 m' c : S16384x2048.Idx → EReal) = Value.G7 m c := by
  rw [Cert.LastRefIdeal.Read.val_main_v39_eq]
  funext j
  obtain ⟨i, n, rfl⟩ : ∃ (i : Fin 16384) (n : Fin 2048), j = ix2 i n := ⟨j 0, j 1, eq_ix2 j⟩
  rw [G_apply, ref_last]
  simp only [ref_out, ref_xr, ref_x1]
  erw [h0, h1, h2, h3, h4, h5, h6]
  rfl

end Cert.LastIdeal.Hand

end
end
-- ==== Proof.EvenInValue.lean ====
module
public import proofs.«01_k».proof.Proof.Gen.EvenInIdeal.Value
public import proofs.«01_k».proof.Proof.Gen.EvenInRefIdeal.Run
public import proofs.«01_k».proof.Proof.Gen.EvenInRefIdeal.Read
public import proofs.«01_k».proof.Proof.Rows
@[expose] public section
set_option maxRecDepth 16384
noncomputable section

/-! # The even layers' input projection computes the rows of its reference, in groups of 128 columns -/

/-! ## The reference -/

namespace Cert.EvenInRefIdeal.Hand
open Cert.EvenInRefIdeal Cert.EvenInRefIdeal.Gen Cert.EvenInRefIdeal.Read Cert.Rows Idealize.ShloMosaic Idealize.ShloMosaic.TcCoe Idealize.SL.Sem

/-- The column of the product that column `n` of group `g` is. -/
def col (g : Fin 40) (n : Fin 128) : Fin 5120 := ⟨g.val * 128 + n.val, by have := g.isLt; have := n.isLt; omega⟩

/-- A row normalised, times the weights. -/
def zrow (x g : Fin 2048 → EReal) (w : Fin 2048 → Fin 5120 → EReal) (q : Fin 5120) : EReal := ∑ k, nrm x g k * w k q

theorem ref_nrm (a0 : Vec Ideal S16384x2048 .f32) (a1 : Vec Ideal S2048 .f32) (r : Fin 16384) (n : Fin 2048) :
    val_main_v12 (F := Ideal) a0 a1 (ix2 r n) = nrm (fun k => a0 (ix2 r k)) (fun k => a1 (ix1 k)) n := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_w (a2 : Vec Ideal S2x2048x5120 .f32) (k : Fin 2048) (q : Fin 5120) : val_main_v14 (F := Ideal) a2 (ix2 k q) = a2 (ix3 0 k q) := by
  rw [val_main_v14_apply, val_main_v13_apply]
  refine congrArg a2 (funext fun a => Fin.ext ?_)
  have hk := k.isLt; have hn := q.isLt
  match a with
  | ⟨0, _⟩ => rfl
  | ⟨1, _⟩ => show (k.val * 5120 + q.val) / 5120 % 2048 = k.val; omega
  | ⟨2, _⟩ => show (k.val * 5120 + q.val) % 5120 = q.val; omega

theorem ref_dot (a0 : Vec Ideal S16384x2048 .f32) (a1 : Vec Ideal S2048 .f32) (a2 : Vec Ideal S2x2048x5120 .f32) (r : Fin 16384) (q : Fin 5120) :
    val_main_v15 (F := Ideal) a0 a1 a2 (ix2 r q) = zrow (fun k => a0 (ix2 r k)) (fun k => a1 (ix1 k)) (fun k q => a2 (ix3 0 k q)) q := by
  rw [val_main_v15_apply]
  refine Finset.sum_congr rfl fun k _ => congrArg₂ (· * ·) ?_ ?_
  · refine (congrArg (val_main_v12 (F := Ideal) a0 a1) (funext fun a => Fin.ext ?_)).trans (ref_nrm a0 a1 r k)
    match a with
    | ⟨0, _⟩ => rfl
    | ⟨1, _⟩ => rfl
  · refine (congrArg (val_main_v14 (F := Ideal) a2) (funext fun a => Fin.ext ?_)).trans (ref_w a2 k q)
    match a with
    | ⟨0, _⟩ => rfl
    | ⟨1, _⟩ => rfl

theorem ref_out (a0 : Vec Ideal S16384x2048 .f32) (a1 : Vec Ideal S2048 .f32) (a2 : Vec Ideal S2x2048x5120 .f32) (g : Fin 40) (r : Fin 16384) (n : Fin 128) :
    val_main_v18 (F := Ideal) a0 a1 a2 (ix3 g r n) = zrow (fun k => a0 (ix2 r k)) (fun k => a1 (ix1 k)) (fun k q => a2 (ix3 0 k q)) (col g n) := by
  rw [val_main_v18_apply]
  show val_main_v17 (F := Ideal) a0 a1 a2 (ix3 g r n) = _
  rw [val_main_v17_apply, val_main_v16_apply, ← ref_dot]
  refine congrArg (val_main_v15 (F := Ideal) a0 a1 a2) (funext fun a => Fin.ext ?_)
  have hg := g.isLt; have hn := n.isLt
  match a with
  | ⟨0, _⟩ => show ((r.val * 40 + g.val) * 128 + n.val) / 5120 = r.val; omega
  | ⟨1, _⟩ => show ((r.val * 40 + g.val) * 128 + n.val) % 5120 = g.val * 128 + n.val; omega

end Cert.EvenInRefIdeal.Hand

namespace Cert.EvenInIdeal.Hand
open Cert.EvenInIdeal Cert.EvenInIdeal.Gen Cert.EvenInRefIdeal.Hand Cert.Rows Idealize.ShloMosaic Idealize.ShloMosaic.TcCoe Idealize.SL.Sem
open Idealize.ShloMosaic.Pipeline (Dat)

/-! ## The payloads, by rows -/

theorem pay7_apply (g : Vec Ideal S1x2048 .f32) (x : Vec Ideal S256x2048 .f32) (r : Fin 256) (n : Fin 2048) :
    k0_pay7 g x (ix2 r n) = nrm (fun k => x (ix2 r k)) (fun k => g (ix2 0 k)) n := by
  pointwise [k0_pay7]
  rfl

theorem pay8_apply (s : Vec Ideal S1024x2048 .bf16) (w : Vec Ideal S1x2048x1280 .bf16) (r : Fin 1024) (q : Fin 1280) :
    k0_pay8 s w (ix2 r q) = ∑ k, s (ix2 r k) * w (ix3 0 k q) := by
  pointwise [k0_pay8]

theorem group0 (s : Vec Ideal S1024x2048 .bf16) (w : Vec Ideal S1x2048x1280 .bf16) (r : Fin 1024) (n : Fin 128) :
    k0_pay9 s w (ix3 0 r n) = k0_pay8 s w (ix2 r ⟨0 + n.val, by have := n.isLt; omega⟩) := by
  unfold k0_pay9; generalize k0_pay8 s w = z
  pointwise []
theorem group1 (s : Vec Ideal S1024x2048 .bf16) (w : Vec Ideal S1x2048x1280 .bf16) (r : Fin 1024) (n : Fin 128) :
    k0_pay10 s w (ix3 0 r n) = k0_pay8 s w (ix2 r ⟨128 + n.val, by have := n.isLt; omega⟩) := by
  unfold k0_pay10; generalize k0_pay8 s w = z
  pointwise []
theorem group2 (s : Vec Ideal S1024x2048 .bf16) (w : Vec Ideal S1x2048x1280 .bf16) (r : Fin 1024) (n : Fin 128) :
    k0_pay11 s w (ix3 0 r n) = k0_pay8 s w (ix2 r ⟨256 + n.val, by have := n.isLt; omega⟩) := by
  unfold k0_pay11; generalize k0_pay8 s w = z
  pointwise []
theorem group3 (s : Vec Ideal S1024x2048 .bf16) (w : Vec Ideal S1x2048x1280 .bf16) (r : Fin 1024) (n : Fin 128) :
    k0_pay12 s w (ix3 0 r n) = k0_pay8 s w (ix2 r ⟨384 + n.val, by have := n.isLt; omega⟩) := by
  unfold k0_pay12; generalize k0_pay8 s w = z
  pointwise []
theorem group4 (s : Vec Ideal S1024x2048 .bf16) (w : Vec Ideal S1x2048x1280 .bf16) (r : Fin 1024) (n : Fin 128) :
    k0_pay1 (k0_pay13 s w) (ix3 0 r n) = k0_pay8 s w (ix2 r ⟨512 + n.val, by have := n.isLt; omega⟩) := by
  unfold k0_pay13; generalize k0_pay8 s w = z
  pointwise [k0_pay1]
theorem group5 (s : Vec Ideal S1024x2048 .bf16) (w : Vec Ideal S1x2048x1280 .bf16) (r : Fin 1024) (n : Fin 128) :
    k0_pay2 (k0_pay8 s w) (ix3 0 r n) = k0_pay8 s w (ix2 r ⟨640 + n.val, by have := n.isLt; omega⟩) := by
  generalize k0_pay8 s w = z
  pointwise [k0_pay2]
theorem group6 (s : Vec Ideal S1024x2048 .bf16) (w : Vec Ideal S1x2048x1280 .bf16) (r : Fin 1024) (n : Fin 128) :
    k0_pay3 (k0_pay8 s w) (ix3 0 r n) = k0_pay8 s w (ix2 r ⟨768 + n.val, by have := n.isLt; omega⟩) := by
  generalize k0_pay8 s w = z
  pointwise [k0_pay3]
theorem group7 (s : Vec Ideal S1024x2048 .bf16) (w : Vec Ideal S1x2048x1280 .bf16) (r : Fin 1024) (n : Fin 128) :
    k0_pay4 (k0_pay8 s w) (ix3 0 r n) = k0_pay8 s w (ix2 r ⟨896 + n.val, by have := n.isLt; omega⟩) := by
  generalize k0_pay8 s w = z
  pointwise [k0_pay4]
theorem group8 (s : Vec Ideal S1024x2048 .bf16) (w : Vec Ideal S1x2048x1280 .bf16) (r : Fin 1024) (n : Fin 128) :
    k0_pay5 (k0_pay8 s w) (ix3 0 r n) = k0_pay8 s w (ix2 r ⟨1024 + n.val, by have := n.isLt; omega⟩) := by
  generalize k0_pay8 s w = z
  pointwise [k0_pay5]
theorem group9 (s : Vec Ideal S1024x2048 .bf16) (w : Vec Ideal S1x2048x1280 .bf16) (r : Fin 1024) (n : Fin 128) :
    k0_pay6 (k0_pay8 s w) (ix3 0 r n) = k0_pay8 s w (ix2 r ⟨1152 + n.val, by have := n.isLt; omega⟩) := by
  generalize k0_pay8 s w = z
  pointwise [k0_pay6]

/-! ## What the loop over the quarters of a block leaves in the scratch -/

/-- The rows of a block, each normalised. -/
def xn (P : Vec Ideal S1024x2048 .f32) (g : Vec Ideal S1x2048 .f32) : Vec Ideal S1024x2048 .bf16 :=
  fun y => nrm (fun k => P (ix2 (y 0) k)) (fun k => g (ix2 0 k)) (y 1)

theorem hz2 : (![0, 0] : Fin 2 → ℕ) = fun _ => 0 := funext fun a => by fin_cases a <;> rfl
theorem hz3 : (![0, 0, 0] : Fin 3 → ℕ) = fun _ => 0 := funext fun a => by fin_cases a <;> rfl

/-- Normalising some whole rows of a block gives those rows of the normalised block. -/
theorem pay7_rows (g : Vec Ideal S1x2048 .f32) (P : Vec Ideal S1024x2048 .f32) (off : Fin 2 → ℕ) (h1 : off 1 = 0)
    (inb : ∀ a, off a + ![256, 2048] a ≤ S1024x2048.size a) (x : S256x2048.Idx) :
    k0_pay7 g (fun j => P ((Rect.unit (s := S1024x2048) off ![256, 2048] inb).toLoadRect.idx j)) x
      = xn P g ((Rect.unit (s := S1024x2048) off ![256, 2048] inb).emb x) := by
  obtain ⟨r, n, rfl⟩ : ∃ (r : Fin 256) (n : Fin 2048), x = ix2 r n := ⟨x 0, x 1, eq_ix2 x⟩
  rw [pay7_apply]
  have e1 : ∀ n : Fin 2048, (((Rect.unit (s := S1024x2048) off ![256, 2048] inb).emb (ix2 r n)) 1 : Fin 2048) = n := fun n =>
    Fin.ext (by show off (1 : Fin 2) + 1 * n.val = n.val; omega)
  unfold xn
  rw [e1]
  congr 1
  funext q
  congr 1
  funext a
  match a with
  | ⟨0, _⟩ => rfl
  | ⟨1, _⟩ => exact e1 q

/-- A block of the result from the scratch and the weights' block: ten groups of columns. -/
def zblk (s : Vec Ideal S1024x2048 .bf16) (w : Vec Ideal S1x2048x1280 .bf16) : Vec Ideal S10x1024x128 .bf16 :=
  fun y => k0_pay8 s w (ix2 (y 1) ⟨(y 0).val * 128 + (y 2).val, by
    have h0 : (y 0).val < 10 := (y 0).isLt
    have h2 : (y 2).val < 128 := (y 2).isLt
    omega⟩)

theorem piece (s : Vec Ideal S1024x2048 .bf16) (w : Vec Ideal S1x2048x1280 .bf16) (p : Vec Ideal S1x1024x128 .bf16) (g : ℕ) (hg : g < 10)
    (inb : ∀ a, ![g, 0, 0] a + S1x1024x128.size a ≤ S10x1024x128.size a)
    (hp : ∀ (r : Fin 1024) (n : Fin 128), p (ix3 0 r n) = k0_pay8 s w (ix2 r ⟨g * 128 + n.val, by have := n.isLt; omega⟩)) (x : S1x1024x128.Idx) :
    p x = zblk s w ((Rect.unit (s := S10x1024x128) ![g, 0, 0] S1x1024x128.size inb).emb x) := by
  obtain ⟨z, r, n, rfl⟩ : ∃ (z : Fin 1) (r : Fin 1024) (n : Fin 128), x = ix3 z r n := ⟨x 0, x 1, x 2, eq_ix3 x⟩
  obtain rfl := Subsingleton.elim z 0
  rw [hp]
  unfold zblk
  refine congrArg (k0_pay8 s w) (funext fun a => Fin.ext ?_)
  match a with
  | ⟨0, _⟩ => show r.val = 0 + 1 * r.val; omega
  | ⟨1, _⟩ => show g * 128 + n.val = (g + 1 * 0) * 128 + (0 + 1 * n.val); omega

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x1280 .bf16) (harg4 : arg4.IsWhole) (arg5 : Memref sig .tc .vmem S10x1024x128 .bf16) (harg5 : arg5.IsWhole) (arg6 : Memref sig .tc .vmem S1024x2048 .bf16) (harg6 : arg6.IsWhole)

theorem trip_pieces (k0_h1 : k0_cond1 i = 1#1) (g : Vec Ideal S1x2048 .f32) (X : BufTy.Contents (Elt Ideal) arg2.view.ty)
    (P : Vec Ideal S1024x2048 .f32)
    (hX : ∀ B : LoadRect S1024x2048, arg2.view.readAt (Elt Ideal) B X = fun j => P (B.idx j))
    (k : Fin k0_t1_loop.trips) :
    ∀ p ∈ tripL_k0_t1 (F := Ideal) Variants.none c none i arg2 harg2 arg3 harg3 arg4 harg4 arg5 harg5 arg6 harg6 k0_h1 g X k,
      ∀ x : p.1.shape.Idx, p.2 x = xn P g (p.1.emb x) := by
  unfold tripL_k0_t1 trip_k0_t1
  dsimp only
  intro p hp
  rw [List.mem_singleton] at hp
  subst hp
  intro x
  rw [hX]
  exact pay7_rows g P (k0_off1 k) (congrFun (k0_off1_eq k) 1) _ x

theorem pb_pieces (k0_h1 : k0_cond1 i = 1#1) (g : Vec Ideal S1x2048 .f32) (X : BufTy.Contents (Elt Ideal) arg2.view.ty)
    (P : Vec Ideal S1024x2048 .f32)
    (hX : ∀ B : LoadRect S1024x2048, arg2.view.readAt (Elt Ideal) B X = fun j => P (B.idx j)) :
    ∀ n, n ≤ k0_t1_loop.trips →
    ∀ p ∈ pb_k0_t1 (F := Ideal) Variants.none c none i arg2 harg2 arg3 harg3 arg4 harg4 arg5 harg5 arg6 harg6 k0_h1 g X n,
      ∀ x : p.1.shape.Idx, p.2 x = xn P g (p.1.emb x)
  | 0, _ => fun p hp => absurd hp (by rw [pb_k0_t1]; exact List.not_mem_nil)
  | n + 1, hn => fun p hp => by
    have e := pb_k0_t1_succ (F := Ideal) Variants.none c none i arg2 harg2 arg3 harg3 arg4 harg4 arg5 harg5 arg6 harg6 k0_h1 g X ⟨n, hn⟩
    dsimp only at e
    rw [e] at hp
    rcases List.mem_append.mp hp with h | h
    · exact trip_pieces c i arg2 harg2 arg3 harg3 arg4 harg4 arg5 harg5 arg6 harg6 k0_h1 g X P hX _ p h
    · exact pb_pieces k0_h1 g X P hX n (Nat.le_of_succ_le hn) p h

/-! ## What a point leaves in the block of the result and in the scratch -/

theorem sout_A (hc0 : k0_cond1 i = 1#1) (x0 : Vec Ideal S1024x2048 .f32) (x1 : Vec Ideal S1x2048 .f32) (x2 : Vec Ideal S1x2048x1280 .bf16) :
    sout0_A_0 (F := Ideal) c i arg2 harg2 arg3 harg3 arg4 harg4 arg5 harg5 arg6 harg6 hc0 x0 x1 x2 = xn x0 x1 := by
  have hc := scover0_A_0 (F := Ideal) c i arg2 harg2 arg3 harg3 arg4 harg4 arg5 harg5 arg6 harg6 hc0 x0 x1 x2
  unfold sout0_A_0
  rw [View.read_writes_eq_canon _ _ _ hc]
  revert hc
  unfold kernelRun0_A
  dsimp only
  sl_unfold_words
  intro hc
  funext y
  refine View.canon_apply_of_pieces _ _ ?_ y (hc y)
  simp only [View.readAt_eq_ld, harg3.read_unread, View.ld_unit_zero (S := S1x2048) hz2]
  refine pb_pieces c i arg2 harg2 arg3 harg3 arg4 harg4 arg5 harg5 arg6 harg6 hc0 x1 _ _ ?_ _ (le_refl _)
  intro B
  exact congrArg (fun X j => X (B.idx j)) (harg2.read_unread x0)

theorem out_A (hc0 : k0_cond1 i = 1#1) (x0 : Vec Ideal S1024x2048 .f32) (x1 : Vec Ideal S1x2048 .f32) (x2 : Vec Ideal S1x2048x1280 .bf16) :
    out0_A_3 (F := Ideal) c i arg2 harg2 arg3 harg3 arg4 harg4 arg5 harg5 arg6 harg6 hc0 x0 x1 x2 = zblk (xn x0 x1) x2 := by
  have key := sout_A c i arg2 harg2 arg3 harg3 arg4 harg4 arg5 harg5 arg6 harg6 hc0 x0 x1 x2
  unfold sout0_A_0 at key
  rw [View.read_writes_eq_canon _ _ _ (scover0_A_0 (F := Ideal) c i arg2 harg2 arg3 harg3 arg4 harg4 arg5 harg5 arg6 harg6 hc0 x0 x1 x2)] at key
  have hc := cover0_A_3 (F := Ideal) c i arg2 harg2 arg3 harg3 arg4 harg4 arg5 harg5 arg6 harg6 hc0 x0 x1 x2
  unfold out0_A_3
  rw [View.read_writes_eq_canon _ _ _ hc]
  revert key hc
  unfold kernelRun0_A
  dsimp only
  sl_unfold_words
  intro key hc
  set_option backward.isDefEq.respectTransparency false in
  rw [View.readCov_eq_canon', key] at hc ⊢
  simp only [View.readAt_eq_ld, harg2.read_unread, harg3.read_unread, harg4.read_unread, View.ld_unit_zero (S := S1x2048x1280) hz3] at hc ⊢
  have e := View.ld_unit_zero (S := S1024x2048) hz2 (by decide) (xn x0 x1)
  funext y
  refine View.canon_apply_of_pieces _ _ ?_ y (hc y)
  refine List.forall_mem_cons.2 ⟨fun x => (piece _ x2 _ 9 (by decide) inb_S10x1024x128_S1x1024x128_9_0_0 (group9 _ x2) x).trans (congrFun (congrArg (fun s => zblk s x2) e) _), ?_⟩
  refine List.forall_mem_cons.2 ⟨fun x => (piece _ x2 _ 8 (by decide) inb_S10x1024x128_S1x1024x128_8_0_0 (group8 _ x2) x).trans (congrFun (congrArg (fun s => zblk s x2) e) _), ?_⟩
  refine List.forall_mem_cons.2 ⟨fun x => (piece _ x2 _ 7 (by decide) inb_S10x1024x128_S1x1024x128_7_0_0 (group7 _ x2) x).trans (congrFun (congrArg (fun s => zblk s x2) e) _), ?_⟩
  refine List.forall_mem_cons.2 ⟨fun x => (piece _ x2 _ 6 (by decide) inb_S10x1024x128_S1x1024x128_6_0_0 (group6 _ x2) x).trans (congrFun (congrArg (fun s => zblk s x2) e) _), ?_⟩
  refine List.forall_mem_cons.2 ⟨fun x => (piece _ x2 _ 5 (by decide) inb_S10x1024x128_S1x1024x128_5_0_0 (group5 _ x2) x).trans (congrFun (congrArg (fun s => zblk s x2) e) _), ?_⟩
  refine List.forall_mem_cons.2 ⟨fun x => (piece _ x2 _ 4 (by decide) inb_S10x1024x128_S1x1024x128_4_0_0 (group4 _ x2) x).trans (congrFun (congrArg (fun s => zblk s x2) e) _), ?_⟩
  refine List.forall_mem_cons.2 ⟨fun x => (piece _ x2 _ 3 (by decide) inb_S10x1024x128_S1x1024x128_3_0_0 (group3 _ x2) x).trans (congrFun (congrArg (fun s => zblk s x2) e) _), ?_⟩
  refine List.forall_mem_cons.2 ⟨fun x => (piece _ x2 _ 2 (by decide) inb_S10x1024x128_S1x1024x128_2_0_0 (group2 _ x2) x).trans (congrFun (congrArg (fun s => zblk s x2) e) _), ?_⟩
  refine List.forall_mem_cons.2 ⟨fun x => (piece _ x2 _ 1 (by decide) inb_S10x1024x128_S1x1024x128_1_0_0 (group1 _ x2) x).trans (congrFun (congrArg (fun s => zblk s x2) e) _), ?_⟩
  refine List.forall_mem_cons.2 ⟨fun x => (piece _ x2 _ 0 (by decide) inb_S10x1024x128_S1x1024x128_0_0_0 (group0 _ x2) x).trans (congrFun (congrArg (fun s => zblk s x2) e) _), ?_⟩
  exact fun p hp => absurd hp List.not_mem_nil

theorem out_B (hc0 : ¬k0_cond1 i = 1#1) (x0 : Vec Ideal S1024x2048 .f32) (x1 : Vec Ideal S1x2048 .f32) (x2 : Vec Ideal S1x2048x1280 .bf16)
    (xs : Vec Ideal S1024x2048 .bf16) :
    out0_B_3 (F := Ideal) c i arg2 harg2 arg3 harg3 arg4 harg4 arg5 harg5 arg6 harg6 hc0 x0 x1 x2 xs = zblk xs x2 := by
  have hc := cover0_B_3 (F := Ideal) c i arg2 harg2 arg3 harg3 arg4 harg4 arg5 harg5 arg6 harg6 hc0 x0 x1 x2 xs
  unfold out0_B_3
  rw [View.read_writes_eq_canon _ _ _ hc]
  revert hc
  unfold kernelRun0_B
  dsimp only
  sl_unfold_words
  intro hc
  simp only [View.readAt_eq_ld, harg6.read_unread, harg4.read_unread, View.ld_unit_zero (S := S1024x2048) hz2, View.ld_unit_zero (S := S1x2048x1280) hz3] at hc ⊢
  funext y
  refine View.canon_apply_of_pieces _ _ ?_ y (hc y)
  refine List.forall_mem_cons.2 ⟨piece xs x2 _ 9 (by decide) inb_S10x1024x128_S1x1024x128_9_0_0 (group9 xs x2), ?_⟩
  refine List.forall_mem_cons.2 ⟨piece xs x2 _ 8 (by decide) inb_S10x1024x128_S1x1024x128_8_0_0 (group8 xs x2), ?_⟩
  refine List.forall_mem_cons.2 ⟨piece xs x2 _ 7 (by decide) inb_S10x1024x128_S1x1024x128_7_0_0 (group7 xs x2), ?_⟩
  refine List.forall_mem_cons.2 ⟨piece xs x2 _ 6 (by decide) inb_S10x1024x128_S1x1024x128_6_0_0 (group6 xs x2), ?_⟩
  refine List.forall_mem_cons.2 ⟨piece xs x2 _ 5 (by decide) inb_S10x1024x128_S1x1024x128_5_0_0 (group5 xs x2), ?_⟩
  refine List.forall_mem_cons.2 ⟨piece xs x2 _ 4 (by decide) inb_S10x1024x128_S1x1024x128_4_0_0 (group4 xs x2), ?_⟩
  refine List.forall_mem_cons.2 ⟨piece xs x2 _ 3 (by decide) inb_S10x1024x128_S1x1024x128_3_0_0 (group3 xs x2), ?_⟩
  refine List.forall_mem_cons.2 ⟨piece xs x2 _ 2 (by decide) inb_S10x1024x128_S1x1024x128_2_0_0 (group2 xs x2), ?_⟩
  refine List.forall_mem_cons.2 ⟨piece xs x2 _ 1 (by decide) inb_S10x1024x128_S1x1024x128_1_0_0 (group1 xs x2), ?_⟩
  refine List.forall_mem_cons.2 ⟨piece xs x2 _ 0 (by decide) inb_S10x1024x128_S1x1024x128_0_0_0 (group0 xs x2), ?_⟩
  exact fun p hp => absurd hp List.not_mem_nil

/-! ## The blocks the windows read -/

variable (m : (ℓ : Loc nD τ sig) → Buf (Elt Ideal) ℓ)

theorem V_g : (V m c main_v0 : S1x2048.Idx → EReal) = broadcastInDim S1x2048 ![1] bcast_S2048_S1x2048_1 (m ((c : Thread nD τ).loc main_arg1)) := by
  unfold V hostOps0
  after_results_simp
theorem V_w : (V m c main_v1 : S2x2048x5120.Idx → EReal) = m ((c : Thread nD τ).loc main_arg2) := by
  unfold V hostOps0
  after_results_simp
  rfl

/-- The row of the whole array that row `r` of point `t`'s block is. -/
def row (t : Fin cfg0.N) (r : Fin 1024) : Fin 16384 :=
  ⟨t.val / 4 * 1024 + r.val, by have := lt_of_lt_of_eq t.isLt N_0; have := r.isLt; omega⟩
/-- The column of the product that column `q` of point `t`'s block of the weights is. -/
def wcol (t : Fin cfg0.N) (q : Fin 1280) : Fin 5120 :=
  ⟨t.val % 4 * 1280 + q.val, by have := q.isLt; omega⟩

theorem idx0 : ∀ t : Fin grid0.N, win0_0.index t (0 : Fin 2) = t.val / 4 ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 3) = 0 ∧ win0_2.index t (1 : Fin 3) = 0 ∧ win0_2.index t (2 : Fin 3) = t.val % 4 := by decide +kernel
theorem idx3 : ∀ t : Fin grid0.N, win0_3.index t (0 : Fin 3) = t.val % 4 ∧ win0_3.index t (1 : Fin 3) = t.val / 4 ∧ win0_3.index t (2 : Fin 3) = 0 := by decide +kernel

theorem blk0 (t : Fin cfg0.N) (r : Fin 1024) (n : Fin 2048) :
    iblk m c 0 t (ix2 r n) = m ((c : Thread nD τ).loc main_arg0) (ix2 (row t r) n) := by
  unfold iblk
  rw [View.read_apply]
  show V m c main_arg0 _ = _
  rw [V_main_arg0]
  congr 1
  funext a
  apply Fin.ext
  have hi := idx0 t
  match a with
  | ⟨0, _⟩ => show win0_0.index t (0 : Fin 2) * 1024 + 1 * r.val = t.val / 4 * 1024 + r.val; rw [hi.1]; omega
  | ⟨1, _⟩ => show win0_0.index t (1 : Fin 2) * 2048 + 1 * n.val = n.val; rw [hi.2]; omega

theorem blk1 (t : Fin cfg0.N) (k : Fin 2048) :
    iblk m c 1 t (ix2 0 k) = m ((c : Thread nD τ).loc main_arg1) (ix1 k) := by
  unfold iblk
  rw [View.read_apply]
  trans (V m c main_v0 : S1x2048.Idx → EReal) (ix2 0 k)
  · show V m c main_v0 _ = _
    congr 1
    funext a
    apply Fin.ext
    have hi := idx1 t
    match a with
    | ⟨0, _⟩ => show win0_1.index t (0 : Fin 2) * 1 + 1 * 0 = 0; rw [hi.1]
    | ⟨1, _⟩ => show win0_1.index t (1 : Fin 2) * 2048 + 1 * k.val = k.val; rw [hi.2]; omega
  · rw [V_g]
    pointwise []

theorem blk2 (t : Fin cfg0.N) (k : Fin 2048) (q : Fin 1280) :
    iblk m c 2 t (ix3 0 k q) = m ((c : Thread nD τ).loc main_arg2) (ix3 (n0 := 2) (n1 := 2048) (n2 := 5120) 0 k (wcol t q)) := by
  unfold iblk
  rw [View.read_apply]
  refine Eq.trans ?_ (congrFun (V_w c m) _)
  show V m c main_v1 _ = _
  congr 1
  funext a
  apply Fin.ext
  have hi := idx2 t
  match a with
  | ⟨0, _⟩ => show win0_2.index t (0 : Fin 3) * 1 + 1 * 0 = 0; rw [hi.1]
  | ⟨1, _⟩ => show win0_2.index t (1 : Fin 3) * 2048 + 1 * k.val = k.val; rw [hi.2.1]; omega
  | ⟨2, _⟩ => show win0_2.index t (2 : Fin 3) * 1280 + 1 * q.val = t.val % 4 * 1280 + q.val; rw [hi.2.2]; omega

/-! ## The result, from the arguments -/

/-- The row `i` of the input. -/
def xr (i : Fin 16384) (k : Fin 2048) : EReal := m ((c : Thread nD τ).loc main_arg0) (ix2 i k)
/-- The weights of the norm. -/
def gr (k : Fin 2048) : EReal := m ((c : Thread nD τ).loc main_arg1) (ix1 k)
/-- The layer's matrix. -/
def wr (k : Fin 2048) (q : Fin 5120) : EReal := m ((c : Thread nD τ).loc main_arg2) (ix3 (n0 := 2) (n1 := 2048) (n2 := 5120) 0 k q)

theorem xn_blk (t : Fin cfg0.N) (r : Fin 1024) (n : Fin 2048) :
    xn (iblk m c 0 t) (iblk m c 1 t) (ix2 r n) = nrm (xr c m (row t r)) (gr c m) n := by
  show nrm (fun k => iblk m c 0 t (ix2 r k)) (fun k => iblk m c 1 t (ix2 0 k)) n = _
  simp only [blk0, blk1]
  rfl

/-- The result. -/
def G : S40x16384x128.Idx → EReal := fun j => zrow (xr c m (j 1)) (gr c m) (wr c m) (col (j 0) (j 2))

theorem zblk_eq (t : Fin cfg0.N) (s : Vec Ideal S1024x2048 .bf16) (hs : ∀ r k, s (ix2 r k) = nrm (xr c m (row t r)) (gr c m) k)
    (g : Fin 10) (r : Fin 1024) (n : Fin 128) :
    zblk s (iblk m c 2 t) (ix3 g r n)
      = zrow (xr c m (row t r)) (gr c m) (wr c m) (wcol t ⟨g.val * 128 + n.val, by have := g.isLt; have := n.isLt; omega⟩) := by
  show k0_pay8 s (iblk m c 2 t) (ix2 r ⟨g.val * 128 + n.val, _⟩) = _
  rw [pay8_apply]
  refine Finset.sum_congr rfl fun k _ => congrArg₂ (· * ·) (hs r k) (blk2 c m t k _)

/-- After point `t` the scratch holds the normalised rows and the block of the result their products. -/
theorem inv (n : ℕ) : ∀ (hn : n < cfg0.N),
    (outsAt0 m c n hn).1 = zblk (outsAt0 m c n hn).2 (iblk m c 2 ⟨n, hn⟩)
    ∧ ∀ r q, (outsAt0 m c n hn).2 (ix2 r q) = nrm (xr c m (row ⟨n, hn⟩ r)) (gr c m) q := by
  induction n with
  | zero =>
    intro hn
    rw [outsAt0_A m c ⟨0, hn⟩ rfl, out_A, sout_A]
    exact ⟨rfl, fun r q => xn_blk c m ⟨0, hn⟩ r q⟩
  | succ n ih =>
    intro hn
    by_cases h : (n + 1) % 4 = 0
    · rw [outsAt0_A m c ⟨n + 1, hn⟩ h, out_A, sout_A]
      exact ⟨rfl, fun r q => xn_blk c m ⟨n + 1, hn⟩ r q⟩
    · have hr : ∀ r, row ⟨n, Nat.lt_of_succ_lt hn⟩ r = row ⟨n + 1, hn⟩ r := fun r => Fin.ext (by
        show n / 4 * 1024 + r.val = (n + 1) / 4 * 1024 + r.val
        omega)
      obtain ⟨_, ih2⟩ := ih (Nat.lt_of_succ_lt hn)
      rw [outsAt0_B m c ⟨n + 1, hn⟩ h, out_B]
      exact ⟨rfl, fun r q => (ih2 r q).trans (by rw [hr])⟩

theorem flushed_eq (t : Fin cfg0.N) : (dats m 0 c).flushed 3 t = ((cfg0.win 3).blk t).view.read (Elt Ideal) (G c m) := by
  rw [Value.flushed3]
  funext y
  obtain ⟨g, r, n, rfl⟩ : ∃ (g : Fin 10) (r : Fin 1024) (n : Fin 128), y = ix3 g r n := ⟨y 0, y 1, y 2, eq_ix3 y⟩
  have e := inv c m t.val t.isLt
  refine Eq.trans (b := (outsAt0 m c t.val t.isLt).1 (ix3 g r n)) ?_ ?_
  · show (outsAt0 m c t.val t.isLt).1 _ = _
    congr 1
  · rw [e.1, zblk_eq c m t _ e.2]
    show _ = G c m (((cfg0.win 3).blk t).view.emb (ix3 g r n))
    have hi := idx3 t
    have e0 : ((((cfg0.win 3).blk t).view.emb (ix3 g r n)) 0 : Fin 40).val = t.val % 4 * 10 + g.val := by
      show win0_3.index t (0 : Fin 3) * 10 + 1 * g.val = _; rw [hi.1]; omega
    have e1 : ((((cfg0.win 3).blk t).view.emb (ix3 g r n)) 1 : Fin 16384) = row t r := Fin.ext (by
      show win0_3.index t (1 : Fin 3) * 1024 + 1 * r.val = t.val / 4 * 1024 + r.val; rw [hi.2.1]; omega)
    have e2 : ((((cfg0.win 3).blk t).view.emb (ix3 g r n)) 2 : Fin 128).val = n.val := by
      show win0_3.index t (2 : Fin 3) * 128 + 1 * n.val = _; rw [hi.2.2]; omega
    unfold G
    rw [e1]
    refine congrArg (zrow _ _ _) (Fin.ext ?_)
    show t.val % 4 * 1280 + (g.val * 128 + n.val) = ((((cfg0.win 3).blk t).view.emb (ix3 g r n)) 0 : Fin 40).val * 128 + ((((cfg0.win 3).blk t).view.emb (ix3 g r n)) 2 : Fin 128).val
    rw [e0, e2]
    omega

theorem mem_blk (t : Fin cfg0.N) (i : S40x16384x128.Idx) :
    i ∈ ((cfg0.win 3).blk t).view.set ↔ ∀ a : Fin 3, win0_3.index t a * S10x1024x128.size a ≤ (i a).val ∧ (i a).val < win0_3.index t a * S10x1024x128.size a + S10x1024x128.size a := by
  show i ∈ ((View.whole main_v2).slice (win0_3.rect t)).set ↔ _
  rw [View.set_slice_whole, Rect.mem_set_unit]
  exact Iff.rfl

/-- The blocks written back tile the result, so the array holds it. -/
theorem final : (dats m 0 c).arrAt 3 cfg0.N = G c m :=
  (dats m 0 c).arrAt_eq_of_cover 3 _ (fun t _ => flushed_eq c m t) fun i => by
    have h0 : (i 0).val < 40 := (i 0).isLt
    have h1 : (i 1).val < 16384 := (i 1).isLt
    have h2 : (i 2).val < 128 := (i 2).isLt
    obtain ⟨t, ht⟩ : ∃ t : Fin cfg0.N, t.val = (i 1).val / 1024 * 4 + (i 0).val / 10 := ⟨⟨(i 1).val / 1024 * 4 + (i 0).val / 10, lt_of_lt_of_eq (by omega) N_0.symm⟩, rfl⟩
    refine ⟨t, flush0_3 _, ?_⟩
    rw [mem_blk]
    have hi := idx3 t
    intro a
    match a with
    | ⟨0, _⟩ => show win0_3.index t (0 : Fin 3) * 10 ≤ (i 0).val ∧ (i 0).val < win0_3.index t (0 : Fin 3) * 10 + 10; rw [hi.1]; omega
    | ⟨1, _⟩ => show win0_3.index t (1 : Fin 3) * 1024 ≤ (i 1).val ∧ (i 1).val < win0_3.index t (1 : Fin 3) * 1024 + 1024; rw [hi.2.1]; omega
    | ⟨2, _⟩ => show win0_3.index t (2 : Fin 3) * 128 ≤ (i 2).val ∧ (i 2).val < win0_3.index t (2 : Fin 3) * 128 + 128; rw [hi.2.2]; omega

/-- The two programs' results agree, at any memories that agree on the arguments. -/
theorem G_eq_ref (m' : (ℓ : Loc Cert.EvenInRefIdeal.nD Cert.EvenInRefIdeal.τ Cert.EvenInRefIdeal.sig) → Buf (Elt Ideal) ℓ)
    (h0 : m' ((c : Thread nD τ).loc Cert.EvenInRefIdeal.main_arg0) = m ((c : Thread nD τ).loc main_arg0))
    (h1 : m' ((c : Thread nD τ).loc Cert.EvenInRefIdeal.main_arg1) = m ((c : Thread nD τ).loc main_arg1))
    (h2 : m' ((c : Thread nD τ).loc Cert.EvenInRefIdeal.main_arg2) = m ((c : Thread nD τ).loc main_arg2)) :
    (Cert.EvenInRefIdeal.Read.val_main_v18 (F := Ideal) (m' ((c : Thread nD τ).loc Cert.EvenInRefIdeal.main_arg0)) (m' ((c : Thread nD τ).loc Cert.EvenInRefIdeal.main_arg1)) (m' ((c : Thread nD τ).loc Cert.EvenInRefIdeal.main_arg2)) : S40x16384x128.Idx → EReal) = G c m := by
  funext j
  obtain ⟨g, r, n, rfl⟩ : ∃ (g : Fin 40) (r : Fin 16384) (n : Fin 128), j = ix3 g r n := ⟨j 0, j 1, j 2, eq_ix3 j⟩
  rw [Cert.EvenInRefIdeal.Hand.ref_out]
  erw [h0, h1, h2]
  rfl

end Cert.EvenInIdeal.Hand

end
-- ==== Proof.EvenOutValue.lean ====
module
public import proofs.«01_k».proof.Proof.Gen.EvenOutIdeal.Value
public import proofs.«01_k».proof.Proof.Gen.EvenOutRefIdeal.Run
public import proofs.«01_k».proof.Proof.Gen.EvenOutRefIdeal.Read
public import proofs.«01_k».proof.Proof.Rows
@[expose] public section
set_option maxRecDepth 16384
noncomputable section

/-! # The even layers' output projection computes the rows of its reference -/

/-! ## The reference -/

namespace Cert.EvenOutRefIdeal.Hand
open Cert.EvenOutRefIdeal Cert.EvenOutRefIdeal.Gen Cert.EvenOutRefIdeal.Read Cert.Rows Idealize.ShloMosaic Idealize.ShloMosaic.TcCoe Idealize.SL.Sem

/-- A row of the upper half of the weights. -/
def lo (k : Fin 1024) : Fin 2048 := ⟨k.val, by have := k.isLt; omega⟩
/-- A row of the lower half of the weights. -/
def hi (k : Fin 1024) : Fin 2048 := ⟨1024 + k.val, by have := k.isLt; omega⟩
theorem ref4 (a2 : Vec Ideal S2x2048x2048 .f32) (k n : Fin 2048) : val_main_v4 (F := Ideal) a2 (ix2 k n) = a2 (ix3 0 k n) := by
  rw [val_main_v4_apply, val_main_v3_apply]
  refine congrArg a2 (funext fun a => Fin.ext ?_)
  have hk := k.isLt; have hn := n.isLt
  match a with
  | ⟨0, _⟩ => rfl
  | ⟨1, _⟩ => show (k.val * 2048 + n.val) / 2048 % 2048 = k.val; omega
  | ⟨2, _⟩ => show (k.val * 2048 + n.val) % 2048 = n.val; omega

/-- The two mixers' outputs beside each other. -/
theorem ref2 (a0 a1 : Vec Ideal S16384x1024 .bf16) (r : Fin 16384) (k : Fin 2048) : val_main_v2 (F := Ideal) a0 a1 (ix2 r k)
    = if h : k.val < 1024 then a0 (ix2 r ⟨k.val, h⟩) else a1 (ix2 r ⟨k.val - 1024, by have := k.isLt; omega⟩) := by
  pointwise [val_main_v2, val_main_v1, val_main_v0]

theorem ref_out (a0 a1 : Vec Ideal S16384x1024 .bf16) (a2 : Vec Ideal S2x2048x2048 .f32) (a3 : Vec Ideal S16384x2048 .f32) (r : Fin 16384) (n : Fin 2048) :
    val_main_v6 (F := Ideal) a0 a1 a2 a3 (ix2 r n)
      = resid (resid (fun n => a3 (ix2 r n)) (fun k => a0 (ix2 r k)) (fun k n => a2 (ix3 0 (lo k) n))) (fun k => a1 (ix2 r k)) (fun k n => a2 (ix3 0 (hi k) n)) n := by
  have e : val_main_v5 (F := Ideal) a0 a1 a2 (ix2 r n) = ∑ k : Fin 2048, val_main_v2 (F := Ideal) a0 a1 (ix2 r k) * a2 (ix3 0 k n) := by
    rw [val_main_v5_apply]
    refine Finset.sum_congr rfl fun k _ => congrArg₂ (· * ·) (congrArg (val_main_v2 (F := Ideal) a0 a1) (funext fun a => Fin.ext ?_)) ?_
    · match a with
      | ⟨0, _⟩ => rfl
      | ⟨1, _⟩ => rfl
    · refine (congrArg (val_main_v4 (F := Ideal) a2) (funext fun a => Fin.ext ?_)).trans (ref4 a2 k n)
      match a with
      | ⟨0, _⟩ => rfl
      | ⟨1, _⟩ => rfl
  rw [val_main_v6_apply, e, Fin.sum_univ_add (a := 1024) (b := 1024) (fun k : Fin 2048 => val_main_v2 (F := Ideal) a0 a1 (ix2 r k) * a2 (ix3 0 k n))]
  refine (add_assoc _ _ _).symm.trans ?_
  unfold resid
  refine congrArg₂ (· + ·) (congrArg (_ + ·) (Finset.sum_congr rfl fun k _ => congrArg₂ (· * ·) ?_ rfl)) (Finset.sum_congr rfl fun k _ => congrArg₂ (· * ·) ?_ rfl)
  · rw [ref2, dif_pos (show (Fin.castAdd 1024 k).val < 1024 from k.isLt)]
    rfl
  · rw [ref2, dif_neg (show ¬ (Fin.natAdd 1024 k).val < 1024 from Nat.not_lt.2 (Nat.le_add_right 1024 k.val))]
    refine congrArg a1 (congrArg (ix2 r) (Fin.ext ?_))
    show 1024 + k.val - 1024 = k.val
    omega

end Cert.EvenOutRefIdeal.Hand

namespace Cert.EvenOutIdeal.Hand
open Cert.EvenOutIdeal Cert.EvenOutIdeal.Gen Cert.Rows Cert.EvenOutRefIdeal.Hand Idealize.ShloMosaic Idealize.ShloMosaic.TcCoe Idealize.SL.Sem
open Idealize.ShloMosaic.Pipeline (Dat)

/-! ## The block of the result -/

theorem hz2 : (![0, 0] : Fin 2 → ℕ) = fun _ => 0 := funext fun a => by fin_cases a <;> rfl
theorem hz3 : (![0, 0, 0] : Fin 3 → ℕ) = fun _ => 0 := funext fun a => by fin_cases a <;> rfl

theorem pay1_apply (x : Vec Ideal S512x2048 .f32) (a o : Vec Ideal S512x1024 .bf16) (w w' : Vec Ideal S1x1024x2048 .bf16)
    (r : Fin 512) (n : Fin 2048) :
    k0_pay1 x a w o w' (ix2 r n) = resid (resid (fun n => x (ix2 r n)) (fun k => a (ix2 r k)) (fun k n => w (ix3 0 k n)))
      (fun k => o (ix2 r k)) (fun k n => w' (ix3 0 k n)) n := by
  pointwise [k0_pay1]
  rfl

/-- The rows of a block of the result, from the windows' blocks. -/
def rows (x : Vec Ideal S512x2048 .f32) (a o : Vec Ideal S512x1024 .bf16) (w : Vec Ideal S1x2048x2048 .bf16) : Vec Ideal S512x2048 .f32 :=
  fun y => resid (resid (fun n => x (ix2 (y 0) n)) (fun k => a (ix2 (y 0) k)) (fun k n => w (ix3 0 (lo k) n)))
    (fun k => o (ix2 (y 0) k)) (fun k n => w (ix3 0 (hi k) n)) (y 1)

theorem ld_lo (W : Vec Ideal S1x2048x2048 .bf16) (k : Fin 1024) (n : Fin 2048) : View.ld W r0_2 (ix3 (n0 := 1) (n1 := 1024) (n2 := 2048) 0 k n) = W (ix3 0 (lo k) n) := by
  show W _ = W _
  congr 1
  funext a
  apply Fin.ext
  match a with
  | ⟨0, _⟩ => rfl
  | ⟨1, _⟩ => show 0 + 1 * k.val = k.val; omega
  | ⟨2, _⟩ => show 0 + 1 * n.val = n.val; omega
theorem ld_hi (W : Vec Ideal S1x2048x2048 .bf16) (k : Fin 1024) (n : Fin 2048) : View.ld W r0_3 (ix3 (n0 := 1) (n1 := 1024) (n2 := 2048) 0 k n) = W (ix3 0 (hi k) n) := by
  show W _ = W _
  congr 1
  funext a
  apply Fin.ext
  match a with
  | ⟨0, _⟩ => rfl
  | ⟨1, _⟩ => show 1024 + 1 * k.val = 1024 + k.val; omega
  | ⟨2, _⟩ => show 0 + 1 * n.val = n.val; omega

theorem out_rows (x0 x1 : Vec Ideal S512x1024 .bf16) (x2 : Vec Ideal S1x2048x2048 .bf16) (x3 : Vec Ideal S512x2048 .f32) : out0_4 x0 x1 x2 x3 = rows x3 x0 x1 x2 := by
  unfold out0_4
  rw [View.canon_unit_zero (S := S512x2048) hz2]
  funext y
  obtain ⟨r, n, rfl⟩ : ∃ (r : Fin 512) (n : Fin 2048), y = ix2 r n := ⟨y 0, y 1, eq_ix2 y⟩
  rw [pay1_apply]
  rw [View.ld_unit_zero (S := S512x2048) hz2, View.ld_unit_zero (S := S512x1024) hz2, View.ld_unit_zero (S := S512x1024) hz2]
  exact congrArg₂ (fun (w w' : Fin 1024 → Fin 2048 → EReal) => resid (resid (fun n => x3 (ix2 r n)) (fun k => x0 (ix2 r k)) w) (fun k => x1 (ix2 r k)) w' n)
    (funext fun k => funext fun n => ld_lo x2 k n) (funext fun k => funext fun n => ld_hi x2 k n)

/-! ## The blocks the windows read -/

variable (c : Dev nD) (m : (ℓ : Loc nD τ sig) → Buf (Elt Ideal) ℓ)

theorem V_v0 : (V m c main_v0 : S2x2048x2048.Idx → EReal) = m ((c : Thread nD τ).loc main_arg2) := by
  unfold V hostOps0
  after_results_simp
  rfl

/-- The row of the whole array that row `r` of point `t`'s block is. -/
def row (t : Fin cfg0.N) (r : Fin 512) : Fin 16384 :=
  ⟨t.val * 512 + r.val, by have := lt_of_lt_of_eq t.isLt N_0; have := r.isLt; omega⟩

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 3) = 0 ∧ win0_2.index t (1 : Fin 3) = 0 ∧ win0_2.index t (2 : Fin 3) = 0 := by decide +kernel
theorem idx3 : ∀ t : Fin grid0.N, win0_3.index t (0 : Fin 2) = t.val ∧ win0_3.index t (1 : Fin 2) = 0 := by decide +kernel
theorem idx4 : ∀ t : Fin grid0.N, win0_4.index t (0 : Fin 2) = t.val ∧ win0_4.index t (1 : Fin 2) = 0 := by decide +kernel

theorem blk0 (t : Fin cfg0.N) (r : Fin 512) (n : Fin 1024) :
    iblk m c 0 t (ix2 r n) = m ((c : Thread nD τ).loc main_arg0) (ix2 (row t r) n) := by
  unfold iblk
  rw [View.read_apply]
  show V m c main_arg0 _ = _
  rw [V_main_arg0]
  congr 1
  funext a
  apply Fin.ext
  have hi := idx0 t
  match a with
  | ⟨0, _⟩ => show win0_0.index t (0 : Fin 2) * 512 + 1 * r.val = t.val * 512 + r.val; rw [hi.1]; omega
  | ⟨1, _⟩ => show win0_0.index t (1 : Fin 2) * 1024 + 1 * n.val = n.val; rw [hi.2]; omega

theorem blk1 (t : Fin cfg0.N) (r : Fin 512) (n : Fin 1024) :
    iblk m c 1 t (ix2 r n) = m ((c : Thread nD τ).loc main_arg1) (ix2 (row t r) n) := by
  unfold iblk
  rw [View.read_apply]
  show V m c main_arg1 _ = _
  rw [V_main_arg1]
  congr 1
  funext a
  apply Fin.ext
  have hi := idx1 t
  match a with
  | ⟨0, _⟩ => show win0_1.index t (0 : Fin 2) * 512 + 1 * r.val = t.val * 512 + r.val; rw [hi.1]; omega
  | ⟨1, _⟩ => show win0_1.index t (1 : Fin 2) * 1024 + 1 * n.val = n.val; rw [hi.2]; omega

theorem blk3 (t : Fin cfg0.N) (r : Fin 512) (n : Fin 2048) :
    iblk m c 3 t (ix2 r n) = m ((c : Thread nD τ).loc main_arg3) (ix2 (row t r) n) := by
  unfold iblk
  rw [View.read_apply]
  show V m c main_arg3 _ = _
  rw [V_main_arg3]
  congr 1
  funext a
  apply Fin.ext
  have hi := idx3 t
  match a with
  | ⟨0, _⟩ => show win0_3.index t (0 : Fin 2) * 512 + 1 * r.val = t.val * 512 + r.val; rw [hi.1]; omega
  | ⟨1, _⟩ => show win0_3.index t (1 : Fin 2) * 2048 + 1 * n.val = n.val; rw [hi.2]; omega

theorem blk2 (t : Fin cfg0.N) (k n : Fin 2048) :
    iblk m c 2 t (ix3 0 k n) = m ((c : Thread nD τ).loc main_arg2) (ix3 (n0 := 2) (n1 := 2048) (n2 := 2048) 0 k n) := by
  unfold iblk
  rw [View.read_apply]
  refine Eq.trans ?_ (congrFun (V_v0 c m) (ix3 (n0 := 2) (n1 := 2048) (n2 := 2048) 0 k n))
  show V m c main_v0 _ = _
  congr 1
  funext a
  apply Fin.ext
  have hi := idx2 t
  match a with
  | ⟨0, _⟩ => show win0_2.index t (0 : Fin 3) * 1 + 1 * 0 = 0; rw [hi.1]
  | ⟨1, _⟩ => show win0_2.index t (1 : Fin 3) * 2048 + 1 * k.val = k.val; rw [hi.2.1]; omega
  | ⟨2, _⟩ => show win0_2.index t (2 : Fin 3) * 2048 + 1 * n.val = n.val; rw [hi.2.2]; omega

/-! ## The array after the run -/

/-- The result, row by row, from the arguments. -/
def G : S16384x2048.Idx → EReal := fun j => resid (resid (fun n => m ((c : Thread nD τ).loc main_arg3) (ix2 (j 0) n)) (fun k => m ((c : Thread nD τ).loc main_arg0) (ix2 (n1 := 1024) (j 0) k)) (fun k n => m ((c : Thread nD τ).loc main_arg2) (ix3 (n0 := 2) (n1 := 2048) (n2 := 2048) 0 (lo k) n)))
    (fun k => m ((c : Thread nD τ).loc main_arg1) (ix2 (n1 := 1024) (j 0) k)) (fun k n => m ((c : Thread nD τ).loc main_arg2) (ix3 (n0 := 2) (n1 := 2048) (n2 := 2048) 0 (hi k) n)) (j 1)

theorem rows_blk (t : Fin cfg0.N) (r : Fin 512) (n : Fin 2048) : rows (iblk m c 3 t) (iblk m c 0 t) (iblk m c 1 t) (iblk m c 2 t) (ix2 r n) = G c m (ix2 (row t r) n) := by
  show resid (resid (fun n => iblk m c 3 t (ix2 r n)) (fun k => iblk m c 0 t (ix2 r k)) (fun k n => iblk m c 2 t (ix3 0 (lo k) n)))
      (fun k => iblk m c 1 t (ix2 r k)) (fun k n => iblk m c 2 t (ix3 0 (hi k) n)) n = _
  simp only [blk0, blk1, blk2, blk3]
  rfl

theorem flushed_eq (t : Fin cfg0.N) : (dats m 0 c).flushed 4 t = ((cfg0.win 4).blk t).view.read (Elt Ideal) (G c m) := by
  rw [Value.flushed4, out_rows]
  funext y
  obtain ⟨r, n, rfl⟩ : ∃ (r : Fin 512) (n : Fin 2048), y = ix2 r n := ⟨y 0, y 1, eq_ix2 y⟩
  refine Eq.trans (b := rows (iblk m c 3 t) (iblk m c 0 t) (iblk m c 1 t) (iblk m c 2 t) (ix2 r n)) ?_ ?_
  · show rows _ _ _ _ _ = _
    congr 1
  · rw [rows_blk]
    show _ = G c m (((cfg0.win 4).blk t).view.emb (ix2 r n))
    congr 1
    funext a
    apply Fin.ext
    have hi := idx4 t
    match a with
    | ⟨0, _⟩ => show t.val * 512 + r.val = win0_4.index t (0 : Fin 2) * 512 + 1 * r.val; rw [hi.1]; omega
    | ⟨1, _⟩ => show n.val = win0_4.index t (1 : Fin 2) * 2048 + 1 * n.val; rw [hi.2]; omega

theorem mem_blk (t : Fin cfg0.N) (i : S16384x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v1).slice (win0_4.rect t)).set ↔ _
  rw [View.set_slice_whole, Rect.mem_set_unit]
  exact Iff.rfl

/-- The blocks written back tile the result, so the array holds the rows. -/
theorem final : (dats m 0 c).arrAt 4 cfg0.N = G c m :=
  (dats m 0 c).arrAt_eq_of_cover 4 _ (fun t _ => flushed_eq c m t) fun i => by
    have h0 : (i 0).val < 16384 := (i 0).isLt
    have h1 : (i 1).val < 2048 := (i 1).isLt
    obtain ⟨t, ht⟩ : ∃ t : Fin cfg0.N, t.val = (i 0).val / 512 := ⟨⟨(i 0).val / 512, lt_of_lt_of_eq (by omega) N_0.symm⟩, rfl⟩
    refine ⟨t, flush0_4 _, ?_⟩
    rw [mem_blk]
    have hi := idx4 t
    intro a
    match a with
    | ⟨0, _⟩ => show win0_4.index t (0 : Fin 2) * 512 ≤ (i 0).val ∧ (i 0).val < win0_4.index t (0 : Fin 2) * 512 + 512; rw [hi.1]; omega
    | ⟨1, _⟩ => show win0_4.index t (1 : Fin 2) * 2048 ≤ (i 1).val ∧ (i 1).val < win0_4.index t (1 : Fin 2) * 2048 + 2048; rw [hi.2]; omega

/-- The two programs' results agree, at any memories that agree on the arguments. -/
theorem G_eq_ref (m' : (ℓ : Loc Cert.EvenOutRefIdeal.nD Cert.EvenOutRefIdeal.τ Cert.EvenOutRefIdeal.sig) → Buf (Elt Ideal) ℓ)
    (h0 : m' ((c : Thread nD τ).loc Cert.EvenOutRefIdeal.main_arg0) = m ((c : Thread nD τ).loc main_arg0))
    (h1 : m' ((c : Thread nD τ).loc Cert.EvenOutRefIdeal.main_arg1) = m ((c : Thread nD τ).loc main_arg1))
    (h2 : m' ((c : Thread nD τ).loc Cert.EvenOutRefIdeal.main_arg2) = m ((c : Thread nD τ).loc main_arg2))
    (h3 : m' ((c : Thread nD τ).loc Cert.EvenOutRefIdeal.main_arg3) = m ((c : Thread nD τ).loc main_arg3)) :
    (Cert.EvenOutRefIdeal.Read.val_main_v6 (F := Ideal) (m' ((c : Thread nD τ).loc Cert.EvenOutRefIdeal.main_arg0)) (m' ((c : Thread nD τ).loc Cert.EvenOutRefIdeal.main_arg1)) (m' ((c : Thread nD τ).loc Cert.EvenOutRefIdeal.main_arg2)) (m' ((c : Thread nD τ).loc Cert.EvenOutRefIdeal.main_arg3)) : S16384x2048.Idx → EReal) = G c m := by
  funext j
  obtain ⟨r, n, rfl⟩ : ∃ (r : Fin 16384) (n : Fin 2048), j = ix2 r n := ⟨j 0, j 1, eq_ix2 j⟩
  rw [Cert.EvenOutRefIdeal.Hand.ref_out]
  erw [h0, h1, h2, h3]
  rfl

end Cert.EvenOutIdeal.Hand

end
-- ==== Proof.OddOutValue.lean ====
module
public import proofs.«01_k».proof.Proof.Gen.OddOutIdeal.Value
public import proofs.«01_k».proof.Proof.Gen.OddOutRefIdeal.Run
public import proofs.«01_k».proof.Proof.Gen.OddOutRefIdeal.Read
public import proofs.«01_k».proof.Proof.Rows
@[expose] public section
set_option maxRecDepth 16384
noncomputable section

/-! # The odd layers' output projection computes the rows of its reference -/

/-! ## The reference -/

namespace Cert.OddOutRefIdeal.Hand
open Cert.OddOutRefIdeal Cert.OddOutRefIdeal.Gen Cert.OddOutRefIdeal.Read Cert.Rows Idealize.ShloMosaic Idealize.ShloMosaic.TcCoe Idealize.SL.Sem

theorem ref2 (a1 : Vec Ideal S2x2048x2048 .f32) (k n : Fin 2048) : val_main_v2 (F := Ideal) a1 (ix2 k n) = a1 (ix3 0 k n) := by
  rw [val_main_v2_apply, val_main_v1_apply]
  refine congrArg a1 (funext fun a => Fin.ext ?_)
  have hk := k.isLt; have hn := n.isLt
  match a with
  | ⟨0, _⟩ => rfl
  | ⟨1, _⟩ => show (k.val * 2048 + n.val) / 2048 % 2048 = k.val; omega
  | ⟨2, _⟩ => show (k.val * 2048 + n.val) % 2048 = n.val; omega

theorem ref_out (a0 : Vec Ideal S16384x2048 .bf16) (a1 : Vec Ideal S2x2048x2048 .f32) (a2 : Vec Ideal S16384x2048 .f32) (r : Fin 16384) (n : Fin 2048) :
    val_main_v4 (F := Ideal) a0 a1 a2 (ix2 r n) = resid (fun n => a2 (ix2 r n)) (fun k => a0 (ix2 r k)) (fun k n => a1 (ix3 0 k n)) n := by
  rw [val_main_v4_apply, val_main_v3_apply]
  refine congrArg (_ + ·) (Finset.sum_congr rfl fun k _ => congrArg₂ (· * ·) (congrArg a0 (funext fun a => Fin.ext ?_)) ?_)
  · match a with
    | ⟨0, _⟩ => rfl
    | ⟨1, _⟩ => rfl
  · refine (congrArg (val_main_v2 (F := Ideal) a1) (funext fun a => Fin.ext ?_)).trans (ref2 a1 k n)
    match a with
    | ⟨0, _⟩ => rfl
    | ⟨1, _⟩ => rfl

end Cert.OddOutRefIdeal.Hand

namespace Cert.OddOutIdeal.Hand
open Cert.OddOutIdeal Cert.OddOutIdeal.Gen Cert.Rows  Idealize.ShloMosaic Idealize.ShloMosaic.TcCoe Idealize.SL.Sem
open Idealize.ShloMosaic.Pipeline (Dat)

/-! ## The block of the result -/

theorem hz2 : (![0, 0] : Fin 2 → ℕ) = fun _ => 0 := funext fun a => by fin_cases a <;> rfl
theorem hz3 : (![0, 0, 0] : Fin 3 → ℕ) = fun _ => 0 := funext fun a => by fin_cases a <;> rfl

theorem pay1_apply (x : Vec Ideal S512x2048 .f32) (a : Vec Ideal S512x2048 .bf16) (w : Vec Ideal S1x2048x2048 .bf16)
    (r : Fin 512) (n : Fin 2048) :
    k0_pay1 x a w (ix2 r n) = resid (fun n => x (ix2 r n)) (fun k => a (ix2 r k)) (fun k n => w (ix3 0 k n)) n := by
  pointwise [k0_pay1]
  rfl

/-- The rows of a block of the result, from the windows' blocks. -/
def rows (x : Vec Ideal S512x2048 .f32) (a : Vec Ideal S512x2048 .bf16) (w : Vec Ideal S1x2048x2048 .bf16) : Vec Ideal S512x2048 .f32 :=
  fun y => resid (fun n => x (ix2 (y 0) n)) (fun k => a (ix2 (y 0) k)) (fun k n => w (ix3 0 k n)) (y 1)

theorem out_rows (x0 : Vec Ideal S512x2048 .bf16) (x1 : Vec Ideal S1x2048x2048 .bf16) (x2 : Vec Ideal S512x2048 .f32) : out0_3 x0 x1 x2 = rows x2 x0 x1 := by
  unfold out0_3
  rw [View.canon_unit_zero (S := S512x2048) hz2]
  funext y
  obtain ⟨r, n, rfl⟩ : ∃ (r : Fin 512) (n : Fin 2048), y = ix2 r n := ⟨y 0, y 1, eq_ix2 y⟩
  rw [pay1_apply]
  rw [View.ld_unit_zero (S := S512x2048) hz2, View.ld_unit_zero (S := S512x2048) hz2, View.ld_unit_zero (S := S1x2048x2048) hz3]
  rfl

/-! ## The blocks the windows read -/

variable (c : Dev nD) (m : (ℓ : Loc nD τ sig) → Buf (Elt Ideal) ℓ)

theorem V_v0 : (V m c main_v0 : S2x2048x2048.Idx → EReal) = m ((c : Thread nD τ).loc main_arg1) := by
  unfold V hostOps0
  after_results_simp
  rfl

/-- The row of the whole array that row `r` of point `t`'s block is. -/
def row (t : Fin cfg0.N) (r : Fin 512) : Fin 16384 :=
  ⟨t.val * 512 + r.val, by have := lt_of_lt_of_eq t.isLt N_0; have := r.isLt; omega⟩

theorem idx0 : ∀ t : Fin grid0.N, win0_0.index t (0 : Fin 2) = t.val ∧ win0_0.index t (1 : Fin 2) = 0 := by decide +kernel
theorem idx1 : ∀ t : Fin grid0.N, win0_1.index t (0 : Fin 3) = 0 ∧ win0_1.index t (1 : Fin 3) = 0 ∧ win0_1.index t (2 : Fin 3) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = t.val ∧ win0_3.index t (1 : Fin 2) = 0 := by decide +kernel

theorem blk0 (t : Fin cfg0.N) (r : Fin 512) (n : Fin 2048) :
    iblk m c 0 t (ix2 r n) = m ((c : Thread nD τ).loc main_arg0) (ix2 (row t r) n) := by
  unfold iblk
  rw [View.read_apply]
  show V m c main_arg0 _ = _
  rw [V_main_arg0]
  congr 1
  funext a
  apply Fin.ext
  have hi := idx0 t
  match a with
  | ⟨0, _⟩ => show win0_0.index t (0 : Fin 2) * 512 + 1 * r.val = t.val * 512 + r.val; rw [hi.1]; omega
  | ⟨1, _⟩ => show win0_0.index t (1 : Fin 2) * 2048 + 1 * n.val = n.val; rw [hi.2]; omega

theorem blk2 (t : Fin cfg0.N) (r : Fin 512) (n : Fin 2048) :
    iblk m c 2 t (ix2 r n) = m ((c : Thread nD τ).loc main_arg2) (ix2 (row t r) n) := by
  unfold iblk
  rw [View.read_apply]
  show V m c main_arg2 _ = _
  rw [V_main_arg2]
  congr 1
  funext a
  apply Fin.ext
  have hi := idx2 t
  match a with
  | ⟨0, _⟩ => show win0_2.index t (0 : Fin 2) * 512 + 1 * r.val = t.val * 512 + r.val; rw [hi.1]; omega
  | ⟨1, _⟩ => show win0_2.index t (1 : Fin 2) * 2048 + 1 * n.val = n.val; rw [hi.2]; omega

theorem blk1 (t : Fin cfg0.N) (k n : Fin 2048) :
    iblk m c 1 t (ix3 0 k n) = m ((c : Thread nD τ).loc main_arg1) (ix3 (n0 := 2) (n1 := 2048) (n2 := 2048) 0 k n) := by
  unfold iblk
  rw [View.read_apply]
  refine Eq.trans ?_ (congrFun (V_v0 c m) (ix3 (n0 := 2) (n1 := 2048) (n2 := 2048) 0 k n))
  show V m c main_v0 _ = _
  congr 1
  funext a
  apply Fin.ext
  have hi := idx1 t
  match a with
  | ⟨0, _⟩ => show win0_1.index t (0 : Fin 3) * 1 + 1 * 0 = 0; rw [hi.1]
  | ⟨1, _⟩ => show win0_1.index t (1 : Fin 3) * 2048 + 1 * k.val = k.val; rw [hi.2.1]; omega
  | ⟨2, _⟩ => show win0_1.index t (2 : Fin 3) * 2048 + 1 * n.val = n.val; rw [hi.2.2]; omega

/-! ## The array after the run -/

/-- The result, row by row, from the arguments. -/
def G : S16384x2048.Idx → EReal := fun j => resid (fun n => m ((c : Thread nD τ).loc main_arg2) (ix2 (j 0) n)) (fun k => m ((c : Thread nD τ).loc main_arg0) (ix2 (n1 := 2048) (j 0) k)) (fun k n => m ((c : Thread nD τ).loc main_arg1) (ix3 (n0 := 2) (n1 := 2048) (n2 := 2048) 0 k n)) (j 1)

theorem rows_blk (t : Fin cfg0.N) (r : Fin 512) (n : Fin 2048) : rows (iblk m c 2 t) (iblk m c 0 t) (iblk m c 1 t) (ix2 r n) = G c m (ix2 (row t r) n) := by
  show resid (fun n => iblk m c 2 t (ix2 r n)) (fun k => iblk m c 0 t (ix2 r k)) (fun k n => iblk m c 1 t (ix3 0 k n)) n = _
  simp only [blk0, blk1, blk2]
  rfl

theorem flushed_eq (t : Fin cfg0.N) : (dats m 0 c).flushed 3 t = ((cfg0.win 3).blk t).view.read (Elt Ideal) (G c m) := by
  rw [Value.flushed3, out_rows]
  funext y
  obtain ⟨r, n, rfl⟩ : ∃ (r : Fin 512) (n : Fin 2048), y = ix2 r n := ⟨y 0, y 1, eq_ix2 y⟩
  refine Eq.trans (b := rows (iblk m c 2 t) (iblk m c 0 t) (iblk m c 1 t) (ix2 r n)) ?_ ?_
  · show rows _ _ _ _ = _
    congr 1
  · rw [rows_blk]
    show _ = G c m (((cfg0.win 3).blk t).view.emb (ix2 r n))
    congr 1
    funext a
    apply Fin.ext
    have hi := idx3 t
    match a with
    | ⟨0, _⟩ => show t.val * 512 + r.val = win0_3.index t (0 : Fin 2) * 512 + 1 * r.val; rw [hi.1]; omega
    | ⟨1, _⟩ => show n.val = win0_3.index t (1 : Fin 2) * 2048 + 1 * n.val; rw [hi.2]; omega

theorem mem_blk (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v1).slice (win0_3.rect t)).set ↔ _
  rw [View.set_slice_whole, Rect.mem_set_unit]
  exact Iff.rfl

/-- The blocks written back tile the result, so the array holds the rows. -/
theorem final : (dats m 0 c).arrAt 3 cfg0.N = G c m :=
  (dats m 0 c).arrAt_eq_of_cover 3 _ (fun t _ => flushed_eq c m t) fun i => by
    have h0 : (i 0).val < 16384 := (i 0).isLt
    have h1 : (i 1).val < 2048 := (i 1).isLt
    obtain ⟨t, ht⟩ : ∃ t : Fin cfg0.N, t.val = (i 0).val / 512 := ⟨⟨(i 0).val / 512, lt_of_lt_of_eq (by omega) N_0.symm⟩, rfl⟩
    refine ⟨t, flush0_3 _, ?_⟩
    rw [mem_blk]
    have hi := idx3 t
    intro a
    match a with
    | ⟨0, _⟩ => show win0_3.index t (0 : Fin 2) * 512 ≤ (i 0).val ∧ (i 0).val < win0_3.index t (0 : Fin 2) * 512 + 512; rw [hi.1]; omega
    | ⟨1, _⟩ => show win0_3.index t (1 : Fin 2) * 2048 ≤ (i 1).val ∧ (i 1).val < win0_3.index t (1 : Fin 2) * 2048 + 2048; rw [hi.2]; omega

/-- The two programs' results agree, at any memories that agree on the arguments. -/
theorem G_eq_ref (m' : (ℓ : Loc Cert.OddOutRefIdeal.nD Cert.OddOutRefIdeal.τ Cert.OddOutRefIdeal.sig) → Buf (Elt Ideal) ℓ)
    (h0 : m' ((c : Thread nD τ).loc Cert.OddOutRefIdeal.main_arg0) = m ((c : Thread nD τ).loc main_arg0))
    (h1 : m' ((c : Thread nD τ).loc Cert.OddOutRefIdeal.main_arg1) = m ((c : Thread nD τ).loc main_arg1))
    (h2 : m' ((c : Thread nD τ).loc Cert.OddOutRefIdeal.main_arg2) = m ((c : Thread nD τ).loc main_arg2)) :
    (Cert.OddOutRefIdeal.Read.val_main_v4 (F := Ideal) (m' ((c : Thread nD τ).loc Cert.OddOutRefIdeal.main_arg0)) (m' ((c : Thread nD τ).loc Cert.OddOutRefIdeal.main_arg1)) (m' ((c : Thread nD τ).loc Cert.OddOutRefIdeal.main_arg2)) : S16384x2048.Idx → EReal) = G c m := by
  funext j
  obtain ⟨r, n, rfl⟩ : ∃ (r : Fin 16384) (n : Fin 2048), j = ix2 r n := ⟨j 0, j 1, eq_ix2 j⟩
  rw [Cert.OddOutRefIdeal.Hand.ref_out]
  erw [h0, h1, h2]
  rfl

end Cert.OddOutIdeal.Hand

end
-- ==== Proof.MemKvValue.lean ====
module
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Rows
@[expose] public section
set_option maxRecDepth 16384
noncomputable section

/-! # The memory's keys (or values): normalised rows times each layer's weights, the layers side by side -/

namespace Cert.MemKvRefIdeal.Hand
open Cert.MemKvRefIdeal Cert.MemKvRefIdeal.Gen Cert.MemKvRefIdeal.Read Cert.Rows Idealize.ShloMosaic Idealize.ShloMosaic.TcCoe Idealize.SL.Sem

/-- Row `r` of the two batches' memory rows, put below one another. -/
def mrow (x : S2x256x2048.Idx → EReal) (r : Fin 512) (k : Fin 2048) : EReal :=
  x (ix3 ⟨r.val / 256, by have := r.isLt; omega⟩ ⟨r.val % 256, by omega⟩ k)

/-- Column `q` of layer `l`'s product. -/
def kv (x : S2x256x2048.Idx → EReal) (g : S2048.Idx → EReal) (w : S4x2048x2048.Idx → EReal) (r : Fin 512) (l : Fin 4) (q : Fin 2048) : EReal :=
  ∑ k, nrm (mrow x r) (fun k => g (ix1 k)) k * w (ix3 l k q)

/-- The result: entry `n` of row `r` belongs to layer `n / 2048`. -/
def G (x : S2x256x2048.Idx → EReal) (g : S2048.Idx → EReal) (w : S4x2048x2048.Idx → EReal) : S512x8192.Idx → EReal := fun j =>
  kv x g w (j 0) ⟨(j 1).val / 2048, by have h : (j 1).val < 8192 := (j 1).isLt; omega⟩ ⟨(j 1).val % 2048, by omega⟩

theorem ref_nrm (x : S2x256x2048.Idx → EReal) (g : S2048.Idx → EReal) (b : Fin 2) (r : Fin 256) (n : Fin 2048) :
    val_main_v12 (F := Ideal) x g (ix3 b r n) = nrm (fun k => x (ix3 b r k)) (fun k => g (ix1 k)) n := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_out (x : S2x256x2048.Idx → EReal) (g : S2048.Idx → EReal) (w : S4x2048x2048.Idx → EReal) :
    val_main_v15 (F := Ideal) x g w = G x g w := by
  funext j
  obtain ⟨r, n, rfl⟩ : ∃ (r : Fin 512) (n : Fin 8192), j = ix2 r n := ⟨j 0, j 1, eq_ix2 j⟩
  have hr := r.isLt; have hn := n.isLt
  rw [val_main_v15_apply]
  show val_main_v14 (F := Ideal) x g w (ix2 r n) = _
  rw [val_main_v14_apply, val_main_v13_apply]
  show _ = kv x g w r ⟨n.val / 2048, by omega⟩ ⟨n.val % 2048, by omega⟩
  unfold kv
  refine Finset.sum_congr rfl fun k _ => congrArg₂ (fun a b : EReal => a * b) ?_ ?_
  · refine (congrArg (val_main_v12 (F := Ideal) x g) (funext fun a => Fin.ext ?_)).trans (ref_nrm x g ⟨r.val / 256, by omega⟩ ⟨r.val % 256, by omega⟩ k)
    match a with
    | ⟨0, _⟩ => show (r.val * 8192 + n.val) / 2097152 = r.val / 256; omega
    | ⟨1, _⟩ => show (r.val * 8192 + n.val) / 8192 % 256 = r.val % 256; omega
    | ⟨2, _⟩ => rfl
  · refine congrArg w (funext fun a => Fin.ext ?_)
    match a with
    | ⟨0, _⟩ => show (r.val * 8192 + n.val) / 2048 % 4 = n.val / 2048; omega
    | ⟨1, _⟩ => rfl
    | ⟨2, _⟩ => show (r.val * 8192 + n.val) % 2048 = n.val % 2048; omega

end Cert.MemKvRefIdeal.Hand

namespace Cert.MemKvIdeal.Hand
open Cert.MemKvIdeal Cert.MemKvIdeal.Gen Cert.MemKvRefIdeal.Hand Cert.Rows Idealize.ShloMosaic Idealize.ShloMosaic.TcCoe Idealize.SL.Sem
open Idealize.ShloMosaic.Pipeline (Dat)

/-! ## The payloads, by rows -/

theorem pay1_apply (g : Vec Ideal S1x2048 .f32) (x : Vec Ideal S256x2048 .f32) (r : Fin 256) (n : Fin 2048) :
    k0_pay1 g x (ix2 r n) = nrm (fun k => x (ix2 r k)) (fun k => g (ix2 0 k)) n := by
  pointwise [k0_pay1]
  rfl

theorem pay2_apply (s : Vec Ideal S512x2048 .bf16) (w : Vec Ideal S1x2048x1024 .bf16) (r : Fin 512) (q : Fin 1024) :
    k0_pay2 s w (ix2 r q) = ∑ k, s (ix2 r k) * w (ix3 0 k q) := by
  pointwise [k0_pay2]

/-- The memory's rows, each normalised. -/
def xn (P : Vec Ideal S512x2048 .f32) (g : Vec Ideal S1x2048 .f32) : Vec Ideal S512x2048 .bf16 :=
  fun y => nrm (fun k => P (ix2 (y 0) k)) (fun k => g (ix2 0 k)) (y 1)

theorem hz2 : (![0, 0] : Fin 2 → ℕ) = fun _ => 0 := funext fun a => by fin_cases a <;> rfl
theorem hz3 : (![0, 0, 0] : Fin 3 → ℕ) = fun _ => 0 := funext fun a => by fin_cases a <;> rfl

/-- Normalising half of the rows gives those rows of the normalised array. -/
theorem pay1_rows (g : Vec Ideal S1x2048 .f32) (P : Vec Ideal S512x2048 .f32) (off : Fin 2 → ℕ) (h1 : off 1 = 0)
    (inb : ∀ a, off a + ![256, 2048] a ≤ S512x2048.size a) (x : S256x2048.Idx) :
    k0_pay1 g (fun j => P ((Rect.unit (s := S512x2048) off ![256, 2048] inb).toLoadRect.idx j)) x
      = xn P g ((Rect.unit (s := S512x2048) off ![256, 2048] inb).emb x) := by
  obtain ⟨r, n, rfl⟩ : ∃ (r : Fin 256) (n : Fin 2048), x = ix2 r n := ⟨x 0, x 1, eq_ix2 x⟩
  rw [pay1_apply]
  have e1 : ∀ n : Fin 2048, (((Rect.unit (s := S512x2048) off ![256, 2048] inb).emb (ix2 r n)) 1 : Fin 2048) = n := fun n =>
    Fin.ext (by show off (1 : Fin 2) + 1 * n.val = n.val; omega)
  unfold xn
  rw [e1]
  refine congrArg (fun f => nrm f _ n) (funext fun q => congrArg P (funext fun a => ?_))
  match a with
  | ⟨0, _⟩ => rfl
  | ⟨1, _⟩ => exact e1 q

/-- A store of a whole tile puts each entry at its own index. -/
theorem whole (z : Vec Ideal S512x1024 .bf16) (inb : ∀ a, ![0, 0] a + S512x1024.size a ≤ S512x1024.size a) (x : S512x1024.Idx) :
    z x = z ((Rect.unit (s := S512x1024) ![0, 0] S512x1024.size inb).emb x) :=
  congrArg z (funext fun a => Fin.ext (match a with
    | ⟨0, _⟩ => by show (x 0).val = 0 + 1 * (x 0).val; omega
    | ⟨1, _⟩ => by show (x 1).val = 0 + 1 * (x 1).val; omega))

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x1024 .bf16) (harg4 : arg4.IsWhole) (arg5 : Memref sig .tc .vmem S512x1024 .bf16) (harg5 : arg5.IsWhole) (arg6 : Memref sig .tc .vmem S512x2048 .bf16) (harg6 : arg6.IsWhole)

theorem trip_pieces (k0_h1 : k0_cond1 i = 1#1) (g : Vec Ideal S1x2048 .f32) (X : BufTy.Contents (Elt Ideal) arg2.view.ty)
    (P : Vec Ideal S512x2048 .f32)
    (hX : ∀ B : LoadRect S512x2048, arg2.view.readAt (Elt Ideal) B X = fun j => P (B.idx j))
    (k : Fin k0_t1_loop.trips) :
    ∀ p ∈ tripL_k0_t1 (F := Ideal) Variants.none c none i arg2 harg2 arg3 harg3 arg4 harg4 arg5 harg5 arg6 harg6 k0_h1 g X k,
      ∀ x : p.1.shape.Idx, p.2 x = xn P g (p.1.emb x) := by
  unfold tripL_k0_t1 trip_k0_t1
  dsimp only
  intro p hp
  rw [List.mem_singleton] at hp
  subst hp
  intro x
  rw [hX]
  exact pay1_rows g P (k0_off1 k) (congrFun (k0_off1_eq k) 1) _ x

theorem pb_pieces (k0_h1 : k0_cond1 i = 1#1) (g : Vec Ideal S1x2048 .f32) (X : BufTy.Contents (Elt Ideal) arg2.view.ty)
    (P : Vec Ideal S512x2048 .f32)
    (hX : ∀ B : LoadRect S512x2048, arg2.view.readAt (Elt Ideal) B X = fun j => P (B.idx j)) :
    ∀ n, n ≤ k0_t1_loop.trips →
    ∀ p ∈ pb_k0_t1 (F := Ideal) Variants.none c none i arg2 harg2 arg3 harg3 arg4 harg4 arg5 harg5 arg6 harg6 k0_h1 g X n,
      ∀ x : p.1.shape.Idx, p.2 x = xn P g (p.1.emb x)
  | 0, _ => fun p hp => absurd hp (by rw [pb_k0_t1]; exact List.not_mem_nil)
  | n + 1, hn => fun p hp => by
    have e := pb_k0_t1_succ (F := Ideal) Variants.none c none i arg2 harg2 arg3 harg3 arg4 harg4 arg5 harg5 arg6 harg6 k0_h1 g X ⟨n, hn⟩
    dsimp only at e
    rw [e] at hp
    rcases List.mem_append.mp hp with h | h
    · exact trip_pieces c i arg2 harg2 arg3 harg3 arg4 harg4 arg5 harg5 arg6 harg6 k0_h1 g X P hX _ p h
    · exact pb_pieces k0_h1 g X P hX n (Nat.le_of_succ_le hn) p h

/-! ## What a point leaves in the block of the result and in the scratch -/

theorem sout_A (hc0 : k0_cond1 i = 1#1) (x0 : Vec Ideal S512x2048 .f32) (x1 : Vec Ideal S1x2048 .f32) (x2 : Vec Ideal S1x2048x1024 .bf16) :
    sout0_A_0 (F := Ideal) c i arg2 harg2 arg3 harg3 arg4 harg4 arg5 harg5 arg6 harg6 hc0 x0 x1 x2 = xn x0 x1 := by
  have hc := scover0_A_0 (F := Ideal) c i arg2 harg2 arg3 harg3 arg4 harg4 arg5 harg5 arg6 harg6 hc0 x0 x1 x2
  unfold sout0_A_0
  rw [View.read_writes_eq_canon _ _ _ hc]
  revert hc
  unfold kernelRun0_A
  dsimp only
  sl_unfold_words
  intro hc
  funext y
  refine View.canon_apply_of_pieces _ _ ?_ y (hc y)
  simp only [View.readAt_eq_ld, harg3.read_unread, View.ld_unit_zero (S := S1x2048) hz2]
  refine pb_pieces c i arg2 harg2 arg3 harg3 arg4 harg4 arg5 harg5 arg6 harg6 hc0 x1 _ _ ?_ _ (le_refl _)
  intro B
  exact congrArg (fun X j => X (B.idx j)) (harg2.read_unread x0)

/-- The first point's tile: the product of the rows it has just normalised. -/
theorem out_A (hc0 : k0_cond1 i = 1#1) (x0 : Vec Ideal S512x2048 .f32) (x1 : Vec Ideal S1x2048 .f32) (x2 : Vec Ideal S1x2048x1024 .bf16) :
    out0_A_3 (F := Ideal) c i arg2 harg2 arg3 harg3 arg4 harg4 arg5 harg5 arg6 harg6 hc0 x0 x1 x2 = k0_pay2 (xn x0 x1) x2 := by
  have key := sout_A c i arg2 harg2 arg3 harg3 arg4 harg4 arg5 harg5 arg6 harg6 hc0 x0 x1 x2
  unfold sout0_A_0 at key
  rw [View.read_writes_eq_canon _ _ _ (scover0_A_0 (F := Ideal) c i arg2 harg2 arg3 harg3 arg4 harg4 arg5 harg5 arg6 harg6 hc0 x0 x1 x2)] at key
  have hc := cover0_A_3 (F := Ideal) c i arg2 harg2 arg3 harg3 arg4 harg4 arg5 harg5 arg6 harg6 hc0 x0 x1 x2
  unfold out0_A_3
  rw [View.read_writes_eq_canon _ _ _ hc]
  revert key hc
  unfold kernelRun0_A
  dsimp only
  sl_unfold_words
  intro key hc
  set_option backward.isDefEq.respectTransparency false in
  rw [View.readCov_eq_canon', key] at hc ⊢
  simp only [View.readAt_eq_ld, harg2.read_unread, harg3.read_unread, harg4.read_unread, View.ld_unit_zero (S := S1x2048x1024) hz3] at hc ⊢
  have e := View.ld_unit_zero (S := S512x2048) hz2 (by decide) (xn x0 x1)
  funext y
  refine View.canon_apply_of_pieces _ _ ?_ y (hc y)
  refine List.forall_mem_cons.2 ⟨fun x => (whole _ inb_S512x1024_S512x1024_0_0 x).trans (congrFun (congrArg (fun s => k0_pay2 s x2) e) _), ?_⟩
  exact fun p hp => absurd hp List.not_mem_nil

/-- A later point's tile: the product of the rows kept in the scratch. -/
theorem out_B (hc0 : ¬k0_cond1 i = 1#1) (x0 : Vec Ideal S512x2048 .f32) (x1 : Vec Ideal S1x2048 .f32) (x2 : Vec Ideal S1x2048x1024 .bf16)
    (xs : Vec Ideal S512x2048 .bf16) :
    out0_B_3 (F := Ideal) c i arg2 harg2 arg3 harg3 arg4 harg4 arg5 harg5 arg6 harg6 hc0 x0 x1 x2 xs = k0_pay2 xs x2 := by
  have hc := cover0_B_3 (F := Ideal) c i arg2 harg2 arg3 harg3 arg4 harg4 arg5 harg5 arg6 harg6 hc0 x0 x1 x2 xs
  unfold out0_B_3
  rw [View.read_writes_eq_canon _ _ _ hc]
  revert hc
  unfold kernelRun0_B
  dsimp only
  sl_unfold_words
  intro hc
  simp only [View.readAt_eq_ld, harg6.read_unread, harg4.read_unread, View.ld_unit_zero (S := S512x2048) hz2, View.ld_unit_zero (S := S1x2048x1024) hz3] at hc ⊢
  funext y
  refine View.canon_apply_of_pieces _ _ ?_ y (hc y)
  refine List.forall_mem_cons.2 ⟨whole _ inb_S512x1024_S512x1024_0_0, ?_⟩
  exact fun p hp => absurd hp List.not_mem_nil

/-! ## The blocks the windows read -/

variable (m : (ℓ : Loc nD τ sig) → Buf (Elt Ideal) ℓ)

/-- The memory, the gain and the weights, as launched. -/
abbrev mx : S2x256x2048.Idx → EReal := m ((c : Thread nD τ).loc main_arg0)
abbrev mg : S2048.Idx → EReal := m ((c : Thread nD τ).loc main_arg1)
abbrev mw : S4x2048x2048.Idx → EReal := m ((c : Thread nD τ).loc main_arg2)

theorem V_x : (V m c main_v0 : S512x2048.Idx → EReal) = shapeCast S512x2048 (mx c m) shapeCasts_S2x256x2048_S512x2048 := by
  unfold V hostOps0
  after_results_simp
  rfl
theorem V_g : (V m c main_v1 : S1x2048.Idx → EReal) = broadcastInDim S1x2048 ![1] bcast_S2048_S1x2048_1 (mg c m) := by
  unfold V hostOps0
  after_results_simp
theorem V_w : (V m c main_v2 : S4x2048x2048.Idx → EReal) = mw c m := by
  unfold V hostOps0
  after_results_simp
  rfl

theorem x_apply (r : Fin 512) (k : Fin 2048) : (V m c main_v0 : S512x2048.Idx → EReal) (ix2 r k) = mrow (mx c m) r k := by
  have hr := r.isLt; have hk := k.isLt
  rw [V_x]
  refine shapeCast_apply _ _ _ (ix3 ⟨r.val / 256, by omega⟩ ⟨r.val % 256, by omega⟩ k) ?_
  rw [Shape.rowMajor_val_three, Shape.rowMajor_val_two]
  show (r.val / 256 * 256 + r.val % 256) * 2048 + k.val = r.val * 2048 + k.val
  omega

theorem lt8 (t : Fin cfg0.N) : t.val < 8 := lt_of_lt_of_eq t.isLt N_0

theorem idx0 : ∀ t : Fin grid0.N, win0_0.index t (0 : Fin 2) = 0 ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 3) = t.val / 2 ∧ win0_2.index t (1 : Fin 3) = 0 ∧ win0_2.index t (2 : Fin 3) = t.val % 2 := by decide +kernel
theorem idx3 : ∀ t : Fin grid0.N, win0_3.index t (0 : Fin 2) = 0 ∧ win0_3.index t (1 : Fin 2) = t.val := by decide +kernel

theorem blk0 (t : Fin cfg0.N) (r : Fin 512) (n : Fin 2048) : iblk m c 0 t (ix2 r n) = mrow (mx c m) r n := by
  unfold iblk
  rw [View.read_apply]
  refine Eq.trans ?_ (x_apply c m r n)
  show V m c main_v0 _ = _
  congr 1
  funext a
  apply Fin.ext
  have hi := idx0 t
  match a with
  | ⟨0, _⟩ => show win0_0.index t (0 : Fin 2) * 512 + 1 * r.val = r.val; rw [hi.1]; omega
  | ⟨1, _⟩ => show win0_0.index t (1 : Fin 2) * 2048 + 1 * n.val = n.val; rw [hi.2]; omega

theorem blk1 (t : Fin cfg0.N) (k : Fin 2048) : iblk m c 1 t (ix2 0 k) = mg c m (ix1 k) := by
  unfold iblk
  rw [View.read_apply]
  trans (V m c main_v1 : S1x2048.Idx → EReal) (ix2 0 k)
  · show V m c main_v1 _ = _
    congr 1
    funext a
    apply Fin.ext
    have hi := idx1 t
    match a with
    | ⟨0, _⟩ => show win0_1.index t (0 : Fin 2) * 1 + 1 * 0 = 0; rw [hi.1]
    | ⟨1, _⟩ => show win0_1.index t (1 : Fin 2) * 2048 + 1 * k.val = k.val; rw [hi.2]; omega
  · rw [V_g]
    pointwise []

theorem blk2 (t : Fin cfg0.N) (k : Fin 2048) (q : Fin 1024) :
    iblk m c 2 t (ix3 0 k q) = mw c m (ix3 ⟨t.val / 2, by have := lt8 t; omega⟩ k ⟨t.val % 2 * 1024 + q.val, by have := q.isLt; omega⟩) := by
  unfold iblk
  rw [View.read_apply]
  refine Eq.trans ?_ (congrFun (V_w c m) _)
  show V m c main_v2 _ = _
  congr 1
  funext a
  apply Fin.ext
  have hi := idx2 t
  match a with
  | ⟨0, _⟩ => show win0_2.index t (0 : Fin 3) * 1 + 1 * 0 = t.val / 2; rw [hi.1]; omega
  | ⟨1, _⟩ => show win0_2.index t (1 : Fin 3) * 2048 + 1 * k.val = k.val; rw [hi.2.1]; omega
  | ⟨2, _⟩ => show win0_2.index t (2 : Fin 3) * 1024 + 1 * q.val = t.val % 2 * 1024 + q.val; rw [hi.2.2]; omega

/-! ## The result, from the arguments -/

theorem xn_blk (t : Fin cfg0.N) (r : Fin 512) (n : Fin 2048) :
    xn (iblk m c 0 t) (iblk m c 1 t) (ix2 r n) = nrm (mrow (mx c m) r) (fun k => mg c m (ix1 k)) n := by
  show nrm (fun k => iblk m c 0 t (ix2 r k)) (fun k => iblk m c 1 t (ix2 0 k)) n = _
  simp only [blk0, blk1]

/-- After each point the scratch holds the normalised rows, and the tile their product. -/
theorem inv (n : ℕ) : ∀ (hn : n < cfg0.N),
    (outsAt0 m c n hn).1 = k0_pay2 (outsAt0 m c n hn).2 (iblk m c 2 ⟨n, hn⟩)
    ∧ ∀ r q, (outsAt0 m c n hn).2 (ix2 r q) = nrm (mrow (mx c m) r) (fun k => mg c m (ix1 k)) q := by
  induction n with
  | zero =>
    intro hn
    rw [outsAt0_A m c ⟨0, hn⟩ rfl, out_A, sout_A]
    exact ⟨rfl, fun r q => xn_blk c m ⟨0, hn⟩ r q⟩
  | succ n ih =>
    intro hn
    have h : ¬(n + 1) % 8 = 0 := by have := lt8 ⟨n + 1, hn⟩; dsimp only at this; omega
    obtain ⟨_, ih2⟩ := ih (Nat.lt_of_succ_lt hn)
    rw [outsAt0_B m c ⟨n + 1, hn⟩ h, out_B]
    exact ⟨rfl, ih2⟩

theorem flushed_eq (t : Fin cfg0.N) : (dats m 0 c).flushed 3 t = ((cfg0.win 3).blk t).view.read (Elt Ideal) (G (mx c m) (mg c m) (mw c m)) := by
  rw [Value.flushed3]
  funext y
  obtain ⟨r, q, rfl⟩ : ∃ (r : Fin 512) (q : Fin 1024), y = ix2 r q := ⟨y 0, y 1, eq_ix2 y⟩
  have e := inv c m t.val t.isLt
  have ht := lt8 t; have hq := q.isLt
  refine Eq.trans (b := (outsAt0 m c t.val t.isLt).1 (ix2 r q)) ?_ ?_
  · show (outsAt0 m c t.val t.isLt).1 _ = _
    congr 1
  · rw [e.1, pay2_apply]
    have ee : ((cfg0.win 3).blk t).view.emb (ix2 r q) = (ix2 r ⟨t.val * 1024 + q.val, by omega⟩ : S512x8192.Idx) := by
      funext a
      apply Fin.ext
      have hi := idx3 t
      match a with
      | ⟨0, _⟩ => show win0_3.index t (0 : Fin 2) * 512 + 1 * r.val = r.val; rw [hi.1]; omega
      | ⟨1, _⟩ => show win0_3.index t (1 : Fin 2) * 1024 + 1 * q.val = t.val * 1024 + q.val; rw [hi.2]; omega
    show _ = G (mx c m) (mg c m) (mw c m) (((cfg0.win 3).blk t).view.emb (ix2 r q))
    rw [ee]
    show _ = kv (mx c m) (mg c m) (mw c m) r ⟨(t.val * 1024 + q.val) / 2048, by omega⟩ ⟨(t.val * 1024 + q.val) % 2048, by omega⟩
    unfold kv
    refine Finset.sum_congr rfl fun k _ => congrArg₂ (fun a b : EReal => a * b) (e.2 r k) ((blk2 c m t k q).trans (congrArg (mw c m) (funext fun a => Fin.ext ?_)))
    match a with
    | ⟨0, _⟩ => show t.val / 2 = (t.val * 1024 + q.val) / 2048; omega
    | ⟨1, _⟩ => rfl
    | ⟨2, _⟩ => show t.val % 2 * 1024 + q.val = (t.val * 1024 + q.val) % 2048; omega

/-- The tiles written back fill the result, so the array holds it. -/
theorem final : (dats m 0 c).arrAt 3 cfg0.N = G (mx c m) (mg c m) (mw c m) :=
  (dats m 0 c).arrAt_eq_of_cover 3 _ (fun t _ => flushed_eq c m t) fun i => by
    have h0 : (i 0).val < 512 := (i 0).isLt
    have h1 : (i 1).val < 8192 := (i 1).isLt
    obtain ⟨t, ht⟩ : ∃ t : Fin cfg0.N, t.val = (i 1).val / 1024 := ⟨⟨(i 1).val / 1024, lt_of_lt_of_eq (by omega) N_0.symm⟩, rfl⟩
    refine ⟨t, flush0_3 _, ?_⟩
    show i ∈ ((View.whole main_v3).slice (win0_3.rect t)).set
    rw [View.set_slice_whole, Rect.mem_set_unit]
    show ∀ a : Fin 2, win0_3.index t a * S512x1024.size a ≤ (i a).val ∧ (i a).val < win0_3.index t a * S512x1024.size a + S512x1024.size a
    have hi := idx3 t
    intro a
    match a with
    | ⟨0, _⟩ => show win0_3.index t (0 : Fin 2) * 512 ≤ (i 0).val ∧ (i 0).val < win0_3.index t (0 : Fin 2) * 512 + 512; rw [hi.1]; omega
    | ⟨1, _⟩ => show win0_3.index t (1 : Fin 2) * 1024 ≤ (i 1).val ∧ (i 1).val < win0_3.index t (1 : Fin 2) * 1024 + 1024; rw [hi.2]; omega

/-- The two programs' results agree, at any memories that agree on the arguments. -/
theorem G_eq_ref (m' : (ℓ : Loc Cert.MemKvRefIdeal.nD Cert.MemKvRefIdeal.τ Cert.MemKvRefIdeal.sig) → Buf (Elt Ideal) ℓ)
    (h0 : m' ((c : Thread nD τ).loc Cert.MemKvRefIdeal.main_arg0) = m ((c : Thread nD τ).loc main_arg0))
    (h1 : m' ((c : Thread nD τ).loc Cert.MemKvRefIdeal.main_arg1) = m ((c : Thread nD τ).loc main_arg1))
    (h2 : m' ((c : Thread nD τ).loc Cert.MemKvRefIdeal.main_arg2) = m ((c : Thread nD τ).loc main_arg2)) :
    (Cert.MemKvRefIdeal.Read.val_main_v15 (F := Ideal) (m' ((c : Thread nD τ).loc Cert.MemKvRefIdeal.main_arg0)) (m' ((c : Thread nD τ).loc Cert.MemKvRefIdeal.main_arg1)) (m' ((c : Thread nD τ).loc Cert.MemKvRefIdeal.main_arg2)) : S512x8192.Idx → EReal) = G (mx c m) (mg c m) (mw c m) := by
  erw [h0, h1, h2]
  exact Cert.MemKvRefIdeal.Hand.ref_out _ _ _

end Cert.MemKvIdeal.Hand

end
-- ==== Proof.AttnTables.lean ====
module

public import proofs.«01_k».proof.Proof.Gen.AttnIdeal.Flash
public import proofs.«01_k».proof.Proof.Gen.Attn.Flash
public import proofs.«01_k».proof.Defs

@[expose] public section

open Idealize Idealize.ShloMosaic

namespace Cert.AttnTables

/-- Both tables of the precondition's literals are the lists the call is pinned to. -/
theorem words (x : Cert.Pre_causal_tables.S72.Idx) :
    Cert.Pre_causal_tables.lit0 (Cert.Pre_causal_tables.S72.rowMajor x) = Cert.AttnIdeal.Gen.pinT_0 0 x
    ∧ Cert.Pre_causal_tables.lit1 (Cert.Pre_causal_tables.S72.rowMajor x) = Cert.AttnIdeal.Gen.pinT_1 0 x := by
  have h : ∀ i : Fin 72, Cert.Pre_causal_tables.lit0 i = Cert.AttnIdeal.Gen.pinT_0 0 (fun a => ⟨i.val, by fin_cases a; exact i.isLt⟩)
      ∧ Cert.Pre_causal_tables.lit1 i = Cert.AttnIdeal.Gen.pinT_1 0 (fun a => ⟨i.val, by fin_cases a; exact i.isLt⟩) := by
    decide +kernel
  have e : Cert.Pre_causal_tables.S72.rowMajor x = (x 0 : Fin 72) := Fin.ext (Shape.rowMajor_val_one x)
  rw [e]
  exact h (x 0)

theorem both {a b c d : BitVec 32} (h : IntOp.andi (IntOp.cmpi .eq a b) (IntOp.cmpi .eq c d) = 1#1) : a = b ∧ c = d := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simpa only [IntOp.cmpi, andi_ofBool, ofBool_eq_one, Bool.and_eq_true, beq_iff_eq] using h

end Cert.AttnTables

namespace Cert.AttnIdeal.Gen

variable [Cert.Pre_causal_tables.Facts]

/-- The precondition gives the words the call's tables hold. -/
theorem pinned_of_pre (m : (ℓ : Loc nD τ sig) → Buf (Elt Ideal) ℓ) (h : Cert.Pre_AttnIdeal m) : ∃ ch, Pinned ch m := by
  refine ⟨0, fun c => funext fun x => ?_, fun c => funext fun x => ?_⟩
  · exact (Cert.AttnTables.both (congrFun (h c) x)).1.trans (Cert.AttnTables.words x).1
  · exact (Cert.AttnTables.both (congrFun (h c) x)).2.trans (Cert.AttnTables.words x).2

end Cert.AttnIdeal.Gen

namespace Cert.Attn.Gen

variable [Cert.Pre_causal_tables.Facts]

/-- The precondition gives the words the call's tables hold. -/
theorem pinned_of_pre (m : (ℓ : Loc nD τ sig) → Buf (Elt Bits) ℓ) (h : Cert.Pre_Attn m) : ∃ ch, Pinned ch m := by
  refine ⟨0, fun c => funext fun x => ?_, fun c => funext fun x => ?_⟩
  · exact (Cert.AttnTables.both (congrFun (h c) x)).1.trans (Cert.AttnTables.words x).1
  · exact (Cert.AttnTables.both (congrFun (h c) x)).2.trans (Cert.AttnTables.words x).2

end Cert.Attn.Gen
-- ==== Proof.AttnRow.lean ====
module
public import Idealize.ShloMosaic.Lib.Pointwise
@[expose] public section
noncomputable section

/-! # The running softmax of one row

A row of attention is computed block of keys by block of keys: the largest score so far, and the sums of the values
weighted by the exponentials of the scores less that maximum. What is kept of it here is that both are those sums for
some real shift, over the keys seen so far; a quotient of two such sums doesn't depend on the shift. -/

namespace Cert.AttnRow
open Idealize.ShloMosaic Finset

/-- After the keys below `B`: nothing yet, or the weighted sums for some shift `M`, which is the row's maximum entry. -/
def Inv (s : ℕ → ℝ) (v : ℕ → Fin 256 → ℝ) (B : ℕ) (m : Fin 128 → EReal) (a : Fin 256 → EReal) : Prop :=
  (B = 0 ∧ (∀ l, m l = ⊥) ∧ ∀ i, a i = 0) ∨
    ∃ M : ℝ, (∀ l, m l = (M : EReal)) ∧ ∀ i, a i = ((∑ k ∈ range B, Real.exp (s k - M) * v k i : ℝ) : EReal)

theorem coe_sum {ι : Type} (t : Finset ι) (f : ι → ℝ) : ∑ x ∈ t, ((f x : ℝ) : EReal) = ((∑ x ∈ t, f x : ℝ) : EReal) := by
  classical
  induction t using Finset.induction_on with
  | empty => simp
  | insert a t h ih => rw [sum_insert h, sum_insert h, ih, EReal.coe_add]

theorem fold_real {n : ℕ} (f : Fin n → EReal) (i : Fin n) (x : ℝ) (hi : f i = (x : EReal)) (ht : ∀ j, f j < ⊤) :
    ∃ y : ℝ, Finset.fold max ⊥ f univ = (y : EReal) := by
  have h1 : Finset.fold max ⊥ f univ ≠ ⊥ := by
    have : (x : EReal) ≤ Finset.fold max ⊥ f univ := (le_fold_max _).2 (Or.inr ⟨i, mem_univ _, hi.ge⟩)
    intro h
    rw [h] at this
    exact absurd (le_bot_iff.1 this) (EReal.coe_ne_bot x)
  have h2 : Finset.fold max ⊥ f univ ≠ ⊤ := ((fold_max_lt _).2 ⟨bot_lt_top, fun j _ => ht j⟩).ne
  exact ⟨_, (EReal.coe_toReal h2 h1).symm⟩

/-- One block of keys: the keys from `base`, of which those below `B'` are let through. -/
theorem Inv.step {nk base B B' : ℕ} {s : ℕ → ℝ} {v : ℕ → Fin 256 → ℝ} {m m' : Fin 128 → EReal} {a a' : Fin 256 → EReal}
    (sc : Fin nk → EReal) (vx : Fin nk → Fin 256 → EReal) (f : Fin 256 → Fin 128) (g : Fin nk → Fin 128)
    (hI : Inv s v B m a) (h0 : B = base) (h1 : base < B') (h2 : B' ≤ base + nk)
    (hs : ∀ j, sc j = if base + j.val < B' then ((s (base + j.val) : ℝ) : EReal) else ⊥)
    (hv : ∀ j i, vx j i = ((v (base + j.val) i : ℝ) : EReal))
    (hm : ∀ l, m' l = max (m l) (Finset.fold max ⊥ sc univ))
    (ha : ∀ i, a' i = Ideal.exp (m (f i) - m' (f i)) * a i + ∑ j, Ideal.exp (sc j - m' (g j)) * vx j i) :
    Inv s v B' m' a' := by
  subst h0
  obtain ⟨x, hx⟩ : ∃ y : ℝ, Finset.fold max ⊥ sc univ = (y : EReal) := by
    refine fold_real sc ⟨0, by omega⟩ (s (B + 0)) (by rw [hs]; exact if_pos (by omega)) fun j => ?_
    rw [hs]
    split
    · exact EReal.coe_lt_top _
    · exact bot_lt_top
  rw [hx] at hm
  obtain ⟨n, hn⟩ : ∃ n, B' = B + n := ⟨B' - B, by omega⟩
  have key : ∀ M : ℝ, (∀ l, m' l = (M : EReal)) → ∀ i, ∑ j, Ideal.exp (sc j - m' (g j)) * vx j i
      = ((∑ k ∈ range n, Real.exp (s (B + k) - M) * v (B + k) i : ℝ) : EReal) := by
    intro M hM i
    have e : ∀ j : Fin nk, Ideal.exp (sc j - m' (g j)) * vx j i
        = (((fun k : ℕ => if k < n then Real.exp (s (B + k) - M) * v (B + k) i else 0) j.val : ℝ) : EReal) := by
      intro j
      rw [hs, hM, hv]
      by_cases h : B + j.val < B'
      · rw [if_pos h, ← EReal.coe_sub, Ideal.exp_coe, ← EReal.coe_mul]
        dsimp only
        rw [if_pos (by omega)]
      · rw [if_neg h, EReal.bot_sub, Ideal.exp_bot, zero_mul]
        dsimp only
        rw [if_neg (by omega), EReal.coe_zero]
    rw [sum_congr rfl fun j _ => e j, coe_sum, Fin.sum_univ_eq_sum_range (fun k : ℕ => if k < n then Real.exp (s (B + k) - M) * v (B + k) i else 0) nk,
      ← sum_filter]
    congr 2
    ext k
    simp only [mem_filter, mem_range]
    omega
  subst hn
  rcases hI with ⟨hB, hb, hz⟩ | ⟨M, hM, hA⟩
  · refine Or.inr ⟨x, fun l => by rw [hm, hb, max_eq_right bot_le], fun i => ?_⟩
    have hM : ∀ l, m' l = (x : EReal) := fun l => by rw [hm, hb, max_eq_right bot_le]
    rw [ha, key x hM, hz, mul_zero, zero_add]
    subst hB
    simp only [zero_add]
  · have hM' : ∀ l, m' l = ((max M x : ℝ) : EReal) := fun l => by rw [hm, hM]; exact (EReal.coe_strictMono.monotone.map_max).symm
    refine Or.inr ⟨max M x, hM', fun i => ?_⟩
    rw [ha, key _ hM', hM, hM', hA, ← EReal.coe_sub, Ideal.exp_coe, ← EReal.coe_mul, ← EReal.coe_add, sum_range_add, mul_sum]
    refine congrArg _ (congrArg (· + _) (sum_congr rfl fun k _ => ?_))
    rw [← mul_assoc, ← Real.exp_add]
    congr 2
    ring

/-- The softmax weight of key `k` among the keys below `B`. -/
def soft (s : ℕ → ℝ) (B k : ℕ) : ℝ := Real.exp (s k) / ∑ j ∈ range B, Real.exp (s j)

theorem sum_pos {B : ℕ} (h : 0 < B) (f : ℕ → ℝ) : 0 < ∑ k ∈ range B, Real.exp (f k) :=
  Finset.sum_pos (fun _ _ => Real.exp_pos _) ⟨0, mem_range.2 h⟩

/-- Any shift gives the same weights. -/
theorem soft_shift (s : ℕ → ℝ) (B k : ℕ) (M : ℝ) : Real.exp (s k - M) / ∑ j ∈ range B, Real.exp (s j - M) = soft s B k := by
  unfold soft
  simp only [Real.exp_sub, ← sum_div]
  field_simp

/-- The quotient of the two sums is the average of the values by the softmax weights. -/
theorem Inv.quot {B : ℕ} {s : ℕ → ℝ} {v : ℕ → Fin 256 → ℝ} {m : Fin 128 → EReal} {a : Fin 256 → EReal} (hI : Inv s v B m a) (hB : 0 < B)
    (i j : Fin 256) (hj : ∀ k, v k j = 1) : Ideal.div (a i) (a j) = ((∑ k ∈ range B, soft s B k * v k i : ℝ) : EReal) := by
  rcases hI with ⟨h, -⟩ | ⟨M, -, hA⟩
  · omega
  · have e : ∑ k ∈ range B, Real.exp (s k - M) * v k j = ∑ k ∈ range B, Real.exp (s k - M) := sum_congr rfl fun k _ => by rw [hj, mul_one]
    have h0 := (sum_pos hB fun k => s k - M).ne'
    rw [hA, hA, e, Ideal.div_coe h0, ← EReal.coe_mul, mul_one_div, sum_div]
    refine congrArg _ (sum_congr rfl fun k _ => ?_)
    rw [← soft_shift s B k M]
    ring

end Cert.AttnRow

end
end
-- ==== Proof.AttnUnit.lean ====
module
public import proofs.«01_k».proof.Proof.Gen.AttnIdeal.Flash.Runs
public import proofs.«01_k».proof.Proof.AttnRow
public import Idealize.ShloMosaic.Lib.WordCmp
@[expose] public section
set_option maxRecDepth 16384
noncomputable section

/-! # One block of scores of the attention kernel, by rows

The kernel treats 256 query rows of a head with 512 or 256 keys at a time. There are three forms: every key let through,
and the two blocks on the diagonal (rows 0 to 255 of a tile with 256 keys, rows 256 to 511 with 512 keys). -/

namespace Cert.AttnIdeal.Hand
open Cert.AttnIdeal Cert.AttnIdeal.Gen Cert.AttnRow Idealize.ShloMosaic Idealize.ShloMosaic.TcCoe

theorem ofBits_bot : Ideal.ofBits FTy.f32 4286578688#32 = ⊥ := by rfl

section Forms
variable (Q : Vec Ideal S1x256x128 .bf16) (K : Vec Ideal S1x512x128 .bf16) (K' : Vec Ideal S1x256x128 .bf16) (M : Vec Ideal S1x256x128 .f32)
  (V : Vec Ideal S1x512x256 .bf16) (V' : Vec Ideal S1x256x256 .bf16) (A : Vec Ideal S1x256x256 .f32)

/-- The new maxima and the new sums, every key let through. -/
abbrev mF : Vec Ideal S1x256x128 .f32 := k0_pay12 (k0_pay9 Q K M)
abbrev aF : Vec Ideal S1x256x256 .f32 := k0_pay11 (k0_pay10 Q K M V A)
/-- The same on the diagonal, rows 0 to 255. -/
abbrev mL : Vec Ideal S1x256x128 .f32 := k0_pay395 (k0_pay391 Q K' M)
abbrev aL : Vec Ideal S1x256x256 .f32 := k0_pay394 (k0_pay392 Q K' M V') (k0_pay393 Q K' M) A
/-- The same on the diagonal, rows 256 to 511. -/
abbrev mH : Vec Ideal S1x256x128 .f32 := k0_pay402 (k0_pay398 Q K M)
abbrev aH : Vec Ideal S1x256x256 .f32 := k0_pay401 (k0_pay399 Q K M) (k0_pay400 Q K M) V A

/-- Lane `i mod 128`. -/
def lane {n : ℕ} (i : Fin n) : Fin 128 := ⟨i.val % 128, Nat.mod_lt _ (by decide)⟩

theorem two (T : Fin 128 → EReal) (i : Fin 256) :
    (if h : i.val < 128 then T ⟨i.val, h⟩ else T ⟨i.val - 128, by have := i.isLt; omega⟩) = T (lane i) := by
  have := i.isLt
  split <;> exact congrArg T (Fin.ext (by dsimp only [lane]; omega))

theorem four (T : Fin 128 → EReal) (i : Fin 512) :
    (if h : i.val < 128 then T ⟨i.val, h⟩ else if h : i.val - 128 < 128 then T ⟨i.val - 128, h⟩
      else if h : i.val - 128 - 128 < 128 then T ⟨i.val - 128 - 128, h⟩ else T ⟨i.val - 128 - 128 - 128, by have := i.isLt; omega⟩) = T (lane i) := by
  have := i.isLt
  repeat' split
  all_goals exact congrArg T (Fin.ext (by dsimp only [lane]; omega))

theorem sF (r : Fin 256) (j : Fin 512) : k0_pay7 (F := Ideal) Q K (ix2 r j) = ∑ x : Fin 128, Q (ix3 0 r x) * K (ix3 0 j x) := by
  pointwise [k0_pay7]
theorem mF_apply (r : Fin 256) (l : Fin 128) : mF Q K M (ix3 0 r l)
    = max (M (ix3 0 r l)) (Finset.fold max ⊥ (fun j : Fin 512 => k0_pay7 (F := Ideal) Q K (ix2 r j)) Finset.univ) := by
  unfold mF
  pointwise [k0_pay12, k0_pay9, k0_pay8]
  rfl
theorem mF9 (r : Fin 256) (l : Fin 128) : k0_pay9 (F := Ideal) Q K M (ix2 r l) = mF Q K M (ix3 0 r l) := by
  rw [mF_apply]
  pointwise [k0_pay9, k0_pay8]
  rfl
theorem aF_apply (r i : Fin 256) : aF Q K M V A (ix3 0 r i)
    = Ideal.exp (M (ix3 0 r (lane i)) - mF Q K M (ix3 0 r (lane i))) * A (ix3 0 r i)
      + ∑ j : Fin 512, Ideal.exp (k0_pay7 (F := Ideal) Q K (ix2 r j) - mF Q K M (ix3 0 r (lane j))) * V (ix3 0 j i) := by
  unfold aF
  pointwise [k0_pay11, k0_pay10, k0_pay8]
  refine congrArg₂ (· + ·) (congrArg (· * _) ?_) (Finset.sum_congr rfl fun j _ => congrArg (fun T => Ideal.exp (_ - T) * _) ?_)
  · rw [← mF9]
    exact two (fun l => Ideal.exp (M (ix3 0 r l) - k0_pay9 (F := Ideal) Q K M (ix2 r l))) i
  · rw [← mF9]
    exact four (fun l => k0_pay9 (F := Ideal) Q K M (ix2 r l)) j

theorem le_word {a b o : ℕ} (ha : a < 512) (hb : b < 256) (ho : o ≤ 256) (x y : EReal) :
    Scalar.select (IntOp.cmpi CmpIPredicate.sle (BitVec.ofNat 32 a) (IntOp.addi (BitVec.ofNat 32 b) (BitVec.ofNat 32 o))) x y
      = if a ≤ b + o then x else y := by
  rw [show IntOp.addi (BitVec.ofNat 32 b) (BitVec.ofNat 32 o) = BitVec.ofNat 32 (b + o) from (BitVec.ofNat_add b o).symm]
  exact if_congr (WordCmp.cmpi_sle_ofNat_eq_one_iff (by omega) (by omega)) rfl rfl

theorem sL (r j : Fin 256) : k0_pay389 (F := Ideal) Q K' (ix2 r j)
    = if j.val ≤ r.val + 0 then ∑ x : Fin 128, Q (ix3 0 r x) * K' (ix3 0 j x) else ⊥ := by
  have := r.isLt
  have := j.isLt
  pointwise [k0_pay389]
  exact le_word (o := 0) (by omega) (by omega) (by decide) _ _
theorem mL_apply (r : Fin 256) (l : Fin 128) : mL Q K' M (ix3 0 r l)
    = max (M (ix3 0 r l)) (Finset.fold max ⊥ (fun j : Fin 256 => k0_pay389 (F := Ideal) Q K' (ix2 r j)) Finset.univ) := by
  unfold mL
  pointwise [k0_pay395, k0_pay391, k0_pay390]
  rfl
theorem mL9 (r : Fin 256) (l : Fin 128) : k0_pay391 (F := Ideal) Q K' M (ix2 r l) = mL Q K' M (ix3 0 r l) := by
  rw [mL_apply]
  pointwise [k0_pay391, k0_pay390]
  rfl
theorem aL_apply (r i : Fin 256) : aL Q K' M V' A (ix3 0 r i)
    = Ideal.exp (M (ix3 0 r (lane i)) - mL Q K' M (ix3 0 r (lane i))) * A (ix3 0 r i)
      + ∑ j : Fin 256, Ideal.exp (k0_pay389 (F := Ideal) Q K' (ix2 r j) - mL Q K' M (ix3 0 r (lane j))) * V' (ix3 0 j i) := by
  unfold aL
  pointwise [k0_pay394, k0_pay393, k0_pay392, k0_pay390]
  refine Eq.trans ?_ (congrArg (_ + ·) (Fin.sum_univ_add (a := 128) (b := 128) _).symm)
  refine congrArg₂ (· + ·) (congrArg (· * _) ?_) (congrArg₂ (· + ·) (Finset.sum_congr rfl fun j _ => congrArg (fun T => Ideal.exp (_ - T) * _) ?_)
    (Finset.sum_congr rfl fun j _ => congrArg (fun T => Ideal.exp (_ - T) * _) ?_))
  · rw [← mL9]
    exact two (fun l => Ideal.exp (M (ix3 0 r l) - k0_pay391 (F := Ideal) Q K' M (ix2 r l))) i
  · rw [← mL9]
    exact congrArg (fun l => k0_pay391 (F := Ideal) Q K' M (ix2 r l)) (Fin.ext (Nat.mod_eq_of_lt j.isLt).symm)
  · rw [← mL9]
    refine congrArg (fun l => k0_pay391 (F := Ideal) Q K' M (ix2 r l)) (Fin.ext ?_)
    have := j.isLt
    show j.val = (128 + j.val) % 128
    omega

theorem sH (r : Fin 256) (j : Fin 512) : k0_pay396 (F := Ideal) Q K (ix2 r j)
    = if j.val ≤ r.val + 256 then ∑ x : Fin 128, Q (ix3 0 r x) * K (ix3 0 j x) else ⊥ := by
  have := r.isLt
  have := j.isLt
  pointwise [k0_pay396]
  exact le_word (o := 256) (by omega) (by omega) (by decide) _ _
theorem mH_apply (r : Fin 256) (l : Fin 128) : mH Q K M (ix3 0 r l)
    = max (M (ix3 0 r l)) (Finset.fold max ⊥ (fun j : Fin 512 => k0_pay396 (F := Ideal) Q K (ix2 r j)) Finset.univ) := by
  unfold mH
  pointwise [k0_pay402, k0_pay398, k0_pay397]
  rfl
theorem mH9 (r : Fin 256) (l : Fin 128) : k0_pay398 (F := Ideal) Q K M (ix2 r l) = mH Q K M (ix3 0 r l) := by
  rw [mH_apply]
  pointwise [k0_pay398, k0_pay397]
  rfl
theorem aH_apply (r i : Fin 256) : aH Q K M V A (ix3 0 r i)
    = Ideal.exp (M (ix3 0 r (lane i)) - mH Q K M (ix3 0 r (lane i))) * A (ix3 0 r i)
      + ∑ j : Fin 512, Ideal.exp (k0_pay396 (F := Ideal) Q K (ix2 r j) - mH Q K M (ix3 0 r (lane j))) * V (ix3 0 j i) := by
  unfold aH
  pointwise [k0_pay401, k0_pay400, k0_pay399, k0_pay397]
  refine congrArg₂ (· + ·) (congrArg (· * _) ?_) (Finset.sum_congr rfl fun j _ => congrArg (fun T => Ideal.exp (_ - T) * _) ?_)
  · rw [← mH9]
    exact two (fun l => Ideal.exp (M (ix3 0 r l) - k0_pay398 (F := Ideal) Q K M (ix2 r l))) i
  · rw [← mH9]
    exact four (fun l => k0_pay398 (F := Ideal) Q K M (ix2 r l)) j

end Forms

/-! ## The three forms keep the running softmax -/

section Keep
variable {q : Fin 256 → Fin 128 → ℝ} {k : ℕ → Fin 128 → ℝ} {v : ℕ → Fin 256 → ℝ} {base : ℕ}
  {Q : Vec Ideal S1x256x128 .bf16} {K : Vec Ideal S1x512x128 .bf16} {K' : Vec Ideal S1x256x128 .bf16} {M : Vec Ideal S1x256x128 .f32}
  {V : Vec Ideal S1x512x256 .bf16} {V' : Vec Ideal S1x256x256 .bf16} {A : Vec Ideal S1x256x256 .f32}

/-- The score of a row of queries with key `κ`. -/
def dot (q : Fin 128 → ℝ) (k : ℕ → Fin 128 → ℝ) (κ : ℕ) : ℝ := ∑ l, q l * k κ l

theorem dot_coe (q : Fin 128 → ℝ) (k : ℕ → Fin 128 → ℝ) (κ : ℕ) (f g : Fin 128 → EReal) (hf : ∀ l, f l = (q l : EReal)) (hg : ∀ l, g l = (k κ l : EReal)) :
    ∑ l, f l * g l = ((dot q k κ : ℝ) : EReal) := by
  unfold dot
  rw [← coe_sum]
  exact Finset.sum_congr rfl fun l _ => by rw [hf, hg, EReal.coe_mul]

theorem keepF (hQ : ∀ r l, Q (ix3 0 r l) = (q r l : EReal)) (hK : ∀ (j : Fin 512) l, K (ix3 0 j l) = (k (base + j.val) l : EReal))
    (hV : ∀ (j : Fin 512) i, V (ix3 0 j i) = (v (base + j.val) i : EReal)) (r : Fin 256)
    (hI : Inv (dot (q r) k) v base (fun l => M (ix3 0 r l)) (fun i => A (ix3 0 r i))) :
    Inv (dot (q r) k) v (base + 512) (fun l => mF Q K M (ix3 0 r l)) (fun i => aF Q K M V A (ix3 0 r i)) := by
  refine Inv.step (nk := 512) (fun j => k0_pay7 (F := Ideal) Q K (ix2 r j)) (fun j i => V (ix3 0 j i)) lane lane hI rfl (by omega) (by omega) ?_ hV
    (mF_apply Q K M r) (aF_apply Q K M V A r)
  intro j
  rw [if_pos (by have := j.isLt; omega)]
  rw [sF]
  exact dot_coe _ _ _ _ _ (hQ r) (hK j)

theorem keepL (hQ : ∀ r l, Q (ix3 0 r l) = (q r l : EReal)) (hK : ∀ (j : Fin 256) l, K' (ix3 0 j l) = (k (base + j.val) l : EReal))
    (hV : ∀ (j : Fin 256) i, V' (ix3 0 j i) = (v (base + j.val) i : EReal)) (r : Fin 256)
    (hI : Inv (dot (q r) k) v base (fun l => M (ix3 0 r l)) (fun i => A (ix3 0 r i))) :
    Inv (dot (q r) k) v (base + r.val + 1) (fun l => mL Q K' M (ix3 0 r l)) (fun i => aL Q K' M V' A (ix3 0 r i)) := by
  refine Inv.step (nk := 256) (fun j => k0_pay389 (F := Ideal) Q K' (ix2 r j)) (fun j i => V' (ix3 0 j i)) lane lane hI rfl (by omega) (by omega) ?_ hV
    (mL_apply Q K' M r) (aL_apply Q K' M V' A r)
  intro j
  rw [sL, dot_coe _ _ _ _ _ (hQ r) (hK j)]
  exact if_congr (by omega) rfl rfl

theorem keepH (hQ : ∀ r l, Q (ix3 0 r l) = (q r l : EReal)) (hK : ∀ (j : Fin 512) l, K (ix3 0 j l) = (k (base + j.val) l : EReal))
    (hV : ∀ (j : Fin 512) i, V (ix3 0 j i) = (v (base + j.val) i : EReal)) (r : Fin 256)
    (hI : Inv (dot (q r) k) v base (fun l => M (ix3 0 r l)) (fun i => A (ix3 0 r i))) :
    Inv (dot (q r) k) v (base + (256 + r.val) + 1) (fun l => mH Q K M (ix3 0 r l)) (fun i => aH Q K M V A (ix3 0 r i)) := by
  refine Inv.step (nk := 512) (fun j => k0_pay396 (F := Ideal) Q K (ix2 r j)) (fun j i => V (ix3 0 j i)) lane lane hI rfl (by omega) (by omega) ?_ hV
    (mH_apply Q K M r) (aH_apply Q K M V A r)
  intro j
  rw [sH, dot_coe _ _ _ _ _ (hQ r) (hK j)]
  exact if_congr (by omega) rfl rfl

end Keep

end Cert.AttnIdeal.Hand

end
end
-- ==== Proof.AttnChain.lean ====
module
public import proofs.«01_k».proof.Proof.AttnUnit
public import Idealize.ShloMosaic.Lib.WritesUnit
@[expose] public section
set_option maxRecDepth 16384
noncomputable section

/-! # The blocks of scores of one grid point, in order

A grid point goes through its eight heads; for each head it goes through one or two halves of the keys, and for each half
through four chunks of 256 rows. `Spec` says what the two lists of pieces written so far hold: the running softmax over the
keys of the halves done, for the chunks done. -/

namespace Cert.AttnIdeal.Hand
open Cert.AttnIdeal Cert.AttnIdeal.Gen Cert.AttnRow Idealize.ShloMosaic Idealize.ShloMosaic.TcCoe

/-- Pieces of the scratch of the maxima and of the scratch of the sums. -/
abbrev P2 := View.Piece (Elt Ideal) S8x1024x128 .f32
abbrev P3 := View.Piece (Elt Ideal) S8x1024x256 .f32

/-- What the two scratch buffers read after some pieces are written over contents `f`. -/
def r2 (f : scM0_2.view.ty.Contents (Elt Ideal)) (L : List P2) (y : S8x1024x128.Idx) : EReal :=
  scM0_2.view.read (Elt Ideal) (scM0_2.view.writes (Elt Ideal) f L) y
def r3 (f : scM0_3.view.ty.Contents (Elt Ideal)) (L : List P3) (y : S8x1024x256.Idx) : EReal :=
  scM0_3.view.read (Elt Ideal) (scM0_3.view.writes (Elt Ideal) f L) y

/-- Row `r` of chunk `c`. -/
def cr (c : ℕ) (hc : c < 4) (r : Fin 256) : Fin 1024 := ⟨256 * c + r.val, by have := r.isLt; omega⟩

section
variable (q : Fin 8 → Fin 1024 → Fin 128 → ℝ) (k : Fin 8 → ℕ → Fin 128 → ℝ) (v : Fin 8 → ℕ → Fin 256 → ℝ) (Bd : ℕ → ℕ → ℕ)

/-- The running softmax of row `ρ` of head `h`. -/
def Row (h : Fin 8) (ρ : Fin 1024) (B : ℕ) (m : Fin 128 → EReal) (a : Fin 256 → EReal) : Prop := Inv (dot (q h ρ) (k h)) (v h) B m a

/-- The two lists hold the running softmax, for every chunk that some half of the keys is done for; where the lists begin
with a whole fill (`ini`), the other chunks hold the fill. -/
structure Spec (ini : Prop) (st : ℕ → ℕ → ℕ) (L2 : List P2) (L3 : List P3) : Prop where
  done : ∀ h ρ, st h.val (ρ.val / 256) ≠ 0 → ∀ f2 f3, Row q k v h ρ (Bd (st h.val (ρ.val / 256)) ρ.val) (fun l => r2 f2 L2 (ix3 h ρ l)) (fun i => r3 f3 L3 (ix3 h ρ i))
  keep : ini → ∀ (h : Fin 8) (ρ : Fin 1024), st h.val (ρ.val / 256) = 0 → ∀ f2 f3, (∀ l, r2 f2 L2 (ix3 h ρ l) = ⊥) ∧ ∀ i, r3 f3 L3 (ix3 h ρ i) = 0

variable {q k v Bd}

theorem hit2 (h c : ℕ) (hh : h < 8) (hc : c < 4) (i2 : ∀ a, (![h, 256 * c, 0] : Fin 3 → ℕ) a + S1x256x128.size a ≤ S8x1024x128.size a)
    (p : S1x256x128.Idx → EReal) (L : List P2) (f r l) :
    r2 f ((⟨Rect.unit ![h, 256 * c, 0] S1x256x128.size i2, p⟩ : P2) :: L) (ix3 ⟨h, hh⟩ (cr c hc r) l) = p (ix3 0 r l) :=
  View.read_writes_cons_unit_of_mem scM0_2.view f i2 p L (ix3 ⟨h, hh⟩ (cr c hc r) l) (ix3 (n0 := 1) (n1 := 256) (n2 := 128) 0 r l) rfl (fun a => match a with
    | ⟨0, _⟩ => rfl
    | ⟨1, _⟩ => rfl
    | ⟨2, _⟩ => (Nat.zero_add _).symm)
theorem hit3 (h c : ℕ) (hh : h < 8) (hc : c < 4) (i3 : ∀ a, (![h, 256 * c, 0] : Fin 3 → ℕ) a + S1x256x256.size a ≤ S8x1024x256.size a)
    (p : S1x256x256.Idx → EReal) (L : List P3) (f r l) :
    r3 f ((⟨Rect.unit ![h, 256 * c, 0] S1x256x256.size i3, p⟩ : P3) :: L) (ix3 ⟨h, hh⟩ (cr c hc r) l) = p (ix3 0 r l) :=
  View.read_writes_cons_unit_of_mem scM0_3.view f i3 p L (ix3 ⟨h, hh⟩ (cr c hc r) l) (ix3 (n0 := 1) (n1 := 256) (n2 := 256) 0 r l) rfl (fun a => match a with
    | ⟨0, _⟩ => rfl
    | ⟨1, _⟩ => rfl
    | ⟨2, _⟩ => (Nat.zero_add _).symm)
theorem miss2 (h c : ℕ) (i2 : ∀ a, (![h, 256 * c, 0] : Fin 3 → ℕ) a + S1x256x128.size a ≤ S8x1024x128.size a)
    (p : S1x256x128.Idx → EReal) (L : List P2) (f) (h' : Fin 8) (ρ : Fin 1024) (l) (hne : ¬ (h'.val = h ∧ ρ.val / 256 = c)) :
    r2 f ((⟨Rect.unit ![h, 256 * c, 0] S1x256x128.size i2, p⟩ : P2) :: L) (ix3 h' ρ l) = r2 f L (ix3 h' ρ l) := by
  by_cases e : h'.val = h
  · exact View.read_writes_cons_unit_of_not_mem scM0_2.view f i2 p L (ix3 h' ρ l) rfl (1 : Fin 3) (by
      show ρ.val < 256 * c ∨ 256 * c + 256 ≤ ρ.val
      omega)
  · exact View.read_writes_cons_unit_of_not_mem scM0_2.view f i2 p L (ix3 h' ρ l) rfl (0 : Fin 3) (by
      show h'.val < h ∨ h + 1 ≤ h'.val
      omega)
theorem miss3 (h c : ℕ) (i3 : ∀ a, (![h, 256 * c, 0] : Fin 3 → ℕ) a + S1x256x256.size a ≤ S8x1024x256.size a)
    (p : S1x256x256.Idx → EReal) (L : List P3) (f) (h' : Fin 8) (ρ : Fin 1024) (l) (hne : ¬ (h'.val = h ∧ ρ.val / 256 = c)) :
    r3 f ((⟨Rect.unit ![h, 256 * c, 0] S1x256x256.size i3, p⟩ : P3) :: L) (ix3 h' ρ l) = r3 f L (ix3 h' ρ l) := by
  by_cases e : h'.val = h
  · exact View.read_writes_cons_unit_of_not_mem scM0_3.view f i3 p L (ix3 h' ρ l) rfl (1 : Fin 3) (by
      show ρ.val < 256 * c ∨ 256 * c + 256 ≤ ρ.val
      omega)
  · exact View.read_writes_cons_unit_of_not_mem scM0_3.view f i3 p L (ix3 h' ρ l) rfl (0 : Fin 3) (by
      show h'.val < h ∨ h + 1 ≤ h'.val
      omega)

theorem Spec.step {ini : Prop} {st st' : ℕ → ℕ → ℕ} {L2 L2' : List P2} {L3 L3' : List P3} (old : Spec q k v Bd ini st L2 L3) (h c : ℕ) (hh : h < 8) (hc : c < 4)
    {i2 : ∀ a, (![h, 256 * c, 0] : Fin 3 → ℕ) a + S1x256x128.size a ≤ S8x1024x128.size a}
    {i3 : ∀ a, (![h, 256 * c, 0] : Fin 3 → ℕ) a + S1x256x256.size a ≤ S8x1024x256.size a}
    {p2 : S1x256x128.Idx → EReal} {p3 : S1x256x256.Idx → EReal}
    (e2 : L2' = (⟨Rect.unit ![h, 256 * c, 0] S1x256x128.size i2, p2⟩ : P2) :: L2)
    (e3 : L3' = (⟨Rect.unit ![h, 256 * c, 0] S1x256x256.size i3, p3⟩ : P3) :: L3)
    (h1 : st' h c = st h c + 1) (h2 : ∀ h' c', c' < 4 → ¬ (h' = h ∧ c' = c) → st' h' c' = st h' c')
    (new : ∀ r, Row q k v ⟨h, hh⟩ (cr c hc r) (Bd (st h c + 1) (256 * c + r.val)) (fun l => p2 (ix3 0 r l)) (fun i => p3 (ix3 0 r i))) :
    Spec q k v Bd ini st' L2' L3' := by
  subst e2 e3
  constructor
  · intro h' ρ hs f2 f3
    by_cases hne : h'.val = h ∧ ρ.val / 256 = c
    · obtain ⟨rfl, rfl⟩ := hne
      have hρ := ρ.isLt
      have e : ρ = cr (ρ.val / 256) hc ⟨ρ.val % 256, Nat.mod_lt _ (by decide)⟩ := Fin.ext (by show ρ.val = 256 * (ρ.val / 256) + ρ.val % 256; omega)
      have n := new ⟨ρ.val % 256, Nat.mod_lt _ (by decide)⟩
      rw [show 256 * (ρ.val / 256) + ρ.val % 256 = ρ.val by omega, ← e] at n
      rw [h1]
      have n2 : ∀ l, r2 f2 ((⟨Rect.unit ![h'.val, 256 * (ρ.val / 256), 0] S1x256x128.size i2, p2⟩ : P2) :: L2) (ix3 h' ρ l) = p2 (ix3 0 ⟨ρ.val % 256, Nat.mod_lt _ (by decide)⟩ l) :=
        fun l => (congrArg (fun ρ => r2 f2 _ (ix3 h' ρ l)) e).trans (hit2 _ _ hh hc i2 p2 L2 f2 _ l)
      have n3 : ∀ l, r3 f3 ((⟨Rect.unit ![h'.val, 256 * (ρ.val / 256), 0] S1x256x256.size i3, p3⟩ : P3) :: L3) (ix3 h' ρ l) = p3 (ix3 0 ⟨ρ.val % 256, Nat.mod_lt _ (by decide)⟩ l) :=
        fun l => (congrArg (fun ρ => r3 f3 _ (ix3 h' ρ l)) e).trans (hit3 _ _ hh hc i3 p3 L3 f3 _ l)
      rw [funext n2, funext n3]
      exact n
    · rw [h2 _ _ (by have := ρ.isLt; omega) hne] at hs ⊢
      have o := old.done h' ρ hs f2 f3
      simp only [miss2 h c i2 p2 L2 f2 h' ρ _ hne, miss3 h c i3 p3 L3 f3 h' ρ _ hne]
      exact o
  · intro hi h' ρ hs f2 f3
    have hne : ¬ (h'.val = h ∧ ρ.val / 256 = c) := by
      rintro ⟨rfl, rfl⟩
      rw [h1] at hs
      omega
    rw [h2 _ _ (by have := ρ.isLt; omega) hne] at hs
    have o := old.keep hi h' ρ hs f2 f3
    exact ⟨fun l => (miss2 h c i2 p2 L2 f2 h' ρ l hne).trans (o.1 l), fun l => (miss3 h c i3 p3 L3 f3 h' ρ l hne).trans (o.2 l)⟩

/-! ## What the loads of a block read -/

theorem cov2 (L : List P2) (h c : ℕ) (hh : h < 8) (hc : c < 4) (i2 : ∀ a, (![h, 256 * c, 0] : Fin 3 → ℕ) a + S1x256x128.size a ≤ S8x1024x128.size a) (r l) :
    scM0_2.view.readCov L (Rect.unit (s := S8x1024x128) ![h, 256 * c, 0] S1x256x128.size i2).toLoadRect (ix3 (n0 := 1) (n1 := 256) (n2 := 128) 0 r l)
      = r2 scM0_2.view.junk L (ix3 ⟨h, hh⟩ (cr c hc r) l) := by
  rw [View.readCov_eq_canon']
  unfold r2
  rw [View.read_writes_junk_apply_eq_canon]
  refine congrArg (View.canon L) (funext fun a => Fin.ext ?_)
  match a with
  | ⟨0, _⟩ => exact Nat.add_zero _
  | ⟨1, _⟩ => show 256 * c + 1 * r.val = 256 * c + r.val; omega
  | ⟨2, _⟩ => show 0 + 1 * l.val = l.val; omega
theorem cov3 (L : List P3) (h c : ℕ) (hh : h < 8) (hc : c < 4) (i2 : ∀ a, (![h, 256 * c, 0] : Fin 3 → ℕ) a + S1x256x256.size a ≤ S8x1024x256.size a) (r l) :
    scM0_3.view.readCov L (Rect.unit (s := S8x1024x256) ![h, 256 * c, 0] S1x256x256.size i2).toLoadRect (ix3 (n0 := 1) (n1 := 256) (n2 := 256) 0 r l)
      = r3 scM0_3.view.junk L (ix3 ⟨h, hh⟩ (cr c hc r) l) := by
  rw [View.readCov_eq_canon']
  unfold r3
  rw [View.read_writes_junk_apply_eq_canon]
  refine congrArg (View.canon L) (funext fun a => Fin.ext ?_)
  match a with
  | ⟨0, _⟩ => exact Nat.add_zero _
  | ⟨1, _⟩ => show 256 * c + 1 * r.val = 256 * c + r.val; omega
  | ⟨2, _⟩ => show 0 + 1 * l.val = l.val; omega

end

/-! ## One block as one step -/

section
variable {q : Fin 8 → Fin 1024 → Fin 128 → ℝ} {k : Fin 8 → ℕ → Fin 128 → ℝ} {v : Fin 8 → ℕ → Fin 256 → ℝ} {k0 d : ℕ}

/-- The keys a row has seen after `T` halves of the block that begins at key `k0`; in half `d - 1` a row of a tile stops at itself. -/
def bd (k0 d T ρ : ℕ) : ℕ := if T = d then k0 + 512 * (T - 1) + ρ % 512 + 1 else k0 + 512 * T
/-- The halves done after `n` blocks of scores, with two halves to a head, and with one. -/
def st8 (n h c : ℕ) : ℕ := (if 8 * h + c < n then 1 else 0) + (if 8 * h + 4 + c < n then 1 else 0)
def st4 (n h c : ℕ) : ℕ := if 4 * h + c < n then 1 else 0

theorem st8_1 (h c s : ℕ) (hc : c < 4) (hs : s < 2) : st8 (8 * h + 4 * s + c) h c = s := by
  unfold st8; split_ifs <;> omega
theorem st8_2 (h c s : ℕ) (hc : c < 4) (hs : s < 2) : st8 (8 * h + 4 * s + c + 1) h c = st8 (8 * h + 4 * s + c) h c + 1 := by
  unfold st8; split_ifs <;> omega
theorem st8_3 (h c s : ℕ) (hc : c < 4) (hs : s < 2) (h' c' : ℕ) (hc' : c' < 4) (hne : ¬ (h' = h ∧ c' = c)) :
    st8 (8 * h + 4 * s + c + 1) h' c' = st8 (8 * h + 4 * s + c) h' c' := by
  unfold st8; split_ifs <;> omega
theorem st4_1 (h c : ℕ) : st4 (4 * h + c) h c = 0 := by
  unfold st4; split_ifs <;> omega
theorem st4_2 (h c : ℕ) : st4 (4 * h + c + 1) h c = st4 (4 * h + c) h c + 1 := by
  unfold st4; split_ifs <;> omega
theorem st4_3 (h c : ℕ) (hc : c < 4) (h' c' : ℕ) (hc' : c' < 4) (hne : ¬ (h' = h ∧ c' = c)) : st4 (4 * h + c + 1) h' c' = st4 (4 * h + c) h' c' := by
  unfold st4; split_ifs <;> omega

variable (q k v k0)
/-- A load of 256 rows of the scaled queries, of some keys, of some values, of the maxima and sums. -/
def IsQ (h : Fin 8) (c : ℕ) (hc : c < 4) (Q : S1x256x128.Idx → EReal) : Prop := ∀ (r : Fin 256) (l : Fin 128), Q (ix3 0 r l) = (q h (cr c hc r) l : EReal)
def IsK (h : Fin 8) (s : ℕ) {n : ℕ} (K : (⟨3, ![1, n, 128]⟩ : Shape).Idx → EReal) : Prop := ∀ (j : Fin n) (l : Fin 128), K (ix3 0 j l) = (k h (k0 + 512 * s + j.val) l : EReal)
def IsV (h : Fin 8) (s : ℕ) {n : ℕ} (V : (⟨3, ![1, n, 256]⟩ : Shape).Idx → EReal) : Prop := ∀ (j : Fin n) (i : Fin 256), V (ix3 0 j i) = (v h (k0 + 512 * s + j.val) i : EReal)
def IsMA (h : Fin 8) (c : ℕ) (hc : c < 4) (B : ℕ) (M : S1x256x128.Idx → EReal) (A : S1x256x256.Idx → EReal) : Prop :=
  ∀ r, Row q k v h (cr c hc r) B (fun l => M (ix3 0 r l)) (fun i => A (ix3 0 r i))
variable {q k v k0}

theorem stepF {ini : Prop} {st st' : ℕ → ℕ → ℕ} {L2 L2' : List P2} {L3 L3' : List P3} {h c s : ℕ} {hh : h < 8} {hc : c < 4}
    {Q : Vec Ideal S1x256x128 .bf16} {K : Vec Ideal S1x512x128 .bf16} {M : Vec Ideal S1x256x128 .f32} {V : Vec Ideal S1x512x256 .bf16} {A : Vec Ideal S1x256x256 .f32}
    (hd : s + 1 ≠ d) (hQ : IsQ q ⟨h, hh⟩ c hc Q) (hK : IsK k k0 ⟨h, hh⟩ s (n := 512) K) (hV : IsV v k0 ⟨h, hh⟩ s (n := 512) V) (hM : IsMA q k v ⟨h, hh⟩ c hc (k0 + 512 * s) M A)
    (h0 : st h c = s) (h1 : st' h c = st h c + 1) (h2 : ∀ h' c', c' < 4 → ¬ (h' = h ∧ c' = c) → st' h' c' = st h' c')
    (old : Spec q k v (bd k0 d) ini st L2 L3)
    {i2 : ∀ a, (![h, 256 * c, 0] : Fin 3 → ℕ) a + S1x256x128.size a ≤ S8x1024x128.size a}
    {i3 : ∀ a, (![h, 256 * c, 0] : Fin 3 → ℕ) a + S1x256x256.size a ≤ S8x1024x256.size a}
    (e2 : L2' = (⟨Rect.unit ![h, 256 * c, 0] S1x256x128.size i2, mF Q K M⟩ : P2) :: L2)
    (e3 : L3' = (⟨Rect.unit ![h, 256 * c, 0] S1x256x256.size i3, aF Q K M V A⟩ : P3) :: L3) :
    Spec q k v (bd k0 d) ini st' L2' L3' := by
  refine old.step h c hh hc e2 e3 h1 h2 fun r => ?_
  have e : bd k0 d (st h c + 1) (256 * c + r.val) = k0 + 512 * s + 512 := by
    unfold bd
    rw [if_neg (by omega), h0]
    omega
  rw [e]
  exact keepF (base := k0 + 512 * s) hQ hK hV r (hM r)

theorem stepL {ini : Prop} {st st' : ℕ → ℕ → ℕ} {L2 L2' : List P2} {L3 L3' : List P3} {h c s : ℕ} {hh : h < 8} {hc : c < 4}
    {Q : Vec Ideal S1x256x128 .bf16} {K : Vec Ideal S1x256x128 .bf16} {M : Vec Ideal S1x256x128 .f32} {V : Vec Ideal S1x256x256 .bf16} {A : Vec Ideal S1x256x256 .f32}
    (hd : s + 1 = d) (hQ : IsQ q ⟨h, hh⟩ c hc Q) (hK : IsK k k0 ⟨h, hh⟩ s (n := 256) K) (hV : IsV v k0 ⟨h, hh⟩ s (n := 256) V) (hM : IsMA q k v ⟨h, hh⟩ c hc (k0 + 512 * s) M A)
    (h0 : st h c = s) (h1 : st' h c = st h c + 1) (h2 : ∀ h' c', c' < 4 → ¬ (h' = h ∧ c' = c) → st' h' c' = st h' c') (hcc : c % 2 = 0)
    (old : Spec q k v (bd k0 d) ini st L2 L3)
    {i2 : ∀ a, (![h, 256 * c, 0] : Fin 3 → ℕ) a + S1x256x128.size a ≤ S8x1024x128.size a}
    {i3 : ∀ a, (![h, 256 * c, 0] : Fin 3 → ℕ) a + S1x256x256.size a ≤ S8x1024x256.size a}
    (e2 : L2' = (⟨Rect.unit ![h, 256 * c, 0] S1x256x128.size i2, mL Q K M⟩ : P2) :: L2)
    (e3 : L3' = (⟨Rect.unit ![h, 256 * c, 0] S1x256x256.size i3, aL Q K M V A⟩ : P3) :: L3) :
    Spec q k v (bd k0 d) ini st' L2' L3' := by
  refine old.step h c hh hc e2 e3 h1 h2 fun r => ?_
  have hr := r.isLt
  have e : bd k0 d (st h c + 1) (256 * c + r.val) = k0 + 512 * s + r.val + 1 := by
    unfold bd
    rw [if_pos (by omega), h0]
    omega
  rw [e]
  exact keepL (base := k0 + 512 * s) hQ hK hV r (hM r)

theorem stepH {ini : Prop} {st st' : ℕ → ℕ → ℕ} {L2 L2' : List P2} {L3 L3' : List P3} {h c s : ℕ} {hh : h < 8} {hc : c < 4}
    {Q : Vec Ideal S1x256x128 .bf16} {K : Vec Ideal S1x512x128 .bf16} {M : Vec Ideal S1x256x128 .f32} {V : Vec Ideal S1x512x256 .bf16} {A : Vec Ideal S1x256x256 .f32}
    (hd : s + 1 = d) (hQ : IsQ q ⟨h, hh⟩ c hc Q) (hK : IsK k k0 ⟨h, hh⟩ s (n := 512) K) (hV : IsV v k0 ⟨h, hh⟩ s (n := 512) V) (hM : IsMA q k v ⟨h, hh⟩ c hc (k0 + 512 * s) M A)
    (h0 : st h c = s) (h1 : st' h c = st h c + 1) (h2 : ∀ h' c', c' < 4 → ¬ (h' = h ∧ c' = c) → st' h' c' = st h' c') (hcc : c % 2 = 1)
    (old : Spec q k v (bd k0 d) ini st L2 L3)
    {i2 : ∀ a, (![h, 256 * c, 0] : Fin 3 → ℕ) a + S1x256x128.size a ≤ S8x1024x128.size a}
    {i3 : ∀ a, (![h, 256 * c, 0] : Fin 3 → ℕ) a + S1x256x256.size a ≤ S8x1024x256.size a}
    (e2 : L2' = (⟨Rect.unit ![h, 256 * c, 0] S1x256x128.size i2, mH Q K M⟩ : P2) :: L2)
    (e3 : L3' = (⟨Rect.unit ![h, 256 * c, 0] S1x256x256.size i3, aH Q K M V A⟩ : P3) :: L3) :
    Spec q k v (bd k0 d) ini st' L2' L3' := by
  refine old.step h c hh hc e2 e3 h1 h2 fun r => ?_
  have hr := r.isLt
  have e : bd k0 d (st h c + 1) (256 * c + r.val) = k0 + 512 * s + (256 + r.val) + 1 := by
    unfold bd
    rw [if_pos (by omega), h0]
    omega
  rw [e]
  exact keepH (base := k0 + 512 * s) hQ hK hV r (hM r)

/-! ## The loads -/

/-- The maxima and sums read back from the pieces written for the half before. -/
theorem Spec.again {ini : Prop} {st : ℕ → ℕ → ℕ} {L2 : List P2} {L3 : List P3} (old : Spec q k v (bd k0 d) ini st L2 L3) (h c s : ℕ) (hh : h < 8) (hc : c < 4)
    (h0 : st h c = s) (hs : s ≠ 0) (hd : s ≠ d)
    (i2 : ∀ a, (![h, 256 * c, 0] : Fin 3 → ℕ) a + S1x256x128.size a ≤ S8x1024x128.size a)
    (i3 : ∀ a, (![h, 256 * c, 0] : Fin 3 → ℕ) a + S1x256x256.size a ≤ S8x1024x256.size a) :
    IsMA q k v ⟨h, hh⟩ c hc (k0 + 512 * s) (scM0_2.view.readCov L2 (Rect.unit (s := S8x1024x128) ![h, 256 * c, 0] S1x256x128.size i2).toLoadRect)
      (scM0_3.view.readCov L3 (Rect.unit (s := S8x1024x256) ![h, 256 * c, 0] S1x256x256.size i3).toLoadRect) := by
  intro r
  have hr := r.isLt
  have e : (cr c hc r).val / 256 = c := by
    show (256 * c + r.val) / 256 = c
    omega
  have o := old.done ⟨h, hh⟩ (cr c hc r) (by rw [e]; show st h c ≠ 0; omega) scM0_2.view.junk scM0_3.view.junk
  rw [e] at o
  change Row q k v _ _ (bd k0 d (st h c) _) _ _ at o
  rw [h0] at o
  unfold bd at o
  rw [if_neg hd] at o
  simp only [cov2 L2 h c hh hc i2, cov3 L3 h c hh hc i3]
  exact o

/-- The maxima and sums read back from the whole fill. -/
theorem Spec.fresh {st : ℕ → ℕ → ℕ} {L2 : List P2} {L3 : List P3} (old : Spec q k v (bd 0 d) True st L2 L3) (h c : ℕ) (hh : h < 8) (hc : c < 4)
    (h0 : st h c = 0)
    (i2 : ∀ a, (![h, 256 * c, 0] : Fin 3 → ℕ) a + S1x256x128.size a ≤ S8x1024x128.size a)
    (i3 : ∀ a, (![h, 256 * c, 0] : Fin 3 → ℕ) a + S1x256x256.size a ≤ S8x1024x256.size a) :
    IsMA q k v ⟨h, hh⟩ c hc (0 + 512 * 0) (scM0_2.view.readCov L2 (Rect.unit (s := S8x1024x128) ![h, 256 * c, 0] S1x256x128.size i2).toLoadRect)
      (scM0_3.view.readCov L3 (Rect.unit (s := S8x1024x256) ![h, 256 * c, 0] S1x256x256.size i3).toLoadRect) := by
  intro r
  have hr := r.isLt
  have e : (cr c hc r).val / 256 = c := by
    show (256 * c + r.val) / 256 = c
    omega
  have o := old.keep trivial ⟨h, hh⟩ (cr c hc r) (by rw [e]; exact h0) scM0_2.view.junk scM0_3.view.junk
  exact Or.inl ⟨rfl, fun l => (cov2 L2 h c hh hc i2 r l).trans (o.1 l), fun i => (cov3 L3 h c hh hc i3 r i).trans (o.2 i)⟩

/-- The maxima and sums as the point finds them. -/
theorem carried {xa2 : scM0_2.view.ty.Contents (Elt Ideal)} {xa3 : scM0_3.view.ty.Contents (Elt Ideal)}
    (hI : ∀ h ρ, Row q k v h ρ k0 (fun l => scM0_2.view.read (Elt Ideal) xa2 (ix3 h ρ l)) (fun i => scM0_3.view.read (Elt Ideal) xa3 (ix3 h ρ i)))
    (h c : ℕ) (hh : h < 8) (hc : c < 4)
    (i2 : ∀ a, (![h, 256 * c, 0] : Fin 3 → ℕ) a + S1x256x128.size a ≤ S8x1024x128.size a)
    (i3 : ∀ a, (![h, 256 * c, 0] : Fin 3 → ℕ) a + S1x256x256.size a ≤ S8x1024x256.size a) :
    IsMA q k v ⟨h, hh⟩ c hc (k0 + 512 * 0) (View.readAt (Elt Ideal) scM0_2.view (Rect.unit (s := S8x1024x128) ![h, 256 * c, 0] S1x256x128.size i2).toLoadRect xa2)
      (View.readAt (Elt Ideal) scM0_3.view (Rect.unit (s := S8x1024x256) ![h, 256 * c, 0] S1x256x256.size i3).toLoadRect xa3) := by
  intro r
  have o := hI ⟨h, hh⟩ (cr c hc r)
  have e2 : ∀ l, View.readAt (Elt Ideal) scM0_2.view (Rect.unit (s := S8x1024x128) ![h, 256 * c, 0] S1x256x128.size i2).toLoadRect xa2 (ix3 (n0 := 1) (n1 := 256) (n2 := 128) 0 r l)
      = scM0_2.view.read (Elt Ideal) xa2 (ix3 ⟨h, hh⟩ (cr c hc r) l) := fun l => by
    rw [View.readAt_apply]
    refine congrArg (scM0_2.view.read (Elt Ideal) xa2) (funext fun a => Fin.ext ?_)
    match a with
    | ⟨0, _⟩ => exact Nat.add_zero _
    | ⟨1, _⟩ => show 256 * c + 1 * r.val = 256 * c + r.val; omega
    | ⟨2, _⟩ => show 0 + 1 * l.val = l.val; omega
  have e3 : ∀ l, View.readAt (Elt Ideal) scM0_3.view (Rect.unit (s := S8x1024x256) ![h, 256 * c, 0] S1x256x256.size i3).toLoadRect xa3 (ix3 (n0 := 1) (n1 := 256) (n2 := 256) 0 r l)
      = scM0_3.view.read (Elt Ideal) xa3 (ix3 ⟨h, hh⟩ (cr c hc r) l) := fun l => by
    rw [View.readAt_apply]
    refine congrArg (scM0_3.view.read (Elt Ideal) xa3) (funext fun a => Fin.ext ?_)
    match a with
    | ⟨0, _⟩ => exact Nat.add_zero _
    | ⟨1, _⟩ => show 256 * c + 1 * r.val = 256 * c + r.val; omega
    | ⟨2, _⟩ => show 0 + 1 * l.val = l.val; omega
  rw [funext e2, funext e3]
  exact o

/-- The scaled queries as the point finds them. -/
theorem oldQ {xa0 : scM0_0.view.ty.Contents (Elt Ideal)} (hq : ∀ h ρ l, scM0_0.view.read (Elt Ideal) xa0 (ix3 h ρ l) = (q h ρ l : EReal))
    (h c : ℕ) (hh : h < 8) (hc : c < 4) (i2 : ∀ a, (![h, 256 * c, 0] : Fin 3 → ℕ) a + S1x256x128.size a ≤ S8x1024x128.size a) :
    IsQ q ⟨h, hh⟩ c hc (View.readAt (Elt Ideal) scM0_0.view (Rect.unit (s := S8x1024x128) ![h, 256 * c, 0] S1x256x128.size i2).toLoadRect xa0) := by
  intro r l
  rw [View.readAt_apply, ← hq]
  refine congrArg (scM0_0.view.read (Elt Ideal) xa0) (funext fun a => Fin.ext ?_)
  match a with
  | ⟨0, _⟩ => exact Nat.add_zero _
  | ⟨1, _⟩ => show 256 * c + 1 * r.val = 256 * c + r.val; omega
  | ⟨2, _⟩ => show 0 + 1 * l.val = l.val; omega

/-- The scaled queries written at this point. -/
theorem newQ {L0 : List (View.Piece (Elt Ideal) S8x1024x128 .bf16)} (hq : ∀ h ρ l, View.canon L0 (ix3 h ρ l) = (q h ρ l : EReal))
    (h c : ℕ) (hh : h < 8) (hc : c < 4) (i2 : ∀ a, (![h, 256 * c, 0] : Fin 3 → ℕ) a + S1x256x128.size a ≤ S8x1024x128.size a) :
    IsQ q ⟨h, hh⟩ c hc (scM0_0.view.readCov L0 (Rect.unit (s := S8x1024x128) ![h, 256 * c, 0] S1x256x128.size i2).toLoadRect) := by
  intro r l
  rw [View.readCov_eq_canon', ← hq]
  refine congrArg (View.canon L0) (funext fun a => Fin.ext ?_)
  match a with
  | ⟨0, _⟩ => exact Nat.add_zero _
  | ⟨1, _⟩ => show 256 * c + 1 * r.val = 256 * c + r.val; omega
  | ⟨2, _⟩ => show 0 + 1 * l.val = l.val; omega

/-- Keys of the block, 512 or 256 of them. -/
theorem key5 (arg5 : Memref sig .tc .vmem S8x1024x128 .bf16) {x1 : S8x1024x128.Idx → Elt Ideal .bf16} (hk : ∀ h (j : Fin 1024) l, x1 (ix3 h j l) = (k h (k0 + j.val) l : EReal))
    (h s : ℕ) (hh : h < 8) (hs : s < 2) (i2 : ∀ a, (![h, 512 * s, 0] : Fin 3 → ℕ) a + S1x512x128.size a ≤ S8x1024x128.size a) :
    IsK k k0 ⟨h, hh⟩ s (n := 512) (View.readAt (Elt Ideal) arg5.view (Rect.unit (s := S8x1024x128) ![h, 512 * s, 0] S1x512x128.size i2).toLoadRect (arg5.view.rep x1)) := by
  intro j l
  have hj := j.isLt
  have hb : 512 * s + j.val < 1024 := by omega
  rw [View.readAt_apply, View.read_rep, show k0 + 512 * s + j.val = k0 + (⟨512 * s + j.val, hb⟩ : Fin 1024).val from Nat.add_assoc _ _ _, ← hk]
  refine congrArg x1 (funext fun a => Fin.ext ?_)
  match a with
  | ⟨0, _⟩ => exact Nat.add_zero _
  | ⟨1, _⟩ => show 512 * s + 1 * j.val = 512 * s + j.val; omega
  | ⟨2, _⟩ => show 0 + 1 * l.val = l.val; omega
theorem key2 (arg5 : Memref sig .tc .vmem S8x1024x128 .bf16) {x1 : S8x1024x128.Idx → Elt Ideal .bf16} (hk : ∀ h (j : Fin 1024) l, x1 (ix3 h j l) = (k h (k0 + j.val) l : EReal))
    (h s : ℕ) (hh : h < 8) (hs : s < 2) (i2 : ∀ a, (![h, 512 * s, 0] : Fin 3 → ℕ) a + S1x256x128.size a ≤ S8x1024x128.size a) :
    IsK k k0 ⟨h, hh⟩ s (n := 256) (View.readAt (Elt Ideal) arg5.view (Rect.unit (s := S8x1024x128) ![h, 512 * s, 0] S1x256x128.size i2).toLoadRect (arg5.view.rep x1)) := by
  intro j l
  have hj := j.isLt
  have hb : 512 * s + j.val < 1024 := by omega
  rw [View.readAt_apply, View.read_rep, show k0 + 512 * s + j.val = k0 + (⟨512 * s + j.val, hb⟩ : Fin 1024).val from Nat.add_assoc _ _ _, ← hk]
  refine congrArg x1 (funext fun a => Fin.ext ?_)
  match a with
  | ⟨0, _⟩ => exact Nat.add_zero _
  | ⟨1, _⟩ => show 512 * s + 1 * j.val = 512 * s + j.val; omega
  | ⟨2, _⟩ => show 0 + 1 * l.val = l.val; omega

/-- What the scratch of the values reads: its ones everywhere, and the values of the first `n` heads. -/
def VS (v : Fin 8 → ℕ → Fin 256 → ℝ) (k0 : ℕ) (f : scM0_1.view.ty.Contents (Elt Ideal)) (L : List (View.Piece (Elt Ideal) S8x1024x256 .bf16)) (n : ℕ) : Prop :=
  ∀ (h : Fin 8) (j : Fin 1024) (i : Fin 256), (128 ≤ i.val ∨ h.val < n) → scM0_1.view.read (Elt Ideal) (scM0_1.view.writes (Elt Ideal) f L) (ix3 h j i) = (v h (k0 + j.val) i : EReal)

theorem VS.step {f : scM0_1.view.ty.Contents (Elt Ideal)} {L L' : List (View.Piece (Elt Ideal) S8x1024x256 .bf16)} {n : ℕ} (old : VS v k0 f L n) (hn : n < 8)
    {x2 : S8x1024x128.Idx → Elt Ideal .bf16} (hv : ∀ h (j : Fin 1024) (l : Fin 128), x2 (ix3 h j l) = (v h (k0 + j.val) ⟨l.val, by have := l.isLt; omega⟩ : EReal))
    {arg6 : Memref sig .tc .vmem S8x1024x128 .bf16}
    {i2 : ∀ a, (![n, 0, 0] : Fin 3 → ℕ) a + S1x1024x128.size a ≤ S8x1024x256.size a} {i3 : ∀ a, (![n, 0, 0] : Fin 3 → ℕ) a + S1x1024x128.size a ≤ S8x1024x128.size a}
    (e : L' = (⟨Rect.unit ![n, 0, 0] S1x1024x128.size i2, k0_pay6 (View.readAt (Elt Ideal) arg6.view (Rect.unit (s := S8x1024x128) ![n, 0, 0] S1x1024x128.size i3).toLoadRect (arg6.view.rep x2))⟩ : View.Piece (Elt Ideal) S8x1024x256 .bf16) :: L) :
    VS v k0 f L' (n + 1) := by
  subst e
  intro h j i hi
  by_cases hm : h.val = n ∧ i.val < 128
  · obtain ⟨rfl, hm⟩ := hm
    refine (View.read_writes_cons_unit_of_mem scM0_1.view f i2 _ L (ix3 h j i) (ix3 (n0 := 1) (n1 := 1024) (n2 := 128) 0 j ⟨i.val, hm⟩) rfl (fun a => match a with
      | ⟨0, _⟩ => rfl
      | ⟨1, _⟩ => (Nat.zero_add _).symm
      | ⟨2, _⟩ => (Nat.zero_add _).symm)).trans ?_
    have e6 : ∀ X : Vec Ideal S1x1024x128 .bf16, k0_pay6 (F := Ideal) X (ix3 0 j ⟨i.val, hm⟩) = X (ix3 0 j ⟨i.val, hm⟩) := fun X => by
      pointwise [k0_pay6]
    refine (e6 _).trans ?_
    rw [View.readAt_apply, View.read_rep]
    refine Eq.trans (congrArg x2 (funext fun a => Fin.ext ?_)) (hv h j ⟨i.val, hm⟩)
    match a with
    | ⟨0, _⟩ => exact Nat.add_zero _
    | ⟨1, _⟩ => show 0 + 1 * j.val = j.val; omega
    | ⟨2, _⟩ => show 0 + 1 * i.val = i.val; omega
  · by_cases hi' : i.val < 128
    · refine (View.read_writes_cons_unit_of_not_mem scM0_1.view f i2 _ L (ix3 h j i) rfl (0 : Fin 3) ?_).trans (old h j i (by omega))
      show h.val < n ∨ n + 1 ≤ h.val
      omega
    · refine (View.read_writes_cons_unit_of_not_mem scM0_1.view f i2 _ L (ix3 h j i) rfl (2 : Fin 3) ?_).trans (old h j i (by omega))
      show i.val < 0 ∨ 0 + 128 ≤ i.val
      omega

/-- Values of the block, 512 or 256 of them, over contents the point finds or over none. -/
theorem VS.old5 {f : scM0_1.view.ty.Contents (Elt Ideal)} {L : List (View.Piece (Elt Ideal) S8x1024x256 .bf16)} {n : ℕ} (o : VS v k0 f L n)
    (h s : ℕ) (hh : h < 8) (hs : s < 2) (hn : h < n) (i2 : ∀ a, (![h, 512 * s, 0] : Fin 3 → ℕ) a + S1x512x256.size a ≤ S8x1024x256.size a) :
    IsV v k0 ⟨h, hh⟩ s (n := 512) (View.readAt (Elt Ideal) scM0_1.view (Rect.unit (s := S8x1024x256) ![h, 512 * s, 0] S1x512x256.size i2).toLoadRect (scM0_1.view.writes (Elt Ideal) f L)) := by
  intro j l
  have hj := j.isLt
  have hb : 512 * s + j.val < 1024 := by omega
  rw [View.readAt_apply, show k0 + 512 * s + j.val = k0 + (⟨512 * s + j.val, hb⟩ : Fin 1024).val from Nat.add_assoc _ _ _, ← o ⟨h, hh⟩ ⟨512 * s + j.val, hb⟩ l (Or.inr hn)]
  refine congrArg (scM0_1.view.read (Elt Ideal) (scM0_1.view.writes (Elt Ideal) f L)) (funext fun a => Fin.ext ?_)
  match a with
  | ⟨0, _⟩ => exact Nat.add_zero _
  | ⟨1, _⟩ => show 512 * s + 1 * j.val = 512 * s + j.val; omega
  | ⟨2, _⟩ => show 0 + 1 * l.val = l.val; omega
theorem VS.old2 {f : scM0_1.view.ty.Contents (Elt Ideal)} {L : List (View.Piece (Elt Ideal) S8x1024x256 .bf16)} {n : ℕ} (o : VS v k0 f L n)
    (h s : ℕ) (hh : h < 8) (hs : s < 2) (hn : h < n) (i2 : ∀ a, (![h, 512 * s, 0] : Fin 3 → ℕ) a + S1x256x256.size a ≤ S8x1024x256.size a) :
    IsV v k0 ⟨h, hh⟩ s (n := 256) (View.readAt (Elt Ideal) scM0_1.view (Rect.unit (s := S8x1024x256) ![h, 512 * s, 0] S1x256x256.size i2).toLoadRect (scM0_1.view.writes (Elt Ideal) f L)) := by
  intro j l
  have hj := j.isLt
  have hb : 512 * s + j.val < 1024 := by omega
  rw [View.readAt_apply, show k0 + 512 * s + j.val = k0 + (⟨512 * s + j.val, hb⟩ : Fin 1024).val from Nat.add_assoc _ _ _, ← o ⟨h, hh⟩ ⟨512 * s + j.val, hb⟩ l (Or.inr hn)]
  refine congrArg (scM0_1.view.read (Elt Ideal) (scM0_1.view.writes (Elt Ideal) f L)) (funext fun a => Fin.ext ?_)
  match a with
  | ⟨0, _⟩ => exact Nat.add_zero _
  | ⟨1, _⟩ => show 512 * s + 1 * j.val = 512 * s + j.val; omega
  | ⟨2, _⟩ => show 0 + 1 * l.val = l.val; omega
theorem VS.new5 {L : List (View.Piece (Elt Ideal) S8x1024x256 .bf16)} {n : ℕ} (o : VS v k0 scM0_1.view.junk L n)
    (h s : ℕ) (hh : h < 8) (hs : s < 2) (hn : h < n) (i2 : ∀ a, (![h, 512 * s, 0] : Fin 3 → ℕ) a + S1x512x256.size a ≤ S8x1024x256.size a) :
    IsV v k0 ⟨h, hh⟩ s (n := 512) (scM0_1.view.readCov L (Rect.unit (s := S8x1024x256) ![h, 512 * s, 0] S1x512x256.size i2).toLoadRect) := by
  have e := VS.old5 o h s hh hs hn i2
  intro j l
  rw [← e j l, View.readCov_eq_canon', View.readAt_apply, View.read_writes_junk_apply_eq_canon]
theorem VS.new2 {L : List (View.Piece (Elt Ideal) S8x1024x256 .bf16)} {n : ℕ} (o : VS v k0 scM0_1.view.junk L n)
    (h s : ℕ) (hh : h < 8) (hs : s < 2) (hn : h < n) (i2 : ∀ a, (![h, 512 * s, 0] : Fin 3 → ℕ) a + S1x256x256.size a ≤ S8x1024x256.size a) :
    IsV v k0 ⟨h, hh⟩ s (n := 256) (scM0_1.view.readCov L (Rect.unit (s := S8x1024x256) ![h, 512 * s, 0] S1x256x256.size i2).toLoadRect) := by
  have e := VS.old2 o h s hh hs hn i2
  intro j l
  rw [← e j l, View.readCov_eq_canon', View.readAt_apply, View.read_writes_junk_apply_eq_canon]

end

end Cert.AttnIdeal.Hand

end
end
-- ==== Proof.AttnStep.lean ====
module
public import proofs.«01_k».proof.Proof.AttnChain
@[expose] public section
set_option maxRecDepth 16384
noncomputable section

/-! # One block of scores, with the loads of the kernel

A point either begins a row of tiles (it writes the scaled queries and fills the maxima and the sums) or goes on with what
the point before it left. -/

namespace Cert.AttnIdeal.Hand
open Cert.AttnIdeal Cert.AttnIdeal.Gen Cert.AttnRow Idealize.ShloMosaic Idealize.ShloMosaic.TcCoe

/-- A block of scores of head `h`, half `s`, chunk `c` takes the count of halves done from `st` to `st'`. -/
def Adv (st st' : ℕ → ℕ → ℕ) (h s c : ℕ) : Prop := st h c = s ∧ st' h c = st h c + 1 ∧ ∀ h' c', c' < 4 → ¬ (h' = h ∧ c' = c) → st' h' c' = st h' c'

theorem a8 (h s c : ℕ) (hs : s < 2 := by decide) (hc : c < 4 := by decide) : Adv (st8 (8 * h + 4 * s + c)) (st8 (8 * h + 4 * s + c + 1)) h s c :=
  ⟨st8_1 h c s hc hs, st8_2 h c s hc hs, st8_3 h c s hc hs⟩
theorem a4 (h c : ℕ) (hc : c < 4 := by decide) : Adv (st4 (4 * h + c)) (st4 (4 * h + c + 1)) h 0 c :=
  ⟨st4_1 h c, st4_2 h c, st4_3 h c hc⟩

/-! Offsets inside the buffers. -/
theorem ib2 (h c : ℕ) (hh : h < 8) (hc : c < 4) : ∀ a, (![h, 256 * c, 0] : Fin 3 → ℕ) a + S1x256x128.size a ≤ S8x1024x128.size a := fun a => match a with
  | ⟨0, _⟩ => by show h + 1 ≤ 8; omega
  | ⟨1, _⟩ => by show 256 * c + 256 ≤ 1024; omega
  | ⟨2, _⟩ => by show 0 + 128 ≤ 128; omega
theorem ib3 (h c : ℕ) (hh : h < 8) (hc : c < 4) : ∀ a, (![h, 256 * c, 0] : Fin 3 → ℕ) a + S1x256x256.size a ≤ S8x1024x256.size a := fun a => match a with
  | ⟨0, _⟩ => by show h + 1 ≤ 8; omega
  | ⟨1, _⟩ => by show 256 * c + 256 ≤ 1024; omega
  | ⟨2, _⟩ => by show 0 + 256 ≤ 256; omega
theorem ik5 (h s : ℕ) (hh : h < 8) (hs : s < 2) : ∀ a, (![h, 512 * s, 0] : Fin 3 → ℕ) a + S1x512x128.size a ≤ S8x1024x128.size a := fun a => match a with
  | ⟨0, _⟩ => by show h + 1 ≤ 8; omega
  | ⟨1, _⟩ => by show 512 * s + 512 ≤ 1024; omega
  | ⟨2, _⟩ => by show 0 + 128 ≤ 128; omega
theorem ik2 (h s : ℕ) (hh : h < 8) (hs : s < 2) : ∀ a, (![h, 512 * s, 0] : Fin 3 → ℕ) a + S1x256x128.size a ≤ S8x1024x128.size a := fun a => match a with
  | ⟨0, _⟩ => by show h + 1 ≤ 8; omega
  | ⟨1, _⟩ => by show 512 * s + 256 ≤ 1024; omega
  | ⟨2, _⟩ => by show 0 + 128 ≤ 128; omega
theorem iv5 (h s : ℕ) (hh : h < 8) (hs : s < 2) : ∀ a, (![h, 512 * s, 0] : Fin 3 → ℕ) a + S1x512x256.size a ≤ S8x1024x256.size a := fun a => match a with
  | ⟨0, _⟩ => by show h + 1 ≤ 8; omega
  | ⟨1, _⟩ => by show 512 * s + 512 ≤ 1024; omega
  | ⟨2, _⟩ => by show 0 + 256 ≤ 256; omega
theorem iv2 (h s : ℕ) (hh : h < 8) (hs : s < 2) : ∀ a, (![h, 512 * s, 0] : Fin 3 → ℕ) a + S1x256x256.size a ≤ S8x1024x256.size a := fun a => match a with
  | ⟨0, _⟩ => by show h + 1 ≤ 8; omega
  | ⟨1, _⟩ => by show 512 * s + 256 ≤ 1024; omega
  | ⟨2, _⟩ => by show 0 + 256 ≤ 256; omega

section
variable {q : Fin 8 → Fin 1024 → Fin 128 → ℝ} {k : Fin 8 → ℕ → Fin 128 → ℝ} {v : Fin 8 → ℕ → Fin 256 → ℝ} {k0 d : ℕ}

variable (q k v k0) in
/-- What a point that goes on finds: the scaled queries, the ones beside the values, the running softmax, and its blocks of keys and values. -/
structure Old (x1 x2 : S8x1024x128.Idx → Elt Ideal .bf16) (xa0 : scM0_0.view.ty.Contents (Elt Ideal)) (xa1 : scM0_1.view.ty.Contents (Elt Ideal))
    (xa2 : scM0_2.view.ty.Contents (Elt Ideal)) (xa3 : scM0_3.view.ty.Contents (Elt Ideal)) : Prop where
  hq : ∀ h ρ l, scM0_0.view.read (Elt Ideal) xa0 (ix3 h ρ l) = (q h ρ l : EReal)
  hk : ∀ h (j : Fin 1024) l, x1 (ix3 h j l) = (k h (k0 + j.val) l : EReal)
  hv : ∀ h (j : Fin 1024) (l : Fin 128), x2 (ix3 h j l) = (v h (k0 + j.val) ⟨l.val, by have := l.isLt; omega⟩ : EReal)
  hx : VS v k0 xa1 [] 0
  hI : ∀ h ρ, Row q k v h ρ k0 (fun l => scM0_2.view.read (Elt Ideal) xa2 (ix3 h ρ l)) (fun i => scM0_3.view.read (Elt Ideal) xa3 (ix3 h ρ i))

variable (q k v k0) in
/-- What a point that begins a row of tiles has: the list `L0` of the scaled queries, and its blocks of keys and values. -/
structure New (L0 : List (View.Piece (Elt Ideal) S8x1024x128 .bf16)) (x1 x2 : S8x1024x128.Idx → Elt Ideal .bf16) : Prop where
  hq : ∀ h ρ l, View.canon L0 (ix3 h ρ l) = (q h ρ l : EReal)
  hk : ∀ h (j : Fin 1024) l, x1 (ix3 h j l) = (k h (k0 + j.val) l : EReal)
  hv : ∀ h (j : Fin 1024) (l : Fin 128), x2 (ix3 h j l) = (v h (k0 + j.val) ⟨l.val, by have := l.isLt; omega⟩ : EReal)
  h1 : ∀ h κ (i : Fin 256), 128 ≤ i.val → v h κ i = 1

variable {x1 x2 : S8x1024x128.Idx → Elt Ideal .bf16} {xa0 : scM0_0.view.ty.Contents (Elt Ideal)} {xa1 : scM0_1.view.ty.Contents (Elt Ideal)}
  {xa2 : scM0_2.view.ty.Contents (Elt Ideal)} {xa3 : scM0_3.view.ty.Contents (Elt Ideal)} {L0 : List (View.Piece (Elt Ideal) S8x1024x128 .bf16)}
  {L1 : List (View.Piece (Elt Ideal) S8x1024x256 .bf16)} {n : ℕ} {ini : Prop} {st st' : ℕ → ℕ → ℕ} {L2 L2' : List P2} {L3 L3' : List P3}
  {M : Vec Ideal S1x256x128 .f32} {A : Vec Ideal S1x256x256 .f32} (arg5 : Memref sig .tc .vmem S8x1024x128 .bf16)

theorem Old.ma (H : Old q k v k0 x1 x2 xa0 xa1 xa2 xa3) (h c : ℕ) (hh : h < 8 := by decide) (hc : c < 4 := by decide) :
    IsMA q k v ⟨h, hh⟩ c hc (k0 + 512 * 0) (View.readAt (Elt Ideal) scM0_2.view (Rect.unit (s := S8x1024x128) ![h, 256 * c, 0] S1x256x128.size (ib2 h c hh hc)).toLoadRect xa2)
      (View.readAt (Elt Ideal) scM0_3.view (Rect.unit (s := S8x1024x256) ![h, 256 * c, 0] S1x256x256.size (ib3 h c hh hc)).toLoadRect xa3) :=
  carried H.hI h c hh hc (ib2 h c hh hc) (ib3 h c hh hc)
theorem Spec.ag (old : Spec q k v (bd k0 d) ini st L2 L3) (h c : ℕ) (h0 : st h c = 1) (hd : 1 ≠ d := by decide) (hh : h < 8 := by decide) (hc : c < 4 := by decide) :
    IsMA q k v ⟨h, hh⟩ c hc (k0 + 512 * 1) (scM0_2.view.readCov L2 (Rect.unit (s := S8x1024x128) ![h, 256 * c, 0] S1x256x128.size (ib2 h c hh hc)).toLoadRect)
      (scM0_3.view.readCov L3 (Rect.unit (s := S8x1024x256) ![h, 256 * c, 0] S1x256x256.size (ib3 h c hh hc)).toLoadRect) :=
  old.again h c 1 hh hc h0 (by decide) hd (ib2 h c hh hc) (ib3 h c hh hc)
theorem Spec.fr (old : Spec q k v (bd 0 d) True st L2 L3) (h c : ℕ) (h0 : st h c = 0) (hh : h < 8 := by decide) (hc : c < 4 := by decide) :
    IsMA q k v ⟨h, hh⟩ c hc (0 + 512 * 0) (scM0_2.view.readCov L2 (Rect.unit (s := S8x1024x128) ![h, 256 * c, 0] S1x256x128.size (ib2 h c hh hc)).toLoadRect)
      (scM0_3.view.readCov L3 (Rect.unit (s := S8x1024x256) ![h, 256 * c, 0] S1x256x256.size (ib3 h c hh hc)).toLoadRect) :=
  old.fresh h c hh hc h0 (ib2 h c hh hc) (ib3 h c hh hc)

theorem oF (H : Old q k v k0 x1 x2 xa0 xa1 xa2 xa3) (W : VS v k0 xa1 L1 n) {h s c : ℕ} (ad : Adv st st' h s c)
    (hM : (hh : h < 8) → (hc : c < 4) → IsMA q k v ⟨h, hh⟩ c hc (k0 + 512 * s) M A) (old : Spec q k v (bd k0 d) ini st L2 L3)
    (hh : h < 8 := by decide) (hc : c < 4 := by decide) (hs : s < 2 := by decide) (hn : h < n := by decide) (hd : s + 1 ≠ d := by decide)
    (e2 : L2' = (⟨Rect.unit ![h, 256 * c, 0] S1x256x128.size (ib2 h c hh hc), mF (View.readAt (Elt Ideal) scM0_0.view (Rect.unit (s := S8x1024x128) ![h, 256 * c, 0] S1x256x128.size (ib2 h c hh hc)).toLoadRect xa0)
      (View.readAt (Elt Ideal) arg5.view (Rect.unit (s := S8x1024x128) ![h, 512 * s, 0] S1x512x128.size (ik5 h s hh hs)).toLoadRect (arg5.view.rep x1)) M⟩ : P2) :: L2 := by rfl)
    (e3 : L3' = (⟨Rect.unit ![h, 256 * c, 0] S1x256x256.size (ib3 h c hh hc), aF (View.readAt (Elt Ideal) scM0_0.view (Rect.unit (s := S8x1024x128) ![h, 256 * c, 0] S1x256x128.size (ib2 h c hh hc)).toLoadRect xa0)
      (View.readAt (Elt Ideal) arg5.view (Rect.unit (s := S8x1024x128) ![h, 512 * s, 0] S1x512x128.size (ik5 h s hh hs)).toLoadRect (arg5.view.rep x1)) M
      (View.readAt (Elt Ideal) scM0_1.view (Rect.unit (s := S8x1024x256) ![h, 512 * s, 0] S1x512x256.size (iv5 h s hh hs)).toLoadRect (scM0_1.view.writes (Elt Ideal) xa1 L1)) A⟩ : P3) :: L3 := by rfl) :
    Spec q k v (bd k0 d) ini st' L2' L3' :=
  stepF hd (oldQ H.hq h c hh hc _) (key5 arg5 H.hk h s hh hs _) (W.old5 h s hh hs hn _) (hM hh hc) ad.1 ad.2.1 ad.2.2 old e2 e3

theorem oL (H : Old q k v k0 x1 x2 xa0 xa1 xa2 xa3) (W : VS v k0 xa1 L1 n) {h s c : ℕ} (ad : Adv st st' h s c)
    (hM : (hh : h < 8) → (hc : c < 4) → IsMA q k v ⟨h, hh⟩ c hc (k0 + 512 * s) M A) (old : Spec q k v (bd k0 d) ini st L2 L3)
    (hh : h < 8 := by decide) (hc : c < 4 := by decide) (hs : s < 2 := by decide) (hn : h < n := by decide) (hd : s + 1 = d := by decide) (hcc : c % 2 = 0 := by decide)
    (e2 : L2' = (⟨Rect.unit ![h, 256 * c, 0] S1x256x128.size (ib2 h c hh hc), mL (View.readAt (Elt Ideal) scM0_0.view (Rect.unit (s := S8x1024x128) ![h, 256 * c, 0] S1x256x128.size (ib2 h c hh hc)).toLoadRect xa0)
      (View.readAt (Elt Ideal) arg5.view (Rect.unit (s := S8x1024x128) ![h, 512 * s, 0] S1x256x128.size (ik2 h s hh hs)).toLoadRect (arg5.view.rep x1)) M⟩ : P2) :: L2 := by rfl)
    (e3 : L3' = (⟨Rect.unit ![h, 256 * c, 0] S1x256x256.size (ib3 h c hh hc), aL (View.readAt (Elt Ideal) scM0_0.view (Rect.unit (s := S8x1024x128) ![h, 256 * c, 0] S1x256x128.size (ib2 h c hh hc)).toLoadRect xa0)
      (View.readAt (Elt Ideal) arg5.view (Rect.unit (s := S8x1024x128) ![h, 512 * s, 0] S1x256x128.size (ik2 h s hh hs)).toLoadRect (arg5.view.rep x1)) M
      (View.readAt (Elt Ideal) scM0_1.view (Rect.unit (s := S8x1024x256) ![h, 512 * s, 0] S1x256x256.size (iv2 h s hh hs)).toLoadRect (scM0_1.view.writes (Elt Ideal) xa1 L1)) A⟩ : P3) :: L3 := by rfl) :
    Spec q k v (bd k0 d) ini st' L2' L3' :=
  stepL hd (oldQ H.hq h c hh hc _) (key2 arg5 H.hk h s hh hs _) (W.old2 h s hh hs hn _) (hM hh hc) ad.1 ad.2.1 ad.2.2 hcc old e2 e3

theorem oH (H : Old q k v k0 x1 x2 xa0 xa1 xa2 xa3) (W : VS v k0 xa1 L1 n) {h s c : ℕ} (ad : Adv st st' h s c)
    (hM : (hh : h < 8) → (hc : c < 4) → IsMA q k v ⟨h, hh⟩ c hc (k0 + 512 * s) M A) (old : Spec q k v (bd k0 d) ini st L2 L3)
    (hh : h < 8 := by decide) (hc : c < 4 := by decide) (hs : s < 2 := by decide) (hn : h < n := by decide) (hd : s + 1 = d := by decide) (hcc : c % 2 = 1 := by decide)
    (e2 : L2' = (⟨Rect.unit ![h, 256 * c, 0] S1x256x128.size (ib2 h c hh hc), mH (View.readAt (Elt Ideal) scM0_0.view (Rect.unit (s := S8x1024x128) ![h, 256 * c, 0] S1x256x128.size (ib2 h c hh hc)).toLoadRect xa0)
      (View.readAt (Elt Ideal) arg5.view (Rect.unit (s := S8x1024x128) ![h, 512 * s, 0] S1x512x128.size (ik5 h s hh hs)).toLoadRect (arg5.view.rep x1)) M⟩ : P2) :: L2 := by rfl)
    (e3 : L3' = (⟨Rect.unit ![h, 256 * c, 0] S1x256x256.size (ib3 h c hh hc), aH (View.readAt (Elt Ideal) scM0_0.view (Rect.unit (s := S8x1024x128) ![h, 256 * c, 0] S1x256x128.size (ib2 h c hh hc)).toLoadRect xa0)
      (View.readAt (Elt Ideal) arg5.view (Rect.unit (s := S8x1024x128) ![h, 512 * s, 0] S1x512x128.size (ik5 h s hh hs)).toLoadRect (arg5.view.rep x1)) M
      (View.readAt (Elt Ideal) scM0_1.view (Rect.unit (s := S8x1024x256) ![h, 512 * s, 0] S1x512x256.size (iv5 h s hh hs)).toLoadRect (scM0_1.view.writes (Elt Ideal) xa1 L1)) A⟩ : P3) :: L3 := by rfl) :
    Spec q k v (bd k0 d) ini st' L2' L3' :=
  stepH hd (oldQ H.hq h c hh hc _) (key5 arg5 H.hk h s hh hs _) (W.old5 h s hh hs hn _) (hM hh hc) ad.1 ad.2.1 ad.2.2 hcc old e2 e3

theorem nF (H : New q k v k0 L0 x1 x2) (W : VS v k0 scM0_1.view.junk L1 n) {h s c : ℕ} (ad : Adv st st' h s c)
    (hM : (hh : h < 8) → (hc : c < 4) → IsMA q k v ⟨h, hh⟩ c hc (k0 + 512 * s) M A) (old : Spec q k v (bd k0 d) ini st L2 L3)
    (hh : h < 8 := by decide) (hc : c < 4 := by decide) (hs : s < 2 := by decide) (hn : h < n := by decide) (hd : s + 1 ≠ d := by decide)
    (e2 : L2' = (⟨Rect.unit ![h, 256 * c, 0] S1x256x128.size (ib2 h c hh hc), mF (scM0_0.view.readCov L0 (Rect.unit (s := S8x1024x128) ![h, 256 * c, 0] S1x256x128.size (ib2 h c hh hc)).toLoadRect)
      (View.readAt (Elt Ideal) arg5.view (Rect.unit (s := S8x1024x128) ![h, 512 * s, 0] S1x512x128.size (ik5 h s hh hs)).toLoadRect (arg5.view.rep x1)) M⟩ : P2) :: L2 := by rfl)
    (e3 : L3' = (⟨Rect.unit ![h, 256 * c, 0] S1x256x256.size (ib3 h c hh hc), aF (scM0_0.view.readCov L0 (Rect.unit (s := S8x1024x128) ![h, 256 * c, 0] S1x256x128.size (ib2 h c hh hc)).toLoadRect)
      (View.readAt (Elt Ideal) arg5.view (Rect.unit (s := S8x1024x128) ![h, 512 * s, 0] S1x512x128.size (ik5 h s hh hs)).toLoadRect (arg5.view.rep x1)) M
      (scM0_1.view.readCov L1 (Rect.unit (s := S8x1024x256) ![h, 512 * s, 0] S1x512x256.size (iv5 h s hh hs)).toLoadRect) A⟩ : P3) :: L3 := by rfl) :
    Spec q k v (bd k0 d) ini st' L2' L3' :=
  stepF hd (newQ H.hq h c hh hc _) (key5 arg5 H.hk h s hh hs _) (W.new5 h s hh hs hn _) (hM hh hc) ad.1 ad.2.1 ad.2.2 old e2 e3

theorem nL (H : New q k v k0 L0 x1 x2) (W : VS v k0 scM0_1.view.junk L1 n) {h s c : ℕ} (ad : Adv st st' h s c)
    (hM : (hh : h < 8) → (hc : c < 4) → IsMA q k v ⟨h, hh⟩ c hc (k0 + 512 * s) M A) (old : Spec q k v (bd k0 d) ini st L2 L3)
    (hh : h < 8 := by decide) (hc : c < 4 := by decide) (hs : s < 2 := by decide) (hn : h < n := by decide) (hd : s + 1 = d := by decide) (hcc : c % 2 = 0 := by decide)
    (e2 : L2' = (⟨Rect.unit ![h, 256 * c, 0] S1x256x128.size (ib2 h c hh hc), mL (scM0_0.view.readCov L0 (Rect.unit (s := S8x1024x128) ![h, 256 * c, 0] S1x256x128.size (ib2 h c hh hc)).toLoadRect)
      (View.readAt (Elt Ideal) arg5.view (Rect.unit (s := S8x1024x128) ![h, 512 * s, 0] S1x256x128.size (ik2 h s hh hs)).toLoadRect (arg5.view.rep x1)) M⟩ : P2) :: L2 := by rfl)
    (e3 : L3' = (⟨Rect.unit ![h, 256 * c, 0] S1x256x256.size (ib3 h c hh hc), aL (scM0_0.view.readCov L0 (Rect.unit (s := S8x1024x128) ![h, 256 * c, 0] S1x256x128.size (ib2 h c hh hc)).toLoadRect)
      (View.readAt (Elt Ideal) arg5.view (Rect.unit (s := S8x1024x128) ![h, 512 * s, 0] S1x256x128.size (ik2 h s hh hs)).toLoadRect (arg5.view.rep x1)) M
      (scM0_1.view.readCov L1 (Rect.unit (s := S8x1024x256) ![h, 512 * s, 0] S1x256x256.size (iv2 h s hh hs)).toLoadRect) A⟩ : P3) :: L3 := by rfl) :
    Spec q k v (bd k0 d) ini st' L2' L3' :=
  stepL hd (newQ H.hq h c hh hc _) (key2 arg5 H.hk h s hh hs _) (W.new2 h s hh hs hn _) (hM hh hc) ad.1 ad.2.1 ad.2.2 hcc old e2 e3

theorem nH (H : New q k v k0 L0 x1 x2) (W : VS v k0 scM0_1.view.junk L1 n) {h s c : ℕ} (ad : Adv st st' h s c)
    (hM : (hh : h < 8) → (hc : c < 4) → IsMA q k v ⟨h, hh⟩ c hc (k0 + 512 * s) M A) (old : Spec q k v (bd k0 d) ini st L2 L3)
    (hh : h < 8 := by decide) (hc : c < 4 := by decide) (hs : s < 2 := by decide) (hn : h < n := by decide) (hd : s + 1 = d := by decide) (hcc : c % 2 = 1 := by decide)
    (e2 : L2' = (⟨Rect.unit ![h, 256 * c, 0] S1x256x128.size (ib2 h c hh hc), mH (scM0_0.view.readCov L0 (Rect.unit (s := S8x1024x128) ![h, 256 * c, 0] S1x256x128.size (ib2 h c hh hc)).toLoadRect)
      (View.readAt (Elt Ideal) arg5.view (Rect.unit (s := S8x1024x128) ![h, 512 * s, 0] S1x512x128.size (ik5 h s hh hs)).toLoadRect (arg5.view.rep x1)) M⟩ : P2) :: L2 := by rfl)
    (e3 : L3' = (⟨Rect.unit ![h, 256 * c, 0] S1x256x256.size (ib3 h c hh hc), aH (scM0_0.view.readCov L0 (Rect.unit (s := S8x1024x128) ![h, 256 * c, 0] S1x256x128.size (ib2 h c hh hc)).toLoadRect)
      (View.readAt (Elt Ideal) arg5.view (Rect.unit (s := S8x1024x128) ![h, 512 * s, 0] S1x512x128.size (ik5 h s hh hs)).toLoadRect (arg5.view.rep x1)) M
      (scM0_1.view.readCov L1 (Rect.unit (s := S8x1024x256) ![h, 512 * s, 0] S1x512x256.size (iv5 h s hh hs)).toLoadRect) A⟩ : P3) :: L3 := by rfl) :
    Spec q k v (bd k0 d) ini st' L2' L3' :=
  stepH hd (newQ H.hq h c hh hc _) (key5 arg5 H.hk h s hh hs _) (W.new5 h s hh hs hn _) (hM hh hc) ad.1 ad.2.1 ad.2.2 hcc old e2 e3

theorem iw (h : ℕ) (hh : h < 8) : ∀ a, (![h, 0, 0] : Fin 3 → ℕ) a + S1x1024x128.size a ≤ S8x1024x256.size a := fun a => match a with
  | ⟨0, _⟩ => by show h + 1 ≤ 8; omega
  | ⟨1, _⟩ => by show 0 + 1024 ≤ 1024; omega
  | ⟨2, _⟩ => by show 0 + 128 ≤ 256; omega
theorem iy (h : ℕ) (hh : h < 8) : ∀ a, (![h, 0, 0] : Fin 3 → ℕ) a + S1x1024x128.size a ≤ S8x1024x128.size a := fun a => match a with
  | ⟨0, _⟩ => by show h + 1 ≤ 8; omega
  | ⟨1, _⟩ => by show 0 + 1024 ≤ 1024; omega
  | ⟨2, _⟩ => by show 0 + 128 ≤ 128; omega

variable (q k v k0 d) in
/-- Before the first block a point that goes on has written nothing. -/
theorem spec_nil (st : ℕ → ℕ → ℕ) (h : ∀ h c, h < 8 → c < 4 → st h c = 0) : Spec q k v (bd k0 d) False st [] [] :=
  ⟨fun h' ρ hs => absurd (h _ _ h'.isLt (by have := ρ.isLt; omega)) hs, fun e => e.elim⟩

end

end Cert.AttnIdeal.Hand

end
end
-- ==== Proof.AttnFill.lean ====
module
public import proofs.«01_k».proof.Proof.AttnStep
public import Idealize.ShloMosaic.Lib.IdealHost
@[expose] public section
set_option maxRecDepth 16384
noncomputable section

/-! # What a point that begins a row of tiles writes first

The scaled queries, each half of the lanes in its own half of the rows; ones beside the values; `⊥` for the maxima and `0`
for the sums. -/

namespace Cert.AttnIdeal.Hand
open Cert.AttnIdeal Cert.AttnIdeal.Gen Cert.AttnRow Idealize.ShloMosaic Idealize.ShloMosaic.TcCoe

theorem eighth : Ideal.ofBits FTy.f32 1040187392#32 = (((1 / 8 : ℝ)) : EReal) := by
  simp [Ideal.ofBits, Ideal.ieee, -EReal.coe_mul]; norm_num

/-- The scaled queries from the real queries `w` of a tile: rows 0 to 511 carry the lanes below 64, the other rows the other lanes. -/
def qOf (w : Fin 8 → Fin 512 → Fin 128 → ℝ) (h : Fin 8) (ρ : Fin 1024) (l : Fin 128) : ℝ :=
  if (l.val < 64 ↔ ρ.val < 512) then w h ⟨ρ.val % 512, Nat.mod_lt _ (by decide)⟩ l * (1 / 8) else 0

section
variable (w : Fin 8 → Fin 512 → Fin 128 → ℝ)

theorem pay_lo (X : Vec Ideal S1x512x128 .bf16) (h : Fin 8) (hX : ∀ r l, X (ix3 0 r l) = (w h r l : EReal)) (r : Fin 512) (l : Fin 128) :
    k0_pay1013 (F := Ideal) X (ix3 0 r l) = ((if l.val < 64 then w h r l * (1 / 8) else 0 : ℝ) : EReal) := by
  have hl := l.isLt
  pointwise [k0_pay1013, k0_pay1011, k0_pay1012]
  rw [hX, eighth, ← EReal.coe_mul, ← EReal.coe_zero]
  refine (if_congr (WordCmp.cmpi_slt_ofNat_eq_one_iff (by omega) (by omega)) rfl rfl).trans ?_
  split <;> rfl
theorem pay_hi (X : Vec Ideal S1x512x128 .bf16) (h : Fin 8) (hX : ∀ r l, X (ix3 0 r l) = (w h r l : EReal)) (r : Fin 512) (l : Fin 128) :
    k0_pay1014 (F := Ideal) X (ix3 0 r l) = ((if l.val < 64 then 0 else w h r l * (1 / 8) : ℝ) : EReal) := by
  have hl := l.isLt
  pointwise [k0_pay1014, k0_pay1011, k0_pay1012]
  rw [hX, eighth, ← EReal.coe_mul, ← EReal.coe_zero]
  refine (if_congr (WordCmp.cmpi_sge_ofNat_eq_one_iff (by omega) (by omega)) rfl rfl).trans ?_
  by_cases hh : l.val < 64
  · rw [if_pos hh, if_neg (by omega)]
  · rw [if_neg hh, if_pos (by omega)]

/-- The first `n` halves of the scaled queries are written. -/
def QS (L : List (View.Piece (Elt Ideal) S8x1024x128 .bf16)) (n : ℕ) : Prop :=
  ∀ (h : Fin 8) (ρ : Fin 1024) (l : Fin 128), 2 * h.val + ρ.val / 512 < n → View.canon L (ix3 h ρ l) = (qOf w h ρ l : EReal)

variable {w}
theorem QS.step {L L' : List (View.Piece (Elt Ideal) S8x1024x128 .bf16)} {h s : ℕ} (old : QS w L (2 * h + s)) (hh : h < 8) (hs : s < 2)
    {i2 : ∀ a, (![h, 512 * s, 0] : Fin 3 → ℕ) a + S1x512x128.size a ≤ S8x1024x128.size a} {p : Vec Ideal S1x512x128 .bf16}
    (hp : ∀ (r : Fin 512) (l : Fin 128), p (ix3 0 r l) = (qOf w ⟨h, hh⟩ ⟨512 * s + r.val, by have := r.isLt; omega⟩ l : EReal))
    (e : L' = (⟨Rect.unit ![h, 512 * s, 0] S1x512x128.size i2, p⟩ : View.Piece (Elt Ideal) S8x1024x128 .bf16) :: L) : QS w L' (2 * h + s + 1) := by
  subst e
  intro h' ρ l hi
  have hρ := ρ.isLt
  rw [← View.read_writes_junk_apply_eq_canon scM0_0.view]
  by_cases hm : h'.val = h ∧ ρ.val / 512 = s
  · obtain ⟨rfl, rfl⟩ := hm
    refine (View.read_writes_cons_unit_of_mem scM0_0.view _ i2 _ L (ix3 h' ρ l) (ix3 (n0 := 1) (n1 := 512) (n2 := 128) 0 ⟨ρ.val % 512, Nat.mod_lt _ (by decide)⟩ l) rfl (fun a => match a with
      | ⟨0, _⟩ => rfl
      | ⟨1, _⟩ => (Nat.div_add_mod ρ.val 512).symm
      | ⟨2, _⟩ => (Nat.zero_add _).symm)).trans ((hp _ _).trans ?_)
    exact congrArg (fun r => (qOf w h' r l : EReal)) (Fin.ext (Nat.div_add_mod ρ.val 512))
  · have hnext := fun i => (View.read_writes_junk_apply_eq_canon scM0_0.view i L)
    by_cases hh' : h'.val = h
    · refine (View.read_writes_cons_unit_of_not_mem scM0_0.view _ i2 _ L (ix3 h' ρ l) rfl (1 : Fin 3) ?_).trans ((hnext _).trans (old h' ρ l (by omega)))
      show ρ.val < 512 * s ∨ 512 * s + 512 ≤ ρ.val
      omega
    · refine (View.read_writes_cons_unit_of_not_mem scM0_0.view _ i2 _ L (ix3 h' ρ l) rfl (0 : Fin 3) ?_).trans ((hnext _).trans (old h' ρ l (by omega)))
      show h'.val < h ∨ h + 1 ≤ h'.val
      omega

theorem ih5 (h : ℕ) (hh : h < 8) : ∀ a, (![h, 0, 0] : Fin 3 → ℕ) a + S1x512x128.size a ≤ S8x512x128.size a := fun a => match a with
  | ⟨0, _⟩ => by show h + 1 ≤ 8; omega
  | ⟨1, _⟩ => by show 0 + 512 ≤ 512; omega
  | ⟨2, _⟩ => by show 0 + 128 ≤ 128; omega
theorem iq5 (h s : ℕ) (hh : h < 8) (hs : s < 2) : ∀ a, (![h, 512 * s, 0] : Fin 3 → ℕ) a + S1x512x128.size a ≤ S8x1024x128.size a := fun a => match a with
  | ⟨0, _⟩ => by show h + 1 ≤ 8; omega
  | ⟨1, _⟩ => by show 512 * s + 512 ≤ 1024; omega
  | ⟨2, _⟩ => by show 0 + 128 ≤ 128; omega

/-- Both halves of head `h`. -/
theorem QS.head {L L' : List (View.Piece (Elt Ideal) S8x1024x128 .bf16)} (arg4 : Memref sig .tc .vmem S8x512x128 .bf16)
    {x0 : S8x512x128.Idx → Elt Ideal .bf16} (hx : ∀ h r l, x0 (ix3 h r l) = (w h r l : EReal)) (h : ℕ) (old : QS w L (2 * h)) (hh : h < 8 := by decide)
    (e : L' = (⟨Rect.unit ![h, 512 * 1, 0] S1x512x128.size (iq5 h 1 hh (by decide)), k0_pay1014 (F := Ideal) (View.readAt (Elt Ideal) arg4.view (Rect.unit (s := S8x512x128) ![h, 0, 0] S1x512x128.size (ih5 h hh)).toLoadRect (arg4.view.rep x0))⟩ : View.Piece (Elt Ideal) S8x1024x128 .bf16)
      :: (⟨Rect.unit ![h, 512 * 0, 0] S1x512x128.size (iq5 h 0 hh (by decide)), k0_pay1013 (F := Ideal) (View.readAt (Elt Ideal) arg4.view (Rect.unit (s := S8x512x128) ![h, 0, 0] S1x512x128.size (ih5 h hh)).toLoadRect (arg4.view.rep x0))⟩ : View.Piece (Elt Ideal) S8x1024x128 .bf16) :: L) :
    QS w L' (2 * (h + 1)) := by
  have hX : ∀ r l, View.readAt (Elt Ideal) arg4.view (Rect.unit (s := S8x512x128) ![h, 0, 0] S1x512x128.size (ih5 h hh)).toLoadRect (arg4.view.rep x0) (ix3 0 r l) = (w ⟨h, hh⟩ r l : EReal) := fun r l => by
    rw [View.readAt_apply, View.read_rep, ← hx]
    refine congrArg x0 (funext fun a => Fin.ext ?_)
    match a with
    | ⟨0, _⟩ => exact Nat.add_zero _
    | ⟨1, _⟩ => show 0 + 1 * r.val = r.val; omega
    | ⟨2, _⟩ => show 0 + 1 * l.val = l.val; omega
  refine QS.step (s := 1) (QS.step (s := 0) old hh (by decide) (fun r l => (pay_lo w _ ⟨h, hh⟩ hX r l).trans (congrArg _ ?_)) rfl) hh (by decide) (fun r l => (pay_hi w _ ⟨h, hh⟩ hX r l).trans (congrArg _ ?_)) e
  · have hr := r.isLt
    have e1 : (512 * 0 + r.val) % 512 = r.val := by omega
    unfold qOf
    simp only [e1]
    by_cases hl : l.val < 64
    · rw [if_pos hl, if_pos (by constructor <;> intro <;> first | assumption | omega)]
    · rw [if_neg hl, if_neg (by intro c; exact hl (c.2 (by omega)))]
  · have hr := r.isLt
    have e1 : (512 * 1 + r.val) % 512 = r.val := by omega
    unfold qOf
    simp only [e1]
    by_cases hl : l.val < 64
    · rw [if_pos hl, if_neg (by intro c; have := c.1 hl; omega)]
    · rw [if_neg hl, if_pos (by constructor <;> intro <;> omega)]
end

section
variable (v : Fin 8 → ℕ → Fin 256 → ℝ) (k0 : ℕ)
/-- Ones beside the values of the first `n` heads. -/
def OS (L : List (View.Piece (Elt Ideal) S8x1024x256 .bf16)) (n : ℕ) : Prop :=
  ∀ (h : Fin 8) (j : Fin 1024) (i : Fin 256), 128 ≤ i.val → h.val < n → scM0_1.view.read (Elt Ideal) (scM0_1.view.writes (Elt Ideal) scM0_1.view.junk L) (ix3 h j i) = 1

theorem io (h : ℕ) (hh : h < 8) : ∀ a, (![h, 0, 128] : Fin 3 → ℕ) a + S1x1024x128.size a ≤ S8x1024x256.size a := fun a => match a with
  | ⟨0, _⟩ => by show h + 1 ≤ 8; omega
  | ⟨1, _⟩ => by show 0 + 1024 ≤ 1024; omega
  | ⟨2, _⟩ => by show 128 + 128 ≤ 256; omega

theorem OS.step {L : List (View.Piece (Elt Ideal) S8x1024x256 .bf16)} (n : ℕ) (old : OS L n) (hn : n < 8 := by decide) :
    OS ((⟨Rect.unit ![n, 0, 128] S1x1024x128.size (io n hn), k0_pay1015 (F := Ideal)⟩ : View.Piece (Elt Ideal) S8x1024x256 .bf16) :: L) (n + 1) := by
  intro h j i hi hh
  have hlt := i.isLt
  by_cases hm : h.val = n
  · subst hm
    refine (View.read_writes_cons_unit_of_mem scM0_1.view _ (io h.val hn) _ L (ix3 h j i) (ix3 (n0 := 1) (n1 := 1024) (n2 := 128) 0 j ⟨i.val - 128, by omega⟩) rfl (fun a => match a with
      | ⟨0, _⟩ => rfl
      | ⟨1, _⟩ => (Nat.zero_add _).symm
      | ⟨2, _⟩ => by show i.val = 128 + (i.val - 128); omega)).trans ?_
    pointwise [k0_pay1015]
  · refine (View.read_writes_cons_unit_of_not_mem scM0_1.view _ (io n hn) _ L (ix3 h j i) rfl (0 : Fin 3) ?_).trans (old h j i hi (by omega))
    show h.val < n ∨ n + 1 ≤ h.val
    omega

/-- Ones beside the values of every head. -/
def onesL : List (View.Piece (Elt Ideal) S8x1024x256 .bf16) :=
  [⟨Rect.unit ![7, 0, 128] S1x1024x128.size (io 7 (by decide)), k0_pay1015 (F := Ideal)⟩, ⟨Rect.unit ![6, 0, 128] S1x1024x128.size (io 6 (by decide)), k0_pay1015 (F := Ideal)⟩,
    ⟨Rect.unit ![5, 0, 128] S1x1024x128.size (io 5 (by decide)), k0_pay1015 (F := Ideal)⟩, ⟨Rect.unit ![4, 0, 128] S1x1024x128.size (io 4 (by decide)), k0_pay1015 (F := Ideal)⟩,
    ⟨Rect.unit ![3, 0, 128] S1x1024x128.size (io 3 (by decide)), k0_pay1015 (F := Ideal)⟩, ⟨Rect.unit ![2, 0, 128] S1x1024x128.size (io 2 (by decide)), k0_pay1015 (F := Ideal)⟩,
    ⟨Rect.unit ![1, 0, 128] S1x1024x128.size (io 1 (by decide)), k0_pay1015 (F := Ideal)⟩, ⟨Rect.unit ![0, 0, 128] S1x1024x128.size (io 0 (by decide)), k0_pay1015 (F := Ideal)⟩]
theorem ones_os : OS onesL 8 := by
  have o0 : OS [] 0 := fun h j i _ hh => absurd hh (Nat.not_lt_zero _)
  exact OS.step 7 (OS.step 6 (OS.step 5 (OS.step 4 (OS.step 3 (OS.step 2 (OS.step 1 (OS.step 0 o0)))))))
variable {v}
theorem ones_vs (h1 : ∀ h κ (i : Fin 256), 128 ≤ i.val → v h κ i = 1) : VS v k0 scM0_1.view.junk onesL 0 := fun h j i hi => by
  have hi' : 128 ≤ i.val := by omega
  rw [ones_os h j i hi' h.isLt, h1 h _ i hi', EReal.coe_one]
end

theorem spec_fill (q : Fin 8 → Fin 1024 → Fin 128 → ℝ) (k : Fin 8 → ℕ → Fin 128 → ℝ) (v : Fin 8 → ℕ → Fin 256 → ℝ) (d : ℕ) (st : ℕ → ℕ → ℕ) (hst : ∀ h c, h < 8 → c < 4 → st h c = 0)
    {i2 : ∀ a, (![0, 0, 0] : Fin 3 → ℕ) a + S8x1024x128.size a ≤ S8x1024x128.size a} {i3 : ∀ a, (![0, 0, 0] : Fin 3 → ℕ) a + S8x1024x256.size a ≤ S8x1024x256.size a} :
    Spec q k v (bd 0 d) True st [⟨Rect.unit ![0, 0, 0] S8x1024x128.size i2, k0_pay1016 (F := Ideal)⟩] [⟨Rect.unit ![0, 0, 0] S8x1024x256.size i3, k0_pay1017 (F := Ideal)⟩] := by
  refine ⟨fun h ρ hs => absurd (hst _ _ h.isLt (by have := ρ.isLt; omega)) hs, fun _ h ρ _ f2 f3 => ⟨fun l => ?_, fun i => ?_⟩⟩
  · refine (View.read_writes_cons_unit_of_mem scM0_2.view f2 i2 _ [] (ix3 h ρ l) (ix3 (n0 := 8) (n1 := 1024) (n2 := 128) h ρ l) rfl (fun a => match a with
      | ⟨0, _⟩ => (Nat.zero_add _).symm
      | ⟨1, _⟩ => (Nat.zero_add _).symm
      | ⟨2, _⟩ => (Nat.zero_add _).symm)).trans ?_
    pointwise [k0_pay1016]
    exact ofBits_bot
  · refine (View.read_writes_cons_unit_of_mem scM0_3.view f3 i3 _ [] (ix3 h ρ i) (ix3 (n0 := 8) (n1 := 1024) (n2 := 256) h ρ i) rfl (fun a => match a with
      | ⟨0, _⟩ => (Nat.zero_add _).symm
      | ⟨1, _⟩ => (Nat.zero_add _).symm
      | ⟨2, _⟩ => (Nat.zero_add _).symm)).trans ?_
    pointwise [k0_pay1017]

end Cert.AttnIdeal.Hand

end
end
-- ==== Proof.AttnOut.lean ====
module
public import proofs.«01_k».proof.Proof.AttnFill
@[expose] public section
set_option maxRecDepth 16384
noncomputable section

/-! # What the last point of a row of tiles stores -/

namespace Cert.AttnIdeal.Hand
open Cert.AttnIdeal Cert.AttnIdeal.Gen Cert.AttnRow Idealize.ShloMosaic Idealize.ShloMosaic.TcCoe

/-- The end of the kernel on one row, from the two quotients `o1`, `o2`, the weight `Λ` and the gains `g`. -/
def fin (Λ : EReal) (o1 o2 g : Fin 128 → EReal) (l : Fin 128) : EReal :=
  (o1 l - Λ * o2 l) * Ideal.rsqrt (Ideal.div (∑ x, (o1 x - Λ * o2 x) * (o1 x - Λ * o2 x)) (Ideal.ofBits FTy.f32 1124073472#32) + Ideal.ofBits FTy.f32 897988541#32)
    * g l * Ideal.ofBits FTy.f32 1061997773#32

theorem lam_apply (X3 X4 X5 X6 : Vec Ideal S1x64 .f32) : k0_pay991 (F := Ideal) X3 X4 X5 X6 (ix2 0 0)
    = Ideal.exp (∑ x, X3 (ix2 0 x) * X4 (ix2 0 x)) - Ideal.exp (∑ x, X5 (ix2 0 x) * X6 (ix2 0 x)) + Ideal.ofBits FTy.f32 1045220557#32 := by
  pointwise [k0_pay991]
theorem fin_apply (Λ : Vec Ideal S1x1 .f32) (A B C D : Vec Ideal S1x512x128 .f32) (G : Vec Ideal S1x128 .f32) (r : Fin 512) (l : Fin 128) :
    k0_pay998 (F := Ideal) Λ A B C D G (ix2 r l)
      = fin (Λ (ix2 0 0)) (fun l => Ideal.div (A (ix3 0 r l)) (B (ix3 0 r l))) (fun l => Ideal.div (C (ix3 0 r l)) (D (ix3 0 r l))) (fun l => G (ix2 0 l)) l := by
  unfold fin
  pointwise [k0_pay998]

theorem ir3 (h s t : ℕ) (hh : h < 8) (hs : s < 2) (ht : t < 2) : ∀ a, (![h, 512 * s, 128 * t] : Fin 3 → ℕ) a + S1x512x128.size a ≤ S8x1024x256.size a := fun a => match a with
  | ⟨0, _⟩ => by show h + 1 ≤ 8; omega
  | ⟨1, _⟩ => by show 512 * s + 512 ≤ 1024; omega
  | ⟨2, _⟩ => by show 128 * t + 128 ≤ 256; omega
theorem io2 (h : ℕ) (hh : h < 8) : ∀ a, (![0, 128 * h] : Fin 2 → ℕ) a + S512x128.size a ≤ S512x1024.size a := fun a => match a with
  | ⟨0, _⟩ => by show 0 + 512 ≤ 512; omega
  | ⟨1, _⟩ => by show 128 * h + 128 ≤ 1024; omega

/-- A load of the sums. -/
abbrev ld3 (L3 : List P3) (h s t : ℕ) (hh : h < 8 := by decide) (hs : s < 2 := by decide) (ht : t < 2 := by decide) : Vec Ideal S1x512x128 .f32 :=
  scM0_3.view.readCov L3 (Rect.unit (s := S8x1024x256) ![h, 512 * s, 128 * t] S1x512x128.size (ir3 h s t hh hs ht)).toLoadRect

abbrev P8 := View.Piece (Elt Ideal) S512x1024 .bf16
/-- The piece of head `h`. -/
abbrev outP (L3 : List P3) (Λ : Vec Ideal S1x1 .f32) (G : Vec Ideal S1x128 .f32) (h : ℕ) (hh : h < 8 := by decide) : P8 :=
  ⟨Rect.unit ![0, 128 * h] S512x128.size (io2 h hh), k0_pay998 (F := Ideal) Λ (ld3 L3 h 0 0 hh) (ld3 L3 h 0 1 hh) (ld3 L3 h 1 0 hh) (ld3 L3 h 1 1 hh) G⟩
def outL (L3 : List P3) (Λ : Vec Ideal S1x1 .f32) (G : Vec Ideal S1x128 .f32) : List P8 :=
  [outP L3 Λ G 7, outP L3 Λ G 6, outP L3 Λ G 5, outP L3 Λ G 4, outP L3 Λ G 3, outP L3 Λ G 2, outP L3 Λ G 1, outP L3 Λ G 0]

section
variable {q : Fin 8 → Fin 1024 → Fin 128 → ℝ} {k : Fin 8 → ℕ → Fin 128 → ℝ} {v : Fin 8 → ℕ → Fin 256 → ℝ}

variable (q k v) in
/-- Both lists hold the running softmax of every row, over `Be ρ` keys. -/
def Done (Be : ℕ → ℕ) (L2 : List P2) (L3 : List P3) : Prop :=
  ∀ (h : Fin 8) (ρ : Fin 1024) f2 f3, Row q k v h ρ (Be ρ.val) (fun l => r2 f2 L2 (ix3 h ρ l)) (fun i => r3 f3 L3 (ix3 h ρ i))

theorem Spec.all8 {k0 d : ℕ} {ini : Prop} {L2 : List P2} {L3 : List P3} (S : Spec q k v (bd k0 d) ini (st8 64) L2 L3) : Done q k v (bd k0 d 2) L2 L3 := fun h ρ f2 f3 => by
  have e : st8 64 h.val (ρ.val / 256) = 2 := by
    have := h.isLt
    have := ρ.isLt
    unfold st8
    split_ifs <;> omega
  have := S.done h ρ (by omega) f2 f3
  rwa [e] at this
theorem Spec.all4 {k0 d : ℕ} {ini : Prop} {L2 : List P2} {L3 : List P3} (S : Spec q k v (bd k0 d) ini (st4 32) L2 L3) : Done q k v (bd k0 d 1) L2 L3 := fun h ρ f2 f3 => by
  have e : st4 32 h.val (ρ.val / 256) = 1 := by
    have := h.isLt
    have := ρ.isLt
    unfold st4
    split_ifs <;> omega
  have := S.done h ρ (by omega) f2 f3
  rwa [e] at this

variable (q k v) in
/-- Softmax of the scores of row `ρ`, over `B` keys, times the values. -/
def att (h : Fin 8) (ρ : Fin 1024) (B : ℕ) (l : Fin 128) : ℝ :=
  ∑ κ ∈ Finset.range B, soft (dot (q h ρ) (k h)) B κ * v h κ ⟨l.val, by have := l.isLt; omega⟩

theorem ld3_apply (L3 : List P3) (h s t : ℕ) (hh : h < 8) (hs : s < 2) (ht : t < 2) (r : Fin 512) (l : Fin 128) :
    ld3 L3 h s t hh hs ht (ix3 0 r l) = r3 scM0_3.view.junk L3 (ix3 ⟨h, hh⟩ ⟨512 * s + r.val, by have := r.isLt; omega⟩ ⟨128 * t + l.val, by have := l.isLt; omega⟩) := by
  unfold ld3 r3
  rw [View.readCov_eq_canon', View.read_writes_junk_apply_eq_canon]
  refine congrArg (View.canon L3) (funext fun a => Fin.ext ?_)
  match a with
  | ⟨0, _⟩ => exact Nat.add_zero _
  | ⟨1, _⟩ => show 512 * s + 1 * r.val = 512 * s + r.val; omega
  | ⟨2, _⟩ => show 128 * t + 1 * l.val = 128 * t + l.val; omega

theorem Done.quot {Be : ℕ → ℕ} {L2 : List P2} {L3 : List P3} (S : Done q k v Be L2 L3) (hB : ∀ ρ, 0 < Be ρ) (h1 : ∀ h κ (i : Fin 256), 128 ≤ i.val → v h κ i = 1)
    (h s : ℕ) (hh : h < 8) (hs : s < 2) (r : Fin 512) (l : Fin 128) :
    Ideal.div (ld3 L3 h s 0 hh hs (by decide) (ix3 0 r l)) (ld3 L3 h s 1 hh hs (by decide) (ix3 0 r l))
      = (att q k v ⟨h, hh⟩ ⟨512 * s + r.val, by have := r.isLt; omega⟩ (Be (512 * s + r.val)) l : EReal) := by
  rw [ld3_apply, ld3_apply]
  refine ((S ⟨h, hh⟩ ⟨512 * s + r.val, by have := r.isLt; omega⟩ scM0_2.view.junk scM0_3.view.junk).quot (hB _) _ _ fun κ => h1 _ _ _ (by show 128 ≤ 128 * 1 + l.val; omega)).trans ?_
  unfold att
  refine congrArg _ (Finset.sum_congr rfl fun κ _ => congrArg (fun i => _ * v _ κ i) (Fin.ext ?_))
  show 128 * 0 + l.val = l.val
  omega

/-- What the last point stores, by rows. -/
def target (Be : ℕ → ℕ) (Λ : EReal) (g : Fin 128 → EReal) (h : Fin 8) (r : Fin 512) (l : Fin 128) : EReal :=
  fin Λ (fun l => (att q k v h ⟨r.val, by have := r.isLt; omega⟩ (Be r.val) l : EReal)) (fun l => (att q k v h ⟨512 + r.val, by have := r.isLt; omega⟩ (Be (512 + r.val)) l : EReal)) g l

variable (q k v) in
def OutS (Be : ℕ → ℕ) (Λ : EReal) (g : Fin 128 → EReal) (L : List P8) (n : ℕ) : Prop :=
  ∀ (r : Fin 512) (j : Fin 1024) (hj : j.val / 128 < 8), j.val / 128 < n →
    View.canon L (ix2 r j) = target (q := q) (k := k) (v := v) Be Λ g ⟨j.val / 128, hj⟩ r ⟨j.val % 128, Nat.mod_lt _ (by decide)⟩

theorem OutS.step {Be : ℕ → ℕ} {L2 : List P2} {L3 : List P3} (S : Done q k v Be L2 L3) (hB : ∀ ρ, 0 < Be ρ) (h1 : ∀ h κ (i : Fin 256), 128 ≤ i.val → v h κ i = 1)
    (Λ : Vec Ideal S1x1 .f32) (G : Vec Ideal S1x128 .f32) {L : List P8} (n : ℕ) (old : OutS q k v Be (Λ (ix2 0 0)) (fun l => G (ix2 0 l)) L n) (hn : n < 8 := by decide) :
    OutS q k v Be (Λ (ix2 0 0)) (fun l => G (ix2 0 l)) (outP L3 Λ G n hn :: L) (n + 1) := by
  intro r j hj hi
  rw [← View.read_writes_junk_apply_eq_canon VO0_8]
  by_cases hm : j.val / 128 = n
  · subst hm
    refine (View.read_writes_cons_unit_of_mem VO0_8 _ (io2 _ hn) _ L (ix2 r j) (ix2 (n0 := 512) (n1 := 128) r ⟨j.val % 128, Nat.mod_lt _ (by decide)⟩) rfl (fun a => match a with
      | ⟨0, _⟩ => (Nat.zero_add _).symm
      | ⟨1, _⟩ => (Nat.div_add_mod j.val 128).symm)).trans ((fin_apply _ _ _ _ _ _ _ _).trans ?_)
    unfold target
    have e0 : ∀ l, Ideal.div (ld3 L3 (j.val / 128) 0 0 hn (by decide) (by decide) (ix3 0 r l)) (ld3 L3 (j.val / 128) 0 1 hn (by decide) (by decide) (ix3 0 r l))
        = (att q k v ⟨j.val / 128, hj⟩ ⟨r.val, by have := r.isLt; omega⟩ (Be r.val) l : EReal) := fun l => by
      refine (S.quot hB h1 _ 0 hn (by decide) r l).trans ?_
      have e : 512 * 0 + r.val = r.val := by omega
      simp only [e]
    have e1 : ∀ l, Ideal.div (ld3 L3 (j.val / 128) 1 0 hn (by decide) (by decide) (ix3 0 r l)) (ld3 L3 (j.val / 128) 1 1 hn (by decide) (by decide) (ix3 0 r l))
        = (att q k v ⟨j.val / 128, hj⟩ ⟨512 + r.val, by have := r.isLt; omega⟩ (Be (512 + r.val)) l : EReal) := fun l =>
      S.quot hB h1 _ 1 hn (by decide) r l
    exact congrArg₂ (fun a b => fin (Λ (ix2 0 0)) a b (fun l => G (ix2 0 l)) ⟨j.val % 128, Nat.mod_lt _ (by decide)⟩) (funext e0) (funext e1)
  · refine (View.read_writes_cons_unit_of_not_mem VO0_8 _ (io2 _ hn) _ L (ix2 r j) rfl (1 : Fin 2) ?_).trans ((View.read_writes_junk_apply_eq_canon VO0_8 _ L).trans (old r j hj (by omega)))
    show j.val < 128 * n ∨ 128 * n + 128 ≤ j.val
    omega

theorem outL_canon {Be : ℕ → ℕ} {L2 : List P2} {L3 : List P3} (S : Done q k v Be L2 L3) (hB : ∀ ρ, 0 < Be ρ) (h1 : ∀ h κ (i : Fin 256), 128 ≤ i.val → v h κ i = 1)
    (Λ : Vec Ideal S1x1 .f32) (G : Vec Ideal S1x128 .f32) : OutS q k v Be (Λ (ix2 0 0)) (fun l => G (ix2 0 l)) (outL L3 Λ G) 8 := by
  have o0 : OutS q k v Be (Λ (ix2 0 0)) (fun l => G (ix2 0 l)) [] 0 := fun r j hj hi => absurd hi (Nat.not_lt_zero _)
  have o1 := OutS.step S hB h1 Λ G 0 o0
  have o2 := OutS.step S hB h1 Λ G 1 o1
  have o3 := OutS.step S hB h1 Λ G 2 o2
  have o4 := OutS.step S hB h1 Λ G 3 o3
  have o5 := OutS.step S hB h1 Λ G 4 o4
  have o6 := OutS.step S hB h1 Λ G 5 o5
  have o7 := OutS.step S hB h1 Λ G 6 o6
  exact OutS.step S hB h1 Λ G 7 o7

/-- The weight and the gains, from the blocks of the point. -/
abbrev lamV (arg7 arg8 arg9 arg10 : Memref sig .tc .vmem S1x64 .f32) (x3 x4 x5 x6 : S1x64.Idx → Elt Ideal .f32) : Vec Ideal S1x1 .f32 :=
  k0_pay991 (F := Ideal) (View.readAt (Elt Ideal) arg7.view (Rect.unit (s := S1x64) ![0, 0] S1x64.size inb_S1x64_S1x64_0_0).toLoadRect (arg7.view.rep x3))
    (View.readAt (Elt Ideal) arg8.view (Rect.unit (s := S1x64) ![0, 0] S1x64.size inb_S1x64_S1x64_0_0).toLoadRect (arg8.view.rep x4))
    (View.readAt (Elt Ideal) arg9.view (Rect.unit (s := S1x64) ![0, 0] S1x64.size inb_S1x64_S1x64_0_0).toLoadRect (arg9.view.rep x5))
    (View.readAt (Elt Ideal) arg10.view (Rect.unit (s := S1x64) ![0, 0] S1x64.size inb_S1x64_S1x64_0_0).toLoadRect (arg10.view.rep x6))
abbrev gainV (arg11 : Memref sig .tc .vmem S1x128 .f32) (x7 : S1x128.Idx → Elt Ideal .f32) : Vec Ideal S1x128 .f32 :=
  View.readAt (Elt Ideal) arg11.view (Rect.unit (s := S1x128) ![0, 0] S1x128.size inb_S1x128_S1x128_0_0).toLoadRect (arg11.view.rep x7)

theorem row64 (a : Memref sig .tc .vmem S1x64 .f32) (x : S1x64.Idx → Elt Ideal .f32) (i : Fin 64) :
    View.readAt (Elt Ideal) a.view (Rect.unit (s := S1x64) ![0, 0] S1x64.size inb_S1x64_S1x64_0_0).toLoadRect (a.view.rep x) (ix2 0 i) = x (ix2 0 i) := by
  rw [View.readAt_apply, View.read_rep]
  refine congrArg x (funext fun a => Fin.ext ?_)
  match a with
  | ⟨0, _⟩ => rfl
  | ⟨1, _⟩ => show 0 + 1 * i.val = i.val; omega
theorem row128 (a : Memref sig .tc .vmem S1x128 .f32) (x : S1x128.Idx → Elt Ideal .f32) (i : Fin 128) : gainV a x (ix2 0 i) = x (ix2 0 i) := by
  unfold gainV
  rw [View.readAt_apply, View.read_rep]
  refine congrArg x (funext fun a => Fin.ext ?_)
  match a with
  | ⟨0, _⟩ => rfl
  | ⟨1, _⟩ => show 0 + 1 * i.val = i.val; omega

/-- The weight of the second softmax. -/
def lam (x3 x4 x5 x6 : S1x64.Idx → EReal) : EReal :=
  Ideal.exp (∑ x, x3 (ix2 0 x) * x4 (ix2 0 x)) - Ideal.exp (∑ x, x5 (ix2 0 x) * x6 (ix2 0 x)) + Ideal.ofBits FTy.f32 1045220557#32
theorem lamV_apply (arg7 arg8 arg9 arg10 : Memref sig .tc .vmem S1x64 .f32) (x3 x4 x5 x6 : S1x64.Idx → Elt Ideal .f32) :
    lamV arg7 arg8 arg9 arg10 x3 x4 x5 x6 (ix2 0 0) = lam x3 x4 x5 x6 := by
  unfold lamV lam
  rw [lam_apply]
  exact congrArg₂ (fun a b => Ideal.exp a - Ideal.exp b + _) (Finset.sum_congr rfl fun x _ => congrArg₂ (· * ·) (row64 arg7 x3 x) (row64 arg8 x4 x))
    (Finset.sum_congr rfl fun x _ => congrArg₂ (· * ·) (row64 arg9 x5 x) (row64 arg10 x6 x))

end

end Cert.AttnIdeal.Hand

end
end
-- ==== Proof.AttnPathA.lean ====
module
public import proofs.«01_k».proof.Proof.AttnFill
@[expose] public section
set_option maxRecDepth 16384
noncomputable section

/-! # The blocks of scores of a point that begins a row of tiles, with the diagonal in its first half -/

namespace Cert.AttnIdeal.Hand
open Cert.AttnIdeal Cert.AttnIdeal.Gen Cert.AttnRow Idealize.ShloMosaic Idealize.ShloMosaic.TcCoe

section
variable {q : Fin 8 → Fin 1024 → Fin 128 → ℝ} {k : Fin 8 → ℕ → Fin 128 → ℝ} {v : Fin 8 → ℕ → Fin 256 → ℝ}
  {x1 x2 : S8x1024x128.Idx → Elt Ideal .bf16}
  {x0 : S8x512x128.Idx → Elt Ideal .bf16} (arg4 : Memref sig .tc .vmem S8x512x128 .bf16) (arg5 arg6 : Memref sig .tc .vmem S8x1024x128 .bf16)
  (H : New q k v 0 (kernelRun0_A.sl.HS0_16 arg4 x0) x1 x2)
include H

theorem Av1 : VS v 0 scM0_1.view.junk (kernelRun0_A.sl.HS1_9 arg6 x2) 1 := VS.step (ones_vs 0 H.h1) (by decide) H.hv (arg6 := arg6) (i2 := iw 0 (by decide)) (i3 := iy 0 (by decide)) (by sl_kernel_rfl)
theorem Av2 : VS v 0 scM0_1.view.junk (kernelRun0_A.sl.HS1_10 arg6 x2) 2 := VS.step (Av1 arg4 arg6 H) (by decide) H.hv (arg6 := arg6) (i2 := iw 1 (by decide)) (i3 := iy 1 (by decide)) (by sl_kernel_rfl)
theorem Av3 : VS v 0 scM0_1.view.junk (kernelRun0_A.sl.HS1_11 arg6 x2) 3 := VS.step (Av2 arg4 arg6 H) (by decide) H.hv (arg6 := arg6) (i2 := iw 2 (by decide)) (i3 := iy 2 (by decide)) (by sl_kernel_rfl)
theorem Av4 : VS v 0 scM0_1.view.junk (kernelRun0_A.sl.HS1_12 arg6 x2) 4 := VS.step (Av3 arg4 arg6 H) (by decide) H.hv (arg6 := arg6) (i2 := iw 3 (by decide)) (i3 := iy 3 (by decide)) (by sl_kernel_rfl)
theorem Av5 : VS v 0 scM0_1.view.junk (kernelRun0_A.sl.HS1_13 arg6 x2) 5 := VS.step (Av4 arg4 arg6 H) (by decide) H.hv (arg6 := arg6) (i2 := iw 4 (by decide)) (i3 := iy 4 (by decide)) (by sl_kernel_rfl)
theorem Av6 : VS v 0 scM0_1.view.junk (kernelRun0_A.sl.HS1_14 arg6 x2) 6 := VS.step (Av5 arg4 arg6 H) (by decide) H.hv (arg6 := arg6) (i2 := iw 5 (by decide)) (i3 := iy 5 (by decide)) (by sl_kernel_rfl)
theorem Av7 : VS v 0 scM0_1.view.junk (kernelRun0_A.sl.HS1_15 arg6 x2) 7 := VS.step (Av6 arg4 arg6 H) (by decide) H.hv (arg6 := arg6) (i2 := iw 6 (by decide)) (i3 := iy 6 (by decide)) (by sl_kernel_rfl)
theorem Av8 : VS v 0 scM0_1.view.junk (kernelRun0_A.sl.HS1_16 arg6 x2) 8 := VS.step (Av7 arg4 arg6 H) (by decide) H.hv (arg6 := arg6) (i2 := iw 7 (by decide)) (i3 := iy 7 (by decide)) (by sl_kernel_rfl)
omit H in
theorem Aq {w : Fin 8 → Fin 512 → Fin 128 → ℝ} (hx : ∀ h r l, x0 (ix3 h r l) = (w h r l : EReal)) : QS w (kernelRun0_A.sl.HS0_16 arg4 x0) 16 := by
  have o0 : QS w [] (2 * 0) := fun h ρ l hi => absurd hi (Nat.not_lt_zero _)
  have o1 := o0.head arg4 hx 0 (by decide) rfl
  have o2 := o1.head arg4 hx 1 (by decide) rfl
  have o3 := o2.head arg4 hx 2 (by decide) rfl
  have o4 := o3.head arg4 hx 3 (by decide) rfl
  have o5 := o4.head arg4 hx 4 (by decide) rfl
  have o6 := o5.head arg4 hx 5 (by decide) rfl
  have o7 := o6.head arg4 hx 6 (by decide) rfl
  exact o7.head arg4 hx 7 (by decide) (by sl_kernel_rfl)
theorem A0 : Spec q k v (bd 0 1) True (st4 0) kernelRun0_A.sl.HS2_1 kernelRun0_A.sl.HS3_1 := spec_fill q k v 1 (st4 0) (by intro h c hh hc; unfold st4; split_ifs <;> omega)
theorem A1 : Spec q k v (bd 0 1) True (st4 1) (kernelRun0_A.sl.HS2_2 arg4 arg5 x0 x1) (kernelRun0_A.sl.HS3_2 arg4 arg5 arg6 x0 x1 x2) := by
  have o := (A0 arg4 H)
  have m := Spec.fr o 0 0 (by decide)
  exact nL arg5 H (Av1 arg4 arg6 H) (a4 0 0) (fun _ _ => m) o (e2 := by sl_kernel_rfl) (e3 := by sl_kernel_rfl)
theorem A2 : Spec q k v (bd 0 1) True (st4 2) (kernelRun0_A.sl.HS2_3 arg4 arg5 x0 x1) (kernelRun0_A.sl.HS3_3 arg4 arg5 arg6 x0 x1 x2) := by
  have o := A1 arg4 arg5 arg6 H
  have m := Spec.fr o 0 1 (by decide)
  exact nH arg5 H (Av1 arg4 arg6 H) (a4 0 1) (fun _ _ => m) o (e2 := by sl_kernel_rfl) (e3 := by sl_kernel_rfl)
theorem A3 : Spec q k v (bd 0 1) True (st4 3) (kernelRun0_A.sl.HS2_4 arg4 arg5 x0 x1) (kernelRun0_A.sl.HS3_4 arg4 arg5 arg6 x0 x1 x2) := by
  have o := A2 arg4 arg5 arg6 H
  have m := Spec.fr o 0 2 (by decide)
  exact nL arg5 H (Av1 arg4 arg6 H) (a4 0 2) (fun _ _ => m) o (e2 := by sl_kernel_rfl) (e3 := by sl_kernel_rfl)
theorem A4 : Spec q k v (bd 0 1) True (st4 4) (kernelRun0_A.sl.HS2_5 arg4 arg5 x0 x1) (kernelRun0_A.sl.HS3_5 arg4 arg5 arg6 x0 x1 x2) := by
  have o := A3 arg4 arg5 arg6 H
  have m := Spec.fr o 0 3 (by decide)
  exact nH arg5 H (Av1 arg4 arg6 H) (a4 0 3) (fun _ _ => m) o (e2 := by sl_kernel_rfl) (e3 := by sl_kernel_rfl)
theorem A5 : Spec q k v (bd 0 1) True (st4 5) (kernelRun0_A.sl.HS2_6 arg4 arg5 x0 x1) (kernelRun0_A.sl.HS3_6 arg4 arg5 arg6 x0 x1 x2) := by
  have o := A4 arg4 arg5 arg6 H
  have m := Spec.fr o 1 0 (by decide)
  exact nL arg5 H (Av2 arg4 arg6 H) (a4 1 0) (fun _ _ => m) o (e2 := by sl_kernel_rfl) (e3 := by sl_kernel_rfl)
theorem A6 : Spec q k v (bd 0 1) True (st4 6) (kernelRun0_A.sl.HS2_7 arg4 arg5 x0 x1) (kernelRun0_A.sl.HS3_7 arg4 arg5 arg6 x0 x1 x2) := by
  have o := A5 arg4 arg5 arg6 H
  have m := Spec.fr o 1 1 (by decide)
  exact nH arg5 H (Av2 arg4 arg6 H) (a4 1 1) (fun _ _ => m) o (e2 := by sl_kernel_rfl) (e3 := by sl_kernel_rfl)
theorem A7 : Spec q k v (bd 0 1) True (st4 7) (kernelRun0_A.sl.HS2_8 arg4 arg5 x0 x1) (kernelRun0_A.sl.HS3_8 arg4 arg5 arg6 x0 x1 x2) := by
  have o := A6 arg4 arg5 arg6 H
  have m := Spec.fr o 1 2 (by decide)
  exact nL arg5 H (Av2 arg4 arg6 H) (a4 1 2) (fun _ _ => m) o (e2 := by sl_kernel_rfl) (e3 := by sl_kernel_rfl)
theorem A8 : Spec q k v (bd 0 1) True (st4 8) (kernelRun0_A.sl.HS2_9 arg4 arg5 x0 x1) (kernelRun0_A.sl.HS3_9 arg4 arg5 arg6 x0 x1 x2) := by
  have o := A7 arg4 arg5 arg6 H
  have m := Spec.fr o 1 3 (by decide)
  exact nH arg5 H (Av2 arg4 arg6 H) (a4 1 3) (fun _ _ => m) o (e2 := by sl_kernel_rfl) (e3 := by sl_kernel_rfl)
theorem A9 : Spec q k v (bd 0 1) True (st4 9) (kernelRun0_A.sl.HS2_10 arg4 arg5 x0 x1) (kernelRun0_A.sl.HS3_10 arg4 arg5 arg6 x0 x1 x2) := by
  have o := A8 arg4 arg5 arg6 H
  have m := Spec.fr o 2 0 (by decide)
  exact nL arg5 H (Av3 arg4 arg6 H) (a4 2 0) (fun _ _ => m) o (e2 := by sl_kernel_rfl) (e3 := by sl_kernel_rfl)
theorem A10 : Spec q k v (bd 0 1) True (st4 10) (kernelRun0_A.sl.HS2_11 arg4 arg5 x0 x1) (kernelRun0_A.sl.HS3_11 arg4 arg5 arg6 x0 x1 x2) := by
  have o := A9 arg4 arg5 arg6 H
  have m := Spec.fr o 2 1 (by decide)
  exact nH arg5 H (Av3 arg4 arg6 H) (a4 2 1) (fun _ _ => m) o (e2 := by sl_kernel_rfl) (e3 := by sl_kernel_rfl)
theorem A11 : Spec q k v (bd 0 1) True (st4 11) (kernelRun0_A.sl.HS2_12 arg4 arg5 x0 x1) (kernelRun0_A.sl.HS3_12 arg4 arg5 arg6 x0 x1 x2) := by
  have o := A10 arg4 arg5 arg6 H
  have m := Spec.fr o 2 2 (by decide)
  exact nL arg5 H (Av3 arg4 arg6 H) (a4 2 2) (fun _ _ => m) o (e2 := by sl_kernel_rfl) (e3 := by sl_kernel_rfl)
theorem A12 : Spec q k v (bd 0 1) True (st4 12) (kernelRun0_A.sl.HS2_13 arg4 arg5 x0 x1) (kernelRun0_A.sl.HS3_13 arg4 arg5 arg6 x0 x1 x2) := by
  have o := A11 arg4 arg5 arg6 H
  have m := Spec.fr o 2 3 (by decide)
  exact nH arg5 H (Av3 arg4 arg6 H) (a4 2 3) (fun _ _ => m) o (e2 := by sl_kernel_rfl) (e3 := by sl_kernel_rfl)
theorem A13 : Spec q k v (bd 0 1) True (st4 13) (kernelRun0_A.sl.HS2_14 arg4 arg5 x0 x1) (kernelRun0_A.sl.HS3_14 arg4 arg5 arg6 x0 x1 x2) := by
  have o := A12 arg4 arg5 arg6 H
  have m := Spec.fr o 3 0 (by decide)
  exact nL arg5 H (Av4 arg4 arg6 H) (a4 3 0) (fun _ _ => m) o (e2 := by sl_kernel_rfl) (e3 := by sl_kernel_rfl)
theorem A14 : Spec q k v (bd 0 1) True (st4 14) (kernelRun0_A.sl.HS2_15 arg4 arg5 x0 x1) (kernelRun0_A.sl.HS3_15 arg4 arg5 arg6 x0 x1 x2) := by
  have o := A13 arg4 arg5 arg6 H
  have m := Spec.fr o 3 1 (by decide)
  exact nH arg5 H (Av4 arg4 arg6 H) (a4 3 1) (fun _ _ => m) o (e2 := by sl_kernel_rfl) (e3 := by sl_kernel_rfl)
theorem A15 : Spec q k v (bd 0 1) True (st4 15) (kernelRun0_A.sl.HS2_16 arg4 arg5 x0 x1) (kernelRun0_A.sl.HS3_16 arg4 arg5 arg6 x0 x1 x2) := by
  have o := A14 arg4 arg5 arg6 H
  have m := Spec.fr o 3 2 (by decide)
  exact nL arg5 H (Av4 arg4 arg6 H) (a4 3 2) (fun _ _ => m) o (e2 := by sl_kernel_rfl) (e3 := by sl_kernel_rfl)
theorem A16 : Spec q k v (bd 0 1) True (st4 16) (kernelRun0_A.sl.HS2_17 arg4 arg5 x0 x1) (kernelRun0_A.sl.HS3_17 arg4 arg5 arg6 x0 x1 x2) := by
  have o := A15 arg4 arg5 arg6 H
  have m := Spec.fr o 3 3 (by decide)
  exact nH arg5 H (Av4 arg4 arg6 H) (a4 3 3) (fun _ _ => m) o (e2 := by sl_kernel_rfl) (e3 := by sl_kernel_rfl)
theorem A17 : Spec q k v (bd 0 1) True (st4 17) (kernelRun0_A.sl.HS2_18 arg4 arg5 x0 x1) (kernelRun0_A.sl.HS3_18 arg4 arg5 arg6 x0 x1 x2) := by
  have o := A16 arg4 arg5 arg6 H
  have m := Spec.fr o 4 0 (by decide)
  exact nL arg5 H (Av5 arg4 arg6 H) (a4 4 0) (fun _ _ => m) o (e2 := by sl_kernel_rfl) (e3 := by sl_kernel_rfl)
theorem A18 : Spec q k v (bd 0 1) True (st4 18) (kernelRun0_A.sl.HS2_19 arg4 arg5 x0 x1) (kernelRun0_A.sl.HS3_19 arg4 arg5 arg6 x0 x1 x2) := by
  have o := A17 arg4 arg5 arg6 H
  have m := Spec.fr o 4 1 (by decide)
  exact nH arg5 H (Av5 arg4 arg6 H) (a4 4 1) (fun _ _ => m) o (e2 := by sl_kernel_rfl) (e3 := by sl_kernel_rfl)
theorem A19 : Spec q k v (bd 0 1) True (st4 19) (kernelRun0_A.sl.HS2_20 arg4 arg5 x0 x1) (kernelRun0_A.sl.HS3_20 arg4 arg5 arg6 x0 x1 x2) := by
  have o := A18 arg4 arg5 arg6 H
  have m := Spec.fr o 4 2 (by decide)
  exact nL arg5 H (Av5 arg4 arg6 H) (a4 4 2) (fun _ _ => m) o (e2 := by sl_kernel_rfl) (e3 := by sl_kernel_rfl)
theorem A20 : Spec q k v (bd 0 1) True (st4 20) (kernelRun0_A.sl.HS2_21 arg4 arg5 x0 x1) (kernelRun0_A.sl.HS3_21 arg4 arg5 arg6 x0 x1 x2) := by
  have o := A19 arg4 arg5 arg6 H
  have m := Spec.fr o 4 3 (by decide)
  exact nH arg5 H (Av5 arg4 arg6 H) (a4 4 3) (fun _ _ => m) o (e2 := by sl_kernel_rfl) (e3 := by sl_kernel_rfl)
theorem A21 : Spec q k v (bd 0 1) True (st4 21) (kernelRun0_A.sl.HS2_22 arg4 arg5 x0 x1) (kernelRun0_A.sl.HS3_22 arg4 arg5 arg6 x0 x1 x2) := by
  have o := A20 arg4 arg5 arg6 H
  have m := Spec.fr o 5 0 (by decide)
  exact nL arg5 H (Av6 arg4 arg6 H) (a4 5 0) (fun _ _ => m) o (e2 := by sl_kernel_rfl) (e3 := by sl_kernel_rfl)
theorem A22 : Spec q k v (bd 0 1) True (st4 22) (kernelRun0_A.sl.HS2_23 arg4 arg5 x0 x1) (kernelRun0_A.sl.HS3_23 arg4 arg5 arg6 x0 x1 x2) := by
  have o := A21 arg4 arg5 arg6 H
  have m := Spec.fr o 5 1 (by decide)
  exact nH arg5 H (Av6 arg4 arg6 H) (a4 5 1) (fun _ _ => m) o (e2 := by sl_kernel_rfl) (e3 := by sl_kernel_rfl)
theorem A23 : Spec q k v (bd 0 1) True (st4 23) (kernelRun0_A.sl.HS2_24 arg4 arg5 x0 x1) (kernelRun0_A.sl.HS3_24 arg4 arg5 arg6 x0 x1 x2) := by
  have o := A22 arg4 arg5 arg6 H
  have m := Spec.fr o 5 2 (by decide)
  exact nL arg5 H (Av6 arg4 arg6 H) (a4 5 2) (fun _ _ => m) o (e2 := by sl_kernel_rfl) (e3 := by sl_kernel_rfl)
theorem A24 : Spec q k v (bd 0 1) True (st4 24) (kernelRun0_A.sl.HS2_25 arg4 arg5 x0 x1) (kernelRun0_A.sl.HS3_25 arg4 arg5 arg6 x0 x1 x2) := by
  have o := A23 arg4 arg5 arg6 H
  have m := Spec.fr o 5 3 (by decide)
  exact nH arg5 H (Av6 arg4 arg6 H) (a4 5 3) (fun _ _ => m) o (e2 := by sl_kernel_rfl) (e3 := by sl_kernel_rfl)
theorem A25 : Spec q k v (bd 0 1) True (st4 25) (kernelRun0_A.sl.HS2_26 arg4 arg5 x0 x1) (kernelRun0_A.sl.HS3_26 arg4 arg5 arg6 x0 x1 x2) := by
  have o := A24 arg4 arg5 arg6 H
  have m := Spec.fr o 6 0 (by decide)
  exact nL arg5 H (Av7 arg4 arg6 H) (a4 6 0) (fun _ _ => m) o (e2 := by sl_kernel_rfl) (e3 := by sl_kernel_rfl)
theorem A26 : Spec q k v (bd 0 1) True (st4 26) (kernelRun0_A.sl.HS2_27 arg4 arg5 x0 x1) (kernelRun0_A.sl.HS3_27 arg4 arg5 arg6 x0 x1 x2) := by
  have o := A25 arg4 arg5 arg6 H
  have m := Spec.fr o 6 1 (by decide)
  exact nH arg5 H (Av7 arg4 arg6 H) (a4 6 1) (fun _ _ => m) o (e2 := by sl_kernel_rfl) (e3 := by sl_kernel_rfl)
theorem A27 : Spec q k v (bd 0 1) True (st4 27) (kernelRun0_A.sl.HS2_28 arg4 arg5 x0 x1) (kernelRun0_A.sl.HS3_28 arg4 arg5 arg6 x0 x1 x2) := by
  have o := A26 arg4 arg5 arg6 H
  have m := Spec.fr o 6 2 (by decide)
  exact nL arg5 H (Av7 arg4 arg6 H) (a4 6 2) (fun _ _ => m) o (e2 := by sl_kernel_rfl) (e3 := by sl_kernel_rfl)
theorem A28 : Spec q k v (bd 0 1) True (st4 28) (kernelRun0_A.sl.HS2_29 arg4 arg5 x0 x1) (kernelRun0_A.sl.HS3_29 arg4 arg5 arg6 x0 x1 x2) := by
  have o := A27 arg4 arg5 arg6 H
  have m := Spec.fr o 6 3 (by decide)
  exact nH arg5 H (Av7 arg4 arg6 H) (a4 6 3) (fun _ _ => m) o (e2 := by sl_kernel_rfl) (e3 := by sl_kernel_rfl)
theorem A29 : Spec q k v (bd 0 1) True (st4 29) (kernelRun0_A.sl.HS2_30 arg4 arg5 x0 x1) (kernelRun0_A.sl.HS3_30 arg4 arg5 arg6 x0 x1 x2) := by
  have o := A28 arg4 arg5 arg6 H
  have m := Spec.fr o 7 0 (by decide)
  exact nL arg5 H (Av8 arg4 arg6 H) (a4 7 0) (fun _ _ => m) o (e2 := by sl_kernel_rfl) (e3 := by sl_kernel_rfl)
theorem A30 : Spec q k v (bd 0 1) True (st4 30) (kernelRun0_A.sl.HS2_31 arg4 arg5 x0 x1) (kernelRun0_A.sl.HS3_31 arg4 arg5 arg6 x0 x1 x2) := by
  have o := A29 arg4 arg5 arg6 H
  have m := Spec.fr o 7 1 (by decide)
  exact nH arg5 H (Av8 arg4 arg6 H) (a4 7 1) (fun _ _ => m) o (e2 := by sl_kernel_rfl) (e3 := by sl_kernel_rfl)
theorem A31 : Spec q k v (bd 0 1) True (st4 31) (kernelRun0_A.sl.HS2_32 arg4 arg5 x0 x1) (kernelRun0_A.sl.HS3_32 arg4 arg5 arg6 x0 x1 x2) := by
  have o := A30 arg4 arg5 arg6 H
  have m := Spec.fr o 7 2 (by decide)
  exact nL arg5 H (Av8 arg4 arg6 H) (a4 7 2) (fun _ _ => m) o (e2 := by sl_kernel_rfl) (e3 := by sl_kernel_rfl)
theorem A32 : Spec q k v (bd 0 1) True (st4 32) (kernelRun0_A.sl.HS2_33 arg4 arg5 x0 x1) (kernelRun0_A.sl.HS3_33 arg4 arg5 arg6 x0 x1 x2) := by
  have o := A31 arg4 arg5 arg6 H
  have m := Spec.fr o 7 3 (by decide)
  exact nH arg5 H (Av8 arg4 arg6 H) (a4 7 3) (fun _ _ => m) o (e2 := by sl_kernel_rfl) (e3 := by sl_kernel_rfl)

end

end Cert.AttnIdeal.Hand

end
end
-- ==== Proof.AttnPathB.lean ====
module
public import proofs.«01_k».proof.Proof.AttnFill
@[expose] public section
set_option maxRecDepth 16384
noncomputable section

/-! # The blocks of scores of a point that begins a row of tiles, with the diagonal in its second half -/

namespace Cert.AttnIdeal.Hand
open Cert.AttnIdeal Cert.AttnIdeal.Gen Cert.AttnRow Idealize.ShloMosaic Idealize.ShloMosaic.TcCoe

section
variable {q : Fin 8 → Fin 1024 → Fin 128 → ℝ} {k : Fin 8 → ℕ → Fin 128 → ℝ} {v : Fin 8 → ℕ → Fin 256 → ℝ}
  {x1 x2 : S8x1024x128.Idx → Elt Ideal .bf16}
  {x0 : S8x512x128.Idx → Elt Ideal .bf16} (arg4 : Memref sig .tc .vmem S8x512x128 .bf16) (arg5 arg6 : Memref sig .tc .vmem S8x1024x128 .bf16)
  (H : New q k v 0 (kernelRun0_B.sl.HS0_16 arg4 x0) x1 x2)
include H

theorem Bv1 : VS v 0 scM0_1.view.junk (kernelRun0_B.sl.HS1_9 arg6 x2) 1 := VS.step (ones_vs 0 H.h1) (by decide) H.hv (arg6 := arg6) (i2 := iw 0 (by decide)) (i3 := iy 0 (by decide)) (by sl_kernel_rfl)
theorem Bv2 : VS v 0 scM0_1.view.junk (kernelRun0_B.sl.HS1_10 arg6 x2) 2 := VS.step (Bv1 arg4 arg6 H) (by decide) H.hv (arg6 := arg6) (i2 := iw 1 (by decide)) (i3 := iy 1 (by decide)) (by sl_kernel_rfl)
theorem Bv3 : VS v 0 scM0_1.view.junk (kernelRun0_B.sl.HS1_11 arg6 x2) 3 := VS.step (Bv2 arg4 arg6 H) (by decide) H.hv (arg6 := arg6) (i2 := iw 2 (by decide)) (i3 := iy 2 (by decide)) (by sl_kernel_rfl)
theorem Bv4 : VS v 0 scM0_1.view.junk (kernelRun0_B.sl.HS1_12 arg6 x2) 4 := VS.step (Bv3 arg4 arg6 H) (by decide) H.hv (arg6 := arg6) (i2 := iw 3 (by decide)) (i3 := iy 3 (by decide)) (by sl_kernel_rfl)
theorem Bv5 : VS v 0 scM0_1.view.junk (kernelRun0_B.sl.HS1_13 arg6 x2) 5 := VS.step (Bv4 arg4 arg6 H) (by decide) H.hv (arg6 := arg6) (i2 := iw 4 (by decide)) (i3 := iy 4 (by decide)) (by sl_kernel_rfl)
theorem Bv6 : VS v 0 scM0_1.view.junk (kernelRun0_B.sl.HS1_14 arg6 x2) 6 := VS.step (Bv5 arg4 arg6 H) (by decide) H.hv (arg6 := arg6) (i2 := iw 5 (by decide)) (i3 := iy 5 (by decide)) (by sl_kernel_rfl)
theorem Bv7 : VS v 0 scM0_1.view.junk (kernelRun0_B.sl.HS1_15 arg6 x2) 7 := VS.step (Bv6 arg4 arg6 H) (by decide) H.hv (arg6 := arg6) (i2 := iw 6 (by decide)) (i3 := iy 6 (by decide)) (by sl_kernel_rfl)
theorem Bv8 : VS v 0 scM0_1.view.junk (kernelRun0_B.sl.HS1_16 arg6 x2) 8 := VS.step (Bv7 arg4 arg6 H) (by decide) H.hv (arg6 := arg6) (i2 := iw 7 (by decide)) (i3 := iy 7 (by decide)) (by sl_kernel_rfl)
omit H in
theorem Bq {w : Fin 8 → Fin 512 → Fin 128 → ℝ} (hx : ∀ h r l, x0 (ix3 h r l) = (w h r l : EReal)) : QS w (kernelRun0_B.sl.HS0_16 arg4 x0) 16 := by
  have o0 : QS w [] (2 * 0) := fun h ρ l hi => absurd hi (Nat.not_lt_zero _)
  have o1 := o0.head arg4 hx 0 (by decide) rfl
  have o2 := o1.head arg4 hx 1 (by decide) rfl
  have o3 := o2.head arg4 hx 2 (by decide) rfl
  have o4 := o3.head arg4 hx 3 (by decide) rfl
  have o5 := o4.head arg4 hx 4 (by decide) rfl
  have o6 := o5.head arg4 hx 5 (by decide) rfl
  have o7 := o6.head arg4 hx 6 (by decide) rfl
  exact o7.head arg4 hx 7 (by decide) (by sl_kernel_rfl)
theorem B0 : Spec q k v (bd 0 2) True (st8 0) kernelRun0_B.sl.HS2_1 kernelRun0_B.sl.HS3_1 := spec_fill q k v 2 (st8 0) (by intro h c hh hc; unfold st8; split_ifs <;> omega)
theorem B1 : Spec q k v (bd 0 2) True (st8 1) (kernelRun0_B.sl.HS2_2 arg4 arg5 x0 x1) (kernelRun0_B.sl.HS3_2 arg4 arg5 arg6 x0 x1 x2) := by
  have o := (B0 arg4 H)
  have m := Spec.fr o 0 0 (by decide)
  exact nF arg5 H (Bv1 arg4 arg6 H) (a8 0 0 0) (fun _ _ => m) o (e2 := by sl_kernel_rfl) (e3 := by sl_kernel_rfl)
theorem B2 : Spec q k v (bd 0 2) True (st8 2) (kernelRun0_B.sl.HS2_3 arg4 arg5 x0 x1) (kernelRun0_B.sl.HS3_3 arg4 arg5 arg6 x0 x1 x2) := by
  have o := B1 arg4 arg5 arg6 H
  have m := Spec.fr o 0 1 (by decide)
  exact nF arg5 H (Bv1 arg4 arg6 H) (a8 0 0 1) (fun _ _ => m) o (e2 := by sl_kernel_rfl) (e3 := by sl_kernel_rfl)
theorem B3 : Spec q k v (bd 0 2) True (st8 3) (kernelRun0_B.sl.HS2_4 arg4 arg5 x0 x1) (kernelRun0_B.sl.HS3_4 arg4 arg5 arg6 x0 x1 x2) := by
  have o := B2 arg4 arg5 arg6 H
  have m := Spec.fr o 0 2 (by decide)
  exact nF arg5 H (Bv1 arg4 arg6 H) (a8 0 0 2) (fun _ _ => m) o (e2 := by sl_kernel_rfl) (e3 := by sl_kernel_rfl)
theorem B4 : Spec q k v (bd 0 2) True (st8 4) (kernelRun0_B.sl.HS2_5 arg4 arg5 x0 x1) (kernelRun0_B.sl.HS3_5 arg4 arg5 arg6 x0 x1 x2) := by
  have o := B3 arg4 arg5 arg6 H
  have m := Spec.fr o 0 3 (by decide)
  exact nF arg5 H (Bv1 arg4 arg6 H) (a8 0 0 3) (fun _ _ => m) o (e2 := by sl_kernel_rfl) (e3 := by sl_kernel_rfl)
theorem B5 : Spec q k v (bd 0 2) True (st8 5) (kernelRun0_B.sl.HS2_6 arg4 arg5 x0 x1) (kernelRun0_B.sl.HS3_6 arg4 arg5 arg6 x0 x1 x2) := by
  have o := B4 arg4 arg5 arg6 H
  have m := Spec.ag o 0 0 (by decide)
  exact nL arg5 H (Bv1 arg4 arg6 H) (a8 0 1 0) (fun _ _ => m) o (e2 := by sl_kernel_rfl) (e3 := by sl_kernel_rfl)
theorem B6 : Spec q k v (bd 0 2) True (st8 6) (kernelRun0_B.sl.HS2_7 arg4 arg5 x0 x1) (kernelRun0_B.sl.HS3_7 arg4 arg5 arg6 x0 x1 x2) := by
  have o := B5 arg4 arg5 arg6 H
  have m := Spec.ag o 0 1 (by decide)
  exact nH arg5 H (Bv1 arg4 arg6 H) (a8 0 1 1) (fun _ _ => m) o (e2 := by sl_kernel_rfl) (e3 := by sl_kernel_rfl)
theorem B7 : Spec q k v (bd 0 2) True (st8 7) (kernelRun0_B.sl.HS2_8 arg4 arg5 x0 x1) (kernelRun0_B.sl.HS3_8 arg4 arg5 arg6 x0 x1 x2) := by
  have o := B6 arg4 arg5 arg6 H
  have m := Spec.ag o 0 2 (by decide)
  exact nL arg5 H (Bv1 arg4 arg6 H) (a8 0 1 2) (fun _ _ => m) o (e2 := by sl_kernel_rfl) (e3 := by sl_kernel_rfl)
theorem B8 : Spec q k v (bd 0 2) True (st8 8) (kernelRun0_B.sl.HS2_9 arg4 arg5 x0 x1) (kernelRun0_B.sl.HS3_9 arg4 arg5 arg6 x0 x1 x2) := by
  have o := B7 arg4 arg5 arg6 H
  have m := Spec.ag o 0 3 (by decide)
  exact nH arg5 H (Bv1 arg4 arg6 H) (a8 0 1 3) (fun _ _ => m) o (e2 := by sl_kernel_rfl) (e3 := by sl_kernel_rfl)
theorem B9 : Spec q k v (bd 0 2) True (st8 9) (kernelRun0_B.sl.HS2_10 arg4 arg5 x0 x1) (kernelRun0_B.sl.HS3_10 arg4 arg5 arg6 x0 x1 x2) := by
  have o := B8 arg4 arg5 arg6 H
  have m := Spec.fr o 1 0 (by decide)
  exact nF arg5 H (Bv2 arg4 arg6 H) (a8 1 0 0) (fun _ _ => m) o (e2 := by sl_kernel_rfl) (e3 := by sl_kernel_rfl)
theorem B10 : Spec q k v (bd 0 2) True (st8 10) (kernelRun0_B.sl.HS2_11 arg4 arg5 x0 x1) (kernelRun0_B.sl.HS3_11 arg4 arg5 arg6 x0 x1 x2) := by
  have o := B9 arg4 arg5 arg6 H
  have m := Spec.fr o 1 1 (by decide)
  exact nF arg5 H (Bv2 arg4 arg6 H) (a8 1 0 1) (fun _ _ => m) o (e2 := by sl_kernel_rfl) (e3 := by sl_kernel_rfl)
theorem B11 : Spec q k v (bd 0 2) True (st8 11) (kernelRun0_B.sl.HS2_12 arg4 arg5 x0 x1) (kernelRun0_B.sl.HS3_12 arg4 arg5 arg6 x0 x1 x2) := by
  have o := B10 arg4 arg5 arg6 H
  have m := Spec.fr o 1 2 (by decide)
  exact nF arg5 H (Bv2 arg4 arg6 H) (a8 1 0 2) (fun _ _ => m) o (e2 := by sl_kernel_rfl) (e3 := by sl_kernel_rfl)
theorem B12 : Spec q k v (bd 0 2) True (st8 12) (kernelRun0_B.sl.HS2_13 arg4 arg5 x0 x1) (kernelRun0_B.sl.HS3_13 arg4 arg5 arg6 x0 x1 x2) := by
  have o := B11 arg4 arg5 arg6 H
  have m := Spec.fr o 1 3 (by decide)
  exact nF arg5 H (Bv2 arg4 arg6 H) (a8 1 0 3) (fun _ _ => m) o (e2 := by sl_kernel_rfl) (e3 := by sl_kernel_rfl)
theorem B13 : Spec q k v (bd 0 2) True (st8 13) (kernelRun0_B.sl.HS2_14 arg4 arg5 x0 x1) (kernelRun0_B.sl.HS3_14 arg4 arg5 arg6 x0 x1 x2) := by
  have o := B12 arg4 arg5 arg6 H
  have m := Spec.ag o 1 0 (by decide)
  exact nL arg5 H (Bv2 arg4 arg6 H) (a8 1 1 0) (fun _ _ => m) o (e2 := by sl_kernel_rfl) (e3 := by sl_kernel_rfl)
theorem B14 : Spec q k v (bd 0 2) True (st8 14) (kernelRun0_B.sl.HS2_15 arg4 arg5 x0 x1) (kernelRun0_B.sl.HS3_15 arg4 arg5 arg6 x0 x1 x2) := by
  have o := B13 arg4 arg5 arg6 H
  have m := Spec.ag o 1 1 (by decide)
  exact nH arg5 H (Bv2 arg4 arg6 H) (a8 1 1 1) (fun _ _ => m) o (e2 := by sl_kernel_rfl) (e3 := by sl_kernel_rfl)
theorem B15 : Spec q k v (bd 0 2) True (st8 15) (kernelRun0_B.sl.HS2_16 arg4 arg5 x0 x1) (kernelRun0_B.sl.HS3_16 arg4 arg5 arg6 x0 x1 x2) := by
  have o := B14 arg4 arg5 arg6 H
  have m := Spec.ag o 1 2 (by decide)
  exact nL arg5 H (Bv2 arg4 arg6 H) (a8 1 1 2) (fun _ _ => m) o (e2 := by sl_kernel_rfl) (e3 := by sl_kernel_rfl)
theorem B16 : Spec q k v (bd 0 2) True (st8 16) (kernelRun0_B.sl.HS2_17 arg4 arg5 x0 x1) (kernelRun0_B.sl.HS3_17 arg4 arg5 arg6 x0 x1 x2) := by
  have o := B15 arg4 arg5 arg6 H
  have m := Spec.ag o 1 3 (by decide)
  exact nH arg5 H (Bv2 arg4 arg6 H) (a8 1 1 3) (fun _ _ => m) o (e2 := by sl_kernel_rfl) (e3 := by sl_kernel_rfl)
theorem B17 : Spec q k v (bd 0 2) True (st8 17) (kernelRun0_B.sl.HS2_18 arg4 arg5 x0 x1) (kernelRun0_B.sl.HS3_18 arg4 arg5 arg6 x0 x1 x2) := by
  have o := B16 arg4 arg5 arg6 H
  have m := Spec.fr o 2 0 (by decide)
  exact nF arg5 H (Bv3 arg4 arg6 H) (a8 2 0 0) (fun _ _ => m) o (e2 := by sl_kernel_rfl) (e3 := by sl_kernel_rfl)
theorem B18 : Spec q k v (bd 0 2) True (st8 18) (kernelRun0_B.sl.HS2_19 arg4 arg5 x0 x1) (kernelRun0_B.sl.HS3_19 arg4 arg5 arg6 x0 x1 x2) := by
  have o := B17 arg4 arg5 arg6 H
  have m := Spec.fr o 2 1 (by decide)
  exact nF arg5 H (Bv3 arg4 arg6 H) (a8 2 0 1) (fun _ _ => m) o (e2 := by sl_kernel_rfl) (e3 := by sl_kernel_rfl)
theorem B19 : Spec q k v (bd 0 2) True (st8 19) (kernelRun0_B.sl.HS2_20 arg4 arg5 x0 x1) (kernelRun0_B.sl.HS3_20 arg4 arg5 arg6 x0 x1 x2) := by
  have o := B18 arg4 arg5 arg6 H
  have m := Spec.fr o 2 2 (by decide)
  exact nF arg5 H (Bv3 arg4 arg6 H) (a8 2 0 2) (fun _ _ => m) o (e2 := by sl_kernel_rfl) (e3 := by sl_kernel_rfl)
theorem B20 : Spec q k v (bd 0 2) True (st8 20) (kernelRun0_B.sl.HS2_21 arg4 arg5 x0 x1) (kernelRun0_B.sl.HS3_21 arg4 arg5 arg6 x0 x1 x2) := by
  have o := B19 arg4 arg5 arg6 H
  have m := Spec.fr o 2 3 (by decide)
  exact nF arg5 H (Bv3 arg4 arg6 H) (a8 2 0 3) (fun _ _ => m) o (e2 := by sl_kernel_rfl) (e3 := by sl_kernel_rfl)
theorem B21 : Spec q k v (bd 0 2) True (st8 21) (kernelRun0_B.sl.HS2_22 arg4 arg5 x0 x1) (kernelRun0_B.sl.HS3_22 arg4 arg5 arg6 x0 x1 x2) := by
  have o := B20 arg4 arg5 arg6 H
  have m := Spec.ag o 2 0 (by decide)
  exact nL arg5 H (Bv3 arg4 arg6 H) (a8 2 1 0) (fun _ _ => m) o (e2 := by sl_kernel_rfl) (e3 := by sl_kernel_rfl)
theorem B22 : Spec q k v (bd 0 2) True (st8 22) (kernelRun0_B.sl.HS2_23 arg4 arg5 x0 x1) (kernelRun0_B.sl.HS3_23 arg4 arg5 arg6 x0 x1 x2) := by
  have o := B21 arg4 arg5 arg6 H
  have m := Spec.ag o 2 1 (by decide)
  exact nH arg5 H (Bv3 arg4 arg6 H) (a8 2 1 1) (fun _ _ => m) o (e2 := by sl_kernel_rfl) (e3 := by sl_kernel_rfl)
theorem B23 : Spec q k v (bd 0 2) True (st8 23) (kernelRun0_B.sl.HS2_24 arg4 arg5 x0 x1) (kernelRun0_B.sl.HS3_24 arg4 arg5 arg6 x0 x1 x2) := by
  have o := B22 arg4 arg5 arg6 H
  have m := Spec.ag o 2 2 (by decide)
  exact nL arg5 H (Bv3 arg4 arg6 H) (a8 2 1 2) (fun _ _ => m) o (e2 := by sl_kernel_rfl) (e3 := by sl_kernel_rfl)
theorem B24 : Spec q k v (bd 0 2) True (st8 24) (kernelRun0_B.sl.HS2_25 arg4 arg5 x0 x1) (kernelRun0_B.sl.HS3_25 arg4 arg5 arg6 x0 x1 x2) := by
  have o := B23 arg4 arg5 arg6 H
  have m := Spec.ag o 2 3 (by decide)
  exact nH arg5 H (Bv3 arg4 arg6 H) (a8 2 1 3) (fun _ _ => m) o (e2 := by sl_kernel_rfl) (e3 := by sl_kernel_rfl)
theorem B25 : Spec q k v (bd 0 2) True (st8 25) (kernelRun0_B.sl.HS2_26 arg4 arg5 x0 x1) (kernelRun0_B.sl.HS3_26 arg4 arg5 arg6 x0 x1 x2) := by
  have o := B24 arg4 arg5 arg6 H
  have m := Spec.fr o 3 0 (by decide)
  exact nF arg5 H (Bv4 arg4 arg6 H) (a8 3 0 0) (fun _ _ => m) o (e2 := by sl_kernel_rfl) (e3 := by sl_kernel_rfl)
theorem B26 : Spec q k v (bd 0 2) True (st8 26) (kernelRun0_B.sl.HS2_27 arg4 arg5 x0 x1) (kernelRun0_B.sl.HS3_27 arg4 arg5 arg6 x0 x1 x2) := by
  have o := B25 arg4 arg5 arg6 H
  have m := Spec.fr o 3 1 (by decide)
  exact nF arg5 H (Bv4 arg4 arg6 H) (a8 3 0 1) (fun _ _ => m) o (e2 := by sl_kernel_rfl) (e3 := by sl_kernel_rfl)
theorem B27 : Spec q k v (bd 0 2) True (st8 27) (kernelRun0_B.sl.HS2_28 arg4 arg5 x0 x1) (kernelRun0_B.sl.HS3_28 arg4 arg5 arg6 x0 x1 x2) := by
  have o := B26 arg4 arg5 arg6 H
  have m := Spec.fr o 3 2 (by decide)
  exact nF arg5 H (Bv4 arg4 arg6 H) (a8 3 0 2) (fun _ _ => m) o (e2 := by sl_kernel_rfl) (e3 := by sl_kernel_rfl)
theorem B28 : Spec q k v (bd 0 2) True (st8 28) (kernelRun0_B.sl.HS2_29 arg4 arg5 x0 x1) (kernelRun0_B.sl.HS3_29 arg4 arg5 arg6 x0 x1 x2) := by
  have o := B27 arg4 arg5 arg6 H
  have m := Spec.fr o 3 3 (by decide)
  exact nF arg5 H (Bv4 arg4 arg6 H) (a8 3 0 3) (fun _ _ => m) o (e2 := by sl_kernel_rfl) (e3 := by sl_kernel_rfl)
theorem B29 : Spec q k v (bd 0 2) True (st8 29) (kernelRun0_B.sl.HS2_30 arg4 arg5 x0 x1) (kernelRun0_B.sl.HS3_30 arg4 arg5 arg6 x0 x1 x2) := by
  have o := B28 arg4 arg5 arg6 H
  have m := Spec.ag o 3 0 (by decide)
  exact nL arg5 H (Bv4 arg4 arg6 H) (a8 3 1 0) (fun _ _ => m) o (e2 := by sl_kernel_rfl) (e3 := by sl_kernel_rfl)
theorem B30 : Spec q k v (bd 0 2) True (st8 30) (kernelRun0_B.sl.HS2_31 arg4 arg5 x0 x1) (kernelRun0_B.sl.HS3_31 arg4 arg5 arg6 x0 x1 x2) := by
  have o := B29 arg4 arg5 arg6 H
  have m := Spec.ag o 3 1 (by decide)
  exact nH arg5 H (Bv4 arg4 arg6 H) (a8 3 1 1) (fun _ _ => m) o (e2 := by sl_kernel_rfl) (e3 := by sl_kernel_rfl)
theorem B31 : Spec q k v (bd 0 2) True (st8 31) (kernelRun0_B.sl.HS2_32 arg4 arg5 x0 x1) (kernelRun0_B.sl.HS3_32 arg4 arg5 arg6 x0 x1 x2) := by
  have o := B30 arg4 arg5 arg6 H
  have m := Spec.ag o 3 2 (by decide)
  exact nL arg5 H (Bv4 arg4 arg6 H) (a8 3 1 2) (fun _ _ => m) o (e2 := by sl_kernel_rfl) (e3 := by sl_kernel_rfl)
theorem B32 : Spec q k v (bd 0 2) True (st8 32) (kernelRun0_B.sl.HS2_33 arg4 arg5 x0 x1) (kernelRun0_B.sl.HS3_33 arg4 arg5 arg6 x0 x1 x2) := by
  have o := B31 arg4 arg5 arg6 H
  have m := Spec.ag o 3 3 (by decide)
  exact nH arg5 H (Bv4 arg4 arg6 H) (a8 3 1 3) (fun _ _ => m) o (e2 := by sl_kernel_rfl) (e3 := by sl_kernel_rfl)
theorem B33 : Spec q k v (bd 0 2) True (st8 33) (kernelRun0_B.sl.HS2_34 arg4 arg5 x0 x1) (kernelRun0_B.sl.HS3_34 arg4 arg5 arg6 x0 x1 x2) := by
  have o := B32 arg4 arg5 arg6 H
  have m := Spec.fr o 4 0 (by decide)
  exact nF arg5 H (Bv5 arg4 arg6 H) (a8 4 0 0) (fun _ _ => m) o (e2 := by sl_kernel_rfl) (e3 := by sl_kernel_rfl)
theorem B34 : Spec q k v (bd 0 2) True (st8 34) (kernelRun0_B.sl.HS2_35 arg4 arg5 x0 x1) (kernelRun0_B.sl.HS3_35 arg4 arg5 arg6 x0 x1 x2) := by
  have o := B33 arg4 arg5 arg6 H
  have m := Spec.fr o 4 1 (by decide)
  exact nF arg5 H (Bv5 arg4 arg6 H) (a8 4 0 1) (fun _ _ => m) o (e2 := by sl_kernel_rfl) (e3 := by sl_kernel_rfl)
theorem B35 : Spec q k v (bd 0 2) True (st8 35) (kernelRun0_B.sl.HS2_36 arg4 arg5 x0 x1) (kernelRun0_B.sl.HS3_36 arg4 arg5 arg6 x0 x1 x2) := by
  have o := B34 arg4 arg5 arg6 H
  have m := Spec.fr o 4 2 (by decide)
  exact nF arg5 H (Bv5 arg4 arg6 H) (a8 4 0 2) (fun _ _ => m) o (e2 := by sl_kernel_rfl) (e3 := by sl_kernel_rfl)
theorem B36 : Spec q k v (bd 0 2) True (st8 36) (kernelRun0_B.sl.HS2_37 arg4 arg5 x0 x1) (kernelRun0_B.sl.HS3_37 arg4 arg5 arg6 x0 x1 x2) := by
  have o := B35 arg4 arg5 arg6 H
  have m := Spec.fr o 4 3 (by decide)
  exact nF arg5 H (Bv5 arg4 arg6 H) (a8 4 0 3) (fun _ _ => m) o (e2 := by sl_kernel_rfl) (e3 := by sl_kernel_rfl)
theorem B37 : Spec q k v (bd 0 2) True (st8 37) (kernelRun0_B.sl.HS2_38 arg4 arg5 x0 x1) (kernelRun0_B.sl.HS3_38 arg4 arg5 arg6 x0 x1 x2) := by
  have o := B36 arg4 arg5 arg6 H
  have m := Spec.ag o 4 0 (by decide)
  exact nL arg5 H (Bv5 arg4 arg6 H) (a8 4 1 0) (fun _ _ => m) o (e2 := by sl_kernel_rfl) (e3 := by sl_kernel_rfl)
theorem B38 : Spec q k v (bd 0 2) True (st8 38) (kernelRun0_B.sl.HS2_39 arg4 arg5 x0 x1) (kernelRun0_B.sl.HS3_39 arg4 arg5 arg6 x0 x1 x2) := by
  have o := B37 arg4 arg5 arg6 H
  have m := Spec.ag o 4 1 (by decide)
  exact nH arg5 H (Bv5 arg4 arg6 H) (a8 4 1 1) (fun _ _ => m) o (e2 := by sl_kernel_rfl) (e3 := by sl_kernel_rfl)
theorem B39 : Spec q k v (bd 0 2) True (st8 39) (kernelRun0_B.sl.HS2_40 arg4 arg5 x0 x1) (kernelRun0_B.sl.HS3_40 arg4 arg5 arg6 x0 x1 x2) := by
  have o := B38 arg4 arg5 arg6 H
  have m := Spec.ag o 4 2 (by decide)
  exact nL arg5 H (Bv5 arg4 arg6 H) (a8 4 1 2) (fun _ _ => m) o (e2 := by sl_kernel_rfl) (e3 := by sl_kernel_rfl)
theorem B40 : Spec q k v (bd 0 2) True (st8 40) (kernelRun0_B.sl.HS2_41 arg4 arg5 x0 x1) (kernelRun0_B.sl.HS3_41 arg4 arg5 arg6 x0 x1 x2) := by
  have o := B39 arg4 arg5 arg6 H
  have m := Spec.ag o 4 3 (by decide)
  exact nH arg5 H (Bv5 arg4 arg6 H) (a8 4 1 3) (fun _ _ => m) o (e2 := by sl_kernel_rfl) (e3 := by sl_kernel_rfl)
theorem B41 : Spec q k v (bd 0 2) True (st8 41) (kernelRun0_B.sl.HS2_42 arg4 arg5 x0 x1) (kernelRun0_B.sl.HS3_42 arg4 arg5 arg6 x0 x1 x2) := by
  have o := B40 arg4 arg5 arg6 H
  have m := Spec.fr o 5 0 (by decide)
  exact nF arg5 H (Bv6 arg4 arg6 H) (a8 5 0 0) (fun _ _ => m) o (e2 := by sl_kernel_rfl) (e3 := by sl_kernel_rfl)
theorem B42 : Spec q k v (bd 0 2) True (st8 42) (kernelRun0_B.sl.HS2_43 arg4 arg5 x0 x1) (kernelRun0_B.sl.HS3_43 arg4 arg5 arg6 x0 x1 x2) := by
  have o := B41 arg4 arg5 arg6 H
  have m := Spec.fr o 5 1 (by decide)
  exact nF arg5 H (Bv6 arg4 arg6 H) (a8 5 0 1) (fun _ _ => m) o (e2 := by sl_kernel_rfl) (e3 := by sl_kernel_rfl)
theorem B43 : Spec q k v (bd 0 2) True (st8 43) (kernelRun0_B.sl.HS2_44 arg4 arg5 x0 x1) (kernelRun0_B.sl.HS3_44 arg4 arg5 arg6 x0 x1 x2) := by
  have o := B42 arg4 arg5 arg6 H
  have m := Spec.fr o 5 2 (by decide)
  exact nF arg5 H (Bv6 arg4 arg6 H) (a8 5 0 2) (fun _ _ => m) o (e2 := by sl_kernel_rfl) (e3 := by sl_kernel_rfl)
theorem B44 : Spec q k v (bd 0 2) True (st8 44) (kernelRun0_B.sl.HS2_45 arg4 arg5 x0 x1) (kernelRun0_B.sl.HS3_45 arg4 arg5 arg6 x0 x1 x2) := by
  have o := B43 arg4 arg5 arg6 H
  have m := Spec.fr o 5 3 (by decide)
  exact nF arg5 H (Bv6 arg4 arg6 H) (a8 5 0 3) (fun _ _ => m) o (e2 := by sl_kernel_rfl) (e3 := by sl_kernel_rfl)
theorem B45 : Spec q k v (bd 0 2) True (st8 45) (kernelRun0_B.sl.HS2_46 arg4 arg5 x0 x1) (kernelRun0_B.sl.HS3_46 arg4 arg5 arg6 x0 x1 x2) := by
  have o := B44 arg4 arg5 arg6 H
  have m := Spec.ag o 5 0 (by decide)
  exact nL arg5 H (Bv6 arg4 arg6 H) (a8 5 1 0) (fun _ _ => m) o (e2 := by sl_kernel_rfl) (e3 := by sl_kernel_rfl)
theorem B46 : Spec q k v (bd 0 2) True (st8 46) (kernelRun0_B.sl.HS2_47 arg4 arg5 x0 x1) (kernelRun0_B.sl.HS3_47 arg4 arg5 arg6 x0 x1 x2) := by
  have o := B45 arg4 arg5 arg6 H
  have m := Spec.ag o 5 1 (by decide)
  exact nH arg5 H (Bv6 arg4 arg6 H) (a8 5 1 1) (fun _ _ => m) o (e2 := by sl_kernel_rfl) (e3 := by sl_kernel_rfl)
theorem B47 : Spec q k v (bd 0 2) True (st8 47) (kernelRun0_B.sl.HS2_48 arg4 arg5 x0 x1) (kernelRun0_B.sl.HS3_48 arg4 arg5 arg6 x0 x1 x2) := by
  have o := B46 arg4 arg5 arg6 H
  have m := Spec.ag o 5 2 (by decide)
  exact nL arg5 H (Bv6 arg4 arg6 H) (a8 5 1 2) (fun _ _ => m) o (e2 := by sl_kernel_rfl) (e3 := by sl_kernel_rfl)
theorem B48 : Spec q k v (bd 0 2) True (st8 48) (kernelRun0_B.sl.HS2_49 arg4 arg5 x0 x1) (kernelRun0_B.sl.HS3_49 arg4 arg5 arg6 x0 x1 x2) := by
  have o := B47 arg4 arg5 arg6 H
  have m := Spec.ag o 5 3 (by decide)
  exact nH arg5 H (Bv6 arg4 arg6 H) (a8 5 1 3) (fun _ _ => m) o (e2 := by sl_kernel_rfl) (e3 := by sl_kernel_rfl)
theorem B49 : Spec q k v (bd 0 2) True (st8 49) (kernelRun0_B.sl.HS2_50 arg4 arg5 x0 x1) (kernelRun0_B.sl.HS3_50 arg4 arg5 arg6 x0 x1 x2) := by
  have o := B48 arg4 arg5 arg6 H
  have m := Spec.fr o 6 0 (by decide)
  exact nF arg5 H (Bv7 arg4 arg6 H) (a8 6 0 0) (fun _ _ => m) o (e2 := by sl_kernel_rfl) (e3 := by sl_kernel_rfl)
theorem B50 : Spec q k v (bd 0 2) True (st8 50) (kernelRun0_B.sl.HS2_51 arg4 arg5 x0 x1) (kernelRun0_B.sl.HS3_51 arg4 arg5 arg6 x0 x1 x2) := by
  have o := B49 arg4 arg5 arg6 H
  have m := Spec.fr o 6 1 (by decide)
  exact nF arg5 H (Bv7 arg4 arg6 H) (a8 6 0 1) (fun _ _ => m) o (e2 := by sl_kernel_rfl) (e3 := by sl_kernel_rfl)
theorem B51 : Spec q k v (bd 0 2) True (st8 51) (kernelRun0_B.sl.HS2_52 arg4 arg5 x0 x1) (kernelRun0_B.sl.HS3_52 arg4 arg5 arg6 x0 x1 x2) := by
  have o := B50 arg4 arg5 arg6 H
  have m := Spec.fr o 6 2 (by decide)
  exact nF arg5 H (Bv7 arg4 arg6 H) (a8 6 0 2) (fun _ _ => m) o (e2 := by sl_kernel_rfl) (e3 := by sl_kernel_rfl)
theorem B52 : Spec q k v (bd 0 2) True (st8 52) (kernelRun0_B.sl.HS2_53 arg4 arg5 x0 x1) (kernelRun0_B.sl.HS3_53 arg4 arg5 arg6 x0 x1 x2) := by
  have o := B51 arg4 arg5 arg6 H
  have m := Spec.fr o 6 3 (by decide)
  exact nF arg5 H (Bv7 arg4 arg6 H) (a8 6 0 3) (fun _ _ => m) o (e2 := by sl_kernel_rfl) (e3 := by sl_kernel_rfl)
theorem B53 : Spec q k v (bd 0 2) True (st8 53) (kernelRun0_B.sl.HS2_54 arg4 arg5 x0 x1) (kernelRun0_B.sl.HS3_54 arg4 arg5 arg6 x0 x1 x2) := by
  have o := B52 arg4 arg5 arg6 H
  have m := Spec.ag o 6 0 (by decide)
  exact nL arg5 H (Bv7 arg4 arg6 H) (a8 6 1 0) (fun _ _ => m) o (e2 := by sl_kernel_rfl) (e3 := by sl_kernel_rfl)
theorem B54 : Spec q k v (bd 0 2) True (st8 54) (kernelRun0_B.sl.HS2_55 arg4 arg5 x0 x1) (kernelRun0_B.sl.HS3_55 arg4 arg5 arg6 x0 x1 x2) := by
  have o := B53 arg4 arg5 arg6 H
  have m := Spec.ag o 6 1 (by decide)
  exact nH arg5 H (Bv7 arg4 arg6 H) (a8 6 1 1) (fun _ _ => m) o (e2 := by sl_kernel_rfl) (e3 := by sl_kernel_rfl)
theorem B55 : Spec q k v (bd 0 2) True (st8 55) (kernelRun0_B.sl.HS2_56 arg4 arg5 x0 x1) (kernelRun0_B.sl.HS3_56 arg4 arg5 arg6 x0 x1 x2) := by
  have o := B54 arg4 arg5 arg6 H
  have m := Spec.ag o 6 2 (by decide)
  exact nL arg5 H (Bv7 arg4 arg6 H) (a8 6 1 2) (fun _ _ => m) o (e2 := by sl_kernel_rfl) (e3 := by sl_kernel_rfl)
theorem B56 : Spec q k v (bd 0 2) True (st8 56) (kernelRun0_B.sl.HS2_57 arg4 arg5 x0 x1) (kernelRun0_B.sl.HS3_57 arg4 arg5 arg6 x0 x1 x2) := by
  have o := B55 arg4 arg5 arg6 H
  have m := Spec.ag o 6 3 (by decide)
  exact nH arg5 H (Bv7 arg4 arg6 H) (a8 6 1 3) (fun _ _ => m) o (e2 := by sl_kernel_rfl) (e3 := by sl_kernel_rfl)
theorem B57 : Spec q k v (bd 0 2) True (st8 57) (kernelRun0_B.sl.HS2_58 arg4 arg5 x0 x1) (kernelRun0_B.sl.HS3_58 arg4 arg5 arg6 x0 x1 x2) := by
  have o := B56 arg4 arg5 arg6 H
  have m := Spec.fr o 7 0 (by decide)
  exact nF arg5 H (Bv8 arg4 arg6 H) (a8 7 0 0) (fun _ _ => m) o (e2 := by sl_kernel_rfl) (e3 := by sl_kernel_rfl)
theorem B58 : Spec q k v (bd 0 2) True (st8 58) (kernelRun0_B.sl.HS2_59 arg4 arg5 x0 x1) (kernelRun0_B.sl.HS3_59 arg4 arg5 arg6 x0 x1 x2) := by
  have o := B57 arg4 arg5 arg6 H
  have m := Spec.fr o 7 1 (by decide)
  exact nF arg5 H (Bv8 arg4 arg6 H) (a8 7 0 1) (fun _ _ => m) o (e2 := by sl_kernel_rfl) (e3 := by sl_kernel_rfl)
theorem B59 : Spec q k v (bd 0 2) True (st8 59) (kernelRun0_B.sl.HS2_60 arg4 arg5 x0 x1) (kernelRun0_B.sl.HS3_60 arg4 arg5 arg6 x0 x1 x2) := by
  have o := B58 arg4 arg5 arg6 H
  have m := Spec.fr o 7 2 (by decide)
  exact nF arg5 H (Bv8 arg4 arg6 H) (a8 7 0 2) (fun _ _ => m) o (e2 := by sl_kernel_rfl) (e3 := by sl_kernel_rfl)
theorem B60 : Spec q k v (bd 0 2) True (st8 60) (kernelRun0_B.sl.HS2_61 arg4 arg5 x0 x1) (kernelRun0_B.sl.HS3_61 arg4 arg5 arg6 x0 x1 x2) := by
  have o := B59 arg4 arg5 arg6 H
  have m := Spec.fr o 7 3 (by decide)
  exact nF arg5 H (Bv8 arg4 arg6 H) (a8 7 0 3) (fun _ _ => m) o (e2 := by sl_kernel_rfl) (e3 := by sl_kernel_rfl)
theorem B61 : Spec q k v (bd 0 2) True (st8 61) (kernelRun0_B.sl.HS2_62 arg4 arg5 x0 x1) (kernelRun0_B.sl.HS3_62 arg4 arg5 arg6 x0 x1 x2) := by
  have o := B60 arg4 arg5 arg6 H
  have m := Spec.ag o 7 0 (by decide)
  exact nL arg5 H (Bv8 arg4 arg6 H) (a8 7 1 0) (fun _ _ => m) o (e2 := by sl_kernel_rfl) (e3 := by sl_kernel_rfl)
theorem B62 : Spec q k v (bd 0 2) True (st8 62) (kernelRun0_B.sl.HS2_63 arg4 arg5 x0 x1) (kernelRun0_B.sl.HS3_63 arg4 arg5 arg6 x0 x1 x2) := by
  have o := B61 arg4 arg5 arg6 H
  have m := Spec.ag o 7 1 (by decide)
  exact nH arg5 H (Bv8 arg4 arg6 H) (a8 7 1 1) (fun _ _ => m) o (e2 := by sl_kernel_rfl) (e3 := by sl_kernel_rfl)
theorem B63 : Spec q k v (bd 0 2) True (st8 63) (kernelRun0_B.sl.HS2_64 arg4 arg5 x0 x1) (kernelRun0_B.sl.HS3_64 arg4 arg5 arg6 x0 x1 x2) := by
  have o := B62 arg4 arg5 arg6 H
  have m := Spec.ag o 7 2 (by decide)
  exact nL arg5 H (Bv8 arg4 arg6 H) (a8 7 1 2) (fun _ _ => m) o (e2 := by sl_kernel_rfl) (e3 := by sl_kernel_rfl)
theorem B64 : Spec q k v (bd 0 2) True (st8 64) (kernelRun0_B.sl.HS2_65 arg4 arg5 x0 x1) (kernelRun0_B.sl.HS3_65 arg4 arg5 arg6 x0 x1 x2) := by
  have o := B63 arg4 arg5 arg6 H
  have m := Spec.ag o 7 3 (by decide)
  exact nH arg5 H (Bv8 arg4 arg6 H) (a8 7 1 3) (fun _ _ => m) o (e2 := by sl_kernel_rfl) (e3 := by sl_kernel_rfl)

end

end Cert.AttnIdeal.Hand

end
end
-- ==== Proof.AttnPathC.lean ====
module
public import proofs.«01_k».proof.Proof.AttnFill
@[expose] public section
set_option maxRecDepth 16384
noncomputable section

/-! # The blocks of scores of a point that begins a row of tiles, off the diagonal -/

namespace Cert.AttnIdeal.Hand
open Cert.AttnIdeal Cert.AttnIdeal.Gen Cert.AttnRow Idealize.ShloMosaic Idealize.ShloMosaic.TcCoe

section
variable {q : Fin 8 → Fin 1024 → Fin 128 → ℝ} {k : Fin 8 → ℕ → Fin 128 → ℝ} {v : Fin 8 → ℕ → Fin 256 → ℝ}
  {x1 x2 : S8x1024x128.Idx → Elt Ideal .bf16}
  {x0 : S8x512x128.Idx → Elt Ideal .bf16} (arg4 : Memref sig .tc .vmem S8x512x128 .bf16) (arg5 arg6 : Memref sig .tc .vmem S8x1024x128 .bf16)
  (H : New q k v 0 (kernelRun0_C.sl.HS0_16 arg4 x0) x1 x2)
include H

theorem Cv1 : VS v 0 scM0_1.view.junk (kernelRun0_C.sl.HS1_9 arg6 x2) 1 := VS.step (ones_vs 0 H.h1) (by decide) H.hv (arg6 := arg6) (i2 := iw 0 (by decide)) (i3 := iy 0 (by decide)) (by sl_kernel_rfl)
theorem Cv2 : VS v 0 scM0_1.view.junk (kernelRun0_C.sl.HS1_10 arg6 x2) 2 := VS.step (Cv1 arg4 arg6 H) (by decide) H.hv (arg6 := arg6) (i2 := iw 1 (by decide)) (i3 := iy 1 (by decide)) (by sl_kernel_rfl)
theorem Cv3 : VS v 0 scM0_1.view.junk (kernelRun0_C.sl.HS1_11 arg6 x2) 3 := VS.step (Cv2 arg4 arg6 H) (by decide) H.hv (arg6 := arg6) (i2 := iw 2 (by decide)) (i3 := iy 2 (by decide)) (by sl_kernel_rfl)
theorem Cv4 : VS v 0 scM0_1.view.junk (kernelRun0_C.sl.HS1_12 arg6 x2) 4 := VS.step (Cv3 arg4 arg6 H) (by decide) H.hv (arg6 := arg6) (i2 := iw 3 (by decide)) (i3 := iy 3 (by decide)) (by sl_kernel_rfl)
theorem Cv5 : VS v 0 scM0_1.view.junk (kernelRun0_C.sl.HS1_13 arg6 x2) 5 := VS.step (Cv4 arg4 arg6 H) (by decide) H.hv (arg6 := arg6) (i2 := iw 4 (by decide)) (i3 := iy 4 (by decide)) (by sl_kernel_rfl)
theorem Cv6 : VS v 0 scM0_1.view.junk (kernelRun0_C.sl.HS1_14 arg6 x2) 6 := VS.step (Cv5 arg4 arg6 H) (by decide) H.hv (arg6 := arg6) (i2 := iw 5 (by decide)) (i3 := iy 5 (by decide)) (by sl_kernel_rfl)
theorem Cv7 : VS v 0 scM0_1.view.junk (kernelRun0_C.sl.HS1_15 arg6 x2) 7 := VS.step (Cv6 arg4 arg6 H) (by decide) H.hv (arg6 := arg6) (i2 := iw 6 (by decide)) (i3 := iy 6 (by decide)) (by sl_kernel_rfl)
theorem Cv8 : VS v 0 scM0_1.view.junk (kernelRun0_C.sl.HS1_16 arg6 x2) 8 := VS.step (Cv7 arg4 arg6 H) (by decide) H.hv (arg6 := arg6) (i2 := iw 7 (by decide)) (i3 := iy 7 (by decide)) (by sl_kernel_rfl)
omit H in
theorem Cq {w : Fin 8 → Fin 512 → Fin 128 → ℝ} (hx : ∀ h r l, x0 (ix3 h r l) = (w h r l : EReal)) : QS w (kernelRun0_C.sl.HS0_16 arg4 x0) 16 := by
  have o0 : QS w [] (2 * 0) := fun h ρ l hi => absurd hi (Nat.not_lt_zero _)
  have o1 := o0.head arg4 hx 0 (by decide) rfl
  have o2 := o1.head arg4 hx 1 (by decide) rfl
  have o3 := o2.head arg4 hx 2 (by decide) rfl
  have o4 := o3.head arg4 hx 3 (by decide) rfl
  have o5 := o4.head arg4 hx 4 (by decide) rfl
  have o6 := o5.head arg4 hx 5 (by decide) rfl
  have o7 := o6.head arg4 hx 6 (by decide) rfl
  exact o7.head arg4 hx 7 (by decide) (by sl_kernel_rfl)
theorem C0 : Spec q k v (bd 0 9) True (st8 0) kernelRun0_C.sl.HS2_1 kernelRun0_C.sl.HS3_1 := spec_fill q k v 9 (st8 0) (by intro h c hh hc; unfold st8; split_ifs <;> omega)
theorem C1 : Spec q k v (bd 0 9) True (st8 1) (kernelRun0_C.sl.HS2_2 arg4 arg5 x0 x1) (kernelRun0_C.sl.HS3_2 arg4 arg5 arg6 x0 x1 x2) := by
  have o := (C0 arg4 H)
  have m := Spec.fr o 0 0 (by decide)
  exact nF arg5 H (Cv1 arg4 arg6 H) (a8 0 0 0) (fun _ _ => m) o (e2 := by sl_kernel_rfl) (e3 := by sl_kernel_rfl)
theorem C2 : Spec q k v (bd 0 9) True (st8 2) (kernelRun0_C.sl.HS2_3 arg4 arg5 x0 x1) (kernelRun0_C.sl.HS3_3 arg4 arg5 arg6 x0 x1 x2) := by
  have o := C1 arg4 arg5 arg6 H
  have m := Spec.fr o 0 1 (by decide)
  exact nF arg5 H (Cv1 arg4 arg6 H) (a8 0 0 1) (fun _ _ => m) o (e2 := by sl_kernel_rfl) (e3 := by sl_kernel_rfl)
theorem C3 : Spec q k v (bd 0 9) True (st8 3) (kernelRun0_C.sl.HS2_4 arg4 arg5 x0 x1) (kernelRun0_C.sl.HS3_4 arg4 arg5 arg6 x0 x1 x2) := by
  have o := C2 arg4 arg5 arg6 H
  have m := Spec.fr o 0 2 (by decide)
  exact nF arg5 H (Cv1 arg4 arg6 H) (a8 0 0 2) (fun _ _ => m) o (e2 := by sl_kernel_rfl) (e3 := by sl_kernel_rfl)
theorem C4 : Spec q k v (bd 0 9) True (st8 4) (kernelRun0_C.sl.HS2_5 arg4 arg5 x0 x1) (kernelRun0_C.sl.HS3_5 arg4 arg5 arg6 x0 x1 x2) := by
  have o := C3 arg4 arg5 arg6 H
  have m := Spec.fr o 0 3 (by decide)
  exact nF arg5 H (Cv1 arg4 arg6 H) (a8 0 0 3) (fun _ _ => m) o (e2 := by sl_kernel_rfl) (e3 := by sl_kernel_rfl)
theorem C5 : Spec q k v (bd 0 9) True (st8 5) (kernelRun0_C.sl.HS2_6 arg4 arg5 x0 x1) (kernelRun0_C.sl.HS3_6 arg4 arg5 arg6 x0 x1 x2) := by
  have o := C4 arg4 arg5 arg6 H
  have m := Spec.ag o 0 0 (by decide)
  exact nF arg5 H (Cv1 arg4 arg6 H) (a8 0 1 0) (fun _ _ => m) o (e2 := by sl_kernel_rfl) (e3 := by sl_kernel_rfl)
theorem C6 : Spec q k v (bd 0 9) True (st8 6) (kernelRun0_C.sl.HS2_7 arg4 arg5 x0 x1) (kernelRun0_C.sl.HS3_7 arg4 arg5 arg6 x0 x1 x2) := by
  have o := C5 arg4 arg5 arg6 H
  have m := Spec.ag o 0 1 (by decide)
  exact nF arg5 H (Cv1 arg4 arg6 H) (a8 0 1 1) (fun _ _ => m) o (e2 := by sl_kernel_rfl) (e3 := by sl_kernel_rfl)
theorem C7 : Spec q k v (bd 0 9) True (st8 7) (kernelRun0_C.sl.HS2_8 arg4 arg5 x0 x1) (kernelRun0_C.sl.HS3_8 arg4 arg5 arg6 x0 x1 x2) := by
  have o := C6 arg4 arg5 arg6 H
  have m := Spec.ag o 0 2 (by decide)
  exact nF arg5 H (Cv1 arg4 arg6 H) (a8 0 1 2) (fun _ _ => m) o (e2 := by sl_kernel_rfl) (e3 := by sl_kernel_rfl)
theorem C8 : Spec q k v (bd 0 9) True (st8 8) (kernelRun0_C.sl.HS2_9 arg4 arg5 x0 x1) (kernelRun0_C.sl.HS3_9 arg4 arg5 arg6 x0 x1 x2) := by
  have o := C7 arg4 arg5 arg6 H
  have m := Spec.ag o 0 3 (by decide)
  exact nF arg5 H (Cv1 arg4 arg6 H) (a8 0 1 3) (fun _ _ => m) o (e2 := by sl_kernel_rfl) (e3 := by sl_kernel_rfl)
theorem C9 : Spec q k v (bd 0 9) True (st8 9) (kernelRun0_C.sl.HS2_10 arg4 arg5 x0 x1) (kernelRun0_C.sl.HS3_10 arg4 arg5 arg6 x0 x1 x2) := by
  have o := C8 arg4 arg5 arg6 H
  have m := Spec.fr o 1 0 (by decide)
  exact nF arg5 H (Cv2 arg4 arg6 H) (a8 1 0 0) (fun _ _ => m) o (e2 := by sl_kernel_rfl) (e3 := by sl_kernel_rfl)
theorem C10 : Spec q k v (bd 0 9) True (st8 10) (kernelRun0_C.sl.HS2_11 arg4 arg5 x0 x1) (kernelRun0_C.sl.HS3_11 arg4 arg5 arg6 x0 x1 x2) := by
  have o := C9 arg4 arg5 arg6 H
  have m := Spec.fr o 1 1 (by decide)
  exact nF arg5 H (Cv2 arg4 arg6 H) (a8 1 0 1) (fun _ _ => m) o (e2 := by sl_kernel_rfl) (e3 := by sl_kernel_rfl)
theorem C11 : Spec q k v (bd 0 9) True (st8 11) (kernelRun0_C.sl.HS2_12 arg4 arg5 x0 x1) (kernelRun0_C.sl.HS3_12 arg4 arg5 arg6 x0 x1 x2) := by
  have o := C10 arg4 arg5 arg6 H
  have m := Spec.fr o 1 2 (by decide)
  exact nF arg5 H (Cv2 arg4 arg6 H) (a8 1 0 2) (fun _ _ => m) o (e2 := by sl_kernel_rfl) (e3 := by sl_kernel_rfl)
theorem C12 : Spec q k v (bd 0 9) True (st8 12) (kernelRun0_C.sl.HS2_13 arg4 arg5 x0 x1) (kernelRun0_C.sl.HS3_13 arg4 arg5 arg6 x0 x1 x2) := by
  have o := C11 arg4 arg5 arg6 H
  have m := Spec.fr o 1 3 (by decide)
  exact nF arg5 H (Cv2 arg4 arg6 H) (a8 1 0 3) (fun _ _ => m) o (e2 := by sl_kernel_rfl) (e3 := by sl_kernel_rfl)
theorem C13 : Spec q k v (bd 0 9) True (st8 13) (kernelRun0_C.sl.HS2_14 arg4 arg5 x0 x1) (kernelRun0_C.sl.HS3_14 arg4 arg5 arg6 x0 x1 x2) := by
  have o := C12 arg4 arg5 arg6 H
  have m := Spec.ag o 1 0 (by decide)
  exact nF arg5 H (Cv2 arg4 arg6 H) (a8 1 1 0) (fun _ _ => m) o (e2 := by sl_kernel_rfl) (e3 := by sl_kernel_rfl)
theorem C14 : Spec q k v (bd 0 9) True (st8 14) (kernelRun0_C.sl.HS2_15 arg4 arg5 x0 x1) (kernelRun0_C.sl.HS3_15 arg4 arg5 arg6 x0 x1 x2) := by
  have o := C13 arg4 arg5 arg6 H
  have m := Spec.ag o 1 1 (by decide)
  exact nF arg5 H (Cv2 arg4 arg6 H) (a8 1 1 1) (fun _ _ => m) o (e2 := by sl_kernel_rfl) (e3 := by sl_kernel_rfl)
theorem C15 : Spec q k v (bd 0 9) True (st8 15) (kernelRun0_C.sl.HS2_16 arg4 arg5 x0 x1) (kernelRun0_C.sl.HS3_16 arg4 arg5 arg6 x0 x1 x2) := by
  have o := C14 arg4 arg5 arg6 H
  have m := Spec.ag o 1 2 (by decide)
  exact nF arg5 H (Cv2 arg4 arg6 H) (a8 1 1 2) (fun _ _ => m) o (e2 := by sl_kernel_rfl) (e3 := by sl_kernel_rfl)
theorem C16 : Spec q k v (bd 0 9) True (st8 16) (kernelRun0_C.sl.HS2_17 arg4 arg5 x0 x1) (kernelRun0_C.sl.HS3_17 arg4 arg5 arg6 x0 x1 x2) := by
  have o := C15 arg4 arg5 arg6 H
  have m := Spec.ag o 1 3 (by decide)
  exact nF arg5 H (Cv2 arg4 arg6 H) (a8 1 1 3) (fun _ _ => m) o (e2 := by sl_kernel_rfl) (e3 := by sl_kernel_rfl)
theorem C17 : Spec q k v (bd 0 9) True (st8 17) (kernelRun0_C.sl.HS2_18 arg4 arg5 x0 x1) (kernelRun0_C.sl.HS3_18 arg4 arg5 arg6 x0 x1 x2) := by
  have o := C16 arg4 arg5 arg6 H
  have m := Spec.fr o 2 0 (by decide)
  exact nF arg5 H (Cv3 arg4 arg6 H) (a8 2 0 0) (fun _ _ => m) o (e2 := by sl_kernel_rfl) (e3 := by sl_kernel_rfl)
theorem C18 : Spec q k v (bd 0 9) True (st8 18) (kernelRun0_C.sl.HS2_19 arg4 arg5 x0 x1) (kernelRun0_C.sl.HS3_19 arg4 arg5 arg6 x0 x1 x2) := by
  have o := C17 arg4 arg5 arg6 H
  have m := Spec.fr o 2 1 (by decide)
  exact nF arg5 H (Cv3 arg4 arg6 H) (a8 2 0 1) (fun _ _ => m) o (e2 := by sl_kernel_rfl) (e3 := by sl_kernel_rfl)
theorem C19 : Spec q k v (bd 0 9) True (st8 19) (kernelRun0_C.sl.HS2_20 arg4 arg5 x0 x1) (kernelRun0_C.sl.HS3_20 arg4 arg5 arg6 x0 x1 x2) := by
  have o := C18 arg4 arg5 arg6 H
  have m := Spec.fr o 2 2 (by decide)
  exact nF arg5 H (Cv3 arg4 arg6 H) (a8 2 0 2) (fun _ _ => m) o (e2 := by sl_kernel_rfl) (e3 := by sl_kernel_rfl)
theorem C20 : Spec q k v (bd 0 9) True (st8 20) (kernelRun0_C.sl.HS2_21 arg4 arg5 x0 x1) (kernelRun0_C.sl.HS3_21 arg4 arg5 arg6 x0 x1 x2) := by
  have o := C19 arg4 arg5 arg6 H
  have m := Spec.fr o 2 3 (by decide)
  exact nF arg5 H (Cv3 arg4 arg6 H) (a8 2 0 3) (fun _ _ => m) o (e2 := by sl_kernel_rfl) (e3 := by sl_kernel_rfl)
theorem C21 : Spec q k v (bd 0 9) True (st8 21) (kernelRun0_C.sl.HS2_22 arg4 arg5 x0 x1) (kernelRun0_C.sl.HS3_22 arg4 arg5 arg6 x0 x1 x2) := by
  have o := C20 arg4 arg5 arg6 H
  have m := Spec.ag o 2 0 (by decide)
  exact nF arg5 H (Cv3 arg4 arg6 H) (a8 2 1 0) (fun _ _ => m) o (e2 := by sl_kernel_rfl) (e3 := by sl_kernel_rfl)
theorem C22 : Spec q k v (bd 0 9) True (st8 22) (kernelRun0_C.sl.HS2_23 arg4 arg5 x0 x1) (kernelRun0_C.sl.HS3_23 arg4 arg5 arg6 x0 x1 x2) := by
  have o := C21 arg4 arg5 arg6 H
  have m := Spec.ag o 2 1 (by decide)
  exact nF arg5 H (Cv3 arg4 arg6 H) (a8 2 1 1) (fun _ _ => m) o (e2 := by sl_kernel_rfl) (e3 := by sl_kernel_rfl)
theorem C23 : Spec q k v (bd 0 9) True (st8 23) (kernelRun0_C.sl.HS2_24 arg4 arg5 x0 x1) (kernelRun0_C.sl.HS3_24 arg4 arg5 arg6 x0 x1 x2) := by
  have o := C22 arg4 arg5 arg6 H
  have m := Spec.ag o 2 2 (by decide)
  exact nF arg5 H (Cv3 arg4 arg6 H) (a8 2 1 2) (fun _ _ => m) o (e2 := by sl_kernel_rfl) (e3 := by sl_kernel_rfl)
theorem C24 : Spec q k v (bd 0 9) True (st8 24) (kernelRun0_C.sl.HS2_25 arg4 arg5 x0 x1) (kernelRun0_C.sl.HS3_25 arg4 arg5 arg6 x0 x1 x2) := by
  have o := C23 arg4 arg5 arg6 H
  have m := Spec.ag o 2 3 (by decide)
  exact nF arg5 H (Cv3 arg4 arg6 H) (a8 2 1 3) (fun _ _ => m) o (e2 := by sl_kernel_rfl) (e3 := by sl_kernel_rfl)
theorem C25 : Spec q k v (bd 0 9) True (st8 25) (kernelRun0_C.sl.HS2_26 arg4 arg5 x0 x1) (kernelRun0_C.sl.HS3_26 arg4 arg5 arg6 x0 x1 x2) := by
  have o := C24 arg4 arg5 arg6 H
  have m := Spec.fr o 3 0 (by decide)
  exact nF arg5 H (Cv4 arg4 arg6 H) (a8 3 0 0) (fun _ _ => m) o (e2 := by sl_kernel_rfl) (e3 := by sl_kernel_rfl)
theorem C26 : Spec q k v (bd 0 9) True (st8 26) (kernelRun0_C.sl.HS2_27 arg4 arg5 x0 x1) (kernelRun0_C.sl.HS3_27 arg4 arg5 arg6 x0 x1 x2) := by
  have o := C25 arg4 arg5 arg6 H
  have m := Spec.fr o 3 1 (by decide)
  exact nF arg5 H (Cv4 arg4 arg6 H) (a8 3 0 1) (fun _ _ => m) o (e2 := by sl_kernel_rfl) (e3 := by sl_kernel_rfl)
theorem C27 : Spec q k v (bd 0 9) True (st8 27) (kernelRun0_C.sl.HS2_28 arg4 arg5 x0 x1) (kernelRun0_C.sl.HS3_28 arg4 arg5 arg6 x0 x1 x2) := by
  have o := C26 arg4 arg5 arg6 H
  have m := Spec.fr o 3 2 (by decide)
  exact nF arg5 H (Cv4 arg4 arg6 H) (a8 3 0 2) (fun _ _ => m) o (e2 := by sl_kernel_rfl) (e3 := by sl_kernel_rfl)
theorem C28 : Spec q k v (bd 0 9) True (st8 28) (kernelRun0_C.sl.HS2_29 arg4 arg5 x0 x1) (kernelRun0_C.sl.HS3_29 arg4 arg5 arg6 x0 x1 x2) := by
  have o := C27 arg4 arg5 arg6 H
  have m := Spec.fr o 3 3 (by decide)
  exact nF arg5 H (Cv4 arg4 arg6 H) (a8 3 0 3) (fun _ _ => m) o (e2 := by sl_kernel_rfl) (e3 := by sl_kernel_rfl)
theorem C29 : Spec q k v (bd 0 9) True (st8 29) (kernelRun0_C.sl.HS2_30 arg4 arg5 x0 x1) (kernelRun0_C.sl.HS3_30 arg4 arg5 arg6 x0 x1 x2) := by
  have o := C28 arg4 arg5 arg6 H
  have m := Spec.ag o 3 0 (by decide)
  exact nF arg5 H (Cv4 arg4 arg6 H) (a8 3 1 0) (fun _ _ => m) o (e2 := by sl_kernel_rfl) (e3 := by sl_kernel_rfl)
theorem C30 : Spec q k v (bd 0 9) True (st8 30) (kernelRun0_C.sl.HS2_31 arg4 arg5 x0 x1) (kernelRun0_C.sl.HS3_31 arg4 arg5 arg6 x0 x1 x2) := by
  have o := C29 arg4 arg5 arg6 H
  have m := Spec.ag o 3 1 (by decide)
  exact nF arg5 H (Cv4 arg4 arg6 H) (a8 3 1 1) (fun _ _ => m) o (e2 := by sl_kernel_rfl) (e3 := by sl_kernel_rfl)
theorem C31 : Spec q k v (bd 0 9) True (st8 31) (kernelRun0_C.sl.HS2_32 arg4 arg5 x0 x1) (kernelRun0_C.sl.HS3_32 arg4 arg5 arg6 x0 x1 x2) := by
  have o := C30 arg4 arg5 arg6 H
  have m := Spec.ag o 3 2 (by decide)
  exact nF arg5 H (Cv4 arg4 arg6 H) (a8 3 1 2) (fun _ _ => m) o (e2 := by sl_kernel_rfl) (e3 := by sl_kernel_rfl)
theorem C32 : Spec q k v (bd 0 9) True (st8 32) (kernelRun0_C.sl.HS2_33 arg4 arg5 x0 x1) (kernelRun0_C.sl.HS3_33 arg4 arg5 arg6 x0 x1 x2) := by
  have o := C31 arg4 arg5 arg6 H
  have m := Spec.ag o 3 3 (by decide)
  exact nF arg5 H (Cv4 arg4 arg6 H) (a8 3 1 3) (fun _ _ => m) o (e2 := by sl_kernel_rfl) (e3 := by sl_kernel_rfl)
theorem C33 : Spec q k v (bd 0 9) True (st8 33) (kernelRun0_C.sl.HS2_34 arg4 arg5 x0 x1) (kernelRun0_C.sl.HS3_34 arg4 arg5 arg6 x0 x1 x2) := by
  have o := C32 arg4 arg5 arg6 H
  have m := Spec.fr o 4 0 (by decide)
  exact nF arg5 H (Cv5 arg4 arg6 H) (a8 4 0 0) (fun _ _ => m) o (e2 := by sl_kernel_rfl) (e3 := by sl_kernel_rfl)
theorem C34 : Spec q k v (bd 0 9) True (st8 34) (kernelRun0_C.sl.HS2_35 arg4 arg5 x0 x1) (kernelRun0_C.sl.HS3_35 arg4 arg5 arg6 x0 x1 x2) := by
  have o := C33 arg4 arg5 arg6 H
  have m := Spec.fr o 4 1 (by decide)
  exact nF arg5 H (Cv5 arg4 arg6 H) (a8 4 0 1) (fun _ _ => m) o (e2 := by sl_kernel_rfl) (e3 := by sl_kernel_rfl)
theorem C35 : Spec q k v (bd 0 9) True (st8 35) (kernelRun0_C.sl.HS2_36 arg4 arg5 x0 x1) (kernelRun0_C.sl.HS3_36 arg4 arg5 arg6 x0 x1 x2) := by
  have o := C34 arg4 arg5 arg6 H
  have m := Spec.fr o 4 2 (by decide)
  exact nF arg5 H (Cv5 arg4 arg6 H) (a8 4 0 2) (fun _ _ => m) o (e2 := by sl_kernel_rfl) (e3 := by sl_kernel_rfl)
theorem C36 : Spec q k v (bd 0 9) True (st8 36) (kernelRun0_C.sl.HS2_37 arg4 arg5 x0 x1) (kernelRun0_C.sl.HS3_37 arg4 arg5 arg6 x0 x1 x2) := by
  have o := C35 arg4 arg5 arg6 H
  have m := Spec.fr o 4 3 (by decide)
  exact nF arg5 H (Cv5 arg4 arg6 H) (a8 4 0 3) (fun _ _ => m) o (e2 := by sl_kernel_rfl) (e3 := by sl_kernel_rfl)
theorem C37 : Spec q k v (bd 0 9) True (st8 37) (kernelRun0_C.sl.HS2_38 arg4 arg5 x0 x1) (kernelRun0_C.sl.HS3_38 arg4 arg5 arg6 x0 x1 x2) := by
  have o := C36 arg4 arg5 arg6 H
  have m := Spec.ag o 4 0 (by decide)
  exact nF arg5 H (Cv5 arg4 arg6 H) (a8 4 1 0) (fun _ _ => m) o (e2 := by sl_kernel_rfl) (e3 := by sl_kernel_rfl)
theorem C38 : Spec q k v (bd 0 9) True (st8 38) (kernelRun0_C.sl.HS2_39 arg4 arg5 x0 x1) (kernelRun0_C.sl.HS3_39 arg4 arg5 arg6 x0 x1 x2) := by
  have o := C37 arg4 arg5 arg6 H
  have m := Spec.ag o 4 1 (by decide)
  exact nF arg5 H (Cv5 arg4 arg6 H) (a8 4 1 1) (fun _ _ => m) o (e2 := by sl_kernel_rfl) (e3 := by sl_kernel_rfl)
theorem C39 : Spec q k v (bd 0 9) True (st8 39) (kernelRun0_C.sl.HS2_40 arg4 arg5 x0 x1) (kernelRun0_C.sl.HS3_40 arg4 arg5 arg6 x0 x1 x2) := by
  have o := C38 arg4 arg5 arg6 H
  have m := Spec.ag o 4 2 (by decide)
  exact nF arg5 H (Cv5 arg4 arg6 H) (a8 4 1 2) (fun _ _ => m) o (e2 := by sl_kernel_rfl) (e3 := by sl_kernel_rfl)
theorem C40 : Spec q k v (bd 0 9) True (st8 40) (kernelRun0_C.sl.HS2_41 arg4 arg5 x0 x1) (kernelRun0_C.sl.HS3_41 arg4 arg5 arg6 x0 x1 x2) := by
  have o := C39 arg4 arg5 arg6 H
  have m := Spec.ag o 4 3 (by decide)
  exact nF arg5 H (Cv5 arg4 arg6 H) (a8 4 1 3) (fun _ _ => m) o (e2 := by sl_kernel_rfl) (e3 := by sl_kernel_rfl)
theorem C41 : Spec q k v (bd 0 9) True (st8 41) (kernelRun0_C.sl.HS2_42 arg4 arg5 x0 x1) (kernelRun0_C.sl.HS3_42 arg4 arg5 arg6 x0 x1 x2) := by
  have o := C40 arg4 arg5 arg6 H
  have m := Spec.fr o 5 0 (by decide)
  exact nF arg5 H (Cv6 arg4 arg6 H) (a8 5 0 0) (fun _ _ => m) o (e2 := by sl_kernel_rfl) (e3 := by sl_kernel_rfl)
theorem C42 : Spec q k v (bd 0 9) True (st8 42) (kernelRun0_C.sl.HS2_43 arg4 arg5 x0 x1) (kernelRun0_C.sl.HS3_43 arg4 arg5 arg6 x0 x1 x2) := by
  have o := C41 arg4 arg5 arg6 H
  have m := Spec.fr o 5 1 (by decide)
  exact nF arg5 H (Cv6 arg4 arg6 H) (a8 5 0 1) (fun _ _ => m) o (e2 := by sl_kernel_rfl) (e3 := by sl_kernel_rfl)
theorem C43 : Spec q k v (bd 0 9) True (st8 43) (kernelRun0_C.sl.HS2_44 arg4 arg5 x0 x1) (kernelRun0_C.sl.HS3_44 arg4 arg5 arg6 x0 x1 x2) := by
  have o := C42 arg4 arg5 arg6 H
  have m := Spec.fr o 5 2 (by decide)
  exact nF arg5 H (Cv6 arg4 arg6 H) (a8 5 0 2) (fun _ _ => m) o (e2 := by sl_kernel_rfl) (e3 := by sl_kernel_rfl)
theorem C44 : Spec q k v (bd 0 9) True (st8 44) (kernelRun0_C.sl.HS2_45 arg4 arg5 x0 x1) (kernelRun0_C.sl.HS3_45 arg4 arg5 arg6 x0 x1 x2) := by
  have o := C43 arg4 arg5 arg6 H
  have m := Spec.fr o 5 3 (by decide)
  exact nF arg5 H (Cv6 arg4 arg6 H) (a8 5 0 3) (fun _ _ => m) o (e2 := by sl_kernel_rfl) (e3 := by sl_kernel_rfl)
theorem C45 : Spec q k v (bd 0 9) True (st8 45) (kernelRun0_C.sl.HS2_46 arg4 arg5 x0 x1) (kernelRun0_C.sl.HS3_46 arg4 arg5 arg6 x0 x1 x2) := by
  have o := C44 arg4 arg5 arg6 H
  have m := Spec.ag o 5 0 (by decide)
  exact nF arg5 H (Cv6 arg4 arg6 H) (a8 5 1 0) (fun _ _ => m) o (e2 := by sl_kernel_rfl) (e3 := by sl_kernel_rfl)
theorem C46 : Spec q k v (bd 0 9) True (st8 46) (kernelRun0_C.sl.HS2_47 arg4 arg5 x0 x1) (kernelRun0_C.sl.HS3_47 arg4 arg5 arg6 x0 x1 x2) := by
  have o := C45 arg4 arg5 arg6 H
  have m := Spec.ag o 5 1 (by decide)
  exact nF arg5 H (Cv6 arg4 arg6 H) (a8 5 1 1) (fun _ _ => m) o (e2 := by sl_kernel_rfl) (e3 := by sl_kernel_rfl)
theorem C47 : Spec q k v (bd 0 9) True (st8 47) (kernelRun0_C.sl.HS2_48 arg4 arg5 x0 x1) (kernelRun0_C.sl.HS3_48 arg4 arg5 arg6 x0 x1 x2) := by
  have o := C46 arg4 arg5 arg6 H
  have m := Spec.ag o 5 2 (by decide)
  exact nF arg5 H (Cv6 arg4 arg6 H) (a8 5 1 2) (fun _ _ => m) o (e2 := by sl_kernel_rfl) (e3 := by sl_kernel_rfl)
theorem C48 : Spec q k v (bd 0 9) True (st8 48) (kernelRun0_C.sl.HS2_49 arg4 arg5 x0 x1) (kernelRun0_C.sl.HS3_49 arg4 arg5 arg6 x0 x1 x2) := by
  have o := C47 arg4 arg5 arg6 H
  have m := Spec.ag o 5 3 (by decide)
  exact nF arg5 H (Cv6 arg4 arg6 H) (a8 5 1 3) (fun _ _ => m) o (e2 := by sl_kernel_rfl) (e3 := by sl_kernel_rfl)
theorem C49 : Spec q k v (bd 0 9) True (st8 49) (kernelRun0_C.sl.HS2_50 arg4 arg5 x0 x1) (kernelRun0_C.sl.HS3_50 arg4 arg5 arg6 x0 x1 x2) := by
  have o := C48 arg4 arg5 arg6 H
  have m := Spec.fr o 6 0 (by decide)
  exact nF arg5 H (Cv7 arg4 arg6 H) (a8 6 0 0) (fun _ _ => m) o (e2 := by sl_kernel_rfl) (e3 := by sl_kernel_rfl)
theorem C50 : Spec q k v (bd 0 9) True (st8 50) (kernelRun0_C.sl.HS2_51 arg4 arg5 x0 x1) (kernelRun0_C.sl.HS3_51 arg4 arg5 arg6 x0 x1 x2) := by
  have o := C49 arg4 arg5 arg6 H
  have m := Spec.fr o 6 1 (by decide)
  exact nF arg5 H (Cv7 arg4 arg6 H) (a8 6 0 1) (fun _ _ => m) o (e2 := by sl_kernel_rfl) (e3 := by sl_kernel_rfl)
theorem C51 : Spec q k v (bd 0 9) True (st8 51) (kernelRun0_C.sl.HS2_52 arg4 arg5 x0 x1) (kernelRun0_C.sl.HS3_52 arg4 arg5 arg6 x0 x1 x2) := by
  have o := C50 arg4 arg5 arg6 H
  have m := Spec.fr o 6 2 (by decide)
  exact nF arg5 H (Cv7 arg4 arg6 H) (a8 6 0 2) (fun _ _ => m) o (e2 := by sl_kernel_rfl) (e3 := by sl_kernel_rfl)
theorem C52 : Spec q k v (bd 0 9) True (st8 52) (kernelRun0_C.sl.HS2_53 arg4 arg5 x0 x1) (kernelRun0_C.sl.HS3_53 arg4 arg5 arg6 x0 x1 x2) := by
  have o := C51 arg4 arg5 arg6 H
  have m := Spec.fr o 6 3 (by decide)
  exact nF arg5 H (Cv7 arg4 arg6 H) (a8 6 0 3) (fun _ _ => m) o (e2 := by sl_kernel_rfl) (e3 := by sl_kernel_rfl)
theorem C53 : Spec q k v (bd 0 9) True (st8 53) (kernelRun0_C.sl.HS2_54 arg4 arg5 x0 x1) (kernelRun0_C.sl.HS3_54 arg4 arg5 arg6 x0 x1 x2) := by
  have o := C52 arg4 arg5 arg6 H
  have m := Spec.ag o 6 0 (by decide)
  exact nF arg5 H (Cv7 arg4 arg6 H) (a8 6 1 0) (fun _ _ => m) o (e2 := by sl_kernel_rfl) (e3 := by sl_kernel_rfl)
theorem C54 : Spec q k v (bd 0 9) True (st8 54) (kernelRun0_C.sl.HS2_55 arg4 arg5 x0 x1) (kernelRun0_C.sl.HS3_55 arg4 arg5 arg6 x0 x1 x2) := by
  have o := C53 arg4 arg5 arg6 H
  have m := Spec.ag o 6 1 (by decide)
  exact nF arg5 H (Cv7 arg4 arg6 H) (a8 6 1 1) (fun _ _ => m) o (e2 := by sl_kernel_rfl) (e3 := by sl_kernel_rfl)
theorem C55 : Spec q k v (bd 0 9) True (st8 55) (kernelRun0_C.sl.HS2_56 arg4 arg5 x0 x1) (kernelRun0_C.sl.HS3_56 arg4 arg5 arg6 x0 x1 x2) := by
  have o := C54 arg4 arg5 arg6 H
  have m := Spec.ag o 6 2 (by decide)
  exact nF arg5 H (Cv7 arg4 arg6 H) (a8 6 1 2) (fun _ _ => m) o (e2 := by sl_kernel_rfl) (e3 := by sl_kernel_rfl)
theorem C56 : Spec q k v (bd 0 9) True (st8 56) (kernelRun0_C.sl.HS2_57 arg4 arg5 x0 x1) (kernelRun0_C.sl.HS3_57 arg4 arg5 arg6 x0 x1 x2) := by
  have o := C55 arg4 arg5 arg6 H
  have m := Spec.ag o 6 3 (by decide)
  exact nF arg5 H (Cv7 arg4 arg6 H) (a8 6 1 3) (fun _ _ => m) o (e2 := by sl_kernel_rfl) (e3 := by sl_kernel_rfl)
theorem C57 : Spec q k v (bd 0 9) True (st8 57) (kernelRun0_C.sl.HS2_58 arg4 arg5 x0 x1) (kernelRun0_C.sl.HS3_58 arg4 arg5 arg6 x0 x1 x2) := by
  have o := C56 arg4 arg5 arg6 H
  have m := Spec.fr o 7 0 (by decide)
  exact nF arg5 H (Cv8 arg4 arg6 H) (a8 7 0 0) (fun _ _ => m) o (e2 := by sl_kernel_rfl) (e3 := by sl_kernel_rfl)
theorem C58 : Spec q k v (bd 0 9) True (st8 58) (kernelRun0_C.sl.HS2_59 arg4 arg5 x0 x1) (kernelRun0_C.sl.HS3_59 arg4 arg5 arg6 x0 x1 x2) := by
  have o := C57 arg4 arg5 arg6 H
  have m := Spec.fr o 7 1 (by decide)
  exact nF arg5 H (Cv8 arg4 arg6 H) (a8 7 0 1) (fun _ _ => m) o (e2 := by sl_kernel_rfl) (e3 := by sl_kernel_rfl)
theorem C59 : Spec q k v (bd 0 9) True (st8 59) (kernelRun0_C.sl.HS2_60 arg4 arg5 x0 x1) (kernelRun0_C.sl.HS3_60 arg4 arg5 arg6 x0 x1 x2) := by
  have o := C58 arg4 arg5 arg6 H
  have m := Spec.fr o 7 2 (by decide)
  exact nF arg5 H (Cv8 arg4 arg6 H) (a8 7 0 2) (fun _ _ => m) o (e2 := by sl_kernel_rfl) (e3 := by sl_kernel_rfl)
theorem C60 : Spec q k v (bd 0 9) True (st8 60) (kernelRun0_C.sl.HS2_61 arg4 arg5 x0 x1) (kernelRun0_C.sl.HS3_61 arg4 arg5 arg6 x0 x1 x2) := by
  have o := C59 arg4 arg5 arg6 H
  have m := Spec.fr o 7 3 (by decide)
  exact nF arg5 H (Cv8 arg4 arg6 H) (a8 7 0 3) (fun _ _ => m) o (e2 := by sl_kernel_rfl) (e3 := by sl_kernel_rfl)
theorem C61 : Spec q k v (bd 0 9) True (st8 61) (kernelRun0_C.sl.HS2_62 arg4 arg5 x0 x1) (kernelRun0_C.sl.HS3_62 arg4 arg5 arg6 x0 x1 x2) := by
  have o := C60 arg4 arg5 arg6 H
  have m := Spec.ag o 7 0 (by decide)
  exact nF arg5 H (Cv8 arg4 arg6 H) (a8 7 1 0) (fun _ _ => m) o (e2 := by sl_kernel_rfl) (e3 := by sl_kernel_rfl)
theorem C62 : Spec q k v (bd 0 9) True (st8 62) (kernelRun0_C.sl.HS2_63 arg4 arg5 x0 x1) (kernelRun0_C.sl.HS3_63 arg4 arg5 arg6 x0 x1 x2) := by
  have o := C61 arg4 arg5 arg6 H
  have m := Spec.ag o 7 1 (by decide)
  exact nF arg5 H (Cv8 arg4 arg6 H) (a8 7 1 1) (fun _ _ => m) o (e2 := by sl_kernel_rfl) (e3 := by sl_kernel_rfl)
theorem C63 : Spec q k v (bd 0 9) True (st8 63) (kernelRun0_C.sl.HS2_64 arg4 arg5 x0 x1) (kernelRun0_C.sl.HS3_64 arg4 arg5 arg6 x0 x1 x2) := by
  have o := C62 arg4 arg5 arg6 H
  have m := Spec.ag o 7 2 (by decide)
  exact nF arg5 H (Cv8 arg4 arg6 H) (a8 7 1 2) (fun _ _ => m) o (e2 := by sl_kernel_rfl) (e3 := by sl_kernel_rfl)
theorem C64 : Spec q k v (bd 0 9) True (st8 64) (kernelRun0_C.sl.HS2_65 arg4 arg5 x0 x1) (kernelRun0_C.sl.HS3_65 arg4 arg5 arg6 x0 x1 x2) := by
  have o := C63 arg4 arg5 arg6 H
  have m := Spec.ag o 7 3 (by decide)
  exact nF arg5 H (Cv8 arg4 arg6 H) (a8 7 1 3) (fun _ _ => m) o (e2 := by sl_kernel_rfl) (e3 := by sl_kernel_rfl)

end

end Cert.AttnIdeal.Hand

end
end
-- ==== Proof.AttnPathD.lean ====
module
public import proofs.«01_k».proof.Proof.AttnFill
@[expose] public section
set_option maxRecDepth 16384
noncomputable section

/-! # The blocks of scores of a point that goes on, with the diagonal in its first half -/

namespace Cert.AttnIdeal.Hand
open Cert.AttnIdeal Cert.AttnIdeal.Gen Cert.AttnRow Idealize.ShloMosaic Idealize.ShloMosaic.TcCoe

section
variable {q : Fin 8 → Fin 1024 → Fin 128 → ℝ} {k : Fin 8 → ℕ → Fin 128 → ℝ} {v : Fin 8 → ℕ → Fin 256 → ℝ} {k0 : ℕ}
  {x1 x2 : S8x1024x128.Idx → Elt Ideal .bf16}
  {xa0 : scM0_0.view.ty.Contents (Elt Ideal)} {xa1 : scM0_1.view.ty.Contents (Elt Ideal)}
  {xa2 : scM0_2.view.ty.Contents (Elt Ideal)} {xa3 : scM0_3.view.ty.Contents (Elt Ideal)} (c : Dev nD) (arg5 arg6 : Memref sig .tc .vmem S8x1024x128 .bf16)
  (H : Old q k v k0 x1 x2 xa0 xa1 xa2 xa3)
include H

theorem Dv1 : VS v k0 xa1 (kernelRun0_D.sl.HS1_1 arg6 x2) 1 := VS.step H.hx (by decide) H.hv (arg6 := arg6) (i2 := iw 0 (by decide)) (i3 := iy 0 (by decide)) (by sl_kernel_rfl)
theorem Dv2 : VS v k0 xa1 (kernelRun0_D.sl.HS1_2 arg6 x2) 2 := VS.step (Dv1 arg6 H) (by decide) H.hv (arg6 := arg6) (i2 := iw 1 (by decide)) (i3 := iy 1 (by decide)) (by sl_kernel_rfl)
theorem Dv3 : VS v k0 xa1 (kernelRun0_D.sl.HS1_3 arg6 x2) 3 := VS.step (Dv2 arg6 H) (by decide) H.hv (arg6 := arg6) (i2 := iw 2 (by decide)) (i3 := iy 2 (by decide)) (by sl_kernel_rfl)
theorem Dv4 : VS v k0 xa1 (kernelRun0_D.sl.HS1_4 arg6 x2) 4 := VS.step (Dv3 arg6 H) (by decide) H.hv (arg6 := arg6) (i2 := iw 3 (by decide)) (i3 := iy 3 (by decide)) (by sl_kernel_rfl)
theorem Dv5 : VS v k0 xa1 (kernelRun0_D.sl.HS1_5 arg6 x2) 5 := VS.step (Dv4 arg6 H) (by decide) H.hv (arg6 := arg6) (i2 := iw 4 (by decide)) (i3 := iy 4 (by decide)) (by sl_kernel_rfl)
theorem Dv6 : VS v k0 xa1 (kernelRun0_D.sl.HS1_6 arg6 x2) 6 := VS.step (Dv5 arg6 H) (by decide) H.hv (arg6 := arg6) (i2 := iw 5 (by decide)) (i3 := iy 5 (by decide)) (by sl_kernel_rfl)
theorem Dv7 : VS v k0 xa1 (kernelRun0_D.sl.HS1_7 arg6 x2) 7 := VS.step (Dv6 arg6 H) (by decide) H.hv (arg6 := arg6) (i2 := iw 6 (by decide)) (i3 := iy 6 (by decide)) (by sl_kernel_rfl)
theorem Dv8 : VS v k0 xa1 (kernelRun0_D.sl.HS1_8 arg6 x2) 8 := VS.step (Dv7 arg6 H) (by decide) H.hv (arg6 := arg6) (i2 := iw 7 (by decide)) (i3 := iy 7 (by decide)) (by sl_kernel_rfl)
theorem D0 : Spec q k v (bd k0 1) False (st4 0) [] [] := spec_nil q k v k0 1 _ (by intro h c hh hc; unfold st4; split_ifs <;> omega)
theorem D32 : Spec q k v (bd k0 1) False (st4 32) (kernelRun0_D.sl.HS2_32 c arg5 x1 xa0 xa2) (kernelRun0_D.sl.HS3_32 c arg5 arg6 x1 x2 xa0 xa1 xa2 xa3) := by
  have o := (D0 H)
  have m := H.ma 0 0
  have o := oL arg5 H (Dv1 arg6 H) (a4 0 0) (fun _ _ => m) o (e2 := rfl) (e3 := rfl)
  have m := H.ma 0 1
  have o := oH arg5 H (Dv1 arg6 H) (a4 0 1) (fun _ _ => m) o (e2 := rfl) (e3 := rfl)
  have m := H.ma 0 2
  have o := oL arg5 H (Dv1 arg6 H) (a4 0 2) (fun _ _ => m) o (e2 := rfl) (e3 := rfl)
  have m := H.ma 0 3
  have o := oH arg5 H (Dv1 arg6 H) (a4 0 3) (fun _ _ => m) o (e2 := rfl) (e3 := rfl)
  have m := H.ma 1 0
  have o := oL arg5 H (Dv2 arg6 H) (a4 1 0) (fun _ _ => m) o (e2 := rfl) (e3 := rfl)
  have m := H.ma 1 1
  have o := oH arg5 H (Dv2 arg6 H) (a4 1 1) (fun _ _ => m) o (e2 := rfl) (e3 := rfl)
  have m := H.ma 1 2
  have o := oL arg5 H (Dv2 arg6 H) (a4 1 2) (fun _ _ => m) o (e2 := rfl) (e3 := rfl)
  have m := H.ma 1 3
  have o := oH arg5 H (Dv2 arg6 H) (a4 1 3) (fun _ _ => m) o (e2 := rfl) (e3 := rfl)
  have m := H.ma 2 0
  have o := oL arg5 H (Dv3 arg6 H) (a4 2 0) (fun _ _ => m) o (e2 := rfl) (e3 := rfl)
  have m := H.ma 2 1
  have o := oH arg5 H (Dv3 arg6 H) (a4 2 1) (fun _ _ => m) o (e2 := rfl) (e3 := rfl)
  have m := H.ma 2 2
  have o := oL arg5 H (Dv3 arg6 H) (a4 2 2) (fun _ _ => m) o (e2 := rfl) (e3 := rfl)
  have m := H.ma 2 3
  have o := oH arg5 H (Dv3 arg6 H) (a4 2 3) (fun _ _ => m) o (e2 := rfl) (e3 := rfl)
  have m := H.ma 3 0
  have o := oL arg5 H (Dv4 arg6 H) (a4 3 0) (fun _ _ => m) o (e2 := rfl) (e3 := rfl)
  have m := H.ma 3 1
  have o := oH arg5 H (Dv4 arg6 H) (a4 3 1) (fun _ _ => m) o (e2 := rfl) (e3 := rfl)
  have m := H.ma 3 2
  have o := oL arg5 H (Dv4 arg6 H) (a4 3 2) (fun _ _ => m) o (e2 := rfl) (e3 := rfl)
  have m := H.ma 3 3
  have o := oH arg5 H (Dv4 arg6 H) (a4 3 3) (fun _ _ => m) o (e2 := rfl) (e3 := rfl)
  have m := H.ma 4 0
  have o := oL arg5 H (Dv5 arg6 H) (a4 4 0) (fun _ _ => m) o (e2 := rfl) (e3 := rfl)
  have m := H.ma 4 1
  have o := oH arg5 H (Dv5 arg6 H) (a4 4 1) (fun _ _ => m) o (e2 := rfl) (e3 := rfl)
  have m := H.ma 4 2
  have o := oL arg5 H (Dv5 arg6 H) (a4 4 2) (fun _ _ => m) o (e2 := rfl) (e3 := rfl)
  have m := H.ma 4 3
  have o := oH arg5 H (Dv5 arg6 H) (a4 4 3) (fun _ _ => m) o (e2 := rfl) (e3 := rfl)
  have m := H.ma 5 0
  have o := oL arg5 H (Dv6 arg6 H) (a4 5 0) (fun _ _ => m) o (e2 := rfl) (e3 := rfl)
  have m := H.ma 5 1
  have o := oH arg5 H (Dv6 arg6 H) (a4 5 1) (fun _ _ => m) o (e2 := rfl) (e3 := rfl)
  have m := H.ma 5 2
  have o := oL arg5 H (Dv6 arg6 H) (a4 5 2) (fun _ _ => m) o (e2 := rfl) (e3 := rfl)
  have m := H.ma 5 3
  have o := oH arg5 H (Dv6 arg6 H) (a4 5 3) (fun _ _ => m) o (e2 := rfl) (e3 := rfl)
  have m := H.ma 6 0
  have o := oL arg5 H (Dv7 arg6 H) (a4 6 0) (fun _ _ => m) o (e2 := rfl) (e3 := rfl)
  have m := H.ma 6 1
  have o := oH arg5 H (Dv7 arg6 H) (a4 6 1) (fun _ _ => m) o (e2 := rfl) (e3 := rfl)
  have m := H.ma 6 2
  have o := oL arg5 H (Dv7 arg6 H) (a4 6 2) (fun _ _ => m) o (e2 := rfl) (e3 := rfl)
  have m := H.ma 6 3
  have o := oH arg5 H (Dv7 arg6 H) (a4 6 3) (fun _ _ => m) o (e2 := rfl) (e3 := rfl)
  have m := H.ma 7 0
  have o := oL arg5 H (Dv8 arg6 H) (a4 7 0) (fun _ _ => m) o (e2 := rfl) (e3 := rfl)
  have m := H.ma 7 1
  have o := oH arg5 H (Dv8 arg6 H) (a4 7 1) (fun _ _ => m) o (e2 := rfl) (e3 := rfl)
  have m := H.ma 7 2
  have o := oL arg5 H (Dv8 arg6 H) (a4 7 2) (fun _ _ => m) o (e2 := rfl) (e3 := rfl)
  have m := H.ma 7 3
  exact oH arg5 H (Dv8 arg6 H) (a4 7 3) (fun _ _ => m) o (e2 := by sl_kernel_rfl) (e3 := by sl_kernel_rfl)

end

end Cert.AttnIdeal.Hand

end
end
-- ==== Proof.AttnPathE.lean ====
module
public import proofs.«01_k».proof.Proof.AttnFill
@[expose] public section
set_option maxRecDepth 16384
noncomputable section

/-! # The blocks of scores of a point that goes on, with the diagonal in its second half -/

namespace Cert.AttnIdeal.Hand
open Cert.AttnIdeal Cert.AttnIdeal.Gen Cert.AttnRow Idealize.ShloMosaic Idealize.ShloMosaic.TcCoe

section
variable {q : Fin 8 → Fin 1024 → Fin 128 → ℝ} {k : Fin 8 → ℕ → Fin 128 → ℝ} {v : Fin 8 → ℕ → Fin 256 → ℝ} {k0 : ℕ}
  {x1 x2 : S8x1024x128.Idx → Elt Ideal .bf16}
  {xa0 : scM0_0.view.ty.Contents (Elt Ideal)} {xa1 : scM0_1.view.ty.Contents (Elt Ideal)}
  {xa2 : scM0_2.view.ty.Contents (Elt Ideal)} {xa3 : scM0_3.view.ty.Contents (Elt Ideal)} (c : Dev nD) (arg5 arg6 : Memref sig .tc .vmem S8x1024x128 .bf16)
  (H : Old q k v k0 x1 x2 xa0 xa1 xa2 xa3)
include H

theorem Ev1 : VS v k0 xa1 (kernelRun0_E.sl.HS1_1 arg6 x2) 1 := VS.step H.hx (by decide) H.hv (arg6 := arg6) (i2 := iw 0 (by decide)) (i3 := iy 0 (by decide)) (by sl_kernel_rfl)
theorem Ev2 : VS v k0 xa1 (kernelRun0_E.sl.HS1_2 arg6 x2) 2 := VS.step (Ev1 arg6 H) (by decide) H.hv (arg6 := arg6) (i2 := iw 1 (by decide)) (i3 := iy 1 (by decide)) (by sl_kernel_rfl)
theorem Ev3 : VS v k0 xa1 (kernelRun0_E.sl.HS1_3 arg6 x2) 3 := VS.step (Ev2 arg6 H) (by decide) H.hv (arg6 := arg6) (i2 := iw 2 (by decide)) (i3 := iy 2 (by decide)) (by sl_kernel_rfl)
theorem Ev4 : VS v k0 xa1 (kernelRun0_E.sl.HS1_4 arg6 x2) 4 := VS.step (Ev3 arg6 H) (by decide) H.hv (arg6 := arg6) (i2 := iw 3 (by decide)) (i3 := iy 3 (by decide)) (by sl_kernel_rfl)
theorem Ev5 : VS v k0 xa1 (kernelRun0_E.sl.HS1_5 arg6 x2) 5 := VS.step (Ev4 arg6 H) (by decide) H.hv (arg6 := arg6) (i2 := iw 4 (by decide)) (i3 := iy 4 (by decide)) (by sl_kernel_rfl)
theorem Ev6 : VS v k0 xa1 (kernelRun0_E.sl.HS1_6 arg6 x2) 6 := VS.step (Ev5 arg6 H) (by decide) H.hv (arg6 := arg6) (i2 := iw 5 (by decide)) (i3 := iy 5 (by decide)) (by sl_kernel_rfl)
theorem Ev7 : VS v k0 xa1 (kernelRun0_E.sl.HS1_7 arg6 x2) 7 := VS.step (Ev6 arg6 H) (by decide) H.hv (arg6 := arg6) (i2 := iw 6 (by decide)) (i3 := iy 6 (by decide)) (by sl_kernel_rfl)
theorem Ev8 : VS v k0 xa1 (kernelRun0_E.sl.HS1_8 arg6 x2) 8 := VS.step (Ev7 arg6 H) (by decide) H.hv (arg6 := arg6) (i2 := iw 7 (by decide)) (i3 := iy 7 (by decide)) (by sl_kernel_rfl)
theorem E0 : Spec q k v (bd k0 2) False (st8 0) [] [] := spec_nil q k v k0 2 _ (by intro h c hh hc; unfold st8; split_ifs <;> omega)
theorem E4 : Spec q k v (bd k0 2) False (st8 4) (kernelRun0_E.sl.HS2_4 c arg5 x1 xa0 xa2) (kernelRun0_E.sl.HS3_4 c arg5 arg6 x1 x2 xa0 xa1 xa2 xa3) := by
  have o := (E0 H)
  have m := H.ma 0 0
  have o := oF arg5 H (Ev1 arg6 H) (a8 0 0 0) (fun _ _ => m) o (e2 := rfl) (e3 := rfl)
  have m := H.ma 0 1
  have o := oF arg5 H (Ev1 arg6 H) (a8 0 0 1) (fun _ _ => m) o (e2 := rfl) (e3 := rfl)
  have m := H.ma 0 2
  have o := oF arg5 H (Ev1 arg6 H) (a8 0 0 2) (fun _ _ => m) o (e2 := rfl) (e3 := rfl)
  have m := H.ma 0 3
  exact oF arg5 H (Ev1 arg6 H) (a8 0 0 3) (fun _ _ => m) o (e2 := by sl_kernel_rfl) (e3 := by sl_kernel_rfl)
theorem E5 : Spec q k v (bd k0 2) False (st8 5) (kernelRun0_E.sl.HS2_5 c arg5 x1 xa0 xa2) (kernelRun0_E.sl.HS3_5 c arg5 arg6 x1 x2 xa0 xa1 xa2 xa3) := by
  have o := E4 c arg5 arg6 H
  have m := Spec.ag o 0 0 (by decide)
  exact oL arg5 H (Ev1 arg6 H) (a8 0 1 0) (fun _ _ => m) o (e2 := by sl_kernel_rfl) (e3 := by sl_kernel_rfl)
theorem E6 : Spec q k v (bd k0 2) False (st8 6) (kernelRun0_E.sl.HS2_6 c arg5 x1 xa0 xa2) (kernelRun0_E.sl.HS3_6 c arg5 arg6 x1 x2 xa0 xa1 xa2 xa3) := by
  have o := E5 c arg5 arg6 H
  have m := Spec.ag o 0 1 (by decide)
  exact oH arg5 H (Ev1 arg6 H) (a8 0 1 1) (fun _ _ => m) o (e2 := by sl_kernel_rfl) (e3 := by sl_kernel_rfl)
theorem E7 : Spec q k v (bd k0 2) False (st8 7) (kernelRun0_E.sl.HS2_7 c arg5 x1 xa0 xa2) (kernelRun0_E.sl.HS3_7 c arg5 arg6 x1 x2 xa0 xa1 xa2 xa3) := by
  have o := E6 c arg5 arg6 H
  have m := Spec.ag o 0 2 (by decide)
  exact oL arg5 H (Ev1 arg6 H) (a8 0 1 2) (fun _ _ => m) o (e2 := by sl_kernel_rfl) (e3 := by sl_kernel_rfl)
theorem E12 : Spec q k v (bd k0 2) False (st8 12) (kernelRun0_E.sl.HS2_12 c arg5 x1 xa0 xa2) (kernelRun0_E.sl.HS3_12 c arg5 arg6 x1 x2 xa0 xa1 xa2 xa3) := by
  have o := E7 c arg5 arg6 H
  have m := Spec.ag o 0 3 (by decide)
  have o := oH arg5 H (Ev1 arg6 H) (a8 0 1 3) (fun _ _ => m) o (e2 := rfl) (e3 := rfl)
  have m := H.ma 1 0
  have o := oF arg5 H (Ev2 arg6 H) (a8 1 0 0) (fun _ _ => m) o (e2 := rfl) (e3 := rfl)
  have m := H.ma 1 1
  have o := oF arg5 H (Ev2 arg6 H) (a8 1 0 1) (fun _ _ => m) o (e2 := rfl) (e3 := rfl)
  have m := H.ma 1 2
  have o := oF arg5 H (Ev2 arg6 H) (a8 1 0 2) (fun _ _ => m) o (e2 := rfl) (e3 := rfl)
  have m := H.ma 1 3
  exact oF arg5 H (Ev2 arg6 H) (a8 1 0 3) (fun _ _ => m) o (e2 := by sl_kernel_rfl) (e3 := by sl_kernel_rfl)
theorem E13 : Spec q k v (bd k0 2) False (st8 13) (kernelRun0_E.sl.HS2_13 c arg5 x1 xa0 xa2) (kernelRun0_E.sl.HS3_13 c arg5 arg6 x1 x2 xa0 xa1 xa2 xa3) := by
  have o := E12 c arg5 arg6 H
  have m := Spec.ag o 1 0 (by decide)
  exact oL arg5 H (Ev2 arg6 H) (a8 1 1 0) (fun _ _ => m) o (e2 := by sl_kernel_rfl) (e3 := by sl_kernel_rfl)
theorem E14 : Spec q k v (bd k0 2) False (st8 14) (kernelRun0_E.sl.HS2_14 c arg5 x1 xa0 xa2) (kernelRun0_E.sl.HS3_14 c arg5 arg6 x1 x2 xa0 xa1 xa2 xa3) := by
  have o := E13 c arg5 arg6 H
  have m := Spec.ag o 1 1 (by decide)
  exact oH arg5 H (Ev2 arg6 H) (a8 1 1 1) (fun _ _ => m) o (e2 := by sl_kernel_rfl) (e3 := by sl_kernel_rfl)
theorem E15 : Spec q k v (bd k0 2) False (st8 15) (kernelRun0_E.sl.HS2_15 c arg5 x1 xa0 xa2) (kernelRun0_E.sl.HS3_15 c arg5 arg6 x1 x2 xa0 xa1 xa2 xa3) := by
  have o := E14 c arg5 arg6 H
  have m := Spec.ag o 1 2 (by decide)
  exact oL arg5 H (Ev2 arg6 H) (a8 1 1 2) (fun _ _ => m) o (e2 := by sl_kernel_rfl) (e3 := by sl_kernel_rfl)
theorem E20 : Spec q k v (bd k0 2) False (st8 20) (kernelRun0_E.sl.HS2_20 c arg5 x1 xa0 xa2) (kernelRun0_E.sl.HS3_20 c arg5 arg6 x1 x2 xa0 xa1 xa2 xa3) := by
  have o := E15 c arg5 arg6 H
  have m := Spec.ag o 1 3 (by decide)
  have o := oH arg5 H (Ev2 arg6 H) (a8 1 1 3) (fun _ _ => m) o (e2 := rfl) (e3 := rfl)
  have m := H.ma 2 0
  have o := oF arg5 H (Ev3 arg6 H) (a8 2 0 0) (fun _ _ => m) o (e2 := rfl) (e3 := rfl)
  have m := H.ma 2 1
  have o := oF arg5 H (Ev3 arg6 H) (a8 2 0 1) (fun _ _ => m) o (e2 := rfl) (e3 := rfl)
  have m := H.ma 2 2
  have o := oF arg5 H (Ev3 arg6 H) (a8 2 0 2) (fun _ _ => m) o (e2 := rfl) (e3 := rfl)
  have m := H.ma 2 3
  exact oF arg5 H (Ev3 arg6 H) (a8 2 0 3) (fun _ _ => m) o (e2 := by sl_kernel_rfl) (e3 := by sl_kernel_rfl)
theorem E21 : Spec q k v (bd k0 2) False (st8 21) (kernelRun0_E.sl.HS2_21 c arg5 x1 xa0 xa2) (kernelRun0_E.sl.HS3_21 c arg5 arg6 x1 x2 xa0 xa1 xa2 xa3) := by
  have o := E20 c arg5 arg6 H
  have m := Spec.ag o 2 0 (by decide)
  exact oL arg5 H (Ev3 arg6 H) (a8 2 1 0) (fun _ _ => m) o (e2 := by sl_kernel_rfl) (e3 := by sl_kernel_rfl)
theorem E22 : Spec q k v (bd k0 2) False (st8 22) (kernelRun0_E.sl.HS2_22 c arg5 x1 xa0 xa2) (kernelRun0_E.sl.HS3_22 c arg5 arg6 x1 x2 xa0 xa1 xa2 xa3) := by
  have o := E21 c arg5 arg6 H
  have m := Spec.ag o 2 1 (by decide)
  exact oH arg5 H (Ev3 arg6 H) (a8 2 1 1) (fun _ _ => m) o (e2 := by sl_kernel_rfl) (e3 := by sl_kernel_rfl)
theorem E23 : Spec q k v (bd k0 2) False (st8 23) (kernelRun0_E.sl.HS2_23 c arg5 x1 xa0 xa2) (kernelRun0_E.sl.HS3_23 c arg5 arg6 x1 x2 xa0 xa1 xa2 xa3) := by
  have o := E22 c arg5 arg6 H
  have m := Spec.ag o 2 2 (by decide)
  exact oL arg5 H (Ev3 arg6 H) (a8 2 1 2) (fun _ _ => m) o (e2 := by sl_kernel_rfl) (e3 := by sl_kernel_rfl)
theorem E28 : Spec q k v (bd k0 2) False (st8 28) (kernelRun0_E.sl.HS2_28 c arg5 x1 xa0 xa2) (kernelRun0_E.sl.HS3_28 c arg5 arg6 x1 x2 xa0 xa1 xa2 xa3) := by
  have o := E23 c arg5 arg6 H
  have m := Spec.ag o 2 3 (by decide)
  have o := oH arg5 H (Ev3 arg6 H) (a8 2 1 3) (fun _ _ => m) o (e2 := rfl) (e3 := rfl)
  have m := H.ma 3 0
  have o := oF arg5 H (Ev4 arg6 H) (a8 3 0 0) (fun _ _ => m) o (e2 := rfl) (e3 := rfl)
  have m := H.ma 3 1
  have o := oF arg5 H (Ev4 arg6 H) (a8 3 0 1) (fun _ _ => m) o (e2 := rfl) (e3 := rfl)
  have m := H.ma 3 2
  have o := oF arg5 H (Ev4 arg6 H) (a8 3 0 2) (fun _ _ => m) o (e2 := rfl) (e3 := rfl)
  have m := H.ma 3 3
  exact oF arg5 H (Ev4 arg6 H) (a8 3 0 3) (fun _ _ => m) o (e2 := by sl_kernel_rfl) (e3 := by sl_kernel_rfl)
theorem E29 : Spec q k v (bd k0 2) False (st8 29) (kernelRun0_E.sl.HS2_29 c arg5 x1 xa0 xa2) (kernelRun0_E.sl.HS3_29 c arg5 arg6 x1 x2 xa0 xa1 xa2 xa3) := by
  have o := E28 c arg5 arg6 H
  have m := Spec.ag o 3 0 (by decide)
  exact oL arg5 H (Ev4 arg6 H) (a8 3 1 0) (fun _ _ => m) o (e2 := by sl_kernel_rfl) (e3 := by sl_kernel_rfl)
theorem E30 : Spec q k v (bd k0 2) False (st8 30) (kernelRun0_E.sl.HS2_30 c arg5 x1 xa0 xa2) (kernelRun0_E.sl.HS3_30 c arg5 arg6 x1 x2 xa0 xa1 xa2 xa3) := by
  have o := E29 c arg5 arg6 H
  have m := Spec.ag o 3 1 (by decide)
  exact oH arg5 H (Ev4 arg6 H) (a8 3 1 1) (fun _ _ => m) o (e2 := by sl_kernel_rfl) (e3 := by sl_kernel_rfl)
theorem E31 : Spec q k v (bd k0 2) False (st8 31) (kernelRun0_E.sl.HS2_31 c arg5 x1 xa0 xa2) (kernelRun0_E.sl.HS3_31 c arg5 arg6 x1 x2 xa0 xa1 xa2 xa3) := by
  have o := E30 c arg5 arg6 H
  have m := Spec.ag o 3 2 (by decide)
  exact oL arg5 H (Ev4 arg6 H) (a8 3 1 2) (fun _ _ => m) o (e2 := by sl_kernel_rfl) (e3 := by sl_kernel_rfl)
theorem E36 : Spec q k v (bd k0 2) False (st8 36) (kernelRun0_E.sl.HS2_36 c arg5 x1 xa0 xa2) (kernelRun0_E.sl.HS3_36 c arg5 arg6 x1 x2 xa0 xa1 xa2 xa3) := by
  have o := E31 c arg5 arg6 H
  have m := Spec.ag o 3 3 (by decide)
  have o := oH arg5 H (Ev4 arg6 H) (a8 3 1 3) (fun _ _ => m) o (e2 := rfl) (e3 := rfl)
  have m := H.ma 4 0
  have o := oF arg5 H (Ev5 arg6 H) (a8 4 0 0) (fun _ _ => m) o (e2 := rfl) (e3 := rfl)
  have m := H.ma 4 1
  have o := oF arg5 H (Ev5 arg6 H) (a8 4 0 1) (fun _ _ => m) o (e2 := rfl) (e3 := rfl)
  have m := H.ma 4 2
  have o := oF arg5 H (Ev5 arg6 H) (a8 4 0 2) (fun _ _ => m) o (e2 := rfl) (e3 := rfl)
  have m := H.ma 4 3
  exact oF arg5 H (Ev5 arg6 H) (a8 4 0 3) (fun _ _ => m) o (e2 := by sl_kernel_rfl) (e3 := by sl_kernel_rfl)
theorem E37 : Spec q k v (bd k0 2) False (st8 37) (kernelRun0_E.sl.HS2_37 c arg5 x1 xa0 xa2) (kernelRun0_E.sl.HS3_37 c arg5 arg6 x1 x2 xa0 xa1 xa2 xa3) := by
  have o := E36 c arg5 arg6 H
  have m := Spec.ag o 4 0 (by decide)
  exact oL arg5 H (Ev5 arg6 H) (a8 4 1 0) (fun _ _ => m) o (e2 := by sl_kernel_rfl) (e3 := by sl_kernel_rfl)
theorem E38 : Spec q k v (bd k0 2) False (st8 38) (kernelRun0_E.sl.HS2_38 c arg5 x1 xa0 xa2) (kernelRun0_E.sl.HS3_38 c arg5 arg6 x1 x2 xa0 xa1 xa2 xa3) := by
  have o := E37 c arg5 arg6 H
  have m := Spec.ag o 4 1 (by decide)
  exact oH arg5 H (Ev5 arg6 H) (a8 4 1 1) (fun _ _ => m) o (e2 := by sl_kernel_rfl) (e3 := by sl_kernel_rfl)
theorem E39 : Spec q k v (bd k0 2) False (st8 39) (kernelRun0_E.sl.HS2_39 c arg5 x1 xa0 xa2) (kernelRun0_E.sl.HS3_39 c arg5 arg6 x1 x2 xa0 xa1 xa2 xa3) := by
  have o := E38 c arg5 arg6 H
  have m := Spec.ag o 4 2 (by decide)
  exact oL arg5 H (Ev5 arg6 H) (a8 4 1 2) (fun _ _ => m) o (e2 := by sl_kernel_rfl) (e3 := by sl_kernel_rfl)
theorem E44 : Spec q k v (bd k0 2) False (st8 44) (kernelRun0_E.sl.HS2_44 c arg5 x1 xa0 xa2) (kernelRun0_E.sl.HS3_44 c arg5 arg6 x1 x2 xa0 xa1 xa2 xa3) := by
  have o := E39 c arg5 arg6 H
  have m := Spec.ag o 4 3 (by decide)
  have o := oH arg5 H (Ev5 arg6 H) (a8 4 1 3) (fun _ _ => m) o (e2 := rfl) (e3 := rfl)
  have m := H.ma 5 0
  have o := oF arg5 H (Ev6 arg6 H) (a8 5 0 0) (fun _ _ => m) o (e2 := rfl) (e3 := rfl)
  have m := H.ma 5 1
  have o := oF arg5 H (Ev6 arg6 H) (a8 5 0 1) (fun _ _ => m) o (e2 := rfl) (e3 := rfl)
  have m := H.ma 5 2
  have o := oF arg5 H (Ev6 arg6 H) (a8 5 0 2) (fun _ _ => m) o (e2 := rfl) (e3 := rfl)
  have m := H.ma 5 3
  exact oF arg5 H (Ev6 arg6 H) (a8 5 0 3) (fun _ _ => m) o (e2 := by sl_kernel_rfl) (e3 := by sl_kernel_rfl)
theorem E45 : Spec q k v (bd k0 2) False (st8 45) (kernelRun0_E.sl.HS2_45 c arg5 x1 xa0 xa2) (kernelRun0_E.sl.HS3_45 c arg5 arg6 x1 x2 xa0 xa1 xa2 xa3) := by
  have o := E44 c arg5 arg6 H
  have m := Spec.ag o 5 0 (by decide)
  exact oL arg5 H (Ev6 arg6 H) (a8 5 1 0) (fun _ _ => m) o (e2 := by sl_kernel_rfl) (e3 := by sl_kernel_rfl)
theorem E46 : Spec q k v (bd k0 2) False (st8 46) (kernelRun0_E.sl.HS2_46 c arg5 x1 xa0 xa2) (kernelRun0_E.sl.HS3_46 c arg5 arg6 x1 x2 xa0 xa1 xa2 xa3) := by
  have o := E45 c arg5 arg6 H
  have m := Spec.ag o 5 1 (by decide)
  exact oH arg5 H (Ev6 arg6 H) (a8 5 1 1) (fun _ _ => m) o (e2 := by sl_kernel_rfl) (e3 := by sl_kernel_rfl)
theorem E47 : Spec q k v (bd k0 2) False (st8 47) (kernelRun0_E.sl.HS2_47 c arg5 x1 xa0 xa2) (kernelRun0_E.sl.HS3_47 c arg5 arg6 x1 x2 xa0 xa1 xa2 xa3) := by
  have o := E46 c arg5 arg6 H
  have m := Spec.ag o 5 2 (by decide)
  exact oL arg5 H (Ev6 arg6 H) (a8 5 1 2) (fun _ _ => m) o (e2 := by sl_kernel_rfl) (e3 := by sl_kernel_rfl)
theorem E52 : Spec q k v (bd k0 2) False (st8 52) (kernelRun0_E.sl.HS2_52 c arg5 x1 xa0 xa2) (kernelRun0_E.sl.HS3_52 c arg5 arg6 x1 x2 xa0 xa1 xa2 xa3) := by
  have o := E47 c arg5 arg6 H
  have m := Spec.ag o 5 3 (by decide)
  have o := oH arg5 H (Ev6 arg6 H) (a8 5 1 3) (fun _ _ => m) o (e2 := rfl) (e3 := rfl)
  have m := H.ma 6 0
  have o := oF arg5 H (Ev7 arg6 H) (a8 6 0 0) (fun _ _ => m) o (e2 := rfl) (e3 := rfl)
  have m := H.ma 6 1
  have o := oF arg5 H (Ev7 arg6 H) (a8 6 0 1) (fun _ _ => m) o (e2 := rfl) (e3 := rfl)
  have m := H.ma 6 2
  have o := oF arg5 H (Ev7 arg6 H) (a8 6 0 2) (fun _ _ => m) o (e2 := rfl) (e3 := rfl)
  have m := H.ma 6 3
  exact oF arg5 H (Ev7 arg6 H) (a8 6 0 3) (fun _ _ => m) o (e2 := by sl_kernel_rfl) (e3 := by sl_kernel_rfl)
theorem E53 : Spec q k v (bd k0 2) False (st8 53) (kernelRun0_E.sl.HS2_53 c arg5 x1 xa0 xa2) (kernelRun0_E.sl.HS3_53 c arg5 arg6 x1 x2 xa0 xa1 xa2 xa3) := by
  have o := E52 c arg5 arg6 H
  have m := Spec.ag o 6 0 (by decide)
  exact oL arg5 H (Ev7 arg6 H) (a8 6 1 0) (fun _ _ => m) o (e2 := by sl_kernel_rfl) (e3 := by sl_kernel_rfl)
theorem E54 : Spec q k v (bd k0 2) False (st8 54) (kernelRun0_E.sl.HS2_54 c arg5 x1 xa0 xa2) (kernelRun0_E.sl.HS3_54 c arg5 arg6 x1 x2 xa0 xa1 xa2 xa3) := by
  have o := E53 c arg5 arg6 H
  have m := Spec.ag o 6 1 (by decide)
  exact oH arg5 H (Ev7 arg6 H) (a8 6 1 1) (fun _ _ => m) o (e2 := by sl_kernel_rfl) (e3 := by sl_kernel_rfl)
theorem E55 : Spec q k v (bd k0 2) False (st8 55) (kernelRun0_E.sl.HS2_55 c arg5 x1 xa0 xa2) (kernelRun0_E.sl.HS3_55 c arg5 arg6 x1 x2 xa0 xa1 xa2 xa3) := by
  have o := E54 c arg5 arg6 H
  have m := Spec.ag o 6 2 (by decide)
  exact oL arg5 H (Ev7 arg6 H) (a8 6 1 2) (fun _ _ => m) o (e2 := by sl_kernel_rfl) (e3 := by sl_kernel_rfl)
theorem E60 : Spec q k v (bd k0 2) False (st8 60) (kernelRun0_E.sl.HS2_60 c arg5 x1 xa0 xa2) (kernelRun0_E.sl.HS3_60 c arg5 arg6 x1 x2 xa0 xa1 xa2 xa3) := by
  have o := E55 c arg5 arg6 H
  have m := Spec.ag o 6 3 (by decide)
  have o := oH arg5 H (Ev7 arg6 H) (a8 6 1 3) (fun _ _ => m) o (e2 := rfl) (e3 := rfl)
  have m := H.ma 7 0
  have o := oF arg5 H (Ev8 arg6 H) (a8 7 0 0) (fun _ _ => m) o (e2 := rfl) (e3 := rfl)
  have m := H.ma 7 1
  have o := oF arg5 H (Ev8 arg6 H) (a8 7 0 1) (fun _ _ => m) o (e2 := rfl) (e3 := rfl)
  have m := H.ma 7 2
  have o := oF arg5 H (Ev8 arg6 H) (a8 7 0 2) (fun _ _ => m) o (e2 := rfl) (e3 := rfl)
  have m := H.ma 7 3
  exact oF arg5 H (Ev8 arg6 H) (a8 7 0 3) (fun _ _ => m) o (e2 := by sl_kernel_rfl) (e3 := by sl_kernel_rfl)
theorem E61 : Spec q k v (bd k0 2) False (st8 61) (kernelRun0_E.sl.HS2_61 c arg5 x1 xa0 xa2) (kernelRun0_E.sl.HS3_61 c arg5 arg6 x1 x2 xa0 xa1 xa2 xa3) := by
  have o := E60 c arg5 arg6 H
  have m := Spec.ag o 7 0 (by decide)
  exact oL arg5 H (Ev8 arg6 H) (a8 7 1 0) (fun _ _ => m) o (e2 := by sl_kernel_rfl) (e3 := by sl_kernel_rfl)
theorem E62 : Spec q k v (bd k0 2) False (st8 62) (kernelRun0_E.sl.HS2_62 c arg5 x1 xa0 xa2) (kernelRun0_E.sl.HS3_62 c arg5 arg6 x1 x2 xa0 xa1 xa2 xa3) := by
  have o := E61 c arg5 arg6 H
  have m := Spec.ag o 7 1 (by decide)
  exact oH arg5 H (Ev8 arg6 H) (a8 7 1 1) (fun _ _ => m) o (e2 := by sl_kernel_rfl) (e3 := by sl_kernel_rfl)
theorem E63 : Spec q k v (bd k0 2) False (st8 63) (kernelRun0_E.sl.HS2_63 c arg5 x1 xa0 xa2) (kernelRun0_E.sl.HS3_63 c arg5 arg6 x1 x2 xa0 xa1 xa2 xa3) := by
  have o := E62 c arg5 arg6 H
  have m := Spec.ag o 7 2 (by decide)
  exact oL arg5 H (Ev8 arg6 H) (a8 7 1 2) (fun _ _ => m) o (e2 := by sl_kernel_rfl) (e3 := by sl_kernel_rfl)
theorem E64 : Spec q k v (bd k0 2) False (st8 64) (kernelRun0_E.sl.HS2_64 c arg5 x1 xa0 xa2) (kernelRun0_E.sl.HS3_64 c arg5 arg6 x1 x2 xa0 xa1 xa2 xa3) := by
  have o := E63 c arg5 arg6 H
  have m := Spec.ag o 7 3 (by decide)
  exact oH arg5 H (Ev8 arg6 H) (a8 7 1 3) (fun _ _ => m) o (e2 := by sl_kernel_rfl) (e3 := by sl_kernel_rfl)

end

end Cert.AttnIdeal.Hand

end
end
-- ==== Proof.AttnPathF.lean ====
module
public import proofs.«01_k».proof.Proof.AttnFill
@[expose] public section
set_option maxRecDepth 16384
noncomputable section

/-! # The blocks of scores of a point that goes on, off the diagonal -/

namespace Cert.AttnIdeal.Hand
open Cert.AttnIdeal Cert.AttnIdeal.Gen Cert.AttnRow Idealize.ShloMosaic Idealize.ShloMosaic.TcCoe

section
variable {q : Fin 8 → Fin 1024 → Fin 128 → ℝ} {k : Fin 8 → ℕ → Fin 128 → ℝ} {v : Fin 8 → ℕ → Fin 256 → ℝ} {k0 : ℕ}
  {x1 x2 : S8x1024x128.Idx → Elt Ideal .bf16}
  {xa0 : scM0_0.view.ty.Contents (Elt Ideal)} {xa1 : scM0_1.view.ty.Contents (Elt Ideal)}
  {xa2 : scM0_2.view.ty.Contents (Elt Ideal)} {xa3 : scM0_3.view.ty.Contents (Elt Ideal)} (c : Dev nD) (arg5 arg6 : Memref sig .tc .vmem S8x1024x128 .bf16)
  (H : Old q k v k0 x1 x2 xa0 xa1 xa2 xa3)
include H

theorem Fv1 : VS v k0 xa1 (kernelRun0_F.sl.HS1_1 arg6 x2) 1 := VS.step H.hx (by decide) H.hv (arg6 := arg6) (i2 := iw 0 (by decide)) (i3 := iy 0 (by decide)) (by sl_kernel_rfl)
theorem Fv2 : VS v k0 xa1 (kernelRun0_F.sl.HS1_2 arg6 x2) 2 := VS.step (Fv1 arg6 H) (by decide) H.hv (arg6 := arg6) (i2 := iw 1 (by decide)) (i3 := iy 1 (by decide)) (by sl_kernel_rfl)
theorem Fv3 : VS v k0 xa1 (kernelRun0_F.sl.HS1_3 arg6 x2) 3 := VS.step (Fv2 arg6 H) (by decide) H.hv (arg6 := arg6) (i2 := iw 2 (by decide)) (i3 := iy 2 (by decide)) (by sl_kernel_rfl)
theorem Fv4 : VS v k0 xa1 (kernelRun0_F.sl.HS1_4 arg6 x2) 4 := VS.step (Fv3 arg6 H) (by decide) H.hv (arg6 := arg6) (i2 := iw 3 (by decide)) (i3 := iy 3 (by decide)) (by sl_kernel_rfl)
theorem Fv5 : VS v k0 xa1 (kernelRun0_F.sl.HS1_5 arg6 x2) 5 := VS.step (Fv4 arg6 H) (by decide) H.hv (arg6 := arg6) (i2 := iw 4 (by decide)) (i3 := iy 4 (by decide)) (by sl_kernel_rfl)
theorem Fv6 : VS v k0 xa1 (kernelRun0_F.sl.HS1_6 arg6 x2) 6 := VS.step (Fv5 arg6 H) (by decide) H.hv (arg6 := arg6) (i2 := iw 5 (by decide)) (i3 := iy 5 (by decide)) (by sl_kernel_rfl)
theorem Fv7 : VS v k0 xa1 (kernelRun0_F.sl.HS1_7 arg6 x2) 7 := VS.step (Fv6 arg6 H) (by decide) H.hv (arg6 := arg6) (i2 := iw 6 (by decide)) (i3 := iy 6 (by decide)) (by sl_kernel_rfl)
theorem Fv8 : VS v k0 xa1 (kernelRun0_F.sl.HS1_8 arg6 x2) 8 := VS.step (Fv7 arg6 H) (by decide) H.hv (arg6 := arg6) (i2 := iw 7 (by decide)) (i3 := iy 7 (by decide)) (by sl_kernel_rfl)
theorem F0 : Spec q k v (bd k0 9) False (st8 0) [] [] := spec_nil q k v k0 9 _ (by intro h c hh hc; unfold st8; split_ifs <;> omega)
theorem F4 : Spec q k v (bd k0 9) False (st8 4) (kernelRun0_F.sl.HS2_4 c arg5 x1 xa0 xa2) (kernelRun0_F.sl.HS3_4 c arg5 arg6 x1 x2 xa0 xa1 xa2 xa3) := by
  have o := (F0 H)
  have m := H.ma 0 0
  have o := oF arg5 H (Fv1 arg6 H) (a8 0 0 0) (fun _ _ => m) o (e2 := rfl) (e3 := rfl)
  have m := H.ma 0 1
  have o := oF arg5 H (Fv1 arg6 H) (a8 0 0 1) (fun _ _ => m) o (e2 := rfl) (e3 := rfl)
  have m := H.ma 0 2
  have o := oF arg5 H (Fv1 arg6 H) (a8 0 0 2) (fun _ _ => m) o (e2 := rfl) (e3 := rfl)
  have m := H.ma 0 3
  exact oF arg5 H (Fv1 arg6 H) (a8 0 0 3) (fun _ _ => m) o (e2 := by sl_kernel_rfl) (e3 := by sl_kernel_rfl)
theorem F5 : Spec q k v (bd k0 9) False (st8 5) (kernelRun0_F.sl.HS2_5 c arg5 x1 xa0 xa2) (kernelRun0_F.sl.HS3_5 c arg5 arg6 x1 x2 xa0 xa1 xa2 xa3) := by
  have o := F4 c arg5 arg6 H
  have m := Spec.ag o 0 0 (by decide)
  exact oF arg5 H (Fv1 arg6 H) (a8 0 1 0) (fun _ _ => m) o (e2 := by sl_kernel_rfl) (e3 := by sl_kernel_rfl)
theorem F6 : Spec q k v (bd k0 9) False (st8 6) (kernelRun0_F.sl.HS2_6 c arg5 x1 xa0 xa2) (kernelRun0_F.sl.HS3_6 c arg5 arg6 x1 x2 xa0 xa1 xa2 xa3) := by
  have o := F5 c arg5 arg6 H
  have m := Spec.ag o 0 1 (by decide)
  exact oF arg5 H (Fv1 arg6 H) (a8 0 1 1) (fun _ _ => m) o (e2 := by sl_kernel_rfl) (e3 := by sl_kernel_rfl)
theorem F7 : Spec q k v (bd k0 9) False (st8 7) (kernelRun0_F.sl.HS2_7 c arg5 x1 xa0 xa2) (kernelRun0_F.sl.HS3_7 c arg5 arg6 x1 x2 xa0 xa1 xa2 xa3) := by
  have o := F6 c arg5 arg6 H
  have m := Spec.ag o 0 2 (by decide)
  exact oF arg5 H (Fv1 arg6 H) (a8 0 1 2) (fun _ _ => m) o (e2 := by sl_kernel_rfl) (e3 := by sl_kernel_rfl)
theorem F12 : Spec q k v (bd k0 9) False (st8 12) (kernelRun0_F.sl.HS2_12 c arg5 x1 xa0 xa2) (kernelRun0_F.sl.HS3_12 c arg5 arg6 x1 x2 xa0 xa1 xa2 xa3) := by
  have o := F7 c arg5 arg6 H
  have m := Spec.ag o 0 3 (by decide)
  have o := oF arg5 H (Fv1 arg6 H) (a8 0 1 3) (fun _ _ => m) o (e2 := rfl) (e3 := rfl)
  have m := H.ma 1 0
  have o := oF arg5 H (Fv2 arg6 H) (a8 1 0 0) (fun _ _ => m) o (e2 := rfl) (e3 := rfl)
  have m := H.ma 1 1
  have o := oF arg5 H (Fv2 arg6 H) (a8 1 0 1) (fun _ _ => m) o (e2 := rfl) (e3 := rfl)
  have m := H.ma 1 2
  have o := oF arg5 H (Fv2 arg6 H) (a8 1 0 2) (fun _ _ => m) o (e2 := rfl) (e3 := rfl)
  have m := H.ma 1 3
  exact oF arg5 H (Fv2 arg6 H) (a8 1 0 3) (fun _ _ => m) o (e2 := by sl_kernel_rfl) (e3 := by sl_kernel_rfl)
theorem F13 : Spec q k v (bd k0 9) False (st8 13) (kernelRun0_F.sl.HS2_13 c arg5 x1 xa0 xa2) (kernelRun0_F.sl.HS3_13 c arg5 arg6 x1 x2 xa0 xa1 xa2 xa3) := by
  have o := F12 c arg5 arg6 H
  have m := Spec.ag o 1 0 (by decide)
  exact oF arg5 H (Fv2 arg6 H) (a8 1 1 0) (fun _ _ => m) o (e2 := by sl_kernel_rfl) (e3 := by sl_kernel_rfl)
theorem F14 : Spec q k v (bd k0 9) False (st8 14) (kernelRun0_F.sl.HS2_14 c arg5 x1 xa0 xa2) (kernelRun0_F.sl.HS3_14 c arg5 arg6 x1 x2 xa0 xa1 xa2 xa3) := by
  have o := F13 c arg5 arg6 H
  have m := Spec.ag o 1 1 (by decide)
  exact oF arg5 H (Fv2 arg6 H) (a8 1 1 1) (fun _ _ => m) o (e2 := by sl_kernel_rfl) (e3 := by sl_kernel_rfl)
theorem F15 : Spec q k v (bd k0 9) False (st8 15) (kernelRun0_F.sl.HS2_15 c arg5 x1 xa0 xa2) (kernelRun0_F.sl.HS3_15 c arg5 arg6 x1 x2 xa0 xa1 xa2 xa3) := by
  have o := F14 c arg5 arg6 H
  have m := Spec.ag o 1 2 (by decide)
  exact oF arg5 H (Fv2 arg6 H) (a8 1 1 2) (fun _ _ => m) o (e2 := by sl_kernel_rfl) (e3 := by sl_kernel_rfl)
theorem F20 : Spec q k v (bd k0 9) False (st8 20) (kernelRun0_F.sl.HS2_20 c arg5 x1 xa0 xa2) (kernelRun0_F.sl.HS3_20 c arg5 arg6 x1 x2 xa0 xa1 xa2 xa3) := by
  have o := F15 c arg5 arg6 H
  have m := Spec.ag o 1 3 (by decide)
  have o := oF arg5 H (Fv2 arg6 H) (a8 1 1 3) (fun _ _ => m) o (e2 := rfl) (e3 := rfl)
  have m := H.ma 2 0
  have o := oF arg5 H (Fv3 arg6 H) (a8 2 0 0) (fun _ _ => m) o (e2 := rfl) (e3 := rfl)
  have m := H.ma 2 1
  have o := oF arg5 H (Fv3 arg6 H) (a8 2 0 1) (fun _ _ => m) o (e2 := rfl) (e3 := rfl)
  have m := H.ma 2 2
  have o := oF arg5 H (Fv3 arg6 H) (a8 2 0 2) (fun _ _ => m) o (e2 := rfl) (e3 := rfl)
  have m := H.ma 2 3
  exact oF arg5 H (Fv3 arg6 H) (a8 2 0 3) (fun _ _ => m) o (e2 := by sl_kernel_rfl) (e3 := by sl_kernel_rfl)
theorem F21 : Spec q k v (bd k0 9) False (st8 21) (kernelRun0_F.sl.HS2_21 c arg5 x1 xa0 xa2) (kernelRun0_F.sl.HS3_21 c arg5 arg6 x1 x2 xa0 xa1 xa2 xa3) := by
  have o := F20 c arg5 arg6 H
  have m := Spec.ag o 2 0 (by decide)
  exact oF arg5 H (Fv3 arg6 H) (a8 2 1 0) (fun _ _ => m) o (e2 := by sl_kernel_rfl) (e3 := by sl_kernel_rfl)
theorem F22 : Spec q k v (bd k0 9) False (st8 22) (kernelRun0_F.sl.HS2_22 c arg5 x1 xa0 xa2) (kernelRun0_F.sl.HS3_22 c arg5 arg6 x1 x2 xa0 xa1 xa2 xa3) := by
  have o := F21 c arg5 arg6 H
  have m := Spec.ag o 2 1 (by decide)
  exact oF arg5 H (Fv3 arg6 H) (a8 2 1 1) (fun _ _ => m) o (e2 := by sl_kernel_rfl) (e3 := by sl_kernel_rfl)
theorem F23 : Spec q k v (bd k0 9) False (st8 23) (kernelRun0_F.sl.HS2_23 c arg5 x1 xa0 xa2) (kernelRun0_F.sl.HS3_23 c arg5 arg6 x1 x2 xa0 xa1 xa2 xa3) := by
  have o := F22 c arg5 arg6 H
  have m := Spec.ag o 2 2 (by decide)
  exact oF arg5 H (Fv3 arg6 H) (a8 2 1 2) (fun _ _ => m) o (e2 := by sl_kernel_rfl) (e3 := by sl_kernel_rfl)
theorem F28 : Spec q k v (bd k0 9) False (st8 28) (kernelRun0_F.sl.HS2_28 c arg5 x1 xa0 xa2) (kernelRun0_F.sl.HS3_28 c arg5 arg6 x1 x2 xa0 xa1 xa2 xa3) := by
  have o := F23 c arg5 arg6 H
  have m := Spec.ag o 2 3 (by decide)
  have o := oF arg5 H (Fv3 arg6 H) (a8 2 1 3) (fun _ _ => m) o (e2 := rfl) (e3 := rfl)
  have m := H.ma 3 0
  have o := oF arg5 H (Fv4 arg6 H) (a8 3 0 0) (fun _ _ => m) o (e2 := rfl) (e3 := rfl)
  have m := H.ma 3 1
  have o := oF arg5 H (Fv4 arg6 H) (a8 3 0 1) (fun _ _ => m) o (e2 := rfl) (e3 := rfl)
  have m := H.ma 3 2
  have o := oF arg5 H (Fv4 arg6 H) (a8 3 0 2) (fun _ _ => m) o (e2 := rfl) (e3 := rfl)
  have m := H.ma 3 3
  exact oF arg5 H (Fv4 arg6 H) (a8 3 0 3) (fun _ _ => m) o (e2 := by sl_kernel_rfl) (e3 := by sl_kernel_rfl)
theorem F29 : Spec q k v (bd k0 9) False (st8 29) (kernelRun0_F.sl.HS2_29 c arg5 x1 xa0 xa2) (kernelRun0_F.sl.HS3_29 c arg5 arg6 x1 x2 xa0 xa1 xa2 xa3) := by
  have o := F28 c arg5 arg6 H
  have m := Spec.ag o 3 0 (by decide)
  exact oF arg5 H (Fv4 arg6 H) (a8 3 1 0) (fun _ _ => m) o (e2 := by sl_kernel_rfl) (e3 := by sl_kernel_rfl)
theorem F30 : Spec q k v (bd k0 9) False (st8 30) (kernelRun0_F.sl.HS2_30 c arg5 x1 xa0 xa2) (kernelRun0_F.sl.HS3_30 c arg5 arg6 x1 x2 xa0 xa1 xa2 xa3) := by
  have o := F29 c arg5 arg6 H
  have m := Spec.ag o 3 1 (by decide)
  exact oF arg5 H (Fv4 arg6 H) (a8 3 1 1) (fun _ _ => m) o (e2 := by sl_kernel_rfl) (e3 := by sl_kernel_rfl)
theorem F31 : Spec q k v (bd k0 9) False (st8 31) (kernelRun0_F.sl.HS2_31 c arg5 x1 xa0 xa2) (kernelRun0_F.sl.HS3_31 c arg5 arg6 x1 x2 xa0 xa1 xa2 xa3) := by
  have o := F30 c arg5 arg6 H
  have m := Spec.ag o 3 2 (by decide)
  exact oF arg5 H (Fv4 arg6 H) (a8 3 1 2) (fun _ _ => m) o (e2 := by sl_kernel_rfl) (e3 := by sl_kernel_rfl)
theorem F36 : Spec q k v (bd k0 9) False (st8 36) (kernelRun0_F.sl.HS2_36 c arg5 x1 xa0 xa2) (kernelRun0_F.sl.HS3_36 c arg5 arg6 x1 x2 xa0 xa1 xa2 xa3) := by
  have o := F31 c arg5 arg6 H
  have m := Spec.ag o 3 3 (by decide)
  have o := oF arg5 H (Fv4 arg6 H) (a8 3 1 3) (fun _ _ => m) o (e2 := rfl) (e3 := rfl)
  have m := H.ma 4 0
  have o := oF arg5 H (Fv5 arg6 H) (a8 4 0 0) (fun _ _ => m) o (e2 := rfl) (e3 := rfl)
  have m := H.ma 4 1
  have o := oF arg5 H (Fv5 arg6 H) (a8 4 0 1) (fun _ _ => m) o (e2 := rfl) (e3 := rfl)
  have m := H.ma 4 2
  have o := oF arg5 H (Fv5 arg6 H) (a8 4 0 2) (fun _ _ => m) o (e2 := rfl) (e3 := rfl)
  have m := H.ma 4 3
  exact oF arg5 H (Fv5 arg6 H) (a8 4 0 3) (fun _ _ => m) o (e2 := by sl_kernel_rfl) (e3 := by sl_kernel_rfl)
theorem F37 : Spec q k v (bd k0 9) False (st8 37) (kernelRun0_F.sl.HS2_37 c arg5 x1 xa0 xa2) (kernelRun0_F.sl.HS3_37 c arg5 arg6 x1 x2 xa0 xa1 xa2 xa3) := by
  have o := F36 c arg5 arg6 H
  have m := Spec.ag o 4 0 (by decide)
  exact oF arg5 H (Fv5 arg6 H) (a8 4 1 0) (fun _ _ => m) o (e2 := by sl_kernel_rfl) (e3 := by sl_kernel_rfl)
theorem F38 : Spec q k v (bd k0 9) False (st8 38) (kernelRun0_F.sl.HS2_38 c arg5 x1 xa0 xa2) (kernelRun0_F.sl.HS3_38 c arg5 arg6 x1 x2 xa0 xa1 xa2 xa3) := by
  have o := F37 c arg5 arg6 H
  have m := Spec.ag o 4 1 (by decide)
  exact oF arg5 H (Fv5 arg6 H) (a8 4 1 1) (fun _ _ => m) o (e2 := by sl_kernel_rfl) (e3 := by sl_kernel_rfl)
theorem F39 : Spec q k v (bd k0 9) False (st8 39) (kernelRun0_F.sl.HS2_39 c arg5 x1 xa0 xa2) (kernelRun0_F.sl.HS3_39 c arg5 arg6 x1 x2 xa0 xa1 xa2 xa3) := by
  have o := F38 c arg5 arg6 H
  have m := Spec.ag o 4 2 (by decide)
  exact oF arg5 H (Fv5 arg6 H) (a8 4 1 2) (fun _ _ => m) o (e2 := by sl_kernel_rfl) (e3 := by sl_kernel_rfl)
theorem F44 : Spec q k v (bd k0 9) False (st8 44) (kernelRun0_F.sl.HS2_44 c arg5 x1 xa0 xa2) (kernelRun0_F.sl.HS3_44 c arg5 arg6 x1 x2 xa0 xa1 xa2 xa3) := by
  have o := F39 c arg5 arg6 H
  have m := Spec.ag o 4 3 (by decide)
  have o := oF arg5 H (Fv5 arg6 H) (a8 4 1 3) (fun _ _ => m) o (e2 := rfl) (e3 := rfl)
  have m := H.ma 5 0
  have o := oF arg5 H (Fv6 arg6 H) (a8 5 0 0) (fun _ _ => m) o (e2 := rfl) (e3 := rfl)
  have m := H.ma 5 1
  have o := oF arg5 H (Fv6 arg6 H) (a8 5 0 1) (fun _ _ => m) o (e2 := rfl) (e3 := rfl)
  have m := H.ma 5 2
  have o := oF arg5 H (Fv6 arg6 H) (a8 5 0 2) (fun _ _ => m) o (e2 := rfl) (e3 := rfl)
  have m := H.ma 5 3
  exact oF arg5 H (Fv6 arg6 H) (a8 5 0 3) (fun _ _ => m) o (e2 := by sl_kernel_rfl) (e3 := by sl_kernel_rfl)
theorem F45 : Spec q k v (bd k0 9) False (st8 45) (kernelRun0_F.sl.HS2_45 c arg5 x1 xa0 xa2) (kernelRun0_F.sl.HS3_45 c arg5 arg6 x1 x2 xa0 xa1 xa2 xa3) := by
  have o := F44 c arg5 arg6 H
  have m := Spec.ag o 5 0 (by decide)
  exact oF arg5 H (Fv6 arg6 H) (a8 5 1 0) (fun _ _ => m) o (e2 := by sl_kernel_rfl) (e3 := by sl_kernel_rfl)
theorem F46 : Spec q k v (bd k0 9) False (st8 46) (kernelRun0_F.sl.HS2_46 c arg5 x1 xa0 xa2) (kernelRun0_F.sl.HS3_46 c arg5 arg6 x1 x2 xa0 xa1 xa2 xa3) := by
  have o := F45 c arg5 arg6 H
  have m := Spec.ag o 5 1 (by decide)
  exact oF arg5 H (Fv6 arg6 H) (a8 5 1 1) (fun _ _ => m) o (e2 := by sl_kernel_rfl) (e3 := by sl_kernel_rfl)
theorem F47 : Spec q k v (bd k0 9) False (st8 47) (kernelRun0_F.sl.HS2_47 c arg5 x1 xa0 xa2) (kernelRun0_F.sl.HS3_47 c arg5 arg6 x1 x2 xa0 xa1 xa2 xa3) := by
  have o := F46 c arg5 arg6 H
  have m := Spec.ag o 5 2 (by decide)
  exact oF arg5 H (Fv6 arg6 H) (a8 5 1 2) (fun _ _ => m) o (e2 := by sl_kernel_rfl) (e3 := by sl_kernel_rfl)
theorem F52 : Spec q k v (bd k0 9) False (st8 52) (kernelRun0_F.sl.HS2_52 c arg5 x1 xa0 xa2) (kernelRun0_F.sl.HS3_52 c arg5 arg6 x1 x2 xa0 xa1 xa2 xa3) := by
  have o := F47 c arg5 arg6 H
  have m := Spec.ag o 5 3 (by decide)
  have o := oF arg5 H (Fv6 arg6 H) (a8 5 1 3) (fun _ _ => m) o (e2 := rfl) (e3 := rfl)
  have m := H.ma 6 0
  have o := oF arg5 H (Fv7 arg6 H) (a8 6 0 0) (fun _ _ => m) o (e2 := rfl) (e3 := rfl)
  have m := H.ma 6 1
  have o := oF arg5 H (Fv7 arg6 H) (a8 6 0 1) (fun _ _ => m) o (e2 := rfl) (e3 := rfl)
  have m := H.ma 6 2
  have o := oF arg5 H (Fv7 arg6 H) (a8 6 0 2) (fun _ _ => m) o (e2 := rfl) (e3 := rfl)
  have m := H.ma 6 3
  exact oF arg5 H (Fv7 arg6 H) (a8 6 0 3) (fun _ _ => m) o (e2 := by sl_kernel_rfl) (e3 := by sl_kernel_rfl)
theorem F53 : Spec q k v (bd k0 9) False (st8 53) (kernelRun0_F.sl.HS2_53 c arg5 x1 xa0 xa2) (kernelRun0_F.sl.HS3_53 c arg5 arg6 x1 x2 xa0 xa1 xa2 xa3) := by
  have o := F52 c arg5 arg6 H
  have m := Spec.ag o 6 0 (by decide)
  exact oF arg5 H (Fv7 arg6 H) (a8 6 1 0) (fun _ _ => m) o (e2 := by sl_kernel_rfl) (e3 := by sl_kernel_rfl)
theorem F54 : Spec q k v (bd k0 9) False (st8 54) (kernelRun0_F.sl.HS2_54 c arg5 x1 xa0 xa2) (kernelRun0_F.sl.HS3_54 c arg5 arg6 x1 x2 xa0 xa1 xa2 xa3) := by
  have o := F53 c arg5 arg6 H
  have m := Spec.ag o 6 1 (by decide)
  exact oF arg5 H (Fv7 arg6 H) (a8 6 1 1) (fun _ _ => m) o (e2 := by sl_kernel_rfl) (e3 := by sl_kernel_rfl)
theorem F55 : Spec q k v (bd k0 9) False (st8 55) (kernelRun0_F.sl.HS2_55 c arg5 x1 xa0 xa2) (kernelRun0_F.sl.HS3_55 c arg5 arg6 x1 x2 xa0 xa1 xa2 xa3) := by
  have o := F54 c arg5 arg6 H
  have m := Spec.ag o 6 2 (by decide)
  exact oF arg5 H (Fv7 arg6 H) (a8 6 1 2) (fun _ _ => m) o (e2 := by sl_kernel_rfl) (e3 := by sl_kernel_rfl)
theorem F60 : Spec q k v (bd k0 9) False (st8 60) (kernelRun0_F.sl.HS2_60 c arg5 x1 xa0 xa2) (kernelRun0_F.sl.HS3_60 c arg5 arg6 x1 x2 xa0 xa1 xa2 xa3) := by
  have o := F55 c arg5 arg6 H
  have m := Spec.ag o 6 3 (by decide)
  have o := oF arg5 H (Fv7 arg6 H) (a8 6 1 3) (fun _ _ => m) o (e2 := rfl) (e3 := rfl)
  have m := H.ma 7 0
  have o := oF arg5 H (Fv8 arg6 H) (a8 7 0 0) (fun _ _ => m) o (e2 := rfl) (e3 := rfl)
  have m := H.ma 7 1
  have o := oF arg5 H (Fv8 arg6 H) (a8 7 0 1) (fun _ _ => m) o (e2 := rfl) (e3 := rfl)
  have m := H.ma 7 2
  have o := oF arg5 H (Fv8 arg6 H) (a8 7 0 2) (fun _ _ => m) o (e2 := rfl) (e3 := rfl)
  have m := H.ma 7 3
  exact oF arg5 H (Fv8 arg6 H) (a8 7 0 3) (fun _ _ => m) o (e2 := by sl_kernel_rfl) (e3 := by sl_kernel_rfl)
theorem F61 : Spec q k v (bd k0 9) False (st8 61) (kernelRun0_F.sl.HS2_61 c arg5 x1 xa0 xa2) (kernelRun0_F.sl.HS3_61 c arg5 arg6 x1 x2 xa0 xa1 xa2 xa3) := by
  have o := F60 c arg5 arg6 H
  have m := Spec.ag o 7 0 (by decide)
  exact oF arg5 H (Fv8 arg6 H) (a8 7 1 0) (fun _ _ => m) o (e2 := by sl_kernel_rfl) (e3 := by sl_kernel_rfl)
theorem F62 : Spec q k v (bd k0 9) False (st8 62) (kernelRun0_F.sl.HS2_62 c arg5 x1 xa0 xa2) (kernelRun0_F.sl.HS3_62 c arg5 arg6 x1 x2 xa0 xa1 xa2 xa3) := by
  have o := F61 c arg5 arg6 H
  have m := Spec.ag o 7 1 (by decide)
  exact oF arg5 H (Fv8 arg6 H) (a8 7 1 1) (fun _ _ => m) o (e2 := by sl_kernel_rfl) (e3 := by sl_kernel_rfl)
theorem F63 : Spec q k v (bd k0 9) False (st8 63) (kernelRun0_F.sl.HS2_63 c arg5 x1 xa0 xa2) (kernelRun0_F.sl.HS3_63 c arg5 arg6 x1 x2 xa0 xa1 xa2 xa3) := by
  have o := F62 c arg5 arg6 H
  have m := Spec.ag o 7 2 (by decide)
  exact oF arg5 H (Fv8 arg6 H) (a8 7 1 2) (fun _ _ => m) o (e2 := by sl_kernel_rfl) (e3 := by sl_kernel_rfl)
theorem F64 : Spec q k v (bd k0 9) False (st8 64) (kernelRun0_F.sl.HS2_64 c arg5 x1 xa0 xa2) (kernelRun0_F.sl.HS3_64 c arg5 arg6 x1 x2 xa0 xa1 xa2 xa3) := by
  have o := F63 c arg5 arg6 H
  have m := Spec.ag o 7 3 (by decide)
  exact oF arg5 H (Fv8 arg6 H) (a8 7 1 3) (fun _ _ => m) o (e2 := by sl_kernel_rfl) (e3 := by sl_kernel_rfl)

end

end Cert.AttnIdeal.Hand

end
end
-- ==== Proof.AttnEnds.lean ====
module
public import proofs.«01_k».proof.Proof.AttnOut
public import proofs.«01_k».proof.Proof.AttnPathA
public import proofs.«01_k».proof.Proof.AttnPathB
public import proofs.«01_k».proof.Proof.AttnPathC
public import proofs.«01_k».proof.Proof.AttnPathD
public import proofs.«01_k».proof.Proof.AttnPathE
public import proofs.«01_k».proof.Proof.AttnPathF
@[expose] public section
set_option maxRecDepth 16384
noncomputable section

/-! # What each of the six kinds of points leaves -/

namespace Cert.AttnIdeal.Hand
open Cert.AttnIdeal Cert.AttnIdeal.Gen Cert.AttnRow Idealize.ShloMosaic Idealize.ShloMosaic.TcCoe

section
variable {w : Fin 8 → Fin 512 → Fin 128 → ℝ} {k : Fin 8 → ℕ → Fin 128 → ℝ} {v : Fin 8 → ℕ → Fin 256 → ℝ}

variable (w k v) in
/-- The scratch buffers hold the scaled queries, the ones beside the values, and the running softmax over the first `B` keys. -/
structure Mid (B : ℕ) (xa0 : scM0_0.view.ty.Contents (Elt Ideal)) (xa1 : scM0_1.view.ty.Contents (Elt Ideal))
    (xa2 : scM0_2.view.ty.Contents (Elt Ideal)) (xa3 : scM0_3.view.ty.Contents (Elt Ideal)) : Prop where
  hq : ∀ h ρ l, scM0_0.view.read (Elt Ideal) xa0 (ix3 h ρ l) = (qOf w h ρ l : EReal)
  hx : ∀ (h : Fin 8) (j : Fin 1024) (i : Fin 256), 128 ≤ i.val → scM0_1.view.read (Elt Ideal) xa1 (ix3 h j i) = 1
  hI : ∀ h ρ, Row (qOf w) k v h ρ B (fun l => scM0_2.view.read (Elt Ideal) xa2 (ix3 h ρ l)) (fun i => scM0_3.view.read (Elt Ideal) xa3 (ix3 h ρ i))

variable (w k v) in
/-- The blocks of a point: queries, keys and values. -/
structure Blk (k0 : ℕ) (x0 : S8x512x128.Idx → Elt Ideal .bf16) (x1 x2 : S8x1024x128.Idx → Elt Ideal .bf16) : Prop where
  h0 : ∀ h r l, x0 (ix3 h r l) = (w h r l : EReal)
  hk : ∀ h (j : Fin 1024) l, x1 (ix3 h j l) = (k h (k0 + j.val) l : EReal)
  hv : ∀ h (j : Fin 1024) (l : Fin 128), x2 (ix3 h j l) = (v h (k0 + j.val) ⟨l.val, by have := l.isLt; omega⟩ : EReal)
  h1 : ∀ h κ (i : Fin 256), 128 ≤ i.val → v h κ i = 1

variable {k0 : ℕ} {x0 : S8x512x128.Idx → Elt Ideal .bf16} {x1 x2 : S8x1024x128.Idx → Elt Ideal .bf16} {xa0 : scM0_0.view.ty.Contents (Elt Ideal)} {xa1 : scM0_1.view.ty.Contents (Elt Ideal)}
  {xa2 : scM0_2.view.ty.Contents (Elt Ideal)} {xa3 : scM0_3.view.ty.Contents (Elt Ideal)}

theorem Mid.old (M : Mid w k v k0 xa0 xa1 xa2 xa3) (b : Blk w k v k0 x0 x1 x2) : Old (qOf w) k v k0 x1 x2 xa0 xa1 xa2 xa3 :=
  ⟨M.hq, b.hk, b.hv, fun h j i hi => by
    have hi' : 128 ≤ i.val := by omega
    rw [View.writes_nil, M.hx h j i hi', b.h1 h _ i hi', EReal.coe_one], M.hI⟩
theorem Blk.new (b : Blk w k v 0 x0 x1 x2) {L0 : List (View.Piece (Elt Ideal) S8x1024x128 .bf16)} (h : QS w L0 16) : New (qOf w) k v 0 L0 x1 x2 :=
  ⟨fun h' ρ l => h h' ρ l (by have := h'.isLt; have := ρ.isLt; omega), b.hk, b.hv, b.h1⟩

/-- From the end of a point off the diagonal. -/
theorem mid_of {B : ℕ} {L1 : List (View.Piece (Elt Ideal) S8x1024x256 .bf16)} {L2 : List P2} {L3 : List P3} {f1 : scM0_1.view.ty.Contents (Elt Ideal)} {n : ℕ}
    (hq : ∀ h ρ l, scM0_0.view.read (Elt Ideal) xa0 (ix3 h ρ l) = (qOf w h ρ l : EReal)) (V : VS v k0 f1 L1 n) (h1 : ∀ h κ (i : Fin 256), 128 ≤ i.val → v h κ i = 1)
    (D : Done (qOf w) k v (bd k0 9 2) L2 L3) (e : B = k0 + 1024) :
    Mid w k v B xa0 (scM0_1.view.writes (Elt Ideal) f1 L1) (scM0_2.view.writes (Elt Ideal) scM0_2.view.junk L2) (scM0_3.view.writes (Elt Ideal) scM0_3.view.junk L3) :=
  ⟨hq, fun h j i hi => by rw [V h j i (Or.inl hi), h1 h _ i hi, EReal.coe_one], fun h ρ => by subst e; exact D h ρ _ _⟩

theorem bd_pos (k0 d T ρ : ℕ) (hT : 0 < T) : 0 < bd k0 d T ρ := by
  unfold bd
  split <;> omega

section
variable (c : Dev nD) (arg4 : Memref sig .tc .vmem S8x512x128 .bf16) (arg5 arg6 : Memref sig .tc .vmem S8x1024x128 .bf16)

theorem endC (b : Blk w k v 0 x0 x1 x2) : Mid w k v 1024 (scM0_0.view.writes (Elt Ideal) scM0_0.view.junk (kernelRun0_C.sl.HS0_16 arg4 x0))
    (scM0_1.view.writes (Elt Ideal) scM0_1.view.junk (kernelRun0_C.sl.HS1_16 arg6 x2)) (scM0_2.view.writes (Elt Ideal) scM0_2.view.junk (kernelRun0_C.sl.HS2_65 arg4 arg5 x0 x1))
    (scM0_3.view.writes (Elt Ideal) scM0_3.view.junk (kernelRun0_C.sl.HS3_65 arg4 arg5 arg6 x0 x1 x2)) :=
  have N := b.new (Cq arg4 b.h0)
  mid_of (fun h ρ l => (View.read_writes_junk_apply_eq_canon scM0_0.view _ _).trans (N.hq h ρ l)) (Cv8 arg4 arg6 N) b.h1 (C64 arg4 arg5 arg6 N).all8 rfl

theorem endF (M : Mid w k v k0 xa0 xa1 xa2 xa3) (b : Blk w k v k0 x0 x1 x2) : Mid w k v (k0 + 1024) xa0
    (scM0_1.view.writes (Elt Ideal) xa1 (kernelRun0_F.sl.HS1_8 arg6 x2)) (scM0_2.view.writes (Elt Ideal) scM0_2.view.junk (kernelRun0_F.sl.HS2_64 c arg5 x1 xa0 xa2))
    (scM0_3.view.writes (Elt Ideal) scM0_3.view.junk (kernelRun0_F.sl.HS3_64 c arg5 arg6 x1 x2 xa0 xa1 xa2 xa3)) :=
  mid_of M.hq (Fv8 arg6 (M.old b)) b.h1 (F64 c arg5 arg6 (M.old b)).all8 rfl

variable (arg7 arg8 arg9 arg10 : Memref sig .tc .vmem S1x64 .f32) (arg11 : Memref sig .tc .vmem S1x128 .f32) (x3 x4 x5 x6 : S1x64.Idx → Elt Ideal .f32) (x7 : S1x128.Idx → Elt Ideal .f32)

theorem gain_fun : (fun l => gainV arg11 x7 (ix2 0 l)) = fun l => x7 (ix2 0 l) := funext fun l => row128 arg11 x7 l

theorem outA_eq : (kernelRun0_A.sl.HO8_8 arg4 arg5 arg6 arg7 arg8 arg9 arg10 arg11 x0 x1 x2 x3 x4 x5 x6 x7) = outL (kernelRun0_A.sl.HS3_33 arg4 arg5 arg6 x0 x1 x2) (lamV arg7 arg8 arg9 arg10 x3 x4 x5 x6) (gainV arg11 x7) := by sl_kernel_rfl
theorem outA (b : Blk w k v 0 x0 x1 x2) : OutS (qOf w) k v (bd 0 1 1) (lam x3 x4 x5 x6) (fun l => x7 (ix2 0 l)) (kernelRun0_A.sl.HO8_8 arg4 arg5 arg6 arg7 arg8 arg9 arg10 arg11 x0 x1 x2 x3 x4 x5 x6 x7) 8 := by
  rw [outA_eq, ← lamV_apply arg7 arg8 arg9 arg10, ← gain_fun arg11]
  exact outL_canon ((A32 arg4 arg5 arg6 (b.new (Aq arg4 b.h0))).all4) (fun _ => bd_pos _ _ _ _ (by decide)) b.h1 _ _

theorem outB_eq : (kernelRun0_B.sl.HO8_8 arg4 arg5 arg6 arg7 arg8 arg9 arg10 arg11 x0 x1 x2 x3 x4 x5 x6 x7) = outL (kernelRun0_B.sl.HS3_65 arg4 arg5 arg6 x0 x1 x2) (lamV arg7 arg8 arg9 arg10 x3 x4 x5 x6) (gainV arg11 x7) := by sl_kernel_rfl
theorem outB (b : Blk w k v 0 x0 x1 x2) : OutS (qOf w) k v (bd 0 2 2) (lam x3 x4 x5 x6) (fun l => x7 (ix2 0 l)) (kernelRun0_B.sl.HO8_8 arg4 arg5 arg6 arg7 arg8 arg9 arg10 arg11 x0 x1 x2 x3 x4 x5 x6 x7) 8 := by
  rw [outB_eq, ← lamV_apply arg7 arg8 arg9 arg10, ← gain_fun arg11]
  exact outL_canon ((B64 arg4 arg5 arg6 (b.new (Bq arg4 b.h0))).all8) (fun _ => bd_pos _ _ _ _ (by decide)) b.h1 _ _

theorem outD_eq : (kernelRun0_D.sl.HO8_8 c arg5 arg6 arg7 arg8 arg9 arg10 arg11 x1 x2 x3 x4 x5 x6 x7 xa0 xa1 xa2 xa3) = outL (kernelRun0_D.sl.HS3_32 c arg5 arg6 x1 x2 xa0 xa1 xa2 xa3) (lamV arg7 arg8 arg9 arg10 x3 x4 x5 x6) (gainV arg11 x7) := by sl_kernel_rfl
theorem outD (M : Mid w k v k0 xa0 xa1 xa2 xa3) (b : Blk w k v k0 x0 x1 x2) : OutS (qOf w) k v (bd k0 1 1) (lam x3 x4 x5 x6) (fun l => x7 (ix2 0 l)) (kernelRun0_D.sl.HO8_8 c arg5 arg6 arg7 arg8 arg9 arg10 arg11 x1 x2 x3 x4 x5 x6 x7 xa0 xa1 xa2 xa3) 8 := by
  rw [outD_eq, ← lamV_apply arg7 arg8 arg9 arg10, ← gain_fun arg11]
  exact outL_canon ((D32 c arg5 arg6 (M.old b)).all4) (fun _ => bd_pos _ _ _ _ (by decide)) b.h1 _ _

theorem outE_eq : (kernelRun0_E.sl.HO8_8 c arg5 arg6 arg7 arg8 arg9 arg10 arg11 x1 x2 x3 x4 x5 x6 x7 xa0 xa1 xa2 xa3) = outL (kernelRun0_E.sl.HS3_64 c arg5 arg6 x1 x2 xa0 xa1 xa2 xa3) (lamV arg7 arg8 arg9 arg10 x3 x4 x5 x6) (gainV arg11 x7) := by sl_kernel_rfl
theorem outE (M : Mid w k v k0 xa0 xa1 xa2 xa3) (b : Blk w k v k0 x0 x1 x2) : OutS (qOf w) k v (bd k0 2 2) (lam x3 x4 x5 x6) (fun l => x7 (ix2 0 l)) (kernelRun0_E.sl.HO8_8 c arg5 arg6 arg7 arg8 arg9 arg10 arg11 x1 x2 x3 x4 x5 x6 x7 xa0 xa1 xa2 xa3) 8 := by
  rw [outE_eq, ← lamV_apply arg7 arg8 arg9 arg10, ← gain_fun arg11]
  exact outL_canon ((E64 c arg5 arg6 (M.old b)).all8) (fun _ => bd_pos _ _ _ _ (by decide)) b.h1 _ _

end

end

end Cert.AttnIdeal.Hand

end
end
-- ==== Proof.AttnTraj.lean ====
module
public import proofs.«01_k».proof.Proof.AttnEnds
public import proofs.«01_k».proof.Proof.Gen.AttnIdeal.Flash
@[expose] public section
set_option maxRecDepth 16384
noncomputable section

/-! # The points in order: which kind each is, and what its blocks hold -/

namespace Cert.AttnIdeal.Hand
open Cert.AttnIdeal Cert.AttnIdeal.Gen Cert.AttnRow Idealize.ShloMosaic Idealize.ShloMosaic.TcCoe Idealize.SL.Sem

/-- The tiles of queries and keys, in the order they are visited. -/
def pairs : List (ℕ × ℕ) := (List.range 16).flatMap fun i => (List.range (i / 2 + 1)).map fun j => (i, j)
/-- The tile of queries of point `n`. -/
def qi (n : ℕ) : ℕ := (pairs.getD (n % 72) (0, 0)).1
/-- The tile of keys of point `n`. -/
def kj (n : ℕ) : ℕ := (pairs.getD (n % 72) (0, 0)).2

set_option maxHeartbeats 1000000 in
theorem kinds : ∀ t : Fin (cfgA 0).N, (P0_0 0 t ↔ kj t.val = 0) ∧ (P0_1 0 t ↔ kj t.val < qi t.val / 2) ∧ (P0_2 0 t ↔ (kj t.val = qi t.val / 2 ∧ qi t.val % 2 = 0)) := by
  decide +kernel

theorem idx0 : ∀ t : Fin (cfgA 0).N, ((cfgA 0).win 0).index t (0 : Fin 3) = 2 ∧ ((cfgA 0).win 0).index t (1 : Fin 3) = t.val / 72 * 16 + qi t.val ∧ ((cfgA 0).win 0).index t (2 : Fin 3) = 0 := by decide +kernel
theorem idx1 : ∀ t : Fin (cfgA 0).N, ((cfgA 0).win 1).index t (0 : Fin 3) = 3 ∧ ((cfgA 0).win 1).index t (1 : Fin 3) = t.val / 72 * 8 + kj t.val ∧ ((cfgA 0).win 1).index t (2 : Fin 3) = 0 := by decide +kernel
theorem idx2 : ∀ t : Fin (cfgA 0).N, ((cfgA 0).win 2).index t (0 : Fin 3) = 4 ∧ ((cfgA 0).win 2).index t (1 : Fin 3) = t.val / 72 * 8 + kj t.val ∧ ((cfgA 0).win 2).index t (2 : Fin 3) = 0 := by decide +kernel
theorem idxs : ∀ t : Fin (cfgA 0).N, (∀ a : Fin 2, ((cfgA 0).win 3).index t a = 0) ∧ (∀ a : Fin 2, ((cfgA 0).win 4).index t a = 0) ∧ (∀ a : Fin 2, ((cfgA 0).win 5).index t a = 0) ∧ (∀ a : Fin 2, ((cfgA 0).win 6).index t a = 0) ∧ (∀ a : Fin 2, ((cfgA 0).win 7).index t a = 0) := by decide +kernel
theorem idx8 : ∀ t : Fin (cfgA 0).N, ((cfgA 0).win 8).index t (0 : Fin 2) = t.val / 72 * 16 + qi t.val ∧ ((cfgA 0).win 8).index t (1 : Fin 2) = 0 := by decide +kernel
theorem N_eq : (cfgA 0).N = 144 := by decide +kernel
/-- The tiles are within the arrays, and a tile of keys after the first follows the one before it. -/
theorem tiles : ∀ n : Fin 144, qi n.val < 16 ∧ kj n.val ≤ qi n.val / 2 ∧ (kj n.val ≠ 0 → n.val ≠ 0 ∧ (n.val - 1) / 72 = n.val / 72 ∧ qi (n.val - 1) = qi n.val ∧ kj (n.val - 1) + 1 = kj n.val) := by decide +kernel
/-- Every tile of rows has a point on the diagonal. -/
theorem diag : ∀ a : Fin 32, ∃ n : Fin 144, n.val / 72 * 16 + qi n.val = a.val ∧ kj n.val = qi n.val / 2 := by decide +kernel

/-! ## The arguments, as real numbers -/

/-- The queries of a tile of rows. -/
def wR (x : S40x16384x128.Idx → EReal) (b q : ℕ) (h : Fin 8) (r : Fin 512) (l : Fin 128) : ℝ :=
  (x (ix3 (Fin.ofNat 40 (16 + h.val)) (Fin.ofNat 16384 (b * 8192 + q * 512 + r.val)) l)).toReal
/-- The keys of a sequence. -/
def kR (x : S40x16384x128.Idx → EReal) (b : ℕ) (h : Fin 8) (κ : ℕ) (l : Fin 128) : ℝ :=
  (x (ix3 (Fin.ofNat 40 (24 + h.val)) (Fin.ofNat 16384 (b * 8192 + κ)) l)).toReal
/-- The values of a sequence, with ones beside them. -/
def vR (x : S40x16384x128.Idx → EReal) (b : ℕ) (h : Fin 8) (κ : ℕ) (i : Fin 256) : ℝ :=
  if i.val < 128 then (x (ix3 (Fin.ofNat 40 (32 + h.val)) (Fin.ofNat 16384 (b * 8192 + κ)) (Fin.ofNat 128 i.val))).toReal else 1

/-- The groups of columns the call reads are finite. -/
structure Fine (x2 x3 x4 : S40x16384x128.Idx → EReal) : Prop where
  q : ∀ (h : Fin 8) (n : Fin 16384) (l : Fin 128), x2 (ix3 (Fin.ofNat 40 (16 + h.val)) n l) ≠ ⊤ ∧ x2 (ix3 (Fin.ofNat 40 (16 + h.val)) n l) ≠ ⊥
  k : ∀ (h : Fin 8) (n : Fin 16384) (l : Fin 128), x3 (ix3 (Fin.ofNat 40 (24 + h.val)) n l) ≠ ⊤ ∧ x3 (ix3 (Fin.ofNat 40 (24 + h.val)) n l) ≠ ⊥
  v : ∀ (h : Fin 8) (n : Fin 16384) (l : Fin 128), x4 (ix3 (Fin.ofNat 40 (32 + h.val)) n l) ≠ ⊤ ∧ x4 (ix3 (Fin.ofNat 40 (32 + h.val)) n l) ≠ ⊥

variable (m : (ℓ : Loc nD τ sig) → Buf (Elt Ideal) ℓ) (ρ : Dev nD → PrngReg) (c : Dev nD)

theorem blk0 (t : Fin (cfgA 0).N) (h : Fin 8) (r : Fin 512) (l : Fin 128) :
    iblk 0 m ρ c 0 t (ix3 h r l) = m ((c : Thread nD τ).loc main_arg2) (ix3 (Fin.ofNat 40 (16 + h.val)) (Fin.ofNat 16384 (t.val / 72 * 8192 + qi t.val * 512 + r.val)) l) := by
  unfold iblk
  rw [View.read_apply]
  show m ((c : Thread nD τ).loc main_arg2) _ = _
  congr 1
  funext a
  apply Fin.ext
  have hi := idx0 t
  have hT := tiles (Fin.cast N_eq t)
  have hn : t.val < 144 := lt_of_lt_of_eq t.isLt N_eq
  have hq : qi t.val < 16 := hT.1
  have hh := h.isLt
  have hr := r.isLt
  match a with
  | ⟨0, _⟩ => show ((cfgA 0).win 0).index t (0 : Fin 3) * 8 + 1 * h.val = (16 + h.val) % 40; rw [hi.1]; omega
  | ⟨1, _⟩ => show ((cfgA 0).win 0).index t (1 : Fin 3) * 512 + 1 * r.val = (t.val / 72 * 8192 + qi t.val * 512 + r.val) % 16384; rw [hi.2.1]; omega
  | ⟨2, _⟩ => show ((cfgA 0).win 0).index t (2 : Fin 3) * 128 + 1 * l.val = l.val; rw [hi.2.2]; omega

theorem blk1 (t : Fin (cfgA 0).N) (h : Fin 8) (j : Fin 1024) (l : Fin 128) :
    iblk 0 m ρ c 1 t (ix3 h j l) = m ((c : Thread nD τ).loc main_arg3) (ix3 (Fin.ofNat 40 (24 + h.val)) (Fin.ofNat 16384 (t.val / 72 * 8192 + (1024 * kj t.val + j.val))) l) := by
  unfold iblk
  rw [View.read_apply]
  show m ((c : Thread nD τ).loc main_arg3) _ = _
  congr 1
  funext a
  apply Fin.ext
  have hi := idx1 t
  have hT := tiles (Fin.cast N_eq t)
  have hn : t.val < 144 := lt_of_lt_of_eq t.isLt N_eq
  have hq : qi t.val < 16 := hT.1
  have hk : kj t.val ≤ qi t.val / 2 := hT.2.1
  have hh := h.isLt
  have hr := j.isLt
  match a with
  | ⟨0, _⟩ => show ((cfgA 0).win 1).index t (0 : Fin 3) * 8 + 1 * h.val = (24 + h.val) % 40; rw [hi.1]; omega
  | ⟨1, _⟩ => show ((cfgA 0).win 1).index t (1 : Fin 3) * 1024 + 1 * j.val = (t.val / 72 * 8192 + (1024 * kj t.val + j.val)) % 16384; rw [hi.2.1]; omega
  | ⟨2, _⟩ => show ((cfgA 0).win 1).index t (2 : Fin 3) * 128 + 1 * l.val = l.val; rw [hi.2.2]; omega

theorem blk2 (t : Fin (cfgA 0).N) (h : Fin 8) (j : Fin 1024) (l : Fin 128) :
    iblk 0 m ρ c 2 t (ix3 h j l) = m ((c : Thread nD τ).loc main_arg4) (ix3 (Fin.ofNat 40 (32 + h.val)) (Fin.ofNat 16384 (t.val / 72 * 8192 + (1024 * kj t.val + j.val))) l) := by
  unfold iblk
  rw [View.read_apply]
  show m ((c : Thread nD τ).loc main_arg4) _ = _
  congr 1
  funext a
  apply Fin.ext
  have hi := idx2 t
  have hT := tiles (Fin.cast N_eq t)
  have hn : t.val < 144 := lt_of_lt_of_eq t.isLt N_eq
  have hq : qi t.val < 16 := hT.1
  have hk : kj t.val ≤ qi t.val / 2 := hT.2.1
  have hh := h.isLt
  have hr := j.isLt
  match a with
  | ⟨0, _⟩ => show ((cfgA 0).win 2).index t (0 : Fin 3) * 8 + 1 * h.val = (32 + h.val) % 40; rw [hi.1]; omega
  | ⟨1, _⟩ => show ((cfgA 0).win 2).index t (1 : Fin 3) * 1024 + 1 * j.val = (t.val / 72 * 8192 + (1024 * kj t.val + j.val)) % 16384; rw [hi.2.1]; omega
  | ⟨2, _⟩ => show ((cfgA 0).win 2).index t (2 : Fin 3) * 128 + 1 * l.val = l.val; rw [hi.2.2]; omega

theorem blk3 (t : Fin (cfgA 0).N) (x : S1x64.Idx) : iblk 0 m ρ c 3 t x = m ((c : Thread nD τ).loc main_arg5) x := by
  unfold iblk
  rw [View.read_apply]
  show m ((c : Thread nD τ).loc main_arg5) _ = _
  congr 1
  funext a
  apply Fin.ext
  have hi := (idxs t).1
  match a with
  | ⟨0, _⟩ => show ((cfgA 0).win 3).index t (0 : Fin 2) * 1 + 1 * (x 0).val = (x 0).val; rw [hi]; omega
  | ⟨1, _⟩ => show ((cfgA 0).win 3).index t (1 : Fin 2) * 64 + 1 * (x 1).val = (x 1).val; rw [hi]; omega

theorem blk4 (t : Fin (cfgA 0).N) (x : S1x64.Idx) : iblk 0 m ρ c 4 t x = m ((c : Thread nD τ).loc main_arg6) x := by
  unfold iblk
  rw [View.read_apply]
  show m ((c : Thread nD τ).loc main_arg6) _ = _
  congr 1
  funext a
  apply Fin.ext
  have hi := (idxs t).2.1
  match a with
  | ⟨0, _⟩ => show ((cfgA 0).win 4).index t (0 : Fin 2) * 1 + 1 * (x 0).val = (x 0).val; rw [hi]; omega
  | ⟨1, _⟩ => show ((cfgA 0).win 4).index t (1 : Fin 2) * 64 + 1 * (x 1).val = (x 1).val; rw [hi]; omega

theorem blk5 (t : Fin (cfgA 0).N) (x : S1x64.Idx) : iblk 0 m ρ c 5 t x = m ((c : Thread nD τ).loc main_arg7) x := by
  unfold iblk
  rw [View.read_apply]
  show m ((c : Thread nD τ).loc main_arg7) _ = _
  congr 1
  funext a
  apply Fin.ext
  have hi := (idxs t).2.2.1
  match a with
  | ⟨0, _⟩ => show ((cfgA 0).win 5).index t (0 : Fin 2) * 1 + 1 * (x 0).val = (x 0).val; rw [hi]; omega
  | ⟨1, _⟩ => show ((cfgA 0).win 5).index t (1 : Fin 2) * 64 + 1 * (x 1).val = (x 1).val; rw [hi]; omega

theorem blk6 (t : Fin (cfgA 0).N) (x : S1x64.Idx) : iblk 0 m ρ c 6 t x = m ((c : Thread nD τ).loc main_arg8) x := by
  unfold iblk
  rw [View.read_apply]
  show m ((c : Thread nD τ).loc main_arg8) _ = _
  congr 1
  funext a
  apply Fin.ext
  have hi := (idxs t).2.2.2.1
  match a with
  | ⟨0, _⟩ => show ((cfgA 0).win 6).index t (0 : Fin 2) * 1 + 1 * (x 0).val = (x 0).val; rw [hi]; omega
  | ⟨1, _⟩ => show ((cfgA 0).win 6).index t (1 : Fin 2) * 64 + 1 * (x 1).val = (x 1).val; rw [hi]; omega

theorem blk7 (t : Fin (cfgA 0).N) (x : S1x128.Idx) : iblk 0 m ρ c 7 t x = m ((c : Thread nD τ).loc main_arg9) x := by
  unfold iblk
  rw [View.read_apply]
  show m ((c : Thread nD τ).loc main_arg9) _ = _
  congr 1
  funext a
  apply Fin.ext
  have hi := (idxs t).2.2.2.2
  match a with
  | ⟨0, _⟩ => show ((cfgA 0).win 7).index t (0 : Fin 2) * 1 + 1 * (x 0).val = (x 0).val; rw [hi]; omega
  | ⟨1, _⟩ => show ((cfgA 0).win 7).index t (1 : Fin 2) * 128 + 1 * (x 1).val = (x 1).val; rw [hi]; omega

theorem Fine.blk (F : Fine (m ((c : Thread nD τ).loc main_arg2)) (m ((c : Thread nD τ).loc main_arg3)) (m ((c : Thread nD τ).loc main_arg4))) (t : Fin (cfgA 0).N) :
    Blk (wR (m ((c : Thread nD τ).loc main_arg2)) (t.val / 72) (qi t.val)) (kR (m ((c : Thread nD τ).loc main_arg3)) (t.val / 72)) (vR (m ((c : Thread nD τ).loc main_arg4)) (t.val / 72))
      (1024 * kj t.val) (iblk 0 m ρ c 0 t) (iblk 0 m ρ c 1 t) (iblk 0 m ρ c 2 t) where
  h0 h r l := (blk0 m ρ c t h r l).trans (EReal.coe_toReal (F.q h _ l).1 (F.q h _ l).2).symm
  hk h j l := (blk1 m ρ c t h j l).trans (EReal.coe_toReal (F.k h _ l).1 (F.k h _ l).2).symm
  hv h j l := by
    refine (blk2 m ρ c t h j l).trans ((EReal.coe_toReal (F.v h _ l).1 (F.v h _ l).2).symm.trans (congrArg _ ?_))
    have hl := l.isLt
    unfold vR
    rw [if_pos (show l.val < 128 from hl)]
    congr 3
    exact Fin.ext (Nat.mod_eq_of_lt hl).symm
  h1 h κ i hi := if_neg (by omega)

end Cert.AttnIdeal.Hand
end
-- ==== Proof.AttnRun.lean ====
module
public import proofs.«01_k».proof.Proof.AttnTraj
@[expose] public section
set_option maxRecDepth 16384
noncomputable section

/-! # The scratch buffers and the output along the points -/

namespace Cert.AttnIdeal.Hand
open Cert.AttnIdeal Cert.AttnIdeal.Gen Cert.AttnRow Idealize.ShloMosaic Idealize.ShloMosaic.TcCoe Idealize.SL.Sem

variable (m : (ℓ : Loc nD τ sig) → Buf (Elt Ideal) ℓ) (ρ : Dev nD → PrngReg) (c : Dev nD)

/-- The queries of point `n`'s tile. -/
abbrev wAt (n : ℕ) := wR (m ((c : Thread nD τ).loc main_arg2)) (n / 72) (qi n)
/-- The keys of point `n`'s sequence. -/
abbrev kAt (n : ℕ) := kR (m ((c : Thread nD τ).loc main_arg3)) (n / 72)
/-- The values of point `n`'s sequence. -/
abbrev vAt (n : ℕ) := vR (m ((c : Thread nD τ).loc main_arg4)) (n / 72)
/-- The arguments are finite where they are read. -/
abbrev FineAt := Fine (m ((c : Thread nD τ).loc main_arg2)) (m ((c : Thread nD τ).loc main_arg3)) (m ((c : Thread nD τ).loc main_arg4))

/-- A state whose scratch buffers hold the softmax over the first `B` keys for point `n`'s tile. -/
abbrev MidAt (n B : ℕ) (s : (S512x1024.Idx → Elt Ideal .bf16) × Buf (Elt Ideal) ((c : Thread nD τ).loc cc0_scratch0) × Buf (Elt Ideal) ((c : Thread nD τ).loc cc0_scratch1) × Buf (Elt Ideal) ((c : Thread nD τ).loc cc0_scratch2) × Buf (Elt Ideal) ((c : Thread nD τ).loc cc0_scratch3)) : Prop :=
  Mid (wAt m c n) (kAt m c n) (vAt m c n) B s.2.1 s.2.2.1 s.2.2.2.1 s.2.2.2.2

theorem runC (F : FineAt m c) (t : Fin (cfgA 0).N) (h0 : kj t.val = 0) (h1 : kj t.val < qi t.val / 2) (prev) :
    MidAt m c t.val (1024 * (kj t.val + 1)) (step0 0 m ρ c t prev) := by
  have b := F.blk m ρ c t
  rw [h0] at b
  have e : 1024 * (kj t.val + 1) = 1024 := by omega
  rw [e, step0_C 0 m ρ c t prev ((kinds t).1.2 h0) ((kinds t).2.1.2 h1)]
  refine cast ?_ (endC (ms0_0 0 t) (ms0_1 0 t) (ms0_2 0 t) b)
  sl_kernel_rfl

theorem runF (F : FineAt m c) (t : Fin (cfgA 0).N) (h0 : kj t.val ≠ 0) (h1 : kj t.val < qi t.val / 2) (prev)
    (M : MidAt m c t.val (1024 * kj t.val) prev) : MidAt m c t.val (1024 * (kj t.val + 1)) (step0 0 m ρ c t prev) := by
  have b := F.blk m ρ c t
  rw [step0_F 0 m ρ c t prev (fun h => h0 ((kinds t).1.1 h)) ((kinds t).2.1.2 h1)]
  refine cast ?_ (endF c (ms0_1 0 t) (ms0_2 0 t) M b)
  sl_kernel_rfl

theorem prev_mid (t : Fin (cfgA 0).N) (h0 : kj t.val ≠ 0)
    (ih : ∀ t' : Fin (cfgA 0).N, t'.val + 1 = t.val → kj t'.val < qi t'.val / 2 → MidAt m c t'.val (1024 * (kj t'.val + 1)) (traj0 0 m ρ c t'.val t'.isLt)) :
    MidAt m c t.val (1024 * kj t.val) (prev0 0 m ρ c t) := by
  obtain ⟨n, hn⟩ := t
  have hT := tiles (Fin.cast N_eq ⟨n, hn⟩)
  have hk : kj n ≤ qi n / 2 := hT.2.1
  obtain ⟨p, e72, eq, ek⟩ : n ≠ 0 ∧ (n - 1) / 72 = n / 72 ∧ qi (n - 1) = qi n ∧ kj (n - 1) + 1 = kj n := hT.2.2 h0
  have i := ih ⟨n - 1, by omega⟩ (Nat.sub_add_cancel (Nat.pos_of_ne_zero p)) (show kj (n - 1) < qi (n - 1) / 2 by omega)
  unfold prev0
  rw [dif_neg p]
  simp only [MidAt, wAt, kAt, vAt, e72, eq, ek] at i ⊢
  exact i

theorem traj_mid (F : FineAt m c) (t : Fin (cfgA 0).N) (h1 : kj t.val < qi t.val / 2) :
    MidAt m c t.val (1024 * (kj t.val + 1)) (traj0 0 m ρ c t.val t.isLt) := by
  obtain ⟨n, hn⟩ := t
  induction n with
  | zero =>
    have h2 : ¬ kj 0 < qi 0 / 2 := by decide +kernel
    exact absurd h1 h2
  | succ n ih =>
    rw [traj0_eq 0 m ρ c ⟨n + 1, hn⟩]
    by_cases h0 : kj (n + 1) = 0
    · exact runC m ρ c F ⟨n + 1, hn⟩ h0 h1 _
    · exact runF m ρ c F ⟨n + 1, hn⟩ h0 h1 _ (prev_mid m ρ c ⟨n + 1, hn⟩ h0 fun t' e h' => by
        obtain ⟨n', hn'⟩ := t'
        obtain rfl : n' = n := Nat.succ.inj e
        exact ih hn' h')

/-- What a row of the output tile of a point on the diagonal holds. -/
abbrev OutAt (n : ℕ) (f : S512x1024.Idx → EReal) : Prop := ∀ (r : Fin 512) (j : Fin 1024) (hj : j.val / 128 < 8), f (ix2 r j) =
  target (q := qOf (wAt m c n)) (k := kAt m c n) (v := vAt m c n) (fun ρ => qi n * 512 + ρ % 512 + 1)
    (lam (m ((c : Thread nD τ).loc main_arg5)) (m ((c : Thread nD τ).loc main_arg6)) (m ((c : Thread nD τ).loc main_arg7)) (m ((c : Thread nD τ).loc main_arg8)))
    (fun l => m ((c : Thread nD τ).loc main_arg9) (ix2 0 l)) ⟨j.val / 128, hj⟩ r ⟨j.val % 128, Nat.mod_lt _ (by decide)⟩

theorem runA (F : FineAt m c) (t : Fin (cfgA 0).N) (h0 : kj t.val = 0) (hd : kj t.val = qi t.val / 2) (hp : qi t.val % 2 = 0) (prev) :
    OutAt m c t.val (step0 0 m ρ c t prev).1 := by
  have b := F.blk m ρ c t
  rw [h0] at b
  rw [step0_A 0 m ρ c t prev ((kinds t).1.2 h0) (fun h => absurd ((kinds t).2.1.1 h) (by omega)) ((kinds t).2.2.2 ⟨hd, hp⟩)]
  intro r j hj
  have e3 := funext (blk3 m ρ c t)
  have e4 := funext (blk4 m ρ c t)
  have e5 := funext (blk5 m ρ c t)
  have e6 := funext (blk6 m ρ c t)
  have e7 := funext (blk7 m ρ c t)
  have o := outA (ms0_0 0 t) (ms0_1 0 t) (ms0_2 0 t) (ms0_3 0 t) (ms0_4 0 t) (ms0_5 0 t) (ms0_6 0 t) (ms0_7 0 t) (iblk 0 m ρ c 3 t) (iblk 0 m ρ c 4 t) (iblk 0 m ρ c 5 t) (iblk 0 m ρ c 6 t) (iblk 0 m ρ c 7 t) b r j hj hj
  have eb : bd 0 1 1 = fun ρ : ℕ => qi t.val * 512 + ρ % 512 + 1 := funext fun ρ => by
    have hB := h0
    unfold bd
    rw [if_pos rfl]
    omega
  refine Eq.trans ?_ (o.trans ?_)
  · exact View.read_writes_junk_apply_eq_canon (Val := Elt Ideal) VO0_8 _ _
  · rw [e3, e4, e5, e6, e7, eb]

theorem runB (F : FineAt m c) (t : Fin (cfgA 0).N) (h0 : kj t.val = 0) (hd : kj t.val = qi t.val / 2) (hp : qi t.val % 2 ≠ 0) (prev) :
    OutAt m c t.val (step0 0 m ρ c t prev).1 := by
  have b := F.blk m ρ c t
  rw [h0] at b
  rw [step0_B 0 m ρ c t prev ((kinds t).1.2 h0) (fun h => absurd ((kinds t).2.1.1 h) (by omega)) (fun h => hp ((kinds t).2.2.1 h).2)]
  intro r j hj
  have e3 := funext (blk3 m ρ c t)
  have e4 := funext (blk4 m ρ c t)
  have e5 := funext (blk5 m ρ c t)
  have e6 := funext (blk6 m ρ c t)
  have e7 := funext (blk7 m ρ c t)
  have o := outB (ms0_0 0 t) (ms0_1 0 t) (ms0_2 0 t) (ms0_3 0 t) (ms0_4 0 t) (ms0_5 0 t) (ms0_6 0 t) (ms0_7 0 t) (iblk 0 m ρ c 3 t) (iblk 0 m ρ c 4 t) (iblk 0 m ρ c 5 t) (iblk 0 m ρ c 6 t) (iblk 0 m ρ c 7 t) b r j hj hj
  have eb : bd 0 2 2 = fun ρ : ℕ => qi t.val * 512 + ρ % 512 + 1 := funext fun ρ => by
    have hB := h0
    unfold bd
    rw [if_pos rfl]
    omega
  refine Eq.trans ?_ (o.trans ?_)
  · exact View.read_writes_junk_apply_eq_canon (Val := Elt Ideal) VO0_8 _ _
  · rw [e3, e4, e5, e6, e7, eb]

theorem runD (F : FineAt m c) (t : Fin (cfgA 0).N) (h0 : kj t.val ≠ 0) (hd : kj t.val = qi t.val / 2) (hp : qi t.val % 2 = 0) (prev)
    (M : MidAt m c t.val (1024 * kj t.val) prev) :
    OutAt m c t.val (step0 0 m ρ c t prev).1 := by
  have b := F.blk m ρ c t
  rw [step0_D 0 m ρ c t prev (fun h => h0 ((kinds t).1.1 h)) (fun h => absurd ((kinds t).2.1.1 h) (by omega)) ((kinds t).2.2.2 ⟨hd, hp⟩)]
  intro r j hj
  have e3 := funext (blk3 m ρ c t)
  have e4 := funext (blk4 m ρ c t)
  have e5 := funext (blk5 m ρ c t)
  have e6 := funext (blk6 m ρ c t)
  have e7 := funext (blk7 m ρ c t)
  have o := outD c (ms0_1 0 t) (ms0_2 0 t) (ms0_3 0 t) (ms0_4 0 t) (ms0_5 0 t) (ms0_6 0 t) (ms0_7 0 t) (iblk 0 m ρ c 3 t) (iblk 0 m ρ c 4 t) (iblk 0 m ρ c 5 t) (iblk 0 m ρ c 6 t) (iblk 0 m ρ c 7 t) M b r j hj hj
  have eb : bd (1024 * kj t.val) 1 1 = fun ρ : ℕ => qi t.val * 512 + ρ % 512 + 1 := funext fun ρ => by
    have hB := h0
    unfold bd
    rw [if_pos rfl]
    omega
  refine Eq.trans ?_ (o.trans ?_)
  · exact View.read_writes_junk_apply_eq_canon (Val := Elt Ideal) VO0_8 _ _
  · rw [e3, e4, e5, e6, e7, eb]

theorem runE (F : FineAt m c) (t : Fin (cfgA 0).N) (h0 : kj t.val ≠ 0) (hd : kj t.val = qi t.val / 2) (hp : qi t.val % 2 ≠ 0) (prev)
    (M : MidAt m c t.val (1024 * kj t.val) prev) :
    OutAt m c t.val (step0 0 m ρ c t prev).1 := by
  have b := F.blk m ρ c t
  rw [step0_E 0 m ρ c t prev (fun h => h0 ((kinds t).1.1 h)) (fun h => absurd ((kinds t).2.1.1 h) (by omega)) (fun h => hp ((kinds t).2.2.1 h).2)]
  intro r j hj
  have e3 := funext (blk3 m ρ c t)
  have e4 := funext (blk4 m ρ c t)
  have e5 := funext (blk5 m ρ c t)
  have e6 := funext (blk6 m ρ c t)
  have e7 := funext (blk7 m ρ c t)
  have o := outE c (ms0_1 0 t) (ms0_2 0 t) (ms0_3 0 t) (ms0_4 0 t) (ms0_5 0 t) (ms0_6 0 t) (ms0_7 0 t) (iblk 0 m ρ c 3 t) (iblk 0 m ρ c 4 t) (iblk 0 m ρ c 5 t) (iblk 0 m ρ c 6 t) (iblk 0 m ρ c 7 t) M b r j hj hj
  have eb : bd (1024 * kj t.val) 2 2 = fun ρ : ℕ => qi t.val * 512 + ρ % 512 + 1 := funext fun ρ => by
    have hB := h0
    unfold bd
    rw [if_pos rfl]
    omega
  refine Eq.trans ?_ (o.trans ?_)
  · exact View.read_writes_junk_apply_eq_canon (Val := Elt Ideal) VO0_8 _ _
  · rw [e3, e4, e5, e6, e7, eb]

/-- The output tile of a point on the diagonal. -/
theorem traj_out (F : FineAt m c) (t : Fin (cfgA 0).N) (hd : kj t.val = qi t.val / 2) : OutAt m c t.val (traj0 0 m ρ c t.val t.isLt).1 := by
  rw [traj0_eq]
  by_cases h0 : kj t.val = 0
  · by_cases hp : qi t.val % 2 = 0
    · exact runA m ρ c F t h0 hd hp _
    · exact runB m ρ c F t h0 hd hp _
  · have M := prev_mid m ρ c t h0 fun t' _ h => traj_mid m ρ c F t' h
    by_cases hp : qi t.val % 2 = 0
    · exact runD m ρ c F t h0 hd hp _ M
    · exact runE m ρ c F t h0 hd hp _ M

end Cert.AttnIdeal.Hand
end
-- ==== Proof.AttnValue.lean ====
module
public import proofs.«01_k».proof.Proof.AttnRun
@[expose] public section
set_option maxRecDepth 16384
noncomputable section

/-! # The result array of the attention call -/

namespace Cert.AttnIdeal.Hand
open Cert.AttnIdeal Cert.AttnIdeal.Gen Cert.AttnRow Idealize.ShloMosaic Idealize.ShloMosaic.TcCoe Idealize.SL.Sem

/-- The result, row by row, from the arguments: row `n` of sequence `n / 8192` attends to the keys up to its own. -/
def G (x2 x3 x4 : S40x16384x128.Idx → EReal) (x5 x6 x7 x8 : S1x64.Idx → EReal) (x9 : S1x128.Idx → EReal) : S16384x1024.Idx → EReal := fun y =>
  target (q := qOf (wR x2 ((y 0).val / 8192) ((y 0).val % 8192 / 512))) (k := kR x3 ((y 0).val / 8192)) (v := vR x4 ((y 0).val / 8192))
    (fun ρ => (y 0).val % 8192 / 512 * 512 + ρ % 512 + 1) (lam x5 x6 x7 x8) (fun l => x9 (ix2 0 l))
    ⟨(y 1).val / 128, by have h : (y 1).val < 1024 := (y 1).isLt; omega⟩ ⟨(y 0).val % 512, Nat.mod_lt _ (by decide)⟩ ⟨(y 1).val % 128, Nat.mod_lt _ (by decide)⟩

theorem flush_of_diag (t : Fin (cfgA 0).N) (hd : kj t.val = qi t.val / 2) : ((cfgA 0).win (8 : Fin 9)).flush t = true := by
  have n1 : ¬P0_1 0 t := fun h => absurd ((kinds t).2.1.1 h) (by omega)
  by_cases q0 : P0_0 0 t
  · by_cases q2 : P0_2 0 t
    · exact (sched0_A 0 t q0 n1 q2).2.1
    · exact (sched0_B 0 t q0 n1 q2).2.1
  · by_cases q2 : P0_2 0 t
    · exact (sched0_D 0 t q0 n1 q2).2.1
    · exact (sched0_E 0 t q0 n1 q2).2.1

theorem diag_of_flush (t : Fin (cfgA 0).N) (hf : ((cfgA 0).win (8 : Fin 9)).flush t = true) : kj t.val = qi t.val / 2 := by
  have hk : kj t.val ≤ qi t.val / 2 := (tiles (Fin.cast N_eq t)).2.1
  by_contra hne
  have q1 : P0_1 0 t := (kinds t).2.1.2 (by omega)
  have : ((cfgA 0).win (8 : Fin 9)).flush t = false := by
    by_cases q0 : P0_0 0 t
    · exact (sched0_C 0 t q0 q1).2.1
    · exact (sched0_F 0 t q0 q1).2.1
  exact absurd (hf.symm.trans this) (by decide)

variable (m : (ℓ : Loc nD τ sig) → Buf (Elt Ideal) ℓ) (ρ : Dev nD → PrngReg) (c : Dev nD)

/-- The result from the arguments in memory. -/
abbrev GM : S16384x1024.Idx → EReal :=
  G (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))

theorem flushed_eq (F : FineAt m c) (t : Fin (cfgA 0).N) (hf : ((cfgA 0).win (8 : Fin 9)).flush t = true) :
    (dats 0 m ρ 0 c).flushed (8 : Fin 9) t = (((cfgA 0).win (8 : Fin 9)).blk t).view.read (Elt Ideal) (GM m c) := by
  have o := traj_out m ρ c F t (diag_of_flush t hf)
  show ((cfgA 0).win (8 : Fin 9)).cut ((cfgA 0).grid.coords t) ((dats 0 m ρ 0 c).after (8 : Fin 9) t) = _
  rw [after0_8]
  revert o
  generalize (traj0 0 m ρ c t.val t.isLt).1 = f
  intro o
  funext y
  obtain ⟨r, j, rfl⟩ : ∃ (r : Fin 512) (j : Fin 1024), y = ix2 r j := ⟨y 0, y 1, eq_ix2 y⟩
  have hn : t.val < 144 := lt_of_lt_of_eq t.isLt N_eq
  have hq : qi t.val < 16 := (tiles (Fin.cast N_eq t)).1
  have hr := r.isLt
  have hj := j.isLt
  refine Eq.trans (b := f (ix2 r j)) ?_ ((o r j (by omega)).trans ?_)
  · show f _ = _
    congr 1
  · have e : (((cfgA 0).win (8 : Fin 9)).blk t).view.emb (ix2 r j) = (ix2 ⟨(t.val / 72 * 16 + qi t.val) * 512 + r.val, by omega⟩ j : S16384x1024.Idx) := by
      funext a
      apply Fin.ext
      have hi := idx8 t
      match a with
      | ⟨0, _⟩ => show ((cfgA 0).win 8).index t (0 : Fin 2) * 512 + 1 * r.val = (t.val / 72 * 16 + qi t.val) * 512 + r.val; rw [hi.1]; omega
      | ⟨1, _⟩ => show ((cfgA 0).win 8).index t (1 : Fin 2) * 1024 + 1 * j.val = j.val; rw [hi.2]; omega
    have e1 : ((t.val / 72 * 16 + qi t.val) * 512 + r.val) / 8192 = t.val / 72 := by omega
    have e2 : ((t.val / 72 * 16 + qi t.val) * 512 + r.val) % 8192 / 512 = qi t.val := by omega
    have e3 : ((t.val / 72 * 16 + qi t.val) * 512 + r.val) % 512 = r.val := by omega
    show _ = GM m c ((((cfgA 0).win (8 : Fin 9)).blk t).view.emb (ix2 r j))
    rw [e]
    unfold GM G
    simp only [ix2, e1, e2, e3]

theorem mem_blk (t : Fin (cfgA 0).N) (i : S16384x1024.Idx) :
    i ∈ (((cfgA 0).win (8 : Fin 9)).blk t).view.set ↔ ∀ a : Fin 2, ((cfgA 0).win 8).index t a * S512x1024.size a ≤ (i a).val ∧ (i a).val < ((cfgA 0).win 8).index t a * S512x1024.size a + S512x1024.size a := by
  show i ∈ ((View.whole main_v0).slice (((cfgA 0).win (8 : Fin 9)).rect t)).set ↔ _
  rw [View.set_slice_whole, Rect.mem_set_unit]
  exact Iff.rfl

/-- The blocks written back tile the result, so the array holds the rows. -/
theorem final (F : FineAt m c) : (dats 0 m ρ 0 c).arrAt (8 : Fin 9) (cfgA 0).N = GM m c :=
  (dats 0 m ρ 0 c).arrAt_eq_of_cover (8 : Fin 9) _ (fun t hf => flushed_eq m ρ c F t hf) fun i => by
    have h0 : (i 0).val < 16384 := (i 0).isLt
    have h1 : (i 1).val < 1024 := (i 1).isLt
    obtain ⟨n, hn, hd⟩ := diag ⟨(i 0).val / 512, by omega⟩
    have hn' : n.val / 72 * 16 + qi n.val = (i 0).val / 512 := hn
    refine ⟨Fin.cast N_eq.symm n, flush_of_diag (Fin.cast N_eq.symm n) hd, ?_⟩
    rw [mem_blk]
    have hi := idx8 (Fin.cast N_eq.symm n)
    have hi0 : ((cfgA 0).win 8).index (Fin.cast N_eq.symm n) (0 : Fin 2) = n.val / 72 * 16 + qi n.val := hi.1
    intro a
    match a with
    | ⟨0, _⟩ => show ((cfgA 0).win 8).index (Fin.cast N_eq.symm n) (0 : Fin 2) * 512 ≤ (i 0).val ∧ (i 0).val < ((cfgA 0).win 8).index (Fin.cast N_eq.symm n) (0 : Fin 2) * 512 + 512; rw [hi0]; omega
    | ⟨1, _⟩ => show ((cfgA 0).win 8).index (Fin.cast N_eq.symm n) (1 : Fin 2) * 1024 ≤ (i 1).val ∧ (i 1).val < ((cfgA 0).win 8).index (Fin.cast N_eq.symm n) (1 : Fin 2) * 1024 + 1024; rw [hi.2]; omega

end Cert.AttnIdeal.Hand
end
-- ==== Proof.AttnRefValue.lean ====
module
public import proofs.«01_k».proof.Proof.AttnValue
public import proofs.«01_k».proof.Proof.Gen.AttnRefIdeal.Run
public import proofs.«01_k».proof.Proof.Gen.AttnRefIdeal.Read
@[expose] public section
set_option maxRecDepth 16384
noncomputable section

/-! # The attention reference, by rows -/

namespace Cert.AttnRefIdeal.Hand
open Cert.AttnRefIdeal Cert.AttnRefIdeal.Gen Cert.AttnRefIdeal.Read Cert.AttnRow Idealize.ShloMosaic Idealize.ShloMosaic.TcCoe Idealize.SL.Sem
open Cert.AttnIdeal.Hand (wR kR vR qOf dot att fin lam Fine eighth ofBits_bot)

theorem ofBits_zero : Ideal.ofBits FTy.f32 0#32 = 0 := by
  simp [Ideal.ofBits, Ideal.ieee]

/-- A sum over the keys that are let through. -/
theorem sum_mask (i : Fin 8192) (f : ℕ → ℝ) : ∑ κ : Fin 8192, (if κ.val ≤ i.val then f κ.val else 0) = ∑ k ∈ Finset.range (i.val + 1), f k := by
  rw [Fin.sum_univ_eq_sum_range (fun k : ℕ => if k ≤ i.val then f k else 0) 8192, ← Finset.sum_filter]
  refine Finset.sum_congr ?_ fun _ _ => rfl
  have hi := i.isLt
  ext k
  simp only [Finset.mem_filter, Finset.mem_range]
  omega

/-- A half of the columns, scaled, against the other half zero. -/
theorem sum_half (s : Fin 2) (g k : Fin 128 → ℝ) :
    (∑ d : Fin 64, g ⟨s.val * 64 + d.val, by have := s.isLt; have := d.isLt; omega⟩ * k ⟨s.val * 64 + d.val, by have := s.isLt; have := d.isLt; omega⟩) * (1 / 8)
      = ∑ l : Fin 128, (if (l.val < 64 ↔ s.val = 0) then g l * (1 / 8) else 0) * k l := by
  have e := Fin.sum_univ_add (a := 64) (b := 64) (fun l : Fin 128 => (if (l.val < 64 ↔ s.val = 0) then g l * (1 / 8) else 0) * k l)
  refine Eq.trans ?_ e.symm
  rw [Finset.sum_mul]
  match s with
  | ⟨0, _⟩ =>
    have z : ∑ d : Fin 64, (fun l : Fin 128 => (if (l.val < 64 ↔ (0 : ℕ) = 0) then g l * (1 / 8) else 0) * k l) (Fin.natAdd 64 d) = 0 :=
      Finset.sum_eq_zero fun d _ => by
        dsimp only
        rw [if_neg (by simp), zero_mul]
    refine Eq.trans ?_ (congrArg (_ + ·) z.symm)
    rw [add_zero]
    refine Finset.sum_congr rfl fun d _ => ?_
    have hd := d.isLt
    dsimp only
    rw [if_pos (by simp)]
    have e : (⟨0 * 64 + d.val, by omega⟩ : Fin 128) = Fin.castAdd 64 d := Fin.ext (by simp)
    rw [e]
    ring
  | ⟨1, _⟩ =>
    have z : ∑ d : Fin 64, (fun l : Fin 128 => (if (l.val < 64 ↔ (1 : ℕ) = 0) then g l * (1 / 8) else 0) * k l) (Fin.castAdd 64 d) = 0 :=
      Finset.sum_eq_zero fun d _ => by
        dsimp only
        rw [if_neg (by simp), zero_mul]
    refine Eq.trans ?_ (congrArg (· + _) z.symm)
    rw [zero_add]
    refine Finset.sum_congr rfl fun d _ => ?_
    have hd := d.isLt
    dsimp only
    rw [if_pos (by simp)]
    have e : (⟨1 * 64 + d.val, by omega⟩ : Fin 128) = Fin.natAdd 64 d := Fin.ext (show 1 * 64 + d.val = 64 + d.val by omega)
    rw [e]
    ring

variable (x2 x3 x4 : S40x16384x128.Idx → EReal) (x5 x6 x7 x8 : S1x64.Idx → EReal) (x9 : S1x128.Idx → EReal)

theorem ref3 (b : Fin 2) (i : Fin 8192) (h : Fin 8) (s : Fin 2) (d : Fin 64) :
    val_main_v3 (F := Ideal) x2 (ix5 b i h s d)
      = x2 (ix3 (Fin.ofNat 40 (16 + h.val)) (Fin.ofNat 16384 (b.val * 8192 + i.val)) ⟨s.val * 64 + d.val, by have := s.isLt; have := d.isLt; omega⟩) := by
  rw [val_main_v3_apply, val_main_v2_apply, val_main_v1_apply, val_main_v0_apply]
  have hb := b.isLt; have hi := i.isLt; have hh := h.isLt; have hs := s.isLt; have hd := d.isLt
  refine congrArg x2 (funext fun a => Fin.ext ?_)
  match a with
  | ⟨0, _⟩ => show 16 + ((((b.val * 8192 + i.val) * 8 + h.val) * 2 + s.val) * 64 + d.val) / 128 % 8 = (16 + h.val) % 40; omega
  | ⟨1, _⟩ => show ((((b.val * 8192 + i.val) * 8 + h.val) * 2 + s.val) * 64 + d.val) / 1024 = (b.val * 8192 + i.val) % 16384; omega
  | ⟨2, _⟩ => show ((((b.val * 8192 + i.val) * 8 + h.val) * 2 + s.val) * 64 + d.val) % 128 = s.val * 64 + d.val; omega

theorem ref7 (b : Fin 2) (i : Fin 8192) (h : Fin 8) (s : Fin 2) (d : Fin 64) :
    val_main_v7 (F := Ideal) x3 (ix5 b i h s d)
      = x3 (ix3 (Fin.ofNat 40 (24 + h.val)) (Fin.ofNat 16384 (b.val * 8192 + i.val)) ⟨s.val * 64 + d.val, by have := s.isLt; have := d.isLt; omega⟩) := by
  rw [val_main_v7_apply, val_main_v6_apply, val_main_v5_apply, val_main_v4_apply]
  have hb := b.isLt; have hi := i.isLt; have hh := h.isLt; have hs := s.isLt; have hd := d.isLt
  refine congrArg x3 (funext fun a => Fin.ext ?_)
  match a with
  | ⟨0, _⟩ => show 24 + ((((b.val * 8192 + i.val) * 8 + h.val) * 2 + s.val) * 64 + d.val) / 128 % 8 = (24 + h.val) % 40; omega
  | ⟨1, _⟩ => show ((((b.val * 8192 + i.val) * 8 + h.val) * 2 + s.val) * 64 + d.val) / 1024 = (b.val * 8192 + i.val) % 16384; omega
  | ⟨2, _⟩ => show ((((b.val * 8192 + i.val) * 8 + h.val) * 2 + s.val) * 64 + d.val) % 128 = s.val * 64 + d.val; omega

theorem ref11 (b : Fin 2) (i : Fin 8192) (h : Fin 8) (l : Fin 128) :
    val_main_v11 (F := Ideal) x4 (ix4 b i h l) = x4 (ix3 (Fin.ofNat 40 (32 + h.val)) (Fin.ofNat 16384 (b.val * 8192 + i.val)) l) := by
  rw [val_main_v11_apply, val_main_v10_apply, val_main_v9_apply, val_main_v8_apply]
  have hb := b.isLt; have hi := i.isLt; have hh := h.isLt; have hl := l.isLt
  refine congrArg x4 (funext fun a => Fin.ext ?_)
  match a with
  | ⟨0, _⟩ => show 32 + (((b.val * 8192 + i.val) * 8 + h.val) * 128 + l.val) / 128 % 8 = (32 + h.val) % 40; omega
  | ⟨1, _⟩ => show (((b.val * 8192 + i.val) * 8 + h.val) * 128 + l.val) / 1024 = (b.val * 8192 + i.val) % 16384; omega
  | ⟨2, _⟩ => show (((b.val * 8192 + i.val) * 8 + h.val) * 128 + l.val) % 128 = l.val; omega

/-- The scaled product of a row's queries with key `κ`, for half `s` of a head. -/
abbrev sc (b : Fin 2) (h : Fin 8) (s : Fin 2) (i : Fin 8192) : ℕ → ℝ :=
  dot (qOf (wR x2 b.val (i.val / 512)) h ⟨512 * s.val + i.val % 512, by have := s.isLt; omega⟩) (kR x3 b.val h)

theorem ref22 (F : Fine x2 x3 x4) (b : Fin 2) (h : Fin 8) (s : Fin 2) (i κ : Fin 8192) :
    val_main_v22 (F := Ideal) x2 x3 (ix5 b h s i κ) = ((sc x2 x3 b h s i κ.val : ℝ) : EReal) := by
  rw [val_main_v22_apply, val_main_v20_apply, val_main_v21_apply, val_main_cst_2_apply]
  have hb := b.isLt; have hi := i.isLt; have hh := h.isLt; have hs := s.isLt
  have e : ∀ d : Fin 64, val_main_v3 (F := Ideal) x2 (lidx_main_v20 (ix5 b h s i κ) d) * val_main_v7 (F := Ideal) x3 (ridx_main_v20 (ix5 b h s i κ) d)
      = ((wR x2 b.val (i.val / 512) h ⟨(512 * s.val + i.val % 512) % 512, by omega⟩ ⟨s.val * 64 + d.val, by have := d.isLt; omega⟩
          * kR x3 b.val h κ.val ⟨s.val * 64 + d.val, by have := d.isLt; omega⟩ : ℝ) : EReal) := fun d => by
    have e3 := ref3 x2 b i h s d
    have e7 := ref7 x3 b κ h s d
    have c3 := EReal.coe_toReal (F.q h (Fin.ofNat 16384 (b.val * 8192 + i.val)) ⟨s.val * 64 + d.val, by have := d.isLt; omega⟩).1 (F.q h _ _).2
    have c7 := EReal.coe_toReal (F.k h (Fin.ofNat 16384 (b.val * 8192 + κ.val)) ⟨s.val * 64 + d.val, by have := d.isLt; omega⟩).1 (F.k h _ _).2
    have en : b.val * 8192 + i.val / 512 * 512 + (512 * s.val + i.val % 512) % 512 = b.val * 8192 + i.val := by omega
    unfold wR kR
    rw [EReal.coe_mul]
    refine congrArg₂ (· * ·) (Eq.trans ?_ (e3.trans ?_)) (Eq.trans ?_ (e7.trans c7.symm))
    · refine congrArg (val_main_v3 (F := Ideal) x2) (funext fun a => ?_)
      match a with
      | ⟨0, _⟩ => rfl
      | ⟨1, _⟩ => rfl
      | ⟨2, _⟩ => rfl
      | ⟨3, _⟩ => rfl
      | ⟨4, _⟩ => rfl
    · dsimp only
      rw [en]
      exact c3.symm
    · refine congrArg (val_main_v7 (F := Ideal) x3) (funext fun a => ?_)
      match a with
      | ⟨0, _⟩ => rfl
      | ⟨1, _⟩ => rfl
      | ⟨2, _⟩ => rfl
      | ⟨3, _⟩ => rfl
      | ⟨4, _⟩ => rfl
  rw [Finset.sum_congr rfl fun d _ => e d, coe_sum]
  show _ * Ideal.ofBits FTy.f32 1040187392#32 = _
  rw [eighth, ← EReal.coe_mul]
  refine congrArg _ ((sum_half s (fun l => wR x2 b.val (i.val / 512) h ⟨(512 * s.val + i.val % 512) % 512, by omega⟩ l) (fun l => kR x3 b.val h κ.val l)).trans ?_)
  unfold sc dot qOf
  refine Finset.sum_congr rfl fun l _ => congrArg (· * _) ?_
  have ec : (l.val < 64 ↔ s.val = 0) ↔ (l.val < 64 ↔ 512 * s.val + i.val % 512 < 512) := by
    have : s.val = 0 ↔ 512 * s.val + i.val % 512 < 512 := by omega
    rw [this]
  exact if_congr ec rfl rfl

theorem ref30 (F : Fine x2 x3 x4) (b : Fin 2) (h : Fin 8) (s : Fin 2) (i κ : Fin 8192) :
    val_main_v30 (F := Ideal) x2 x3 (ix5 b h s i κ) = if κ.val ≤ i.val then ((sc x2 x3 b h s i κ.val : ℝ) : EReal) else ⊥ := by
  rw [val_main_v30_apply, val_main_call0_v1_apply, val_main_v29_apply, val_main_v27_apply, val_main_v24_apply, val_main_v23_apply, val_main_v28_apply,
    val_main_v26_apply, val_main_v25_apply, val_main_call0_v2_apply, val_main_call0_v0_apply, val_main_cst_3_apply, ref22 x2 x3 x4 F]
  have hi := i.isLt; have hκ := κ.isLt
  have hc := WordCmp.cmpi_sle_ofNat_eq_one_iff (w := 32) (a := κ.val) (b := i.val) (by omega) (by omega)
  show Scalar.select (IntOp.cmpi .sle (BitVec.ofNat 32 κ.val) (BitVec.ofNat 32 i.val)) _ (Ideal.ofBits FTy.f32 4286578688#32) = _
  rw [ofBits_bot]
  unfold Scalar.select
  exact if_congr hc rfl rfl

theorem ref33 (F : Fine x2 x3 x4) (b : Fin 2) (h : Fin 8) (s : Fin 2) (i : Fin 8192) :
    ∃ M : ℝ, val_main_v33 (F := Ideal) x2 x3 (ix4 b h s i) = (M : EReal) := by
  have hr : S2x8x2x8192x8192.Reduces [4] S2x8x2x8192 := by decide
  have e : val_main_v31 (F := Ideal) x2 x3 (ix4 b h s i) = Finset.fold max ⊥ (fun κ : Fin 8192 => val_main_v30 (F := Ideal) x2 x3 (ix5 b h s i κ)) Finset.univ := by
    unfold val_main_v31
    generalize val_main_v30 (F := Ideal) x2 x3 = y
    refine (Host.reduce_eq_fold_single (FloatOps.maximumf (F := Ideal) (φ := .f32)) y _ reducesTo_S2x8x2x8192x8192_S2x8x2x8192_d4 hr h_S_ (ix4 b h s i)).trans ?_
    show Finset.fold max (Ideal.ofBits FTy.f32 4286578688#32) _ _ = _
    rw [ofBits_bot]
    refine congrArg (fun f => Finset.fold max _ f Finset.univ) (funext fun k => congrArg y (funext fun a => Fin.ext ?_))
    match a with
    | ⟨0, _⟩ => rfl
    | ⟨1, _⟩ => rfl
    | ⟨2, _⟩ => rfl
    | ⟨3, _⟩ => rfl
    | ⟨4, _⟩ => rfl
  obtain ⟨M, hM⟩ := fold_real (fun κ : Fin 8192 => val_main_v30 (F := Ideal) x2 x3 (ix5 b h s i κ)) i _
    ((ref30 x2 x3 x4 F b h s i i).trans (if_pos le_rfl)) fun κ => by
      rw [ref30 x2 x3 x4 F]
      split
      · exact EReal.coe_lt_top _
      · exact bot_lt_top
  refine ⟨M, ?_⟩
  rw [val_main_v33_apply, val_main_v32_apply, val_main_cst_5_apply, e, hM]
  show max (Ideal.ofBits FTy.f32 4286578688#32) _ = _
  rw [ofBits_bot]
  exact max_eq_right bot_le

theorem ref37 (F : Fine x2 x3 x4) (b : Fin 2) (h : Fin 8) (s : Fin 2) (i : Fin 8192) (M : ℝ) (hM : val_main_v33 (F := Ideal) x2 x3 (ix4 b h s i) = (M : EReal)) (κ : Fin 8192) :
    val_main_v37 (F := Ideal) x2 x3 (ix5 b h s i κ) = ((if κ.val ≤ i.val then Real.exp (sc x2 x3 b h s i κ.val - M) else 0 : ℝ) : EReal) := by
  rw [val_main_v37_apply, val_main_v36_apply, val_main_v35_apply, val_main_v34_apply, ref30 x2 x3 x4 F]
  have e : idx_main_v34 (idx_main_v35 (ix5 b h s i κ)) = ix4 b h s i := funext fun a => match a with
    | ⟨0, _⟩ => rfl
    | ⟨1, _⟩ => rfl
    | ⟨2, _⟩ => rfl
    | ⟨3, _⟩ => rfl
  rw [e, hM]
  show Ideal.exp (_ - _) = _
  split
  · rw [← EReal.coe_sub, Ideal.exp_coe]
  · rw [EReal.bot_sub, Ideal.exp_bot, EReal.coe_zero]

theorem ref41 (F : Fine x2 x3 x4) (b : Fin 2) (h : Fin 8) (s : Fin 2) (i κ : Fin 8192) :
    val_main_v41 (F := Ideal) x2 x3 (ix5 b h s i κ) = ((if κ.val ≤ i.val then soft (sc x2 x3 b h s i) (i.val + 1) κ.val else 0 : ℝ) : EReal) := by
  obtain ⟨M, hM⟩ := ref33 x2 x3 x4 F b h s i
  have e : idx_main_v39 (idx_main_v40 (ix5 b h s i κ)) = ix4 b h s i := funext fun a => match a with
    | ⟨0, _⟩ => rfl
    | ⟨1, _⟩ => rfl
    | ⟨2, _⟩ => rfl
    | ⟨3, _⟩ => rfl
  have e' : ∀ k : Fin 8192, idx_main_v38 (ix4 b h s i) k = ix5 b h s i k := fun k => funext fun a => match a with
    | ⟨0, _⟩ => rfl
    | ⟨1, _⟩ => rfl
    | ⟨2, _⟩ => rfl
    | ⟨3, _⟩ => rfl
    | ⟨4, _⟩ => rfl
  rw [val_main_v41_apply, val_main_v40_apply, val_main_v39_apply, e, val_main_v38_apply, val_main_cst_6_apply, ref37 x2 x3 x4 F b h s i M hM,
    Finset.sum_congr rfl fun k _ => (congrArg _ (e' k)).trans (ref37 x2 x3 x4 F b h s i M hM k), coe_sum, sum_mask i fun k => Real.exp (sc x2 x3 b h s i k - M)]
  show Ideal.div _ (Ideal.ofBits FTy.f32 0#32 + _) = _
  rw [ofBits_zero, zero_add, Ideal.div_coe (sum_pos (Nat.succ_pos i.val) _).ne', ← EReal.coe_mul, mul_one_div]
  refine congrArg _ ?_
  by_cases hk : κ.val ≤ i.val
  · rw [if_pos hk, if_pos hk, soft_shift]
  · rw [if_neg hk, if_neg hk, zero_div]

/-! ## The coefficient, the difference of the two halves, and the normalised row -/

theorem ref19 (i : S_.Idx) : val_main_v19 (F := Ideal) x5 x6 x7 x8 i = lam x5 x6 x7 x8 := by
  have e : ∀ f : S1x64.Idx → EReal, ∑ j : S1x64.Idx, f j = ∑ x : Fin 64, f (ix2 0 x) := fun f => by
    rw [sum_idx2]
    exact Fin.sum_univ_one _
  rw [val_main_v19_apply, val_main_v18_apply, val_main_v14_apply, val_main_v17_apply, val_main_v13_apply, val_main_v16_apply, e, e]
  show Ideal.exp (Ideal.ofBits FTy.f32 0#32 + _) - Ideal.exp (Ideal.ofBits FTy.f32 0#32 + _) + _ = _
  rw [ofBits_zero, zero_add, zero_add]
  rfl

theorem ref48 (F : Fine x2 x3 x4) (L : ℝ) (hL : lam x5 x6 x7 x8 = (L : EReal)) (b : Fin 2) (h : Fin 8) (i κ : Fin 8192) :
    val_main_v48 (F := Ideal) x2 x3 x5 x6 x7 x8 (ix4 b h i κ)
      = ((if κ.val ≤ i.val then soft (sc x2 x3 b h 0 i) (i.val + 1) κ.val - L * soft (sc x2 x3 b h 1 i) (i.val + 1) κ.val else 0 : ℝ) : EReal) := by
  have hb := b.isLt; have hi := i.isLt; have hh := h.isLt; have hκ := κ.isLt
  have e0 : idx_main_v42 (idx_main_v43 (ix4 b h i κ)) = ix5 b h 0 i κ := funext fun a => Fin.ext (match a with
    | ⟨0, _⟩ => by show (((b.val * 8 + h.val) * 8192 + i.val) * 8192 + κ.val) / 536870912 = b.val; omega
    | ⟨1, _⟩ => by show (((b.val * 8 + h.val) * 8192 + i.val) * 8192 + κ.val) / 67108864 % 8 = h.val; omega
    | ⟨2, _⟩ => rfl
    | ⟨3, _⟩ => by show (((b.val * 8 + h.val) * 8192 + i.val) * 8192 + κ.val) / 8192 % 8192 = i.val; omega
    | ⟨4, _⟩ => by show (((b.val * 8 + h.val) * 8192 + i.val) * 8192 + κ.val) % 8192 = κ.val; omega)
  have e1 : idx_main_v44 (idx_main_v45 (ix4 b h i κ)) = ix5 b h 1 i κ := funext fun a => Fin.ext (match a with
    | ⟨0, _⟩ => by show (((b.val * 8 + h.val) * 8192 + i.val) * 8192 + κ.val) / 536870912 = b.val; omega
    | ⟨1, _⟩ => by show (((b.val * 8 + h.val) * 8192 + i.val) * 8192 + κ.val) / 67108864 % 8 = h.val; omega
    | ⟨2, _⟩ => rfl
    | ⟨3, _⟩ => by show (((b.val * 8 + h.val) * 8192 + i.val) * 8192 + κ.val) / 8192 % 8192 = i.val; omega
    | ⟨4, _⟩ => by show (((b.val * 8 + h.val) * 8192 + i.val) * 8192 + κ.val) % 8192 = κ.val; omega)
  rw [val_main_v48_apply, val_main_v47_apply, val_main_v43_apply, val_main_v42_apply, val_main_v45_apply, val_main_v44_apply, val_main_v46_apply, ref19, hL, e0, e1,
    ref41 x2 x3 x4 F, ref41 x2 x3 x4 F]
  show _ - (_ : EReal) * _ = _
  rw [← EReal.coe_mul, ← EReal.coe_sub]
  refine congrArg _ ?_
  by_cases hk : κ.val ≤ i.val
  · rw [if_pos hk, if_pos hk, if_pos hk]
  · rw [if_neg hk, if_neg hk, if_neg hk, mul_zero, sub_zero]

/-- The average of a row's values by the weights of half `s` of a head. -/
abbrev av (b : Fin 2) (h : Fin 8) (s : Fin 2) (i : Fin 8192) (l : Fin 128) : ℝ :=
  att (qOf (wR x2 b.val (i.val / 512))) (kR x3 b.val) (vR x4 b.val) h ⟨512 * s.val + i.val % 512, by have := s.isLt; omega⟩ (i.val + 1) l

theorem ref50 (F : Fine x2 x3 x4) (L : ℝ) (hL : lam x5 x6 x7 x8 = (L : EReal)) (b : Fin 2) (h : Fin 8) (i : Fin 8192) (l : Fin 128) :
    val_main_v50 (F := Ideal) x2 x3 x4 x5 x6 x7 x8 (ix4 b i h l) = (av x2 x3 x4 b h 0 i l : EReal) - lam x5 x6 x7 x8 * (av x2 x3 x4 b h 1 i l : EReal) := by
  have e : idx_main_v50 (ix4 b i h l) = ix4 b h l i := funext fun a => match a with
    | ⟨0, _⟩ => rfl
    | ⟨1, _⟩ => rfl
    | ⟨2, _⟩ => rfl
    | ⟨3, _⟩ => rfl
  have hl := l.isLt
  have t : ∀ k : Fin 8192, val_main_v11 (F := Ideal) x4 (lidx_main_v49 (ix4 b h l i) k) * val_main_v48 (F := Ideal) x2 x3 x5 x6 x7 x8 (ridx_main_v49 (ix4 b h l i) k)
      = ((if k.val ≤ i.val then vR x4 b.val h k.val ⟨l.val, by omega⟩ * (soft (sc x2 x3 b h 0 i) (i.val + 1) k.val - L * soft (sc x2 x3 b h 1 i) (i.val + 1) k.val) else 0 : ℝ) : EReal) := fun k => by
    have el : lidx_main_v49 (ix4 b h l i) k = ix4 b k h l := funext fun a => match a with
      | ⟨0, _⟩ => rfl
      | ⟨1, _⟩ => rfl
      | ⟨2, _⟩ => rfl
      | ⟨3, _⟩ => rfl
    have er : ridx_main_v49 (ix4 b h l i) k = ix4 b h i k := funext fun a => match a with
      | ⟨0, _⟩ => rfl
      | ⟨1, _⟩ => rfl
      | ⟨2, _⟩ => rfl
      | ⟨3, _⟩ => rfl
    have ev : val_main_v11 (F := Ideal) x4 (ix4 b k h l) = ((vR x4 b.val h k.val ⟨l.val, by omega⟩ : ℝ) : EReal) := by
      rw [ref11]
      refine (EReal.coe_toReal (F.v h _ l).1 (F.v h _ l).2).symm.trans (congrArg _ ?_)
      unfold vR
      rw [if_pos (show l.val < 128 from hl)]
      congr 3
      exact Fin.ext (Nat.mod_eq_of_lt hl).symm
    rw [el, er, ev, ref48 x2 x3 x4 x5 x6 x7 x8 F L hL, ← EReal.coe_mul]
    refine congrArg _ ?_
    by_cases hk : k.val ≤ i.val
    · rw [if_pos hk, if_pos hk]
    · rw [if_neg hk, if_neg hk, mul_zero]
  rw [val_main_v50_apply, e, val_main_v49_apply, Finset.sum_congr rfl fun k _ => t k, coe_sum,
    sum_mask i fun k => vR x4 b.val h k ⟨l.val, by omega⟩ * (soft (sc x2 x3 b h 0 i) (i.val + 1) k - L * soft (sc x2 x3 b h 1 i) (i.val + 1) k),
    hL, ← EReal.coe_mul, ← EReal.coe_sub]
  refine congrArg _ ?_
  unfold av att
  rw [Finset.mul_sum, ← Finset.sum_sub_distrib]
  refine Finset.sum_congr rfl fun k _ => ?_
  unfold sc
  ring

theorem ref66 (F : Fine x2 x3 x4) (L : ℝ) (hL : lam x5 x6 x7 x8 = (L : EReal)) (b : Fin 2) (h : Fin 8) (i : Fin 8192) (l : Fin 128) :
    val_main_v66 (F := Ideal) x2 x3 x4 x5 x6 x7 x8 x9 (ix4 b i h l)
      = fin (lam x5 x6 x7 x8) (fun l => (av x2 x3 x4 b h 0 i l : EReal)) (fun l => (av x2 x3 x4 b h 1 i l : EReal)) (fun l => x9 (ix2 0 l)) l := by
  have hl := l.isLt
  have e1 : idx_main_v54 (idx_main_v60 (ix4 b i h l)) = ix3 b i h := funext fun a => match a with
    | ⟨0, _⟩ => rfl
    | ⟨1, _⟩ => rfl
    | ⟨2, _⟩ => rfl
  have e2 : ∀ k : Fin 128, idx_main_v53 (ix3 b i h) k = ix4 b i h k := fun k => funext fun a => match a with
    | ⟨0, _⟩ => rfl
    | ⟨1, _⟩ => rfl
    | ⟨2, _⟩ => rfl
    | ⟨3, _⟩ => rfl
  have e3 : idx_main_v51 (idx_main_v62 (idx_main_v63 (ix4 b i h l))) = ix2 0 l := funext fun a => match a with
    | ⟨0, _⟩ => rfl
    | ⟨1, _⟩ => Fin.ext (Nat.mod_eq_of_lt hl)
  have t : ∀ k : Fin 128, val_main_v52 (F := Ideal) x2 x3 x4 x5 x6 x7 x8 (idx_main_v53 (ix3 b i h) k)
      = ((av x2 x3 x4 b h 0 i k : EReal) - lam x5 x6 x7 x8 * (av x2 x3 x4 b h 1 i k : EReal)) * ((av x2 x3 x4 b h 0 i k : EReal) - lam x5 x6 x7 x8 * (av x2 x3 x4 b h 1 i k : EReal)) := fun k => by
    rw [e2, val_main_v52_apply, ref50 x2 x3 x4 x5 x6 x7 x8 F L hL]
    rfl
  rw [val_main_v66_apply, val_main_v64_apply, val_main_v61_apply, val_main_v60_apply, val_main_v59_apply, val_main_v58_apply, val_main_v56_apply, val_main_v54_apply, e1,
    val_main_v53_apply, Finset.sum_congr rfl fun k _ => t k, val_main_v63_apply, val_main_v62_apply, val_main_v51_apply, e3, val_main_v65_apply, val_main_v57_apply, val_main_v55_apply,
    ref50 x2 x3 x4 x5 x6 x7 x8 F L hL]
  show (_ - _ * _) * Ideal.rsqrt (Ideal.div (Ideal.ofBits FTy.f32 0#32 + _) _ + _) * _ * _ = _
  rw [ofBits_zero, zero_add]
  rfl

/-- The reference's result is the same rows. -/
theorem ref68 (F : Fine x2 x3 x4) (L : ℝ) (hL : lam x5 x6 x7 x8 = (L : EReal)) :
    val_main_v68 (F := Ideal) x2 x3 x4 x5 x6 x7 x8 x9 = Cert.AttnIdeal.Hand.G x2 x3 x4 x5 x6 x7 x8 x9 := by
  funext y
  obtain ⟨n, j, rfl⟩ : ∃ (n : Fin 16384) (j : Fin 1024), y = ix2 n j := ⟨y 0, y 1, eq_ix2 y⟩
  have hn := n.isLt; have hj := j.isLt
  have e : idx_main_v67 (ix2 n j) = ix4 ⟨n.val / 8192, by omega⟩ ⟨n.val % 8192, by omega⟩ ⟨j.val / 128, by omega⟩ ⟨j.val % 128, by omega⟩ := funext fun a => Fin.ext (match a with
    | ⟨0, _⟩ => by show (n.val * 1024 + j.val) / 8388608 = n.val / 8192; omega
    | ⟨1, _⟩ => by show (n.val * 1024 + j.val) / 1024 % 8192 = n.val % 8192; omega
    | ⟨2, _⟩ => by show (n.val * 1024 + j.val) / 128 % 8 = j.val / 128; omega
    | ⟨3, _⟩ => by show (n.val * 1024 + j.val) % 128 = j.val % 128; omega)
  rw [val_main_v68_apply, val_main_v67_apply, e, ref66 x2 x3 x4 x5 x6 x7 x8 x9 F L hL]
  show fin _ _ _ _ _ = Cert.AttnIdeal.Hand.target (q := qOf (wR x2 (n.val / 8192) (n.val % 8192 / 512))) (k := kR x3 (n.val / 8192)) (v := vR x4 (n.val / 8192))
    (fun ρ => n.val % 8192 / 512 * 512 + ρ % 512 + 1) (lam x5 x6 x7 x8) (fun l => x9 (ix2 0 l)) ⟨j.val / 128, by omega⟩ ⟨n.val % 512, by omega⟩ ⟨j.val % 128, by omega⟩
  unfold Cert.AttnIdeal.Hand.target av
  have b0 : n.val % 8192 / 512 * 512 + n.val % 512 % 512 + 1 = n.val % 8192 + 1 := by omega
  have b1 : n.val % 8192 / 512 * 512 + (512 + n.val % 512) % 512 + 1 = n.val % 8192 + 1 := by omega
  have r0 : 512 * (0 : Fin 2).val + n.val % 8192 % 512 = n.val % 512 := by show 512 * 0 + n.val % 8192 % 512 = n.val % 512; omega
  have r1 : 512 * (1 : Fin 2).val + n.val % 8192 % 512 = 512 + n.val % 512 := by show 512 * 1 + n.val % 8192 % 512 = 512 + n.val % 512; omega
  simp only [b0, b1, r0, r1]

end Cert.AttnRefIdeal.Hand
end
-- ==== Proof.AttnFinite.lean ====
module
public import proofs.«01_k».proof.Proof.AttnRefValue
public import proofs.«01_k».proof.Proof.AttnTables
public import Idealize.ShloMosaic.Adequacy
@[expose] public section
set_option maxRecDepth 16384
noncomputable section

/-! # What the precondition gives, and attention's result under it -/

namespace Cert.AttnFinite
open Idealize Idealize.ShloMosaic Idealize.SL.Sem Cert.AttnRow

theorem facts : Cert.Pre_finite_heads.Facts := ⟨by decide, by decide, by decide, by decide, by decide⟩

/-- Both tables of the precondition's literals are the lists the call is pinned to. -/
theorem words (x : Cert.Pre_finite_heads.S72.Idx) :
    Cert.Pre_finite_heads.lit0 (Cert.Pre_finite_heads.S72.rowMajor x) = Cert.AttnIdeal.Gen.pinT_0 0 x
    ∧ Cert.Pre_finite_heads.lit1 (Cert.Pre_finite_heads.S72.rowMajor x) = Cert.AttnIdeal.Gen.pinT_1 0 x := by
  have h : ∀ i : Fin 72, Cert.Pre_finite_heads.lit0 i = Cert.AttnIdeal.Gen.pinT_0 0 (fun a => ⟨i.val, by fin_cases a; exact i.isLt⟩)
      ∧ Cert.Pre_finite_heads.lit1 i = Cert.AttnIdeal.Gen.pinT_1 0 (fun a => ⟨i.val, by fin_cases a; exact i.isLt⟩) := by
    decide +kernel
  have e : Cert.Pre_finite_heads.S72.rowMajor x = (x 0 : Fin 72) := Fin.ext (Shape.rowMajor_val_one x)
  rw [e]
  exact h (x 0)

theorem between {a l u : EReal} (hl : l = ⊥) (hu : u = ⊤) (h : IntOp.andi (Ideal.cmp .ogt a l) (Ideal.cmp .olt a u) = 1#1) : a ≠ ⊤ ∧ a ≠ ⊥ := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  subst hl hu
  simp only [Ideal.cmp, andi_ofBool, ofBool_eq_one, Bool.and_eq_true, decide_eq_true_eq] at h
  exact ⟨h.2.ne, h.1.ne'⟩

theorem bf16_bot : Ideal.ofBits FTy.bf16 0xFF80#16 = ⊥ := by simp [Ideal.ofBits, Ideal.ieee]
theorem bf16_top : Ideal.ofBits FTy.bf16 0x7F80#16 = ⊤ := by simp [Ideal.ofBits, Ideal.ieee]
theorem f32_bot : Ideal.ofBits FTy.f32 0xFF800000#32 = ⊥ := by simp [Ideal.ofBits, Ideal.ieee]
theorem f32_top : Ideal.ofBits FTy.f32 0x7F800000#32 = ⊤ := by simp [Ideal.ofBits, Ideal.ieee]

/-- A slice of eight heads, read at a head. -/
theorem heads (o : Nat) (x : Cert.AttnIdeal.S40x16384x128.Idx → EReal) (hs : Cert.Pre_finite_heads.S40x16384x128.Slices ![o, 0, 0] Cert.Pre_finite_heads.S8x16384x128)
    (h : Fin 8) (n : Fin 16384) (l : Fin 128) (ho : o + 8 ≤ 40) :
    extractStridedSlice Cert.Pre_finite_heads.S8x16384x128 ![o, 0, 0] x hs (ix3 h n l) = x (ix3 (Fin.ofNat 40 (o + h.val)) n l) := by
  have hh := h.isLt
  refine extractStridedSlice_apply _ _ hs (ix3 h n l) (ix3 (Fin.ofNat 40 (o + h.val)) n l) fun a => ?_
  match a with
  | ⟨0, _⟩ => show (o + h.val) % 40 = o + h.val; omega
  | ⟨1, _⟩ => show n.val = 0 + n.val; omega
  | ⟨2, _⟩ => show l.val = 0 + l.val; omega

/-- A sum of products of finite numbers is finite. -/
theorem real_dot (x y : Cert.AttnIdeal.S1x64.Idx → EReal) (hx : ∀ i, x i ≠ ⊤ ∧ x i ≠ ⊥) (hy : ∀ i, y i ≠ ⊤ ∧ y i ≠ ⊥) :
    ∃ r : ℝ, (∑ k : Fin 64, x (ix2 0 k) * y (ix2 0 k)) = (r : EReal) :=
  ⟨∑ k : Fin 64, (x (ix2 0 k)).toReal * (y (ix2 0 k)).toReal, by
    rw [← coe_sum]
    refine Finset.sum_congr rfl fun k _ => ?_
    rw [EReal.coe_mul, EReal.coe_toReal (hx _).1 (hx _).2, EReal.coe_toReal (hy _).1 (hy _).2]⟩

theorem fifth : ∃ r : ℝ, Ideal.ofBits FTy.f32 1045220557#32 = (r : EReal) := by
  simp only [Ideal.ofBits, Ideal.ieee]
  exact ⟨_, rfl⟩

variable [Cert.Pre_finite_heads.Facts]
open Cert.AttnIdeal Cert.AttnIdeal.Gen Cert.AttnIdeal.Hand

variable (m : (ℓ : Loc Cert.AttnIdeal.nD Cert.AttnIdeal.τ Cert.AttnIdeal.sig) → Buf (Elt Ideal) ℓ)

/-- The precondition gives the words the call's tables hold. -/
theorem pinned (h : Cert.Pre_AttnIdeal_finite_heads m) : Pinned 0 m := by
  refine ⟨fun c => funext fun x => ?_, fun c => funext fun x => ?_⟩
  · exact (Cert.AttnTables.both (congrFun (h c).1 x)).1.trans (words x).1
  · exact (Cert.AttnTables.both (congrFun (h c).1 x)).2.trans (words x).2

/-- It gives that the heads the call reads are finite, -/
theorem fine (h : Cert.Pre_AttnIdeal_finite_heads m) (c : Dev nD) : FineAt m c where
  q a n l := by
    have e := congrFun (h c).2.1 (ix3 a n l)
    have e' := between bf16_bot bf16_top e
    have hx := heads 16 (m ((c.tc : Thread nD τ).loc main_arg2)) Cert.Pre_finite_heads.Facts.slices_S40x16384x128_S8x16384x128_16_0_0 a n l (by decide)
    exact hx ▸ e'
  k a n l := by
    have e := congrFun (h c).2.2.1 (ix3 a n l)
    have e' := between bf16_bot bf16_top e
    have hx := heads 24 (m ((c.tc : Thread nD τ).loc main_arg3)) Cert.Pre_finite_heads.Facts.slices_S40x16384x128_S8x16384x128_24_0_0 a n l (by decide)
    exact hx ▸ e'
  v a n l := by
    have e := congrFun (h c).2.2.2.1 (ix3 a n l)
    have e' := between bf16_bot bf16_top e
    have hx := heads 32 (m ((c.tc : Thread nD τ).loc main_arg4)) Cert.Pre_finite_heads.Facts.slices_S40x16384x128_S8x16384x128_32_0_0 a n l (by decide)
    exact hx ▸ e'

/-- and that so is the weight the second map is taken off with. -/
theorem weight (h : Cert.Pre_AttnIdeal_finite_heads m) (c : Dev nD) :
    ∃ L : ℝ, lam (m ((c.tc : Thread nD τ).loc main_arg5)) (m ((c.tc : Thread nD τ).loc main_arg6)) (m ((c.tc : Thread nD τ).loc main_arg7)) (m ((c.tc : Thread nD τ).loc main_arg8)) = (L : EReal) := by
  obtain ⟨r, hr⟩ := real_dot (m ((c.tc : Thread nD τ).loc main_arg5)) (m ((c.tc : Thread nD τ).loc main_arg6))
    (fun i => between f32_bot f32_top (congrFun (h c).2.2.2.2.1 i)) (fun i => between f32_bot f32_top (congrFun (h c).2.2.2.2.2.1 i))
  obtain ⟨s, hs⟩ := real_dot (m ((c.tc : Thread nD τ).loc main_arg7)) (m ((c.tc : Thread nD τ).loc main_arg8))
    (fun i => between f32_bot f32_top (congrFun (h c).2.2.2.2.2.2.1 i)) (fun i => between f32_bot f32_top (congrFun (h c).2.2.2.2.2.2.2 i))
  obtain ⟨d, hd⟩ := fifth
  refine ⟨Real.exp r - Real.exp s + d, ?_⟩
  unfold lam
  rw [hr, hs, hd, Ideal.exp_coe, Ideal.exp_coe, EReal.coe_add, EReal.coe_sub]

/-- The result array ends holding the rows, and the arguments end unchanged. -/
theorem run (ρ : Dev nD → PrngReg) (h : Cert.Pre_AttnIdeal_finite_heads m) :
    θ_run (defs (F := Ideal)) (onTc (τ := τ) (main (F := Ideal))) ⟨m, fun _ => 0, ρ⟩ (fun r => ∀ c : Dev nD,
      r.2.mem ((c.tc : Thread nD τ).loc main_v0) = GM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ q c => ⟨((q.1 c).1 (8 : Fin 9)).trans (final m ρ c (fine m h c)), q.2 c⟩)
    (θ_run_and (run_main 0 m ρ (pinned m h)) (unchanged 0 m ρ (pinned m h)))

/-- The reference on the same arguments gives the same rows. -/
theorem G_eq_ref (h : Cert.Pre_AttnIdeal_finite_heads m) (c : Dev nD)
    (m' : (ℓ : Loc Cert.AttnRefIdeal.nD Cert.AttnRefIdeal.τ Cert.AttnRefIdeal.sig) → Buf (Elt Ideal) ℓ)
    (h2 : m' ((c.tc : Thread Cert.AttnRefIdeal.nD Cert.AttnRefIdeal.τ).loc Cert.AttnRefIdeal.main_arg2) = m ((c.tc : Thread nD τ).loc main_arg2))
    (h3 : m' ((c.tc : Thread Cert.AttnRefIdeal.nD Cert.AttnRefIdeal.τ).loc Cert.AttnRefIdeal.main_arg3) = m ((c.tc : Thread nD τ).loc main_arg3))
    (h4 : m' ((c.tc : Thread Cert.AttnRefIdeal.nD Cert.AttnRefIdeal.τ).loc Cert.AttnRefIdeal.main_arg4) = m ((c.tc : Thread nD τ).loc main_arg4))
    (h5 : m' ((c.tc : Thread Cert.AttnRefIdeal.nD Cert.AttnRefIdeal.τ).loc Cert.AttnRefIdeal.main_arg5) = m ((c.tc : Thread nD τ).loc main_arg5))
    (h6 : m' ((c.tc : Thread Cert.AttnRefIdeal.nD Cert.AttnRefIdeal.τ).loc Cert.AttnRefIdeal.main_arg6) = m ((c.tc : Thread nD τ).loc main_arg6))
    (h7 : m' ((c.tc : Thread Cert.AttnRefIdeal.nD Cert.AttnRefIdeal.τ).loc Cert.AttnRefIdeal.main_arg7) = m ((c.tc : Thread nD τ).loc main_arg7))
    (h8 : m' ((c.tc : Thread Cert.AttnRefIdeal.nD Cert.AttnRefIdeal.τ).loc Cert.AttnRefIdeal.main_arg8) = m ((c.tc : Thread nD τ).loc main_arg8))
    (h9 : m' ((c.tc : Thread Cert.AttnRefIdeal.nD Cert.AttnRefIdeal.τ).loc Cert.AttnRefIdeal.main_arg9) = m ((c.tc : Thread nD τ).loc main_arg9)) :
    Cert.AttnRefIdeal.Value.res_main_v68 m' c = GM m c := by
  obtain ⟨L, hL⟩ := weight m h c
  rw [Cert.AttnRefIdeal.Read.val_main_v68_eq, h2, h3, h4, h5, h6, h7, h8, h9]
  exact Cert.AttnRefIdeal.Hand.ref68 _ _ _ _ _ _ _ _ (fine m h c) L hL

end Cert.AttnFinite
end
-- ==== Proof.lean ====
module

public import proofs.«01_k».proof.Defs
public import proofs.«01_k».proof.Proof.Gen.Xattn.Frame
public import proofs.«01_k».proof.Proof.XattnValue
public import proofs.«01_k».proof.Proof.Gen.Mlp.Frame
public import proofs.«01_k».proof.Proof.MlpValue
public import proofs.«01_k».proof.Proof.Gen.Last.Frame
public import proofs.«01_k».proof.Proof.LastValue
public import proofs.«01_k».proof.Proof.Gen.EvenIn.Frame
public import proofs.«01_k».proof.Proof.EvenInValue
public import proofs.«01_k».proof.Proof.Gen.EvenOut.Frame
public import proofs.«01_k».proof.Proof.EvenOutValue
public import proofs.«01_k».proof.Proof.Gen.OddOut.Frame
public import proofs.«01_k».proof.Proof.OddOutValue
public import proofs.«01_k».proof.Proof.Gen.MemKv.Frame
public import proofs.«01_k».proof.Proof.MemKvValue
public import proofs.«01_k».proof.Proof.Gen.AttnRefIdeal.Read
public import proofs.«01_k».proof.Proof.Gen.AttnRefIdeal.Run
public import proofs.«01_k».proof.Proof.AttnTables
public import proofs.«01_k».proof.Proof.AttnFinite
public import Idealize.ShloMosaic.Adequacy
public import Idealize.ShloMosaic.Init
public import Idealize.ShloMosaic.Lib.Quiescent

@[expose] public section

noncomputable section

/-! # The claims, put together: each call's frames, and each call's result equal to its reference's -/

namespace Cert.Proof

open Idealize.ShloMosaic Idealize.SL.Sem

theorem frame_Attn [Cert.Pre_causal_tables.Facts] : quiescent_Attn := fun m ρ h =>
  (Cert.Attn.Gen.pinned_of_pre m h).elim fun ch hp => Cert.Attn.Gen.frame ch m ρ hp
theorem frame_AttnIdeal [Cert.Pre_causal_tables.Facts] : quiescent_AttnIdeal := fun m ρ h =>
  (Cert.AttnIdeal.Gen.pinned_of_pre m h).elim fun ch hp => Cert.AttnIdeal.Gen.frame ch m ρ hp
theorem frame_AttnIdeal_finite [Cert.Pre_finite_heads.Facts] : quiescent_AttnIdeal_pre_finite_heads := fun m ρ h =>
  Cert.AttnIdeal.Gen.frame 0 m ρ (Cert.AttnFinite.pinned m h)
theorem frame_AttnRefIdeal : quiescent_AttnRefIdeal := fun m ρ _ =>
  (θ_run Cert.AttnRefIdeal.defs _ _).mono
    (fun r h => ⟨fun c => (h c).2, Idealize.ShloMosaic.sem_eq_zero_of_no_sems (by decide) r.2⟩)
    (Cert.AttnRefIdeal.Value.run (F := Ideal) m ρ)
theorem frame_AttnRefIdeal_finite [Cert.Pre_finite_heads.Facts] : quiescent_AttnRefIdeal_pre_finite_heads := fun m ρ _ =>
  frame_AttnRefIdeal m ρ trivial
theorem value_Attn [Cert.Pre_finite_heads.Facts] : algebraic_AttnIdeal_AttnRefIdeal_pre_finite_heads := fun m ρ m' ρ' h hag =>
  ⟨fun c => Cert.AttnIdeal.Hand.GM m c, Cert.AttnFinite.run m ρ h,
    (θ_run Cert.AttnRefIdeal.defs _ _).mono
      (fun _ q c => ⟨(q c).1.trans (Cert.AttnFinite.G_eq_ref m h c m' (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2), (q c).2⟩)
      (Cert.AttnRefIdeal.Value.run (F := Ideal) m' ρ')⟩

theorem frame_Xattn : quiescent_Xattn := fun m ρ _ => Cert.Xattn.Gen.frame m ρ
theorem frame_XattnIdeal : quiescent_XattnIdeal := fun m ρ _ => Cert.XattnIdeal.Gen.frame m ρ
theorem frame_XattnRefIdeal : quiescent_XattnRefIdeal := fun m ρ _ =>
  (θ_run Cert.XattnRefIdeal.defs _ _).mono
    (fun r h => ⟨fun c => (h c).2, Idealize.ShloMosaic.sem_eq_zero_of_no_sems (by decide) r.2⟩)
    (Cert.XattnRefIdeal.Value.run (F := Ideal) m ρ)
theorem value_Xattn : algebraic_XattnIdeal_XattnRefIdeal := fun m ρ m' ρ' _ hag =>
  ⟨fun c => Cert.XattnIdeal.Hand.G c m, (θ_run Cert.XattnIdeal.defs _ _).mono (fun _ h c => ⟨(h c).1.trans (Cert.XattnIdeal.Hand.final c m), (h c).2⟩) (Cert.XattnIdeal.Value.run_blocks m ρ),
    (θ_run Cert.XattnRefIdeal.defs _ _).mono
      (fun _ h c => ⟨(h c).1.trans (Cert.XattnIdeal.Hand.G_eq_ref c m m' (hag c).1 (hag c).2.1 (hag c).2.2.1 (hag c).2.2.2.1 (hag c).2.2.2.2), (h c).2⟩)
      (Cert.XattnRefIdeal.Value.run (F := Ideal) m' ρ')⟩

theorem frame_Mlp : quiescent_Mlp := fun m ρ _ => Cert.Mlp.Gen.frame m ρ
theorem frame_MlpIdeal : quiescent_MlpIdeal := fun m ρ _ => Cert.MlpIdeal.Gen.frame m ρ
theorem frame_MlpRefIdeal : quiescent_MlpRefIdeal := fun m ρ _ =>
  (θ_run Cert.MlpRefIdeal.defs _ _).mono
    (fun r h => ⟨fun c => (h c).2, Idealize.ShloMosaic.sem_eq_zero_of_no_sems (by decide) r.2⟩)
    (Cert.MlpRefIdeal.Value.run (F := Ideal) m ρ)
theorem value_Mlp : algebraic_MlpIdeal_MlpRefIdeal := fun m ρ m' ρ' _ hag =>
  ⟨fun c => Cert.MlpIdeal.Value.G7 m c, Cert.MlpIdeal.Value.run m ρ,
    (θ_run Cert.MlpRefIdeal.defs _ _).mono
      (fun _ h c => ⟨(h c).1.trans (Cert.MlpIdeal.Hand.G_eq_ref c m m' (hag c).1 (hag c).2.1 (hag c).2.2.1 (hag c).2.2.2.1 (hag c).2.2.2.2.1 (hag c).2.2.2.2.2.1), (h c).2⟩)
      (Cert.MlpRefIdeal.Value.run (F := Ideal) m' ρ')⟩

theorem frame_Last : quiescent_Last := fun m ρ _ => Cert.Last.Gen.frame m ρ
theorem frame_LastIdeal : quiescent_LastIdeal := fun m ρ _ => Cert.LastIdeal.Gen.frame m ρ
theorem frame_LastRefIdeal : quiescent_LastRefIdeal := fun m ρ _ =>
  (θ_run Cert.LastRefIdeal.defs _ _).mono
    (fun r h => ⟨fun c => (h c).2, Idealize.ShloMosaic.sem_eq_zero_of_no_sems (by decide) r.2⟩)
    (Cert.LastRefIdeal.Value.run (F := Ideal) m ρ)
theorem value_Last : algebraic_LastIdeal_LastRefIdeal := fun m ρ m' ρ' _ hag =>
  ⟨fun c => Cert.LastIdeal.Value.G7 m c, Cert.LastIdeal.Value.run m ρ,
    (θ_run Cert.LastRefIdeal.defs _ _).mono
      (fun _ h c => ⟨(h c).1.trans (Cert.LastIdeal.Hand.G_eq_ref c m m' (hag c).1 (hag c).2.1 (hag c).2.2.1 (hag c).2.2.2.1 (hag c).2.2.2.2.1 (hag c).2.2.2.2.2.1 (hag c).2.2.2.2.2.2), (h c).2⟩)
      (Cert.LastRefIdeal.Value.run (F := Ideal) m' ρ')⟩

theorem frame_EvenIn : quiescent_EvenIn := fun m ρ _ => Cert.EvenIn.Gen.frame m ρ
theorem frame_EvenInIdeal : quiescent_EvenInIdeal := fun m ρ _ => Cert.EvenInIdeal.Gen.frame m ρ
theorem frame_EvenInRefIdeal : quiescent_EvenInRefIdeal := fun m ρ _ =>
  (θ_run Cert.EvenInRefIdeal.defs _ _).mono
    (fun r h => ⟨fun c => (h c).2, Idealize.ShloMosaic.sem_eq_zero_of_no_sems (by decide) r.2⟩)
    (Cert.EvenInRefIdeal.Value.run (F := Ideal) m ρ)
theorem value_EvenIn : algebraic_EvenInIdeal_EvenInRefIdeal := fun m ρ m' ρ' _ hag =>
  ⟨fun c => Cert.EvenInIdeal.Hand.G c m, (θ_run Cert.EvenInIdeal.defs _ _).mono (fun _ h c => ⟨(h c).1.trans (Cert.EvenInIdeal.Hand.final c m), (h c).2⟩) (Cert.EvenInIdeal.Value.run_blocks m ρ),
    (θ_run Cert.EvenInRefIdeal.defs _ _).mono
      (fun _ h c => ⟨(h c).1.trans (Cert.EvenInIdeal.Hand.G_eq_ref c m m' (hag c).1 (hag c).2.1 (hag c).2.2), (h c).2⟩)
      (Cert.EvenInRefIdeal.Value.run (F := Ideal) m' ρ')⟩

theorem frame_EvenOut : quiescent_EvenOut := fun m ρ _ => Cert.EvenOut.Gen.frame m ρ
theorem frame_EvenOutIdeal : quiescent_EvenOutIdeal := fun m ρ _ => Cert.EvenOutIdeal.Gen.frame m ρ
theorem frame_EvenOutRefIdeal : quiescent_EvenOutRefIdeal := fun m ρ _ =>
  (θ_run Cert.EvenOutRefIdeal.defs _ _).mono
    (fun r h => ⟨fun c => (h c).2, Idealize.ShloMosaic.sem_eq_zero_of_no_sems (by decide) r.2⟩)
    (Cert.EvenOutRefIdeal.Value.run (F := Ideal) m ρ)
theorem value_EvenOut : algebraic_EvenOutIdeal_EvenOutRefIdeal := fun m ρ m' ρ' _ hag =>
  ⟨fun c => Cert.EvenOutIdeal.Hand.G c m, (θ_run Cert.EvenOutIdeal.defs _ _).mono (fun _ h c => ⟨(h c).1.trans (Cert.EvenOutIdeal.Hand.final c m), (h c).2⟩) (Cert.EvenOutIdeal.Value.run_blocks m ρ),
    (θ_run Cert.EvenOutRefIdeal.defs _ _).mono
      (fun _ h c => ⟨(h c).1.trans (Cert.EvenOutIdeal.Hand.G_eq_ref c m m' (hag c).1 (hag c).2.1 (hag c).2.2.1 (hag c).2.2.2), (h c).2⟩)
      (Cert.EvenOutRefIdeal.Value.run (F := Ideal) m' ρ')⟩

theorem frame_OddOut : quiescent_OddOut := fun m ρ _ => Cert.OddOut.Gen.frame m ρ
theorem frame_OddOutIdeal : quiescent_OddOutIdeal := fun m ρ _ => Cert.OddOutIdeal.Gen.frame m ρ
theorem frame_OddOutRefIdeal : quiescent_OddOutRefIdeal := fun m ρ _ =>
  (θ_run Cert.OddOutRefIdeal.defs _ _).mono
    (fun r h => ⟨fun c => (h c).2, Idealize.ShloMosaic.sem_eq_zero_of_no_sems (by decide) r.2⟩)
    (Cert.OddOutRefIdeal.Value.run (F := Ideal) m ρ)
theorem value_OddOut : algebraic_OddOutIdeal_OddOutRefIdeal := fun m ρ m' ρ' _ hag =>
  ⟨fun c => Cert.OddOutIdeal.Hand.G c m, (θ_run Cert.OddOutIdeal.defs _ _).mono (fun _ h c => ⟨(h c).1.trans (Cert.OddOutIdeal.Hand.final c m), (h c).2⟩) (Cert.OddOutIdeal.Value.run_blocks m ρ),
    (θ_run Cert.OddOutRefIdeal.defs _ _).mono
      (fun _ h c => ⟨(h c).1.trans (Cert.OddOutIdeal.Hand.G_eq_ref c m m' (hag c).1 (hag c).2.1 (hag c).2.2), (h c).2⟩)
      (Cert.OddOutRefIdeal.Value.run (F := Ideal) m' ρ')⟩

theorem frame_MemKv : quiescent_MemKv := fun m ρ _ => Cert.MemKv.Gen.frame m ρ
theorem frame_MemKvIdeal : quiescent_MemKvIdeal := fun m ρ _ => Cert.MemKvIdeal.Gen.frame m ρ
theorem frame_MemKvRefIdeal : quiescent_MemKvRefIdeal := fun m ρ _ =>
  (θ_run Cert.MemKvRefIdeal.defs _ _).mono
    (fun r h => ⟨fun c => (h c).2, Idealize.ShloMosaic.sem_eq_zero_of_no_sems (by decide) r.2⟩)
    (Cert.MemKvRefIdeal.Value.run (F := Ideal) m ρ)
theorem value_MemKv : algebraic_MemKvIdeal_MemKvRefIdeal := fun m ρ m' ρ' _ hag =>
  ⟨fun c => Cert.MemKvRefIdeal.Hand.G (Cert.MemKvIdeal.Hand.mx c m) (Cert.MemKvIdeal.Hand.mg c m) (Cert.MemKvIdeal.Hand.mw c m), (θ_run Cert.MemKvIdeal.defs _ _).mono (fun _ h c => ⟨(h c).1.trans (Cert.MemKvIdeal.Hand.final c m), (h c).2⟩) (Cert.MemKvIdeal.Value.run_blocks m ρ),
    (θ_run Cert.MemKvRefIdeal.defs _ _).mono
      (fun _ h c => ⟨(h c).1.trans (Cert.MemKvIdeal.Hand.G_eq_ref c m m' (hag c).1 (hag c).2.1 (hag c).2.2), (h c).2⟩)
      (Cert.MemKvRefIdeal.Value.run (F := Ideal) m' ρ')⟩

theorem claim : Cert.Claim :=
  ⟨Cert.Xattn.Gen.facts, Cert.XattnIdeal.Gen.facts, Cert.XattnRefIdeal.Gen.facts, Cert.Mlp.Gen.facts, Cert.MlpIdeal.Gen.facts, Cert.MlpRefIdeal.Gen.facts, Cert.Last.Gen.facts, Cert.LastIdeal.Gen.facts, Cert.LastRefIdeal.Gen.facts, Cert.Attn.Gen.facts, Cert.AttnIdeal.Gen.facts, Cert.AttnRefIdeal.Gen.facts, Cert.EvenIn.Gen.facts, Cert.EvenInIdeal.Gen.facts, Cert.EvenInRefIdeal.Gen.facts, Cert.EvenOut.Gen.facts, Cert.EvenOutIdeal.Gen.facts, Cert.EvenOutRefIdeal.Gen.facts, Cert.OddOut.Gen.facts, Cert.OddOutIdeal.Gen.facts, Cert.OddOutRefIdeal.Gen.facts, Cert.MemKv.Gen.facts, Cert.MemKvIdeal.Gen.facts, Cert.MemKvRefIdeal.Gen.facts, ⟨⟩, Cert.AttnFinite.facts,
    frame_Xattn, frame_XattnIdeal, frame_XattnRefIdeal, frame_Mlp, frame_MlpIdeal, frame_MlpRefIdeal, frame_Last, frame_LastIdeal, frame_LastRefIdeal, @frame_Attn ⟨⟩, @frame_AttnIdeal ⟨⟩, @frame_AttnIdeal_finite Cert.AttnFinite.facts, frame_AttnRefIdeal, @frame_AttnRefIdeal_finite Cert.AttnFinite.facts, frame_EvenIn, frame_EvenInIdeal, frame_EvenInRefIdeal, frame_EvenOut, frame_EvenOutIdeal, frame_EvenOutRefIdeal, frame_OddOut, frame_OddOutIdeal, frame_OddOutRefIdeal, frame_MemKv, frame_MemKvIdeal, frame_MemKvRefIdeal,
    trivial, value_Xattn, trivial, value_Mlp, trivial, value_Last, trivial, @value_Attn Cert.AttnFinite.facts, trivial, value_EvenIn, trivial, value_EvenOut, trivial, value_OddOut, trivial, value_MemKv⟩

end Cert.Proof

end
